-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))).2.2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)) (v4 : (c : Dev Cert.KernelIdeal.nD) → Buf (Elt Ideal) ((c.tc : Thread Cert.KernelIdeal.nD Cert.KernelIdeal.τ).loc Cert.KernelIdeal.main_v4_3)) (v5 : (c : Dev Cert.KernelIdeal.nD) → Buf (Elt Ideal) ((c.tc : Thread Cert.KernelIdeal.nD Cert.KernelIdeal.τ).loc Cert.KernelIdeal.main_v4_4)) (v6 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_v4_3) = v4 c
          ∧ r.2.mem ((c.tc : Thread Cert.KernelIdeal.nD Cert.KernelIdeal.τ).loc Cert.KernelIdeal.main_v4_4) = v5 c
          ∧ r.2.mem ((c.tc : Thread Cert.KernelIdeal.nD Cert.KernelIdeal.τ).loc Cert.KernelIdeal.main_v4_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_v44) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v0_5)) (v1 : (c : Dev Cert.Kernel7Ideal.nD) → Buf (Elt Ideal) ((c.tc : Thread Cert.Kernel7Ideal.nD Cert.Kernel7Ideal.τ).loc Cert.Kernel7Ideal.main_v1_0)) (v2 : (c : Dev Cert.Kernel7Ideal.nD) → Buf (Elt Ideal) ((c.tc : Thread Cert.Kernel7Ideal.nD Cert.Kernel7Ideal.τ).loc Cert.Kernel7Ideal.main_v1_1)) (v3 : (c : Dev Cert.Kernel7Ideal.nD) → Buf (Elt Ideal) ((c.tc : Thread Cert.Kernel7Ideal.nD Cert.Kernel7Ideal.τ).loc Cert.Kernel7Ideal.main_v1_2)) (v4 : (c : Dev Cert.Kernel7Ideal.nD) → Buf (Elt Ideal) ((c.tc : Thread Cert.Kernel7Ideal.nD Cert.Kernel7Ideal.τ).loc Cert.Kernel7Ideal.main_v1_3)) (v5 : (c : Dev Cert.Kernel7Ideal.nD) → Buf (Elt Ideal) ((c.tc : Thread Cert.Kernel7Ideal.nD Cert.Kernel7Ideal.τ).loc Cert.Kernel7Ideal.main_v1_4)) (v6 : (c : Dev Cert.Kernel7Ideal.nD) → Buf (Elt Ideal) ((c.tc : Thread Cert.Kernel7Ideal.nD Cert.Kernel7Ideal.τ).loc Cert.Kernel7Ideal.main_v1_5)) (v7 : (c : Dev Cert.Kernel7Ideal.nD) → Buf (Elt Ideal) ((c.tc : Thread Cert.Kernel7Ideal.nD Cert.Kernel7Ideal.τ).loc Cert.Kernel7Ideal.main_v1_6)) (v8 : (c : Dev Cert.Kernel7Ideal.nD) → Buf (Elt Ideal) ((c.tc : Thread Cert.Kernel7Ideal.nD Cert.Kernel7Ideal.τ).loc Cert.Kernel7Ideal.main_v1_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_5) = v0 c
          ∧ r.2.mem ((c.tc : Thread Cert.Kernel7Ideal.nD Cert.Kernel7Ideal.τ).loc Cert.Kernel7Ideal.main_v1_0) = v1 c
          ∧ r.2.mem ((c.tc : Thread Cert.Kernel7Ideal.nD Cert.Kernel7Ideal.τ).loc Cert.Kernel7Ideal.main_v1_1) = v2 c
          ∧ r.2.mem ((c.tc : Thread Cert.Kernel7Ideal.nD Cert.Kernel7Ideal.τ).loc Cert.Kernel7Ideal.main_v1_2) = v3 c
          ∧ r.2.mem ((c.tc : Thread Cert.Kernel7Ideal.nD Cert.Kernel7Ideal.τ).loc Cert.Kernel7Ideal.main_v1_3) = v4 c
          ∧ r.2.mem ((c.tc : Thread Cert.Kernel7Ideal.nD Cert.Kernel7Ideal.τ).loc Cert.Kernel7Ideal.main_v1_4) = v5 c
          ∧ r.2.mem ((c.tc : Thread Cert.Kernel7Ideal.nD Cert.Kernel7Ideal.τ).loc Cert.Kernel7Ideal.main_v1_5) = v6 c
          ∧ r.2.mem ((c.tc : Thread Cert.Kernel7Ideal.nD Cert.Kernel7Ideal.τ).loc Cert.Kernel7Ideal.main_v1_6) = v7 c
          ∧ r.2.mem ((c.tc : Thread Cert.Kernel7Ideal.nD Cert.Kernel7Ideal.τ).loc Cert.Kernel7Ideal.main_v1_7) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v140) = v0 c
          ∧ r.2.mem ((c.tc : Thread Cert.Reference7Ideal.nD Cert.Reference7Ideal.τ).loc Cert.Reference7Ideal.main_v139) = v1 c
          ∧ r.2.mem ((c.tc : Thread Cert.Reference7Ideal.nD Cert.Reference7Ideal.τ).loc Cert.Reference7Ideal.main_v141) = v2 c
          ∧ r.2.mem ((c.tc : Thread Cert.Reference7Ideal.nD Cert.Reference7Ideal.τ).loc Cert.Reference7Ideal.main_v142) = v3 c
          ∧ r.2.mem ((c.tc : Thread Cert.Reference7Ideal.nD Cert.Reference7Ideal.τ).loc Cert.Reference7Ideal.main_v143) = v4 c
          ∧ r.2.mem ((c.tc : Thread Cert.Reference7Ideal.nD Cert.Reference7Ideal.τ).loc Cert.Reference7Ideal.main_v144) = v5 c
          ∧ r.2.mem ((c.tc : Thread Cert.Reference7Ideal.nD Cert.Reference7Ideal.τ).loc Cert.Reference7Ideal.main_v145) = v6 c
          ∧ r.2.mem ((c.tc : Thread Cert.Reference7Ideal.nD Cert.Reference7Ideal.τ).loc Cert.Reference7Ideal.main_v146) = v7 c
          ∧ r.2.mem ((c.tc : Thread Cert.Reference7Ideal.nD Cert.Reference7Ideal.τ).loc Cert.Reference7Ideal.main_v147) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S8192x1024 : Shape := ⟨2, ![8192, 1024]⟩
abbrev S8x8192x64 : Shape := ⟨3, ![8, 8192, 64]⟩
abbrev S128x8 : Shape := ⟨2, ![128, 8]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8x8192x64 : S_.BroadcastsInDim S8x8192x64 (![] : Fin 0 → Fin S8x8192x64.rank)
  bcast_S_S128x8 : S_.BroadcastsInDim S128x8 (![] : Fin 0 → Fin S128x8.rank)

variable [Facts]

def fn_part1 {F : FTy → Type} [FloatOps F] (main_arg6 : FVec F S128x8 .f32) (main_v2 : IVec S8192x1024 1) (main_v5 : IVec S8192x1024 1) (main_v8 : IVec S8192x1024 1) (main_v12 : IVec S8192x1024 1) (main_v16 : IVec S8192x1024 1) (main_v18 : FVec F S8x8192x64 .f32) : IVec S8192x1024 1 × IVec S8192x1024 1 × IVec S8192x1024 1 × IVec S8192x1024 1 × IVec S8192x1024 1 × IVec S8x8192x64 1 × IVec S128x8 1 :=
  let main_cst_4 : FVec F S_ .f32 := constant S_ .f32 0x7F800000#32
  let main_v19 : FVec F S8x8192x64 .f32 := broadcastInDim S8x8192x64 ![] bcast_S_S8x8192x64 main_cst_4
  let main_v20 : IVec S8x8192x64 1 := cmpf .olt main_v18 main_v19
  let main_v21 : FVec F S128x8 .f32 := Host.absf main_arg6
  let main_cst_5 : FVec F S_ .f32 := constant S_ .f32 0x7F800000#32
  let main_v22 : FVec F S128x8 .f32 := broadcastInDim S128x8 ![] bcast_S_S128x8 main_cst_5
  let main_v23 : IVec S128x8 1 := cmpf .olt main_v21 main_v22
  (main_v2, main_v5, main_v8, main_v12, main_v16, main_v20, main_v23)

def fn {F : FTy → Type} [FloatOps F] (main_arg0 : FVec F S8192x1024 .f32) (main_arg1 : FVec F S8192x1024 .f32) (main_arg2 : FVec F S8192x1024 .f32) (main_arg3 : FVec F S8192x1024 .bf16) (main_arg4 : FVec F S8192x1024 .bf16) (main_arg5 : FVec F S8x8192x64 .bf16) (main_arg6 : FVec F S128x8 .f32) : IVec S8192x1024 1 × IVec S8192x1024 1 × IVec S8192x1024 1 × IVec S8192x1024 1 × IVec S8192x1024 1 × IVec S8x8192x64 1 × IVec S128x8 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := (extf .f32 · bitsLt_bf16_f32) main_arg3
  let main_v10 : FVec F S8192x1024 .f32 := Host.absf main_v9
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x1024 .f32 := (extf .f32 · bitsLt_bf16_f32) main_arg4
  let main_v14 : FVec F S8192x1024 .f32 := Host.absf main_v13
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  let main_v17 : FVec F S8x8192x64 .f32 := (extf .f32 · bitsLt_bf16_f32) main_arg5
  let main_v18 : FVec F S8x8192x64 .f32 := Host.absf main_v17
  fn_part1 (F := F) main_arg6 main_v2 main_v5 main_v8 main_v12 main_v16 main_v18
-- ==== Pre_finite7.lean ====
abbrev S8192x1024 : Shape := ⟨2, ![8192, 1024]⟩
abbrev S8192x256 : Shape := ⟨2, ![8192, 256]⟩
abbrev S4x1024x1024 : Shape := ⟨3, ![4, 1024, 1024]⟩
abbrev S4x256x1024 : Shape := ⟨3, ![4, 256, 1024]⟩
abbrev S1x1024 : Shape := ⟨2, ![1, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bitsLt_bf16_f32 : FTy.bits .bf16 < FTy.bits .f32
  bcast_S_S4x1024x1024 : S_.BroadcastsInDim S4x1024x1024 (![] : Fin 0 → Fin S4x1024x1024.rank)
  bcast_S_S4x256x1024 : S_.BroadcastsInDim S4x256x1024 (![] : Fin 0 → Fin S4x256x1024.rank)
  bcast_S_S1x1024 : S_.BroadcastsInDim S1x1024 (![] : Fin 0 → Fin S1x1024.rank)
  bcast_S_S4x256x256 : S_.BroadcastsInDim S4x256x256 (![] : Fin 0 → Fin S4x256x256.rank)

variable [Facts]

def fn_part1 {F : FTy → Type} [FloatOps F] (main_arg6 : FVec F S4x256x256 .bf16) (main_arg7 : FVec F S1x1024 .f32) (main_arg8 : FVec F S1x1024 .f32) (main_arg9 : FVec F S8192x1024 .f32) (main_v2 : IVec S8192x1024 1) (main_v5 : IVec S8192x256 1) (main_v9 : IVec S4x1024x1024 1) (main_v13 : IVec S4x1024x1024 1) (main_v17 : IVec S4x256x1024 1) (main_v18 : FVec F S1x1024 .f32) : IVec S8192x1024 1 × IVec S8192x256 1 × IVec S4x1024x1024 1 × IVec S4x1024x1024 1 × IVec S4x256x1024 1 × IVec S1x1024 1 × IVec S4x256x256 1 × IVec S1x1024 1 × IVec S1x1024 1 × IVec S8192x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_v21 : FVec F S4x256x256 .f32 := (extf .f32 · bitsLt_bf16_f32) main_arg6
  let main_v22 : FVec F S4x256x256 .f32 := Host.absf main_v21
  let main_cst_5 : FVec F S_ .f32 := constant S_ .f32 0x7F800000#32
  let main_v23 : FVec F S4x256x256 .f32 := broadcastInDim S4x256x256 ![] bcast_S_S4x256x256 main_cst_5
  let main_v24 : IVec S4x256x256 1 := cmpf .olt main_v22 main_v23
  let main_v25 : FVec F S1x1024 .f32 := Host.absf main_arg7
  let main_cst_6 : FVec F S_ .f32 := constant S_ .f32 0x7F800000#32
  let main_v26 : FVec F S1x1024 .f32 := broadcastInDim S1x1024 ![] bcast_S_S1x1024 main_cst_6
  let main_v27 : IVec S1x1024 1 := cmpf .olt main_v25 main_v26
  let main_v28 : FVec F S1x1024 .f32 := Host.absf main_arg8
  let main_cst_7 : FVec F S_ .f32 := constant S_ .f32 0x7F800000#32
  let main_v29 : FVec F S1x1024 .f32 := broadcastInDim S1x1024 ![] bcast_S_S1x1024 main_cst_7
  let main_v30 : IVec S1x1024 1 := cmpf .olt main_v28 main_v29
  let main_v31 : FVec F S8192x1024 .f32 := Host.absf main_arg9
  let main_cst_8 : FVec F S_ .f32 := constant S_ .f32 0x7F800000#32
  let main_v32 : FVec F S8192x1024 .f32 := broadcastInDim S8192x1024 ![] bcast_S_S8192x1024 main_cst_8
  let main_v33 : IVec S8192x1024 1 := cmpf .olt main_v31 main_v32
  (main_v2, main_v5, main_v9, main_v13, main_v17, main_v20, main_v24, main_v27, main_v30, main_v33)

def fn {F : FTy → Type} [FloatOps F] (main_arg0 : FVec F S8192x1024 .f32) (main_arg1 : FVec F S8192x256 .f32) (main_arg2 : FVec F S4x1024x1024 .bf16) (main_arg3 : FVec F S4x1024x1024 .bf16) (main_arg4 : FVec F S4x256x1024 .bf16) (main_arg5 : FVec F S1x1024 .f32) (main_arg6 : FVec F S4x256x256 .bf16) (main_arg7 : FVec F S1x1024 .f32) (main_arg8 : FVec F S1x1024 .f32) (main_arg9 : FVec F S8192x1024 .f32) : IVec S8192x1024 1 × IVec S8192x256 1 × IVec S4x1024x1024 1 × IVec S4x1024x1024 1 × IVec S4x256x1024 1 × IVec S1x1024 1 × IVec S4x256x256 1 × IVec S1x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S4x1024x1024 .f32 := (extf .f32 · bitsLt_bf16_f32) main_arg2
  let main_v7 : FVec F S4x1024x1024 .f32 := Host.absf main_v6
  let main_cst_1 : FVec F S_ .f32 := constant S_ .f32 0x7F800000#32
  let main_v8 : FVec F S4x1024x1024 .f32 := broadcastInDim S4x1024x1024 ![] bcast_S_S4x1024x1024 main_cst_1
  let main_v9 : IVec S4x1024x1024 1 := cmpf .olt main_v7 main_v8
  let main_v10 : FVec F S4x1024x1024 .f32 := (extf .f32 · bitsLt_bf16_f32) main_arg3
  let main_v11 : FVec F S4x1024x1024 .f32 := Host.absf main_v10
  let main_cst_2 : FVec F S_ .f32 := constant S_ .f32 0x7F800000#32
  let main_v12 : FVec F S4x1024x1024 .f32 := broadcastInDim S4x1024x1024 ![] bcast_S_S4x1024x1024 main_cst_2
  let main_v13 : IVec S4x1024x1024 1 := cmpf .olt main_v11 main_v12
  let main_v14 : FVec F S4x256x1024 .f32 := (extf .f32 · bitsLt_bf16_f32) main_arg4
  let main_v15 : FVec F S4x256x1024 .f32 := Host.absf main_v14
  let main_cst_3 : FVec F S_ .f32 := constant S_ .f32 0x7F800000#32
  let main_v16 : FVec F S4x256x1024 .f32 := broadcastInDim S4x256x1024 ![] bcast_S_S4x256x1024 main_cst_3
  let main_v17 : IVec S4x256x1024 1 := cmpf .olt main_v15 main_v16
  let main_v18 : FVec F S1x1024 .f32 := Host.absf main_arg5
  fn_part1 (F := F) main_arg6 main_arg7 main_arg8 main_arg9 main_v2 main_v5 main_v9 main_v13 main_v17 main_v18
-- ==== Kernel.lean ====
abbrev S8192x1024 : Shape := ⟨2, ![8192, 1024]⟩
abbrev S8x8192x64 : Shape := ⟨3, ![8, 8192, 64]⟩
abbrev S128x8 : Shape := ⟨2, ![128, 8]⟩
abbrev S128x8x1 : Shape := ⟨3, ![128, 8, 1]⟩
abbrev S128x8x128 : Shape := ⟨3, ![128, 8, 128]⟩
abbrev S4x32x8x128 : Shape := ⟨4, ![4, 32, 8, 128]⟩
abbrev S128x8x128x128 : Shape := ⟨4, ![128, 8, 128, 128]⟩
abbrev S512x1024 : Shape := ⟨2, ![512, 1024]⟩
abbrev S8x512x64 : Shape := ⟨3, ![8, 512, 64]⟩
abbrev S1x8x8x128 : Shape := ⟨4, ![1, 8, 8, 128]⟩
abbrev S8x8x128x128 : Shape := ⟨4, ![8, 8, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S1x64x64 : Shape := ⟨3, ![1, 64, 64]⟩
abbrev S64x64 : Shape := ⟨2, ![64, 64]⟩
abbrev S1x1x1x128 : Shape := ⟨4, ![1, 1, 1, 128]⟩
abbrev S1x128 : Shape := ⟨2, ![1, 128]⟩
abbrev S1x1x128x128 : Shape := ⟨4, ![1, 1, 128, 128]⟩
abbrev S1 : Shape := ⟨1, ![1]⟩
abbrev S1x1x1 : Shape := ⟨3, ![1, 1, 1]⟩

abbrev nBuf : Space → Nat
  | .hbm => 18
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8x8192x64, .bf16⟩
  | .hbm, ⟨6, _⟩ => ⟨S128x8, .f32⟩
  | .hbm, ⟨7, _⟩ => ⟨S128x8x1, .f32⟩
  | .hbm, ⟨8, _⟩ => ⟨S128x8x128, .f32⟩
  | .hbm, ⟨9, _⟩ => ⟨S4x32x8x128, .f32⟩
  | .hbm, ⟨10, _⟩ => ⟨S8192x1024, .f32⟩
  | .hbm, ⟨11, _⟩ => ⟨S128x8x128x128, .bf16⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8x8192x64, .f32⟩
  | .hbm, ⟨17, _⟩ => ⟨S4x32x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x512x64, .bf16⟩
  | .local _ .vmem, ⟨9, _⟩ => ⟨S8x512x64, .bf16⟩
  | .local _ .vmem, ⟨10, _⟩ => ⟨S1x8x8x128, .f32⟩
  | .local _ .vmem, ⟨11, _⟩ => ⟨S1x8x8x128, .f32⟩
  | .local _ .vmem, ⟨12, _⟩ => ⟨S512x1024, .f32⟩
  | .local _ .vmem, ⟨13, _⟩ => ⟨S512x1024, .f32⟩
  | .local _ .vmem, ⟨14, _⟩ => ⟨S8x8x128x128, .bf16⟩
  | .local _ .vmem, ⟨15, _⟩ => ⟨S8x8x128x128, .bf16⟩
  | .local _ .vmem, ⟨16, _⟩ => ⟨S8x128x128, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S8x512x64, .bf16⟩
  | .local _ .vmem, ⟨28, _⟩ => ⟨S8x512x64, .bf16⟩
  | .local _ .vmem, ⟨29, _⟩ => ⟨S1x8x8x128, .f32⟩
  | .local _ .vmem, ⟨30, _⟩ => ⟨S1x8x8x128, .f32⟩
  | .local _ .vmem, ⟨31, _⟩ => ⟨S8x8x128x128, .bf16⟩
  | .local _ .vmem, ⟨32, _⟩ => ⟨S8x8x128x128, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S8x512x64, .f32⟩
  | .local _ .vmem, ⟨42, _⟩ => ⟨S8x512x64, .f32⟩
  | .local _ .vmem, ⟨43, _⟩ => ⟨S1x8x8x128, .f32⟩
  | .local _ .vmem, ⟨44, _⟩ => ⟨S1x8x8x128, .f32⟩
  | .local _ .vmem, ⟨45, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc1_transform_7 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_8 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.subi c15_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x512x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x8x128x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x512x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S8192x1024 : Shape := ⟨2, ![8192, 1024]⟩
abbrev S8x8192x64 : Shape := ⟨3, ![8, 8192, 64]⟩
abbrev S128x8 : Shape := ⟨2, ![128, 8]⟩
abbrev S128x64x8x128 : Shape := ⟨4, ![128, 64, 8, 128]⟩
abbrev S128x8x64x128 : Shape := ⟨4, ![128, 8, 64, 128]⟩
abbrev S8x128x64x64 : Shape := ⟨4, ![8, 128, 64, 64]⟩
abbrev S128x8x64x64 : Shape := ⟨4, ![128, 8, 64, 64]⟩
abbrev S_ : Shape := ⟨0, ![]⟩
abbrev S8x128x128 : Shape := ⟨3, ![8, 128, 128]⟩
abbrev S128x8x128x128 : Shape := ⟨4, ![128, 8, 128, 128]⟩
abbrev S128x8x1x1 : Shape := ⟨4, ![128, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩
abbrev S128x8x1 : Shape := ⟨3, ![128, 8, 1]⟩
abbrev S128x8x128 : Shape := ⟨3, ![128, 8, 128]⟩
abbrev S4x32x8x128 : Shape := ⟨4, ![4, 32, 8, 128]⟩

abbrev nBuf : Space → Nat
  | .hbm => 256
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .bf16⟩
  | 4 => ⟨S8192x1024, .bf16⟩
  | 5 => ⟨S8x8192x64, .bf16⟩
  | 6 => ⟨S128x8, .f32⟩
  | 7 => ⟨S128x64x8x128, .f32⟩
  | 8 => ⟨S128x8x64x128, .f32⟩
  | 9 => ⟨S128x64x8x128, .f32⟩
  | 10 => ⟨S128x8x64x128, .f32⟩
  | 11 => ⟨S8x8192x64, .f32⟩
  | 12 => ⟨S8x128x64x64, .f32⟩
  | 13 => ⟨S128x8x64x64, .f32⟩
  | 14 => ⟨S8192x1024, .f32⟩
  | 15 => ⟨S128x64x8x128, .f32⟩
  | 16 => ⟨S128x8x64x128, .f32⟩
  | 17 => ⟨S8192x1024, .f32⟩
  | 18 => ⟨S128x64x8x128, .f32⟩
  | 19 => ⟨S128x8x64x128, .f32⟩
  | 20 => ⟨S_, .f32⟩
  | 21 => ⟨S8x128x128, .f32⟩
  | 22 => ⟨S_, .f32⟩
  | 23 => ⟨S128x8x64x128, .f32⟩
  | 24 => ⟨S_, .f32⟩
  | 25 => ⟨S128x8x128x128, .f32⟩
  | 26 => ⟨S_, .f32⟩
  | 27 => ⟨S128x8x64x128, .f32⟩
  | 28 => ⟨S_, .f32⟩
  | 29 => ⟨S128x8x1x1, .f32⟩
  | 30 => ⟨S_, .i32⟩
  | 31 => ⟨S128x8x64x128, .f32⟩
  | 32 => ⟨S128x8x64x128, .f32⟩
  | 33 => ⟨S128x8x64x64, .f32⟩
  | 34 => ⟨S128x8x64x128, .f32⟩
  | 35 => ⟨S128x8x64x128, .f32⟩
  | 36 => ⟨S128x8, .f32⟩
  | 37 => ⟨S_, .i32⟩
  | 38 => ⟨S8x128x128, .f32⟩
  | 39 => ⟨S128x8x64x128, .f32⟩
  | 40 => ⟨S128x8x128x128, .f32⟩
  | 41 => ⟨S128x8x64x128, .f32⟩
  | 42 => ⟨S128x8x1x1, .f32⟩
  | 43 => ⟨S_, .i32⟩
  | 44 => ⟨S_, .i1⟩
  | 45 => ⟨S_, .i32⟩
  | 46 => ⟨S_, .i32⟩
  | 47 => ⟨S_, .i32⟩
  | 48 => ⟨S1x8x64x128, .f32⟩
  | 49 => ⟨S8x64x128, .f32⟩
  | 50 => ⟨S_, .i32⟩
  | 51 => ⟨S_, .i32⟩
  | 52 => ⟨S_, .i32⟩
  | 53 => ⟨S1x8x64x128, .f32⟩
  | 54 => ⟨S8x64x128, .f32⟩
  | 55 => ⟨S_, .i32⟩
  | 56 => ⟨S_, .i32⟩
  | 57 => ⟨S_, .i32⟩
  | 58 => ⟨S1x8x64x64, .f32⟩
  | 59 => ⟨S8x64x64, .f32⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S_, .i32⟩
  | 66 => ⟨S_, .i32⟩
  | 67 => ⟨S_, .i32⟩
  | 68 => ⟨S1x8x64x128, .f32⟩
  | 69 => ⟨S8x64x128, .f32⟩
  | 70 => ⟨S_, .i32⟩
  | 71 => ⟨S1x8, .f32⟩
  | 72 => ⟨S8, .f32⟩
  | 73 => ⟨S8x64x128, .f32⟩
  | 74 => ⟨S8x64x128, .f32⟩
  | 75 => ⟨S8x64x128, .f32⟩
  | 76 => ⟨S8x64x128, .f32⟩
  | 77 => ⟨S8x64x128, .f32⟩
  | 78 => ⟨S8x1x1, .f32⟩
  | 79 => ⟨S8x128x128, .f32⟩
  | 80 => ⟨S8x128x128, .f32⟩
  | 81 => ⟨S8x128x128, .f32⟩
  | 82 => ⟨S8x128x128, .f32⟩
  | 83 => ⟨S1x8x64x128, .f32⟩
  | 84 => ⟨S_, .i32⟩
  | 85 => ⟨S_, .i32⟩
  | 86 => ⟨S_, .i32⟩
  | 87 => ⟨S128x8x64x128, .f32⟩
  | 88 => ⟨S1x8x128x128, .f32⟩
  | 89 => ⟨S_, .i32⟩
  | 90 => ⟨S_, .i32⟩
  | 91 => ⟨S_, .i32⟩
  | 92 => ⟨S128x8x128x128, .f32⟩
  | 93 => ⟨S1x8x64x128, .f32⟩
  | 94 => ⟨S_, .i32⟩
  | 95 => ⟨S_, .i32⟩
  | 96 => ⟨S_, .i32⟩
  | 97 => ⟨S128x8x64x128, .f32⟩
  | 98 => ⟨S1x8x1x1, .f32⟩
  | 99 => ⟨S_, .i32⟩
  | 100 => ⟨S_, .i32⟩
  | 101 => ⟨S_, .i32⟩
  | 102 => ⟨S128x8x1x1, .f32⟩
  | 103 => ⟨S_, .i32⟩
  | 104 => ⟨S_, .i32⟩
  | 105 => ⟨S128x64x8x128, .f32⟩
  | 106 => ⟨S128x8x64x128, .f32⟩
  | 107 => ⟨S_, .f32⟩
  | 108 => ⟨S8x128x128, .f32⟩
  | 109 => ⟨S_, .f32⟩
  | 110 => ⟨S8x128x128, .f32⟩
  | 111 => ⟨S_, .f32⟩
  | 112 => ⟨S128x8x64x128, .f32⟩
  | 113 => ⟨S_, .f32⟩
  | 114 => ⟨S128x8x64x128, .f32⟩
  | 115 => ⟨S_, .f32⟩
  | 116 => ⟨S128x8x64x64, .f32⟩
  | 117 => ⟨S_, .f32⟩
  | 118 => ⟨S128x8x64x128, .f32⟩
  | 119 => ⟨S_, .f32⟩
  | 120 => ⟨S128x8x64x128, .f32⟩
  | 121 => ⟨S_, .f32⟩
  | 122 => ⟨S128x8, .f32⟩
  | 123 => ⟨S_, .i32⟩
  | 124 => ⟨S128x8x64x128, .f32⟩
  | 125 => ⟨S128x8x128x128, .f32⟩
  | 126 => ⟨S128x8x64x128, .f32⟩
  | 127 => ⟨S128x8x64x128, .f32⟩
  | _ => ⟨S8192x1024, .f32⟩

abbrev hbmTy0_1 (i : Nat) : BufTy := match i % 128 with
  | 0 => ⟨S128x8x64x128, .f32⟩
  | 1 => ⟨S128x8x64x64, .f32⟩
  | 2 => ⟨S128x8x1x1, .f32⟩
  | 3 => ⟨S128x8x64x128, .f32⟩
  | 4 => ⟨S_, .i32⟩
  | 5 => ⟨S8x128x128, .f32⟩
  | 6 => ⟨S128x8x64x128, .f32⟩
  | 7 => ⟨S128x8x64x128, .f32⟩
  | 8 => ⟨S128x8x64x64, .f32⟩
  | 9 => ⟨S128x8x64x128, .f32⟩
  | 10 => ⟨S128x8x64x128, .f32⟩
  | 11 => ⟨S128x8, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1x8x64x128, .f32⟩
  | 22 => ⟨S8x64x128, .f32⟩
  | 23 => ⟨S_, .i32⟩
  | 24 => ⟨S_, .i32⟩
  | 25 => ⟨S_, .i32⟩
  | 26 => ⟨S1x8x128x128, .f32⟩
  | 27 => ⟨S8x128x128, .f32⟩
  | 28 => ⟨S_, .i32⟩
  | 29 => ⟨S_, .i32⟩
  | 30 => ⟨S_, .i32⟩
  | 31 => ⟨S1x8x64x128, .f32⟩
  | 32 => ⟨S8x64x128, .f32⟩
  | 33 => ⟨S_, .i32⟩
  | 34 => ⟨S_, .i32⟩
  | 35 => ⟨S_, .i32⟩
  | 36 => ⟨S1x8x64x128, .f32⟩
  | 37 => ⟨S8x64x128, .f32⟩
  | 38 => ⟨S_, .i32⟩
  | 39 => ⟨S_, .i32⟩
  | 40 => ⟨S_, .i32⟩
  | 41 => ⟨S1x8x64x128, .f32⟩
  | 42 => ⟨S8x64x128, .f32⟩
  | 43 => ⟨S_, .i32⟩
  | 44 => ⟨S_, .i32⟩
  | 45 => ⟨S_, .i32⟩
  | 46 => ⟨S1x8x64x64, .f32⟩
  | 47 => ⟨S8x64x64, .f32⟩
  | 48 => ⟨S_, .i32⟩
  | 49 => ⟨S_, .i32⟩
  | 50 => ⟨S_, .i32⟩
  | 51 => ⟨S1x8x1x1, .f32⟩
  | 52 => ⟨S8x1x1, .f32⟩
  | 53 => ⟨S_, .i32⟩
  | 54 => ⟨S_, .i32⟩
  | 55 => ⟨S_, .i32⟩
  | 56 => ⟨S1x8x64x128, .f32⟩
  | 57 => ⟨S8x64x128, .f32⟩
  | 58 => ⟨S8x128x64, .f32⟩
  | 59 => ⟨S8x64x128, .f32⟩
  | 60 => ⟨S8x128x64, .f32⟩
  | 61 => ⟨S8x64x128, .f32⟩
  | 62 => ⟨S8x128x128, .f32⟩
  | 63 => ⟨S_, .f32⟩
  | 64 => ⟨S8, .f32⟩
  | 65 => ⟨S8x1x1, .f32⟩
  | 66 => ⟨S8x128x128, .f32⟩
  | 67 => ⟨S8x128x128, .f32⟩
  | 68 => ⟨S_, .f32⟩
  | 69 => ⟨S8, .f32⟩
  | 70 => ⟨S8x128x64, .f32⟩
  | 71 => ⟨S8x64x128, .f32⟩
  | 72 => ⟨S8x64x128, .f32⟩
  | 73 => ⟨S8x64x64, .f32⟩
  | 74 => ⟨S8x128x128, .f32⟩
  | 75 => ⟨S8x128x128, .f32⟩
  | 76 => ⟨S8x128x128, .f32⟩
  | 77 => ⟨S8x64x128, .f32⟩
  | 78 => ⟨S8x64x128, .f32⟩
  | 79 => ⟨S8x128x128, .f32⟩
  | 80 => ⟨S8x128x128, .f32⟩
  | 81 => ⟨S8x128x128, .f32⟩
  | 82 => ⟨S8x64x128, .f32⟩
  | 83 => ⟨S1x8x64x128, .f32⟩
  | 84 => ⟨S_, .i32⟩
  | 85 => ⟨S_, .i32⟩
  | 86 => ⟨S_, .i32⟩
  | 87 => ⟨S128x8x64x128, .f32⟩
  | 88 => ⟨S1x8x64x128, .f32⟩
  | 89 => ⟨S_, .i32⟩
  | 90 => ⟨S_, .i32⟩
  | 91 => ⟨S_, .i32⟩
  | 92 => ⟨S128x8x64x128, .f32⟩
  | 93 => ⟨S1x8x64x64, .f32⟩
  | 94 => ⟨S_, .i32⟩
  | 95 => ⟨S_, .i32⟩
  | 96 => ⟨S_, .i32⟩
  | 97 => ⟨S128x8x64x64, .f32⟩
  | 98 => ⟨S1x8x64x128, .f32⟩
  | 99 => ⟨S_, .i32⟩
  | 100 => ⟨S_, .i32⟩
  | 101 => ⟨S_, .i32⟩
  | 102 => ⟨S128x8x64x128, .f32⟩
  | 103 => ⟨S1x8x64x128, .f32⟩
  | 104 => ⟨S_, .i32⟩
  | 105 => ⟨S_, .i32⟩
  | 106 => ⟨S_, .i32⟩
  | 107 => ⟨S128x8x64x128, .f32⟩
  | 108 => ⟨S1x8, .f32⟩
  | 109 => ⟨S_, .i32⟩
  | 110 => ⟨S128x8, .f32⟩
  | 111 => ⟨S_, .i32⟩
  | 112 => ⟨S_, .i32⟩
  | 113 => ⟨S128x64x8x128, .f32⟩
  | 114 => ⟨S8192x1024, .f32⟩
  | 115 => ⟨S128x64x8x128, .f32⟩
  | 116 => ⟨S8192x1024, .f32⟩
  | 117 => ⟨S128x64x8x128, .f32⟩
  | 118 => ⟨S8192x1024, .f32⟩
  | 119 => ⟨S128x64x8x128, .f32⟩
  | 120 => ⟨S8192x1024, .f32⟩
  | 121 => ⟨S128x64x8x128, .f32⟩
  | 122 => ⟨S8192x1024, .f32⟩
  | 123 => ⟨S8x128x64x64, .f32⟩
  | 124 => ⟨S8x8192x64, .f32⟩
  | 125 => ⟨S128x8x1, .f32⟩
  | 126 => ⟨S128x8x128, .f32⟩
  | 127 => ⟨S4x32x8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_c : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v18_7 : Ref sig .tc := ⟨.hbm, 38, rfl⟩
abbrev main_v18_8 : Ref sig .tc := ⟨.hbm, 39, rfl⟩
abbrev main_v18_9 : Ref sig .tc := ⟨.hbm, 40, rfl⟩
abbrev main_v18_10 : Ref sig .tc := ⟨.hbm, 41, rfl⟩
abbrev main_v18_11 : Ref sig .tc := ⟨.hbm, 42, rfl⟩
abbrev main_while0c_c_24 : Ref sig .tc := ⟨.hbm, 43, rfl⟩
abbrev main_while0c_v45 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v45 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v46 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v47 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v48 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v49 : Ref sig .tc := ⟨.hbm, 69, rfl⟩
abbrev main_while0b_call5_c : Ref sig .tc := ⟨.hbm, 70, rfl⟩
abbrev main_while0b_call5_v0 : Ref sig .tc := ⟨.hbm, 71, rfl⟩
abbrev main_while0b_v50 : Ref sig .tc := ⟨.hbm, 72, rfl⟩
abbrev main_while0b_v51 : Ref sig .tc := ⟨.hbm, 73, rfl⟩
abbrev main_while0b_v52 : Ref sig .tc := ⟨.hbm, 74, rfl⟩
abbrev main_while0b_v53 : Ref sig .tc := ⟨.hbm, 75, rfl⟩
abbrev main_while0b_v54 : Ref sig .tc := ⟨.hbm, 76, rfl⟩
abbrev main_while0b_v55 : Ref sig .tc := ⟨.hbm, 77, rfl⟩
abbrev main_while0b_v56 : Ref sig .tc := ⟨.hbm, 78, rfl⟩
abbrev main_while0b_v57 : Ref sig .tc := ⟨.hbm, 79, rfl⟩
abbrev main_while0b_v58 : Ref sig .tc := ⟨.hbm, 80, rfl⟩
abbrev main_while0b_v59 : Ref sig .tc := ⟨.hbm, 81, rfl⟩
abbrev main_while0b_v60 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v61 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_v62 : Ref sig .tc := ⟨.hbm, 92, rfl⟩
abbrev main_while0b_call8_v0 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_v63 : Ref sig .tc := ⟨.hbm, 97, rfl⟩
abbrev main_while0b_call9_v0 : Ref sig .tc := ⟨.hbm, 98, rfl⟩
abbrev main_while0b_call9_c : Ref sig .tc := ⟨.hbm, 99, rfl⟩
abbrev main_while0b_call9_c_0 : Ref sig .tc := ⟨.hbm, 100, rfl⟩
abbrev main_while0b_call9_c_1 : Ref sig .tc := ⟨.hbm, 101, rfl⟩
abbrev main_while0b_v64 : Ref sig .tc := ⟨.hbm, 102, rfl⟩
abbrev main_while0b_c_24 : Ref sig .tc := ⟨.hbm, 103, rfl⟩
abbrev main_while0b_v65 : Ref sig .tc := ⟨.hbm, 104, rfl⟩
abbrev main_v19 : Ref sig .tc := ⟨.hbm, 105, rfl⟩
abbrev main_v20 : Ref sig .tc := ⟨.hbm, 106, rfl⟩
abbrev main_cst_4 : Ref sig .tc := ⟨.hbm, 107, rfl⟩
abbrev main_v21 : Ref sig .tc := ⟨.hbm, 108, rfl⟩
abbrev main_cst_5 : Ref sig .tc := ⟨.hbm, 109, rfl⟩
abbrev main_v22 : Ref sig .tc := ⟨.hbm, 110, rfl⟩
abbrev main_cst_6 : Ref sig .tc := ⟨.hbm, 111, rfl⟩
abbrev main_v23 : Ref sig .tc := ⟨.hbm, 112, rfl⟩
abbrev main_cst_7 : Ref sig .tc := ⟨.hbm, 113, rfl⟩
abbrev main_v24 : Ref sig .tc := ⟨.hbm, 114, rfl⟩
abbrev main_cst_8 : Ref sig .tc := ⟨.hbm, 115, rfl⟩
abbrev main_v25 : Ref sig .tc := ⟨.hbm, 116, rfl⟩
abbrev main_cst_9 : Ref sig .tc := ⟨.hbm, 117, rfl⟩
abbrev main_v26 : Ref sig .tc := ⟨.hbm, 118, rfl⟩
abbrev main_cst_10 : Ref sig .tc := ⟨.hbm, 119, rfl⟩
abbrev main_v27 : Ref sig .tc := ⟨.hbm, 120, rfl⟩
abbrev main_cst_11 : Ref sig .tc := ⟨.hbm, 121, rfl⟩
abbrev main_v28 : Ref sig .tc := ⟨.hbm, 122, rfl⟩
abbrev main_c_12 : Ref sig .tc := ⟨.hbm, 123, rfl⟩
abbrev main_v29_0 : Ref sig .tc := ⟨.hbm, 124, rfl⟩
abbrev main_v29_1 : Ref sig .tc := ⟨.hbm, 125, rfl⟩
abbrev main_v29_2 : Ref sig .tc := ⟨.hbm, 126, rfl⟩
abbrev main_v29_3 : Ref sig .tc := ⟨.hbm, 127, rfl⟩
abbrev main_v29_4 : Ref sig .tc := ⟨.hbm, 128, rfl⟩
abbrev main_v29_5 : Ref sig .tc := ⟨.hbm, 129, rfl⟩
abbrev main_v29_6 : Ref sig .tc := ⟨.hbm, 130, rfl⟩
abbrev main_v29_7 : Ref sig .tc := ⟨.hbm, 131, rfl⟩
abbrev main_v29_8 : Ref sig .tc := ⟨.hbm, 132, rfl⟩
abbrev main_v29_9 : Ref sig .tc := ⟨.hbm, 133, rfl⟩
abbrev main_v29_10 : Ref sig .tc := ⟨.hbm, 134, rfl⟩
abbrev main_v29_11 : Ref sig .tc := ⟨.hbm, 135, rfl⟩
abbrev main_v29_12 : Ref sig .tc := ⟨.hbm, 136, rfl⟩
abbrev main_v29_13 : Ref sig .tc := ⟨.hbm, 137, rfl⟩
abbrev main_v29_14 : Ref sig .tc := ⟨.hbm, 138, rfl⟩
abbrev main_v29_15 : Ref sig .tc := ⟨.hbm, 139, rfl⟩
abbrev main_while1c_c_28 : Ref sig .tc := ⟨.hbm, 140, rfl⟩
abbrev main_while1c_v45 : Ref sig .tc := ⟨.hbm, 141, rfl⟩
abbrev main_while1b_c_28 : Ref sig .tc := ⟨.hbm, 142, rfl⟩
abbrev main_while1b_v45 : Ref sig .tc := ⟨.hbm, 143, rfl⟩
abbrev main_while1b_c_29 : Ref sig .tc := ⟨.hbm, 144, rfl⟩
abbrev main_while1b_v46 : Ref sig .tc := ⟨.hbm, 145, rfl⟩
abbrev main_while1b_call10_c : Ref sig .tc := ⟨.hbm, 146, rfl⟩
abbrev main_while1b_call10_c_0 : Ref sig .tc := ⟨.hbm, 147, rfl⟩
abbrev main_while1b_call10_c_1 : Ref sig .tc := ⟨.hbm, 148, rfl⟩
abbrev main_while1b_call10_v0 : Ref sig .tc := ⟨.hbm, 149, rfl⟩
abbrev main_while1b_v47 : Ref sig .tc := ⟨.hbm, 150, rfl⟩
abbrev main_while1b_call11_c : Ref sig .tc := ⟨.hbm, 151, rfl⟩
abbrev main_while1b_call11_c_0 : Ref sig .tc := ⟨.hbm, 152, rfl⟩
abbrev main_while1b_call11_c_1 : Ref sig .tc := ⟨.hbm, 153, rfl⟩
abbrev main_while1b_call11_v0 : Ref sig .tc := ⟨.hbm, 154, rfl⟩
abbrev main_while1b_v48 : Ref sig .tc := ⟨.hbm, 155, rfl⟩
abbrev main_while1b_call12_c : Ref sig .tc := ⟨.hbm, 156, rfl⟩
abbrev main_while1b_call12_c_0 : Ref sig .tc := ⟨.hbm, 157, rfl⟩
abbrev main_while1b_call12_c_1 : Ref sig .tc := ⟨.hbm, 158, rfl⟩
abbrev main_while1b_call12_v0 : Ref sig .tc := ⟨.hbm, 159, rfl⟩
abbrev main_while1b_v49 : Ref sig .tc := ⟨.hbm, 160, rfl⟩
abbrev main_while1b_call13_c : Ref sig .tc := ⟨.hbm, 161, rfl⟩
abbrev main_while1b_call13_c_0 : Ref sig .tc := ⟨.hbm, 162, rfl⟩
abbrev main_while1b_call13_c_1 : Ref sig .tc := ⟨.hbm, 163, rfl⟩
abbrev main_while1b_call13_v0 : Ref sig .tc := ⟨.hbm, 164, rfl⟩
abbrev main_while1b_v50 : Ref sig .tc := ⟨.hbm, 165, rfl⟩
abbrev main_while1b_call14_c : Ref sig .tc := ⟨.hbm, 166, rfl⟩
abbrev main_while1b_call14_c_0 : Ref sig .tc := ⟨.hbm, 167, rfl⟩
abbrev main_while1b_call14_c_1 : Ref sig .tc := ⟨.hbm, 168, rfl⟩
abbrev main_while1b_call14_v0 : Ref sig .tc := ⟨.hbm, 169, rfl⟩
abbrev main_while1b_v51 : Ref sig .tc := ⟨.hbm, 170, rfl⟩
abbrev main_while1b_call15_c : Ref sig .tc := ⟨.hbm, 171, rfl⟩
abbrev main_while1b_call15_c_0 : Ref sig .tc := ⟨.hbm, 172, rfl⟩
abbrev main_while1b_call15_c_1 : Ref sig .tc := ⟨.hbm, 173, rfl⟩
abbrev main_while1b_call15_v0 : Ref sig .tc := ⟨.hbm, 174, rfl⟩
abbrev main_while1b_v52 : Ref sig .tc := ⟨.hbm, 175, rfl⟩
abbrev main_while1b_call16_c : Ref sig .tc := ⟨.hbm, 176, rfl⟩
abbrev main_while1b_call16_c_0 : Ref sig .tc := ⟨.hbm, 177, rfl⟩
abbrev main_while1b_call16_c_1 : Ref sig .tc := ⟨.hbm, 178, rfl⟩
abbrev main_while1b_call16_v0 : Ref sig .tc := ⟨.hbm, 179, rfl⟩
abbrev main_while1b_v53 : Ref sig .tc := ⟨.hbm, 180, rfl⟩
abbrev main_while1b_call17_c : Ref sig .tc := ⟨.hbm, 181, rfl⟩
abbrev main_while1b_call17_c_0 : Ref sig .tc := ⟨.hbm, 182, rfl⟩
abbrev main_while1b_call17_c_1 : Ref sig .tc := ⟨.hbm, 183, rfl⟩
abbrev main_while1b_call17_v0 : Ref sig .tc := ⟨.hbm, 184, rfl⟩
abbrev main_while1b_v54 : Ref sig .tc := ⟨.hbm, 185, rfl⟩
abbrev main_while1b_v55 : Ref sig .tc := ⟨.hbm, 186, rfl⟩
abbrev main_while1b_v56 : Ref sig .tc := ⟨.hbm, 187, rfl⟩
abbrev main_while1b_v57 : Ref sig .tc := ⟨.hbm, 188, rfl⟩
abbrev main_while1b_v58 : Ref sig .tc := ⟨.hbm, 189, rfl⟩
abbrev main_while1b_v59 : Ref sig .tc := ⟨.hbm, 190, rfl⟩
abbrev main_while1b_cst_30 : Ref sig .tc := ⟨.hbm, 191, rfl⟩
abbrev main_while1b_v60 : Ref sig .tc := ⟨.hbm, 192, rfl⟩
abbrev main_while1b_v61 : Ref sig .tc := ⟨.hbm, 193, rfl⟩
abbrev main_while1b_v62 : Ref sig .tc := ⟨.hbm, 194, rfl⟩
abbrev main_while1b_v63 : Ref sig .tc := ⟨.hbm, 195, rfl⟩
abbrev main_while1b_cst_31 : Ref sig .tc := ⟨.hbm, 196, rfl⟩
abbrev main_while1b_v64 : Ref sig .tc := ⟨.hbm, 197, rfl⟩
abbrev main_while1b_v65 : Ref sig .tc := ⟨.hbm, 198, rfl⟩
abbrev main_while1b_v66 : Ref sig .tc := ⟨.hbm, 199, rfl⟩
abbrev main_while1b_v67 : Ref sig .tc := ⟨.hbm, 200, rfl⟩
abbrev main_while1b_v68 : Ref sig .tc := ⟨.hbm, 201, rfl⟩
abbrev main_while1b_v69 : Ref sig .tc := ⟨.hbm, 202, rfl⟩
abbrev main_while1b_v70 : Ref sig .tc := ⟨.hbm, 203, rfl⟩
abbrev main_while1b_v71 : Ref sig .tc := ⟨.hbm, 204, rfl⟩
abbrev main_while1b_v72 : Ref sig .tc := ⟨.hbm, 205, rfl⟩
abbrev main_while1b_v73 : Ref sig .tc := ⟨.hbm, 206, rfl⟩
abbrev main_while1b_v74 : Ref sig .tc := ⟨.hbm, 207, rfl⟩
abbrev main_while1b_v75 : Ref sig .tc := ⟨.hbm, 208, rfl⟩
abbrev main_while1b_v76 : Ref sig .tc := ⟨.hbm, 209, rfl⟩
abbrev main_while1b_v77 : Ref sig .tc := ⟨.hbm, 210, rfl⟩
abbrev main_while1b_call18_v0 : Ref sig .tc := ⟨.hbm, 211, rfl⟩
abbrev main_while1b_call18_c : Ref sig .tc := ⟨.hbm, 212, rfl⟩
abbrev main_while1b_call18_c_0 : Ref sig .tc := ⟨.hbm, 213, rfl⟩
abbrev main_while1b_call18_c_1 : Ref sig .tc := ⟨.hbm, 214, rfl⟩
abbrev main_while1b_v78 : Ref sig .tc := ⟨.hbm, 215, rfl⟩
abbrev main_while1b_call19_v0 : Ref sig .tc := ⟨.hbm, 216, rfl⟩
abbrev main_while1b_call19_c : Ref sig .tc := ⟨.hbm, 217, rfl⟩
abbrev main_while1b_call19_c_0 : Ref sig .tc := ⟨.hbm, 218, rfl⟩
abbrev main_while1b_call19_c_1 : Ref sig .tc := ⟨.hbm, 219, rfl⟩
abbrev main_while1b_v79 : Ref sig .tc := ⟨.hbm, 220, rfl⟩
abbrev main_while1b_call20_v0 : Ref sig .tc := ⟨.hbm, 221, rfl⟩
abbrev main_while1b_call20_c : Ref sig .tc := ⟨.hbm, 222, rfl⟩
abbrev main_while1b_call20_c_0 : Ref sig .tc := ⟨.hbm, 223, rfl⟩
abbrev main_while1b_call20_c_1 : Ref sig .tc := ⟨.hbm, 224, rfl⟩
abbrev main_while1b_v80 : Ref sig .tc := ⟨.hbm, 225, rfl⟩
abbrev main_while1b_call21_v0 : Ref sig .tc := ⟨.hbm, 226, rfl⟩
abbrev main_while1b_call21_c : Ref sig .tc := ⟨.hbm, 227, rfl⟩
abbrev main_while1b_call21_c_0 : Ref sig .tc := ⟨.hbm, 228, rfl⟩
abbrev main_while1b_call21_c_1 : Ref sig .tc := ⟨.hbm, 229, rfl⟩
abbrev main_while1b_v81 : Ref sig .tc := ⟨.hbm, 230, rfl⟩
abbrev main_while1b_call22_v0 : Ref sig .tc := ⟨.hbm, 231, rfl⟩
abbrev main_while1b_call22_c : Ref sig .tc := ⟨.hbm, 232, rfl⟩
abbrev main_while1b_call22_c_0 : Ref sig .tc := ⟨.hbm, 233, rfl⟩
abbrev main_while1b_call22_c_1 : Ref sig .tc := ⟨.hbm, 234, rfl⟩
abbrev main_while1b_v82 : Ref sig .tc := ⟨.hbm, 235, rfl⟩
abbrev main_while1b_call23_v0 : Ref sig .tc := ⟨.hbm, 236, rfl⟩
abbrev main_while1b_call23_c : Ref sig .tc := ⟨.hbm, 237, rfl⟩
abbrev main_while1b_v83 : Ref sig .tc := ⟨.hbm, 238, rfl⟩
abbrev main_while1b_c_32 : Ref sig .tc := ⟨.hbm, 239, rfl⟩
abbrev main_while1b_v84 : Ref sig .tc := ⟨.hbm, 240, rfl⟩
abbrev main_v30 : Ref sig .tc := ⟨.hbm, 241, rfl⟩
abbrev main_v31 : Ref sig .tc := ⟨.hbm, 242, rfl⟩
abbrev main_v32 : Ref sig .tc := ⟨.hbm, 243, rfl⟩
abbrev main_v33 : Ref sig .tc := ⟨.hbm, 244, rfl⟩
abbrev main_v34 : Ref sig .tc := ⟨.hbm, 245, rfl⟩
abbrev main_v35 : Ref sig .tc := ⟨.hbm, 246, rfl⟩
abbrev main_v36 : Ref sig .tc := ⟨.hbm, 247, rfl⟩
abbrev main_v37 : Ref sig .tc := ⟨.hbm, 248, rfl⟩
abbrev main_v38 : Ref sig .tc := ⟨.hbm, 249, rfl⟩
abbrev main_v39 : Ref sig .tc := ⟨.hbm, 250, rfl⟩
abbrev main_v40 : Ref sig .tc := ⟨.hbm, 251, rfl⟩
abbrev main_v41 : Ref sig .tc := ⟨.hbm, 252, rfl⟩
abbrev main_v42 : Ref sig .tc := ⟨.hbm, 253, rfl⟩
abbrev main_v43 : Ref sig .tc := ⟨.hbm, 254, rfl⟩
abbrev main_v44 : Ref sig .tc := ⟨.hbm, 255, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v4 : BitVec 32 := Scalar.extui v0
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v6 : BitVec 1 := Scalar.xori v0 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v4 : BitVec 32 := Scalar.extui v0
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v6 : BitVec 1 := Scalar.xori v0 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x4224 : Shape := ⟨2, ![8192, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4224, .bf16⟩
  | .hbm, ⟨2, _⟩ => ⟨S1024x4224, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4224 : Shape := ⟨2, ![8192, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4224, .bf16⟩
  | .hbm, ⟨2, _⟩ => ⟨S8192x4224, .f32⟩
  | .hbm, ⟨3, _⟩ => ⟨S_, .f32⟩
  | .hbm, ⟨4, _⟩ => ⟨S1024x4224, .f32⟩
  | .hbm, ⟨5, _⟩ => ⟨S8192x4224, .f32⟩
  | .hbm, ⟨6, _⟩ => ⟨S4224x1024, .f32⟩
  | .hbm, ⟨7, _⟩ => ⟨S1024x4224, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v4 : BitVec 32 := Scalar.extui v0
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v6 : BitVec 1 := Scalar.xori v0 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x256 : Shape := ⟨2, ![8192, 256]⟩
abbrev S4x1024x1024 : Shape := ⟨3, ![4, 1024, 1024]⟩
abbrev S4x256x1024 : Shape := ⟨3, ![4, 256, 1024]⟩
abbrev S1x1024 : Shape := ⟨2, ![1, 1024]⟩
abbrev S4x256x256 : Shape := ⟨3, ![4, 256, 256]⟩
abbrev S8192x1 : Shape := ⟨2, ![8192, 1]⟩
abbrev S8192x4096 : Shape := ⟨2, ![8192, 4096]⟩
abbrev S1x128 : Shape := ⟨2, ![1, 128]⟩
abbrev S512x1024 : Shape := ⟨2, ![512, 1024]⟩
abbrev S512x256 : Shape := ⟨2, ![512, 256]⟩
abbrev S1x1024x1024 : Shape := ⟨3, ![1, 1024, 1024]⟩
abbrev S512x1 : Shape := ⟨2, ![512, 1]⟩
abbrev S1024x1024 : Shape := ⟨2, ![1024, 1024]⟩
abbrev S1x256x256 : Shape := ⟨3, ![1, 256, 256]⟩
abbrev S256x256 : Shape := ⟨2, ![256, 256]⟩
abbrev S256x1024 : Shape := ⟨2, ![256, 1024]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 24
  | .vmem => 63
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S4x1024x1024, .bf16⟩
  | .hbm, ⟨3, _⟩ => ⟨S4x1024x1024, .bf16⟩
  | .hbm, ⟨4, _⟩ => ⟨S4x256x1024, .bf16⟩
  | .hbm, ⟨5, _⟩ => ⟨S1x1024, .f32⟩
  | .hbm, ⟨6, _⟩ => ⟨S4x256x256, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1, .f32⟩
  | .hbm, ⟨13, _⟩ => ⟨S8192x4096, .bf16⟩
  | .hbm, ⟨14, _⟩ => ⟨S8192x1024, .bf16⟩
  | .hbm, ⟨15, _⟩ => ⟨S1x128, .f32⟩
  | .hbm, ⟨16, _⟩ => ⟨S8192x1024, .f32⟩
  | .hbm, ⟨17, _⟩ => ⟨S8192x4096, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S4x256x1024, .bf16⟩
  | .local _ .vmem, ⟨9, _⟩ => ⟨S1x1024, .f32⟩
  | .local _ .vmem, ⟨10, _⟩ => ⟨S4x256x256, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x128, .f32⟩
  | .local _ .vmem, ⟨26, _⟩ => ⟨S512x1024, .f32⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1, .f32⟩
  | .local _ .vmem, ⟨33, _⟩ => ⟨S512x1, .f32⟩
  | .local _ .vmem, ⟨34, _⟩ => ⟨S512x1024, .f32⟩
  | .local _ .vmem, ⟨35, _⟩ => ⟨S512x1024, .f32⟩
  | .local _ .vmem, ⟨36, _⟩ => ⟨S512x1024, .bf16⟩
  | .local _ .vmem, ⟨37, _⟩ => ⟨S512x1024, .bf16⟩
  | .local _ .vmem, ⟨38, _⟩ => ⟨S512x256, .f32⟩
  | .local _ .vmem, ⟨39, _⟩ => ⟨S512x256, .f32⟩
  | .local _ .vmem, ⟨40, _⟩ => ⟨S1x1024x1024, .bf16⟩
  | .local _ .vmem, ⟨41, _⟩ => ⟨S1x1024x1024, .bf16⟩
  | .local _ .vmem, ⟨42, _⟩ => ⟨S1x1024x1024, .bf16⟩
  | .local _ .vmem, ⟨43, _⟩ => ⟨S1x1024x1024, .bf16⟩
  | .local _ .vmem, ⟨44, _⟩ => ⟨S4x256x1024, .bf16⟩
  | .local _ .vmem, ⟨45, _⟩ => ⟨S1x1024, .f32⟩
  | .local _ .vmem, ⟨46, _⟩ => ⟨S4x256x256, .bf16⟩
  | .local _ .vmem, ⟨47, _⟩ => ⟨S1x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x1024, .bf16⟩
  | .local _ .vmem, ⟨55, _⟩ => ⟨S512x1024, .bf16⟩
  | .local _ .vmem, ⟨56, _⟩ => ⟨S512x1024, .bf16⟩
  | .local _ .vmem, ⟨57, _⟩ => ⟨S512x1024, .bf16⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S512x1024, .f32⟩
  | .local _ .vmem, ⟨62, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v1_4 : Ref sig .tc := ⟨.hbm, 20, rfl⟩
abbrev main_v1_5 : Ref sig .tc := ⟨.hbm, 21, rfl⟩
abbrev main_v1_6 : Ref sig .tc := ⟨.hbm, 22, rfl⟩
abbrev main_v1_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_stg8_0 : Ref sig .tc := ⟨.vmem, 44, rfl⟩
abbrev cc1_stg9_0 : Ref sig .tc := ⟨.vmem, 45, rfl⟩
abbrev cc1_stg10_0 : Ref sig .tc := ⟨.vmem, 46, rfl⟩
abbrev cc1_stg11_0 : Ref sig .tc := ⟨.vmem, 47, rfl⟩
abbrev cc1_stg12_0 : Ref sig .tc := ⟨.vmem, 48, rfl⟩
abbrev cc1_stg12_1 : Ref sig .tc := ⟨.vmem, 49, rfl⟩
abbrev cc1_stg13_0 : Ref sig .tc := ⟨.vmem, 50, rfl⟩
abbrev cc1_stg13_1 : Ref sig .tc := ⟨.vmem, 51, rfl⟩
abbrev cc1_stg14_0 : Ref sig .tc := ⟨.vmem, 52, rfl⟩
abbrev cc1_stg14_1 : Ref sig .tc := ⟨.vmem, 53, rfl⟩
abbrev cc1_stg15_0 : Ref sig .tc := ⟨.vmem, 54, rfl⟩
abbrev cc1_stg15_1 : Ref sig .tc := ⟨.vmem, 55, rfl⟩
abbrev cc1_stg16_0 : Ref sig .tc := ⟨.vmem, 56, rfl⟩
abbrev cc1_stg16_1 : Ref sig .tc := ⟨.vmem, 57, rfl⟩
abbrev cc1_stg17_0 : Ref sig .tc := ⟨.vmem, 58, rfl⟩
abbrev cc1_stg18_0 : Ref sig .tc := ⟨.vmem, 59, rfl⟩
abbrev cc1_stg19_0 : Ref sig .tc := ⟨.vmem, 60, rfl⟩
abbrev cc1_scratch0 : Ref sig .tc := ⟨.vmem, 61, rfl⟩
abbrev cc1_scratch1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem9_0 : DmaSem sig := 43
abbrev cc1_sem10_0 : DmaSem sig := 44
abbrev cc1_sem11_0 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem18_0 : DmaSem sig := 57
abbrev cc1_sem19_0 : DmaSem sig := 58

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_16 : BitVec 32 := 0#32
  let v22 : BitVec 1 := Scalar.cmpi .ne v21 c0_i32_16
  v22

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_41 : BitVec 32 := 0#32
  let v63 : BitVec 1 := Scalar.cmpi .eq arg0 c0_i32_41
  let v67 : BitVec 32 := Scalar.extui v63
  let c0_i32_43 : BitVec 32 := 0#32
  let v68 : BitVec 1 := Scalar.cmpi .ne v67 c0_i32_43
  v68

def k0_cond4 (i : grid0.Coords) : BitVec 1 :=
  let arg0 : BitVec 32 := BitVec.ofNat 32 (i 0).val
  let c0_i32_41 : BitVec 32 := 0#32
  let v63 : BitVec 1 := Scalar.cmpi .eq arg0 c0_i32_41
  let v_true : BitVec 1 := 1#1
  let v69 : BitVec 1 := Scalar.xori v63 v_true
  let v70 : BitVec 32 := Scalar.extui v69
  let c0_i32_44 : BitVec 32 := 0#32
  let v71 : BitVec 1 := Scalar.cmpi .ne v70 c0_i32_44
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev grid1 : Pipeline.Grid := ⟨2, ![16, 4], ![false, false]⟩

def k1_cond8 (i : grid1.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_18 : BitVec 32 := 0#32
  let v26 : BitVec 1 := Scalar.cmpi .ne v25 c0_i32_18
  v26

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_cond2 (i : grid1.Coords) : BitVec 1 :=
  let arg0 : BitVec 32 := BitVec.ofNat 32 (i 0).val
  let c0_i32_67 : BitVec 32 := 0#32
  let v102 : BitVec 1 := Scalar.cmpi .eq arg0 c0_i32_67
  let v106 : BitVec 32 := Scalar.extui v102
  let c0_i32_69 : BitVec 32 := 0#32
  let v107 : BitVec 1 := Scalar.cmpi .ne v106 c0_i32_69
  v107

def k1_cond3 (i : grid1.Coords) : BitVec 1 :=
  let arg0 : BitVec 32 := BitVec.ofNat 32 (i 0).val
  let c0_i32_67 : BitVec 32 := 0#32
  let v102 : BitVec 1 := Scalar.cmpi .eq arg0 c0_i32_67
  let v_true : BitVec 1 := 1#1
  let v108 : BitVec 1 := Scalar.xori v102 v_true
  let v109 : BitVec 32 := Scalar.extui v108
  let c0_i32_70 : BitVec 32 := 0#32
  let v110 : BitVec 1 := Scalar.cmpi .ne v109 c0_i32_70
  v110

def k1_cond4 (i : grid1.Coords) : BitVec 1 :=
  let arg0 : BitVec 32 := BitVec.ofNat 32 (i 0).val
  let c0_i32_67 : BitVec 32 := 0#32
  let v102 : BitVec 1 := Scalar.cmpi .eq arg0 c0_i32_67
  let v113 : BitVec 32 := Scalar.extui v102
  let c0_i32_72 : BitVec 32 := 0#32
  let v114 : BitVec 1 := Scalar.cmpi .ne v113 c0_i32_72
  v114

def k1_cond5 (i : grid1.Coords) : BitVec 1 :=
  let arg0 : BitVec 32 := BitVec.ofNat 32 (i 0).val
  let c0_i32_67 : BitVec 32 := 0#32
  let v102 : BitVec 1 := Scalar.cmpi .eq arg0 c0_i32_67
  let true_73 : BitVec 1 := 1#1
  let v115 : BitVec 1 := Scalar.xori v102 true_73
  let v116 : BitVec 32 := Scalar.extui v115
  let c0_i32_74 : BitVec 32 := 0#32
  let v117 : BitVec 1 := Scalar.cmpi .ne v116 c0_i32_74
  v117

def k1_cond6 (i : grid1.Coords) : BitVec 1 :=
  let arg0 : BitVec 32 := BitVec.ofNat 32 (i 0).val
  let c0_i32_67 : BitVec 32 := 0#32
  let v102 : BitVec 1 := Scalar.cmpi .eq arg0 c0_i32_67
  let v120 : BitVec 32 := Scalar.extui v102
  let c0_i32_76 : BitVec 32 := 0#32
  let v121 : BitVec 1 := Scalar.cmpi .ne v120 c0_i32_76
  v121

def k1_cond7 (i : grid1.Coords) : BitVec 1 :=
  let arg0 : BitVec 32 := BitVec.ofNat 32 (i 0).val
  let c0_i32_67 : BitVec 32 := 0#32
  let v102 : BitVec 1 := Scalar.cmpi .eq arg0 c0_i32_67
  let true_77 : BitVec 1 := 1#1
  let v122 : BitVec 1 := Scalar.xori v102 true_77
  let v123 : BitVec 32 := Scalar.extui v122
  let c0_i32_78 : BitVec 32 := 0#32
  let v124 : BitVec 1 := Scalar.cmpi .ne v123 c0_i32_78
  v124

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 1 → Memref sig .tc .vmem S4x256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S4x256x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S512x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S512x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]
-- ==== Reference7Ideal.lean ====
abbrev S8192x1024 : Shape := ⟨2, ![8192, 1024]⟩
abbrev S8192x256 : Shape := ⟨2, ![8192, 256]⟩
abbrev S4x1024x1024 : Shape := ⟨3, ![4, 1024, 1024]⟩
abbrev S4x256x1024 : Shape := ⟨3, ![4, 256, 1024]⟩
abbrev S1x1024 : Shape := ⟨2, ![1, 1024]⟩
abbrev S4x256x256 : Shape := ⟨3, ![4, 256, 256]⟩
abbrev S1024x4x1024 : Shape := ⟨3, ![1024, 4, 1024]⟩
abbrev S1024x4096 : Shape := ⟨2, ![1024, 4096]⟩
abbrev S4096x1024 : Shape := ⟨2, ![4096, 1024]⟩
abbrev S1024x1024 : Shape := ⟨2, ![1024, 1024]⟩
abbrev S256x4x256 : Shape := ⟨3, ![256, 4, 256]⟩
abbrev S256x1024 : Shape := ⟨2, ![256, 1024]⟩
abbrev S_ : Shape := ⟨0, ![]⟩
abbrev S8192x4096 : Shape := ⟨2, ![8192, 4096]⟩
abbrev S1024 : Shape := ⟨1, ![1024]⟩
abbrev S8192 : Shape := ⟨1, ![8192]⟩
abbrev S8192x1 : Shape := ⟨2, ![8192, 1]⟩
abbrev S1x128 : Shape := ⟨2, ![1, 128]⟩

abbrev nBuf : Space → Nat
  | .hbm => 199
  | .vmem => 0
  | .smem => 0
  | _ => 0

abbrev hbmTy0_0 (i : Nat) : BufTy := match i % 128 with
  | 0 => ⟨S8192x1024, .f32⟩
  | 1 => ⟨S8192x256, .f32⟩
  | 2 => ⟨S4x1024x1024, .bf16⟩
  | 3 => ⟨S4x1024x1024, .bf16⟩
  | 4 => ⟨S4x256x1024, .bf16⟩
  | 5 => ⟨S1x1024, .f32⟩
  | 6 => ⟨S4x256x256, .bf16⟩
  | 7 => ⟨S1x1024, .f32⟩
  | 8 => ⟨S1x1024, .f32⟩
  | 9 => ⟨S8192x1024, .f32⟩
  | 10 => ⟨S4x1024x1024, .f32⟩
  | 11 => ⟨S1024x4x1024, .f32⟩
  | 12 => ⟨S1024x4096, .f32⟩
  | 13 => ⟨S4x1024x1024, .f32⟩
  | 14 => ⟨S4096x1024, .f32⟩
  | 15 => ⟨S4x256x1024, .f32⟩
  | 16 => ⟨S1024x1024, .f32⟩
  | 17 => ⟨S4x256x256, .f32⟩
  | 18 => ⟨S256x4x256, .f32⟩
  | 19 => ⟨S256x1024, .f32⟩
  | 20 => ⟨S_, .f32⟩
  | 21 => ⟨S8192x1024, .f32⟩
  | 22 => ⟨S_, .f32⟩
  | 23 => ⟨S8192x4096, .f32⟩
  | 24 => ⟨S1024, .f32⟩
  | 25 => ⟨S1024, .f32⟩
  | 26 => ⟨S1024, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S_, .f32⟩
  | 33 => ⟨S8192x4096, .f32⟩
  | 34 => ⟨S8192x4096, .i1⟩
  | 35 => ⟨S_, .f32⟩
  | 36 => ⟨S8192x4096, .f32⟩
  | 37 => ⟨S8192x4096, .f32⟩
  | 38 => ⟨S_, .f32⟩
  | 39 => ⟨S8192x4096, .f32⟩
  | 40 => ⟨S8192x4096, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x1024, .f32⟩
  | 97 => ⟨S8192x1024, .f32⟩
  | 98 => ⟨S1x1024, .f32⟩
  | 99 => ⟨S8192x1024, .f32⟩
  | 100 => ⟨S8192x1024, .f32⟩
  | 101 => ⟨S1x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S_, .f32⟩
  | 110 => ⟨S8192, .f32⟩
  | 111 => ⟨S_, .f32⟩
  | 112 => ⟨S8192, .f32⟩
  | 113 => ⟨S8192, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S8192, .f32⟩
  | 122 => ⟨S_, .f32⟩
  | 123 => ⟨S8192, .f32⟩
  | 124 => ⟨S8192, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S1024, .f32⟩
  | 51 => ⟨S1x1024, .f32⟩
  | 52 => ⟨S_, .f32⟩
  | 53 => ⟨S1024, .f32⟩
  | 54 => ⟨S8192x1024, .f32⟩
  | 55 => ⟨S8192x1024, .f32⟩
  | 56 => ⟨S8192x4096, .f32⟩
  | 57 => ⟨S8192x4096, .f32⟩
  | 58 => ⟨S_, .f32⟩
  | 59 => ⟨S8192x4096, .f32⟩
  | 60 => ⟨S8192x4096, .f32⟩
  | 61 => ⟨S8192x1024, .f32⟩
  | 62 => ⟨S8192x1024, .f32⟩
  | 63 => ⟨S1x128, .f32⟩
  | 64 => ⟨S8192x4096, .bf16⟩
  | 65 => ⟨S8192x1024, .bf16⟩
  | 66 => ⟨S8192x1024, .bf16⟩
  | 67 => ⟨S8192x1024, .bf16⟩
  | 68 => ⟨S1x1024, .f32⟩
  | 69 => ⟨S1x1024, .f32⟩
  | 70 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_cst_20 : Ref sig .tc := ⟨.hbm, 118, rfl⟩
abbrev main_cst_21 : Ref sig .tc := ⟨.hbm, 119, rfl⟩
abbrev main_v85 : Ref sig .tc := ⟨.hbm, 120, rfl⟩
abbrev main_v86 : Ref sig .tc := ⟨.hbm, 121, rfl⟩
abbrev main_cst_22 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_23 : Ref sig .tc := ⟨.hbm, 127, rfl⟩
abbrev main_v91 : Ref sig .tc := ⟨.hbm, 128, rfl⟩
abbrev main_v92 : Ref sig .tc := ⟨.hbm, 129, rfl⟩
abbrev main_cst_24 : Ref sig .tc := ⟨.hbm, 130, rfl⟩
abbrev main_v93 : Ref sig .tc := ⟨.hbm, 131, rfl⟩
abbrev main_v94 : Ref sig .tc := ⟨.hbm, 132, rfl⟩
abbrev main_cst_25 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_26 : Ref sig .tc := ⟨.hbm, 138, rfl⟩
abbrev main_v99 : Ref sig .tc := ⟨.hbm, 139, rfl⟩
abbrev main_v100 : Ref sig .tc := ⟨.hbm, 140, rfl⟩
abbrev main_cst_27 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_28 : Ref sig .tc := ⟨.hbm, 148, rfl⟩
abbrev main_v107 : Ref sig .tc := ⟨.hbm, 149, rfl⟩
abbrev main_v108 : Ref sig .tc := ⟨.hbm, 150, rfl⟩
abbrev main_cst_29 : Ref sig .tc := ⟨.hbm, 151, rfl⟩
abbrev main_v109 : Ref sig .tc := ⟨.hbm, 152, rfl⟩
abbrev main_v110 : Ref sig .tc := ⟨.hbm, 153, rfl⟩
abbrev main_cst_30 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_31 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_32 : Ref sig .tc := ⟨.hbm, 164, rfl⟩
abbrev main_v119 : Ref sig .tc := ⟨.hbm, 165, rfl⟩
abbrev main_v120 : Ref sig .tc := ⟨.hbm, 166, rfl⟩
abbrev main_cst_33 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_34 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_35 : Ref sig .tc := ⟨.hbm, 177, rfl⟩
abbrev main_v129 : Ref sig .tc := ⟨.hbm, 178, rfl⟩
abbrev main_v130 : Ref sig .tc := ⟨.hbm, 179, rfl⟩
abbrev main_cst_36 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_37 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩

abbrev nD : Nat := 1
abbrev τ : Topo := Topo.v7x

variable {F : FTy → Type} [FloatOps F]
-- ==== Proof.MlpBase.lean ====
/- What the modules about the two bodies share. -/
module

public import proofs.«01_k».proof.Proof.Gen.Kernel7Ideal.Regions
public import proofs.«01_k».proof.Proof.Gen.Kernel7Ideal.Points
public import proofs.«01_k».proof.Proof.Gen.Kernel7Ideal.Skeleton
public import Idealize.ShloMosaic.Lib.Pipeline.FrameBody
public import Idealize.ShloMosaic.Lib.Pipeline.TableIdle
public import Idealize.ShloMosaic.Lib.Pipeline.RegionArrays
public import Idealize.ShloMosaic.Lib.Ring
public import Idealize.ShloMosaic.Lib.Tactic
public import Idealize.ShloMosaic.Lib.VecWindow
public import Idealize.ShloMosaic.Lib.Pipeline.Value
public import Idealize.ShloMosaic.Lib.WordCmp

@[expose] public section

set_option maxRecDepth 16384

noncomputable section

namespace Cert.Kernel7Ideal.Base

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref owned at contents read through it. -/
abbrev ow (c : Dev nD) {sp : Space} {S : Shape} {e : EltTy} (M : Memref sig .tc sp S e) (X : S.Idx → Elt F e) : sProp 𝕄 :=
  owns (c : Thread nD τ) M fullShare X

/-- A whole memref's buffer, at the contents that read so, given back. -/
theorem back {c : Dev nD} {sp : Space} {S : Shape} {e : EltTy} {M : Memref sig .tc sp S e} (h : M.IsWhole) {X : S.Idx → Elt F e} :
    (M.view.loc (c : Thread nD τ) ↦[M.view.set]{fullShare} h.unread X : sProp 𝕄)
      ⊢ iprop(∃ f, ⌜M.view.read (Elt F) f = X⌝ ∗ (M.view.loc (c : Thread nD τ) ↦[M.view.set]{fullShare} f)) := by
  iintro H; iexists _; isplitr; swap; (· iexact H); ipureintro; exact h.read_unread _

theorem hz2 : (![0, 0] : Fin 2 → Nat) = 0 := by decide
theorem hz3 : (![0, 0, 0] : Fin 3 → Nat) = 0 := by decide

/-- A load of all of a buffer reads its contents, for two axes and for three. -/
theorem ld_two {Val : EltTy → Type} {e : EltTy} {n m : Nat} (X : (⟨2, ![n, m]⟩ : Shape).Idx → Val e) (inb) :
    View.ld X (Rect.unit (s := ⟨2, ![n, m]⟩) (![0, 0] : Fin 2 → Nat) (![n, m] : Fin 2 → Nat) inb) = X :=
  View.ld_unit_zero (S := ⟨2, ![n, m]⟩) hz2 inb X
theorem ld_three {Val : EltTy → Type} {e : EltTy} {n m k : Nat} (X : (⟨3, ![n, m, k]⟩ : Shape).Idx → Val e) (inb) :
    View.ld X (Rect.unit (s := ⟨3, ![n, m, k]⟩) (![0, 0, 0] : Fin 3 → Nat) (![n, m, k] : Fin 3 → Nat) inb) = X :=
  View.ld_unit_zero (S := ⟨3, ![n, m, k]⟩) hz3 inb X

end Cert.Kernel7Ideal.Base

end
-- ==== Proof.MlpBodyF.lean ====
/- The forward body of the MLP branch, run in each of its cases. -/
module

public import proofs.«01_k».proof.Proof.MlpBase

@[expose] public section

set_option maxRecDepth 16384

noncomputable section

namespace Cert.Kernel7Ideal.BodyF

open Cert.Kernel7Ideal Cert.Kernel7Ideal.Gen Cert.Kernel7Ideal.Base
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One part of the embedding's projection. -/
abbrev part (n : Fin 4) (PJ : Vec F S4x256x256 .bf16) : Vec F S1x256x256 .bf16 := match n with
  | 0 => View.ld PJ (Rect.unit (s := S4x256x256) ![0, 0, 0] S1x256x256.size inb_S4x256x256_S1x256x256_0_0_0)
  | 1 => View.ld PJ (Rect.unit (s := S4x256x256) ![1, 0, 0] S1x256x256.size inb_S4x256x256_S1x256x256_1_0_0)
  | 2 => View.ld PJ (Rect.unit (s := S4x256x256) ![2, 0, 0] S1x256x256.size inb_S4x256x256_S1x256x256_2_0_0)
  | 3 => View.ld PJ (Rect.unit (s := S4x256x256) ![3, 0, 0] S1x256x256.size inb_S4x256x256_S1x256x256_3_0_0)

/-- What the sum starts from: the scaled input and the gated embedding. -/
def acc0 (X : Vec F S512x1024 .f32) (P : Vec F S512x256 .f32) (GW : Vec F S4x256x1024 .bf16) (GB : Vec F S1x1024 .f32)
    (PJ : Vec F S4x256x256 .bf16) : FVec F S512x1024 .f32 :=
  k0_pay1 (k0_pay8 X GW GB) (k0_pay9 X) P (k0_pay10 (part 0 PJ)) (k0_pay11 (part 1 PJ)) (k0_pay12 (part 2 PJ)) (part 3 PJ)

set_option maxHeartbeats 4000000 in
/-- A tile's first point: the narrowed input, the start of the sum, and the first part of the hidden values. -/
theorem runA (i : grid0.Coords) (c : Dev nD) (hc1 : k0_cond1 i = 1#1) (hc2 : ¬k0_cond2 i = 1#1)
    {M0 M9 M10 M11 M16 : Memref sig .tc .vmem S512x1024 .f32}
    {M1 : Memref sig .tc .vmem S512x256 .f32}
    {M2 M3 : Memref sig .tc .vmem S1x1024x1024 .bf16}
    {M4 : Memref sig .tc .vmem S4x256x1024 .bf16}
    {M5 M7 M8 : Memref sig .tc .vmem S1x1024 .f32}
    {M6 : Memref sig .tc .vmem S4x256x256 .bf16}
    {M12 : Memref sig .tc .vmem S512x1 .f32}
    {M13 M14 M17 : Memref sig .tc .vmem S512x1024 .bf16}
    {M15 : Memref sig .tc .vmem S1x128 .f32}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {X : Vec F S512x1024 .f32} {P : Vec F S512x256 .f32} {W1 W2 : Vec F S1x1024x1024 .bf16}
    {GW : Vec F S4x256x1024 .bf16} {GB : Vec F S1x1024 .f32} {PJ : Vec F S4x256x256 .bf16} {GN BS : Vec F S1x1024 .f32}
    {TG Y XH : Vec F S512x1024 .f32} {RS : Vec F S512x1 .f32} {A XB : Vec F S512x1024 .bf16} {LS : Vec F S1x128 .f32}
    {AC : Vec F S512x1024 .f32} {SX : Vec F S512x1024 .bf16} {Q : PUnit → sProp 𝕄} :
    iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 Y ∗ ow c M11 XH ∗ ow c M12 RS ∗ ow c M13 A ∗ ow c M14 XB ∗ ow c M15 LS ∗ ow c M16 AC ∗ ow c M17 SX
      ∗ (iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 Y ∗ ow c M11 XH ∗ ow c M12 RS ∗ ow c M13 (k0_pay2 (k0_pay6 X) W1) ∗ ow c M14 (k0_pay7 X) ∗ ow c M15 LS ∗ ow c M16 (k0_pay3 (k0_pay6 X) W1 (acc0 X P GW GB PJ) W2) ∗ ow c M17 (k0_pay6 X)) -∗ Q ⟨⟩))
      ⊢ wp frame (wpE (defs₀ (F := F)) Variants.none c none) Set.univ (cc0_mlp_fwd_1 i M0 h0 M1 h1 M2 h2 M3 h3 M4 h4 M5 h5 M6 h6 M7 h7 M8 h8 M9 h9 M10 h10 M11 h11 M12 h12 M13 h13 M14 h14 M15 h15 M16 h16 M17 h17) Q := by
  simp only [cc0_mlp_fwd_1_eq_skeleton]; unfold cc0_mlp_fwd_1_skel
  simp only [k0_part1_eq_skeleton, k0_part2_eq_skeleton]; unfold k0_part1_skel k0_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17
  sl_exec (disch := first | sl_exact hc1 | sl_exact hc2)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]; · iapply (back h10); iexact H10
  isplitl [H11]; · iapply (back h11); iexact H11
  isplitl [H12]; · iapply (back h12); iexact H12
  isplitl [H13]
  · iexists _; isplitr; swap; (· iexact H13); ipureintro
    refine (View.read_writes_full _ _ _ _ _).trans ?_
    unfold runA.sl.v3 runA.sl.H17_1
    simp only [View.readCov_full (s := S512x1024), View.readCov_full (s := S512x1), View.readAt_eq_ld, ld_two, ld_three, Memref.IsWhole.read_unread]
  isplitl [H14]
  · iexists _; isplitr; swap; (· iexact H14); ipureintro
    refine (View.read_writes_full _ _ _ _ _).trans ?_
    simp only [View.readCov_full (s := S512x1024), View.readCov_full (s := S512x1), View.readAt_eq_ld, ld_two, ld_three, Memref.IsWhole.read_unread]
  isplitl [H15]; · iapply (back h15); iexact H15
  isplitl [H16]
  · iexists _; isplitr; swap; (· iexact H16); ipureintro
    refine (View.read_writes_full _ _ _ _ _).trans ?_
    unfold runA.sl.v12 runA.sl.H16_1 runA.sl.v3 runA.sl.H17_1
    simp only [View.readCov_full (s := S512x1024), View.readCov_full (s := S512x1), View.readAt_eq_ld, ld_two, ld_three, Memref.IsWhole.read_unread]
    rfl
  iexists _; isplitr; swap; (· iexact H17); ipureintro
  refine (View.read_writes_full _ _ _ _ _).trans ?_
  simp only [View.readCov_full (s := S512x1024), View.readCov_full (s := S512x1), View.readAt_eq_ld, ld_two, ld_three, Memref.IsWhole.read_unread]

set_option maxHeartbeats 4000000 in
/-- A point within a tile: the next part of the hidden values, added to the sum. -/
theorem runM (i : grid0.Coords) (c : Dev nD) (hc1 : ¬k0_cond1 i = 1#1) (hc2 : ¬k0_cond2 i = 1#1)
    {M0 M9 M10 M11 M16 : Memref sig .tc .vmem S512x1024 .f32}
    {M1 : Memref sig .tc .vmem S512x256 .f32}
    {M2 M3 : Memref sig .tc .vmem S1x1024x1024 .bf16}
    {M4 : Memref sig .tc .vmem S4x256x1024 .bf16}
    {M5 M7 M8 : Memref sig .tc .vmem S1x1024 .f32}
    {M6 : Memref sig .tc .vmem S4x256x256 .bf16}
    {M12 : Memref sig .tc .vmem S512x1 .f32}
    {M13 M14 M17 : Memref sig .tc .vmem S512x1024 .bf16}
    {M15 : Memref sig .tc .vmem S1x128 .f32}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {X : Vec F S512x1024 .f32} {P : Vec F S512x256 .f32} {W1 W2 : Vec F S1x1024x1024 .bf16}
    {GW : Vec F S4x256x1024 .bf16} {GB : Vec F S1x1024 .f32} {PJ : Vec F S4x256x256 .bf16} {GN BS : Vec F S1x1024 .f32}
    {TG Y XH : Vec F S512x1024 .f32} {RS : Vec F S512x1 .f32} {A XB : Vec F S512x1024 .bf16} {LS : Vec F S1x128 .f32}
    {AC : Vec F S512x1024 .f32} {SX : Vec F S512x1024 .bf16} {Q : PUnit → sProp 𝕄} :
    iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 Y ∗ ow c M11 XH ∗ ow c M12 RS ∗ ow c M13 A ∗ ow c M14 XB ∗ ow c M15 LS ∗ ow c M16 AC ∗ ow c M17 SX
      ∗ (iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 Y ∗ ow c M11 XH ∗ ow c M12 RS ∗ ow c M13 (k0_pay2 SX W1) ∗ ow c M14 XB ∗ ow c M15 LS ∗ ow c M16 (k0_pay3 SX W1 AC W2) ∗ ow c M17 SX) -∗ Q ⟨⟩))
      ⊢ wp frame (wpE (defs₀ (F := F)) Variants.none c none) Set.univ (cc0_mlp_fwd_1 i M0 h0 M1 h1 M2 h2 M3 h3 M4 h4 M5 h5 M6 h6 M7 h7 M8 h8 M9 h9 M10 h10 M11 h11 M12 h12 M13 h13 M14 h14 M15 h15 M16 h16 M17 h17) Q := by
  simp only [cc0_mlp_fwd_1_eq_skeleton]; unfold cc0_mlp_fwd_1_skel
  simp only [k0_part1_eq_skeleton, k0_part2_eq_skeleton]; unfold k0_part1_skel k0_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17
  sl_exec (disch := first | sl_exact hc1 | sl_exact hc2)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]; · iapply (back h10); iexact H10
  isplitl [H11]; · iapply (back h11); iexact H11
  isplitl [H12]; · iapply (back h12); iexact H12
  isplitl [H13]
  · iexists _; isplitr; swap; (· iexact H13); ipureintro
    refine (View.read_writes_full _ _ _ _ _).trans ?_
    simp only [View.readCov_full (s := S512x1024), View.readCov_full (s := S512x1), View.readAt_eq_ld, ld_two, ld_three, Memref.IsWhole.read_unread]
  isplitl [H14]; · iapply (back h14); iexact H14
  isplitl [H15]; · iapply (back h15); iexact H15
  isplitl [H16]
  · iexists _; isplitr; swap; (· iexact H16); ipureintro
    refine (View.read_writes_full _ _ _ _ _).trans ?_
    simp only [View.readCov_full (s := S512x1024), View.readCov_full (s := S512x1), View.readAt_eq_ld, ld_two, ld_three, Memref.IsWhole.read_unread]
  iapply (back h17); iexact H17

set_option maxHeartbeats 4000000 in
/-- The first tile's last point: the sum normalized, the loss begun. -/
theorem runL0 (i : grid0.Coords) (c : Dev nD) (hc1 : ¬k0_cond1 i = 1#1) (hc2 : k0_cond2 i = 1#1) (hc3 : k0_cond3 i = 1#1) (hc4 : ¬k0_cond4 i = 1#1)
    {M0 M9 M10 M11 M16 : Memref sig .tc .vmem S512x1024 .f32}
    {M1 : Memref sig .tc .vmem S512x256 .f32}
    {M2 M3 : Memref sig .tc .vmem S1x1024x1024 .bf16}
    {M4 : Memref sig .tc .vmem S4x256x1024 .bf16}
    {M5 M7 M8 : Memref sig .tc .vmem S1x1024 .f32}
    {M6 : Memref sig .tc .vmem S4x256x256 .bf16}
    {M12 : Memref sig .tc .vmem S512x1 .f32}
    {M13 M14 M17 : Memref sig .tc .vmem S512x1024 .bf16}
    {M15 : Memref sig .tc .vmem S1x128 .f32}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {X : Vec F S512x1024 .f32} {P : Vec F S512x256 .f32} {W1 W2 : Vec F S1x1024x1024 .bf16}
    {GW : Vec F S4x256x1024 .bf16} {GB : Vec F S1x1024 .f32} {PJ : Vec F S4x256x256 .bf16} {GN BS : Vec F S1x1024 .f32}
    {TG Y XH : Vec F S512x1024 .f32} {RS : Vec F S512x1 .f32} {A XB : Vec F S512x1024 .bf16} {LS : Vec F S1x128 .f32}
    {AC : Vec F S512x1024 .f32} {SX : Vec F S512x1024 .bf16} {Q : PUnit → sProp 𝕄} :
    iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 Y ∗ ow c M11 XH ∗ ow c M12 RS ∗ ow c M13 A ∗ ow c M14 XB ∗ ow c M15 LS ∗ ow c M16 AC ∗ ow c M17 SX
      ∗ (iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 (k0_pay17 (k0_pay3 SX W1 AC W2) GN BS TG) ∗ ow c M11 (k0_pay15 (k0_pay3 SX W1 AC W2)) ∗ ow c M12 (k0_pay14 (k0_pay3 SX W1 AC W2)) ∗ ow c M13 (k0_pay2 SX W1) ∗ ow c M14 XB ∗ ow c M15 (k0_pay4 (k0_pay18 (k0_pay3 SX W1 AC W2) GN BS TG)) ∗ ow c M16 (k0_pay3 SX W1 AC W2) ∗ ow c M17 SX) -∗ Q ⟨⟩))
      ⊢ wp frame (wpE (defs₀ (F := F)) Variants.none c none) Set.univ (cc0_mlp_fwd_1 i M0 h0 M1 h1 M2 h2 M3 h3 M4 h4 M5 h5 M6 h6 M7 h7 M8 h8 M9 h9 M10 h10 M11 h11 M12 h12 M13 h13 M14 h14 M15 h15 M16 h16 M17 h17) Q := by
  simp only [cc0_mlp_fwd_1_eq_skeleton]; unfold cc0_mlp_fwd_1_skel
  simp only [k0_part1_eq_skeleton, k0_part2_eq_skeleton]; unfold k0_part1_skel k0_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17
  sl_exec (disch := first | sl_exact hc1 | sl_exact hc2 | sl_exact hc3 | sl_exact hc4)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]
  · iexists _; isplitr; swap; (· iexact H10); ipureintro
    refine (View.read_writes_full _ _ _ _ _).trans ?_
    unfold runL0.sl.v23 runL0.sl.H16_1
    simp only [View.readCov_full (s := S512x1024), View.readCov_full (s := S512x1), View.readAt_eq_ld, ld_two, ld_three, Memref.IsWhole.read_unread]
  isplitl [H11]
  · iexists _; isplitr; swap; (· iexact H11); ipureintro
    refine (View.read_writes_full _ _ _ _ _).trans ?_
    unfold runL0.sl.v23 runL0.sl.H16_1
    simp only [View.readCov_full (s := S512x1024), View.readCov_full (s := S512x1), View.readAt_eq_ld, ld_two, ld_three, Memref.IsWhole.read_unread]
  isplitl [H12]
  · iexists _; isplitr; swap; (· iexact H12); ipureintro
    refine (View.read_writes_full _ _ _ _ _).trans ?_
    unfold runL0.sl.v23 runL0.sl.H16_1
    simp only [View.readCov_full (s := S512x1024), View.readCov_full (s := S512x1), View.readAt_eq_ld, ld_two, ld_three, Memref.IsWhole.read_unread]
  isplitl [H13]
  · iexists _; isplitr; swap; (· iexact H13); ipureintro
    refine (View.read_writes_full _ _ _ _ _).trans ?_
    simp only [View.readCov_full (s := S512x1024), View.readCov_full (s := S512x1), View.readAt_eq_ld, ld_two, ld_three, Memref.IsWhole.read_unread]
  isplitl [H14]; · iapply (back h14); iexact H14
  isplitl [H15]
  · iexists _; isplitr; swap; (· iexact H15); ipureintro
    refine (View.read_writes_full _ _ _ _ _).trans ?_
    unfold runL0.sl.v23 runL0.sl.H16_1
    simp only [View.readCov_full (s := S512x1024), View.readCov_full (s := S512x1), View.readAt_eq_ld, ld_two, ld_three, Memref.IsWhole.read_unread]
  isplitl [H16]
  · iexists _; isplitr; swap; (· iexact H16); ipureintro
    refine (View.read_writes_full _ _ _ _ _).trans ?_
    simp only [View.readCov_full (s := S512x1024), View.readCov_full (s := S512x1), View.readAt_eq_ld, ld_two, ld_three, Memref.IsWhole.read_unread]
  iapply (back h17); iexact H17

set_option maxHeartbeats 4000000 in
/-- Every other tile's last point: the sum normalized, the loss added to. -/
theorem runL (i : grid0.Coords) (c : Dev nD) (hc1 : ¬k0_cond1 i = 1#1) (hc2 : k0_cond2 i = 1#1) (hc3 : ¬k0_cond3 i = 1#1) (hc4 : k0_cond4 i = 1#1)
    {M0 M9 M10 M11 M16 : Memref sig .tc .vmem S512x1024 .f32}
    {M1 : Memref sig .tc .vmem S512x256 .f32}
    {M2 M3 : Memref sig .tc .vmem S1x1024x1024 .bf16}
    {M4 : Memref sig .tc .vmem S4x256x1024 .bf16}
    {M5 M7 M8 : Memref sig .tc .vmem S1x1024 .f32}
    {M6 : Memref sig .tc .vmem S4x256x256 .bf16}
    {M12 : Memref sig .tc .vmem S512x1 .f32}
    {M13 M14 M17 : Memref sig .tc .vmem S512x1024 .bf16}
    {M15 : Memref sig .tc .vmem S1x128 .f32}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {X : Vec F S512x1024 .f32} {P : Vec F S512x256 .f32} {W1 W2 : Vec F S1x1024x1024 .bf16}
    {GW : Vec F S4x256x1024 .bf16} {GB : Vec F S1x1024 .f32} {PJ : Vec F S4x256x256 .bf16} {GN BS : Vec F S1x1024 .f32}
    {TG Y XH : Vec F S512x1024 .f32} {RS : Vec F S512x1 .f32} {A XB : Vec F S512x1024 .bf16} {LS : Vec F S1x128 .f32}
    {AC : Vec F S512x1024 .f32} {SX : Vec F S512x1024 .bf16} {Q : PUnit → sProp 𝕄} :
    iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 Y ∗ ow c M11 XH ∗ ow c M12 RS ∗ ow c M13 A ∗ ow c M14 XB ∗ ow c M15 LS ∗ ow c M16 AC ∗ ow c M17 SX
      ∗ (iprop(ow c M0 X ∗ ow c M1 P ∗ ow c M2 W1 ∗ ow c M3 W2 ∗ ow c M4 GW ∗ ow c M5 GB ∗ ow c M6 PJ ∗ ow c M7 GN ∗ ow c M8 BS ∗ ow c M9 TG ∗ ow c M10 (k0_pay17 (k0_pay3 SX W1 AC W2) GN BS TG) ∗ ow c M11 (k0_pay15 (k0_pay3 SX W1 AC W2)) ∗ ow c M12 (k0_pay14 (k0_pay3 SX W1 AC W2)) ∗ ow c M13 (k0_pay2 SX W1) ∗ ow c M14 XB ∗ ow c M15 (k0_pay5 (k0_pay18 (k0_pay3 SX W1 AC W2) GN BS TG) LS) ∗ ow c M16 (k0_pay3 SX W1 AC W2) ∗ ow c M17 SX) -∗ Q ⟨⟩))
      ⊢ wp frame (wpE (defs₀ (F := F)) Variants.none c none) Set.univ (cc0_mlp_fwd_1 i M0 h0 M1 h1 M2 h2 M3 h3 M4 h4 M5 h5 M6 h6 M7 h7 M8 h8 M9 h9 M10 h10 M11 h11 M12 h12 M13 h13 M14 h14 M15 h15 M16 h16 M17 h17) Q := by
  simp only [cc0_mlp_fwd_1_eq_skeleton]; unfold cc0_mlp_fwd_1_skel
  simp only [k0_part1_eq_skeleton, k0_part2_eq_skeleton]; unfold k0_part1_skel k0_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17
  sl_exec (disch := first | sl_exact hc1 | sl_exact hc2 | sl_exact hc3 | sl_exact hc4)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]
  · iexists _; isplitr; swap; (· iexact H10); ipureintro
    refine (View.read_writes_full _ _ _ _ _).trans ?_
    unfold runL.sl.v23 runL.sl.H16_1
    simp only [View.readCov_full (s := S512x1024), View.readCov_full (s := S512x1), View.readAt_eq_ld, ld_two, ld_three, Memref.IsWhole.read_unread]
  isplitl [H11]
  · iexists _; isplitr; swap; (· iexact H11); ipureintro
    refine (View.read_writes_full _ _ _ _ _).trans ?_
    unfold runL.sl.v23 runL.sl.H16_1
    simp only [View.readCov_full (s := S512x1024), View.readCov_full (s := S512x1), View.readAt_eq_ld, ld_two, ld_three, Memref.IsWhole.read_unread]
  isplitl [H12]
  · iexists _; isplitr; swap; (· iexact H12); ipureintro
    refine (View.read_writes_full _ _ _ _ _).trans ?_
    unfold runL.sl.v23 runL.sl.H16_1
    simp only [View.readCov_full (s := S512x1024), View.readCov_full (s := S512x1), View.readAt_eq_ld, ld_two, ld_three, Memref.IsWhole.read_unread]
  isplitl [H13]
  · iexists _; isplitr; swap; (· iexact H13); ipureintro
    refine (View.read_writes_full _ _ _ _ _).trans ?_
    simp only [View.readCov_full (s := S512x1024), View.readCov_full (s := S512x1), View.readAt_eq_ld, ld_two, ld_three, Memref.IsWhole.read_unread]
  isplitl [H14]; · iapply (back h14); iexact H14
  isplitl [H15]
  · iexists _; isplitr; swap; (· iexact H15); ipureintro
    refine (View.read_writes_full _ _ _ _ _).trans ?_
    unfold runL.sl.v23 runL.sl.H16_1
    simp only [View.readCov_full (s := S512x1024), View.readCov_full (s := S512x1), View.readAt_eq_ld, ld_two, ld_three, Memref.IsWhole.read_unread]
  isplitl [H16]
  · iexists _; isplitr; swap; (· iexact H16); ipureintro
    refine (View.read_writes_full _ _ _ _ _).trans ?_
    simp only [View.readCov_full (s := S512x1024), View.readCov_full (s := S512x1), View.readAt_eq_ld, ld_two, ld_three, Memref.IsWhole.read_unread]
  iapply (back h17); iexact H17

end Cert.Kernel7Ideal.BodyF

end
-- ==== Proof.MlpRegF.lean ====
/- The forward region of the MLP branch: what each grid point finds and leaves. -/
module

public import proofs.«01_k».proof.Proof.MlpBodyF

@[expose] public section

set_option maxRecDepth 16384

noncomputable section

namespace Cert.Kernel7Ideal.RegF

open Cert.Kernel7Ideal Cert.Kernel7Ideal.Gen Cert.Kernel7Ideal.Base Cert.Kernel7Ideal.BodyF
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F)) (c : Dev nD)

/-- A window's block of a grid point. -/
def blkAt (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of a point's tile. -/
def first (t : Fin cfg0.N) : Fin cfg0.N := ⟨t.val - t.val % 4, lt_of_le_of_lt (Nat.sub_le _ _) t.isLt⟩

theorem first_self (t : Fin cfg0.N) (h : t.val % 4 = 0) : first t = t := Fin.ext (by unfold first; dsimp only; omega)
theorem first_pred (t : Fin cfg0.N) (h : ¬t.val % 4 = 0) : first ⟨t.val - 1, by omega⟩ = first t :=
  Fin.ext (by unfold first; dsimp only; omega)
theorem first_step (t t' : Fin cfg0.N) (h : t'.val = t.val + 1) (h0 : ¬(t.val + 1) % 4 = 0) : first t' = first t :=
  Fin.ext (by unfold first; dsimp only; omega)

/-- The tile's rows, narrowed. -/
def sx (t : Fin cfg0.N) : Vec F S512x1024 .bf16 := k0_pay6 (blkAt V c 0 (first t))

/-- What a point leaves in the sum, from what it found there. -/
def accOut (t : Fin cfg0.N) (D : Vec F S512x1024 .f32) : Vec F S512x1024 .f32 :=
  k0_pay3 (sx V c t) (blkAt V c 2 t)
    (if t.val % 4 = 0 then acc0 (blkAt V c 0 t) (blkAt V c 1 t) (blkAt V c 4 t) (blkAt V c 5 t) (blkAt V c 6 t) else D) (blkAt V c 3 t)

theorem accOut_first (t : Fin cfg0.N) (h : t.val % 4 = 0) (D : Vec F S512x1024 .f32) :
    accOut V c t D = k0_pay3 (k0_pay6 (blkAt V c 0 t)) (blkAt V c 2 t)
      (acc0 (blkAt V c 0 t) (blkAt V c 1 t) (blkAt V c 4 t) (blkAt V c 5 t) (blkAt V c 6 t)) (blkAt V c 3 t) := by
  unfold accOut sx; rw [if_pos h, first_self t h]
theorem accOut_mid (t : Fin cfg0.N) (h : ¬t.val % 4 = 0) (D : Vec F S512x1024 .f32) :
    accOut V c t D = k0_pay3 (sx V c t) (blkAt V c 2 t) D (blkAt V c 3 t) := by
  unfold accOut; rw [if_neg h]

/-- The sum before point `n`. -/
def acc : Nat → Vec F S512x1024 .f32
  | 0 => View.canon []
  | n + 1 => if h : n < cfg0.N then accOut V c ⟨n, h⟩ (acc n) else acc n

theorem acc_succ (t : Fin cfg0.N) : acc V c (t.val + 1) = accOut V c t (acc V c t.val) := by
  rw [acc, dif_pos t.isLt]

/-- What a point leaves in the loss, from what it found there. -/
def lossOut (t : Fin cfg0.N) (D : Vec F S1x128 .f32) : Vec F S1x128 .f32 :=
  if t.val % 4 = 3 then
    (if t.val = 3 then k0_pay4 (k0_pay18 (accOut V c t (acc V c t.val)) (blkAt V c 7 t) (blkAt V c 8 t) (blkAt V c 9 t))
    else k0_pay5 (k0_pay18 (accOut V c t (acc V c t.val)) (blkAt V c 7 t) (blkAt V c 8 t) (blkAt V c 9 t)) D)
  else D

/-- The loss before point `n`. -/
def loss : Nat → Vec F S1x128 .f32
  | 0 => View.canon []
  | n + 1 => if h : n < cfg0.N then lossOut V c ⟨n, h⟩ (loss n) else loss n

theorem loss_succ (t : Fin cfg0.N) : loss V c (t.val + 1) = lossOut V c t (loss V c t.val) := by
  rw [loss, dif_pos t.isLt]

/-! ## The grid -/

theorem cond1_iff : ∀ t : Fin cfg0.N, k0_cond1 (grid0.coords t) = 1#1 ↔ t.val % 4 = 0 := by decide +kernel
theorem cond2_iff : ∀ t : Fin cfg0.N, k0_cond2 (grid0.coords t) = 1#1 ↔ t.val % 4 = 3 := by decide +kernel
theorem cond3_iff : ∀ t : Fin cfg0.N, k0_cond3 (grid0.coords t) = 1#1 ↔ t.val < 4 := by decide +kernel
theorem cond4_iff : ∀ t : Fin cfg0.N, k0_cond4 (grid0.coords t) = 1#1 ↔ ¬t.val < 4 := by decide +kernel
theorem idle10 : ∀ t : Fin cfg0.N, cfg0.idle 10 (cfg0.grid.coords t) = !decide (t.val % 4 = 3) := by decide +kernel
theorem idle11 : ∀ t : Fin cfg0.N, cfg0.idle 11 (cfg0.grid.coords t) = !decide (t.val % 4 = 3) := by decide +kernel
theorem idle12 : ∀ t : Fin cfg0.N, cfg0.idle 12 (cfg0.grid.coords t) = !decide (t.val % 4 = 3) := by decide +kernel
theorem idle14 : ∀ t : Fin cfg0.N, cfg0.idle 14 (cfg0.grid.coords t) = !decide (t.val % 4 = 0) := by decide +kernel
theorem idle15 : ∀ t : Fin cfg0.N, cfg0.idle 15 (cfg0.grid.coords t) = !decide (t.val % 4 = 3) := by decide +kernel
theorem flush10 (t : Fin cfg0.N) : (cfg0.win 10).flush t = decide (t.val % 4 = 3) := Bool.eq_iff_iff.mpr ((flush0_10 t).trans decide_eq_true_iff.symm)
theorem flush11 (t : Fin cfg0.N) : (cfg0.win 11).flush t = decide (t.val % 4 = 3) := Bool.eq_iff_iff.mpr ((flush0_11 t).trans decide_eq_true_iff.symm)
theorem flush12 (t : Fin cfg0.N) : (cfg0.win 12).flush t = decide (t.val % 4 = 3) := Bool.eq_iff_iff.mpr ((flush0_12 t).trans decide_eq_true_iff.symm)
theorem flush14 (t : Fin cfg0.N) : (cfg0.win 14).flush t = decide (t.val % 4 = 3) := Bool.eq_iff_iff.mpr ((flush0_14 t).trans decide_eq_true_iff.symm)
theorem flush15 (t : Fin cfg0.N) : (cfg0.win 15).flush t = decide (t.val % 64 = 63) := Bool.eq_iff_iff.mpr ((flush0_15 t).trans decide_eq_true_iff.symm)
theorem lt64 (t : Fin cfg0.N) : t.val < 64 := lt_of_lt_of_eq t.isLt (show cfg0.N = 64 from by decide)

/-- Where the buffer of the narrowed rows, and of the loss, hold nothing yet. -/
theorem fresh14 (t : Fin cfg0.N) : cfg0.fresh 14 t.val = decide (t.val % 4 = 0) :=
  Pipeline.Cfg.fresh_tab cfg0 14 (fun n => decide (n % 4 = 0)) rfl
    (fun t => by
      rw [flush14, idle14]
      rcases (by omega : t.val % 4 = 0 ∨ t.val % 4 = 1 ∨ t.val % 4 = 2 ∨ t.val % 4 = 3) with h | h | h | h <;>
        rw [h] <;> simp <;> omega) t.val (Nat.le_of_lt t.isLt)
theorem fresh15 (t : Fin cfg0.N) : cfg0.fresh 15 t.val = decide (t.val ≤ 3 ∨ 64 ≤ t.val) :=
  Pipeline.Cfg.fresh_tab cfg0 15 (fun n => decide (n ≤ 3 ∨ 64 ≤ n)) rfl
    (fun t => by
      rw [flush15, idle15, Bool.eq_iff_iff]
      have := lt64 t
      simp only [decide_eq_true_eq, Bool.or_eq_true, Bool.and_eq_true, Bool.not_eq_true', decide_eq_false_iff_not]
      omega) t.val (Nat.le_of_lt t.isLt)

/-- The invariant before point `n`: the two scratches at what the points before left (at a tile's first point, at
    anything), the other scoped buffers at anything. -/
def Phi (n : Nat) : sProp 𝕄 :=
  iprop((∃ D, ⌜n % 4 = 0 ∨ D = acc V c n⌝ ∗ ow c (Memref.whole cc0_scratch0) D)
    ∗ (∃ S, ⌜∀ t : Fin cfg0.N, t.val = n → n % 4 = 0 ∨ S = sx V c t⌝ ∗ ow c (Memref.whole cc0_scratch1) S)
    ∗ Pipeline.scopedRestBut (Ix := Unit) (Name := ℕ) (U := UR sig nD τ) (Lvl := ℕ) (Val := Elt F) spec0 c [cc0_scratch0, cc0_scratch1])

/-- The region's proof data. -/
def dat : Dat τ (Elt F) Unit ℕ (UR sig nD τ) ℕ cfg0 c where
  A w := V c (Pipeline.arrRef spec0 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => blkAt V c 8 t
    | ⟨9, _⟩ => blkAt V c 9 t
    | ⟨10, _⟩ => k0_pay17 (accOut V c t (acc V c t.val)) (blkAt V c 7 t) (blkAt V c 8 t) (blkAt V c 9 t)
    | ⟨11, _⟩ => k0_pay15 (accOut V c t (acc V c t.val))
    | ⟨12, _⟩ => k0_pay14 (accOut V c t (acc V c t.val))
    | ⟨13, _⟩ => k0_pay2 (sx V c t) (blkAt V c 2 t)
    | ⟨14, _⟩ => k0_pay7 (blkAt V c 0 (first t))
    | ⟨15, _⟩ => lossOut V c t (loss V c t.val)
    | ⟨_ + 16, h⟩ => absurd h (Nat.not_lt.2 (Nat.le_add_left _ _))
  Φ t := Phi V c t.val
  q _ := fullShare
  owed _ := 0

/-! ## The inputs' buffers hold the point's blocks -/

theorem before0 (t : Fin cfg0.N) (d) : (dat V c).before 0 t d = blkAt V c 0 t :=
  ((dat V c).before_in_eq_fetched 0 rfl (fun _ => rfl) (fun _ _ _ => rfl) (fun _ => rfl) t d).trans rfl
theorem before1 (t : Fin cfg0.N) (d) : (dat V c).before 1 t d = blkAt V c 1 t :=
  ((dat V c).before_in_eq_fetched 1 rfl (fun _ => rfl) (fun _ _ _ => rfl) (fun _ => rfl) t d).trans rfl
theorem before2 (t : Fin cfg0.N) (d) : (dat V c).before 2 t d = blkAt V c 2 t :=
  ((dat V c).before_in_eq_fetched 2 rfl (fun _ => rfl) (fun _ _ _ => rfl) (fun _ => rfl) t d).trans rfl
theorem before3 (t : Fin cfg0.N) (d) : (dat V c).before 3 t d = blkAt V c 3 t :=
  ((dat V c).before_in_eq_fetched 3 rfl (fun _ => rfl) (fun _ _ _ => rfl) (fun _ => rfl) t d).trans rfl
theorem before4 (t : Fin cfg0.N) (d) : (dat V c).before 4 t d = blkAt V c 4 t :=
  ((dat V c).before_in_eq_fetched 4 rfl (fun _ => rfl) (fun _ _ _ => rfl) (fun _ => rfl) t d).trans rfl
theorem before5 (t : Fin cfg0.N) (d) : (dat V c).before 5 t d = blkAt V c 5 t :=
  ((dat V c).before_in_eq_fetched 5 rfl (fun _ => rfl) (fun _ _ _ => rfl) (fun _ => rfl) t d).trans rfl
theorem before6 (t : Fin cfg0.N) (d) : (dat V c).before 6 t d = blkAt V c 6 t :=
  ((dat V c).before_in_eq_fetched 6 rfl (fun _ => rfl) (fun _ _ _ => rfl) (fun _ => rfl) t d).trans rfl
theorem before7 (t : Fin cfg0.N) (d) : (dat V c).before 7 t d = blkAt V c 7 t :=
  ((dat V c).before_in_eq_fetched 7 rfl (fun _ => rfl) (fun _ _ _ => rfl) (fun _ => rfl) t d).trans rfl
theorem before8 (t : Fin cfg0.N) (d) : (dat V c).before 8 t d = blkAt V c 8 t :=
  ((dat V c).before_in_eq_fetched 8 rfl (fun _ => rfl) (fun _ _ _ => rfl) (fun _ => rfl) t d).trans rfl
theorem before9 (t : Fin cfg0.N) (d) : (dat V c).before 9 t d = blkAt V c 9 t :=
  ((dat V c).before_in_eq_fetched 9 rfl (fun _ => rfl) (fun _ _ _ => rfl) (fun _ => rfl) t d).trans rfl

/-! ## What the body leaves of a window -/

/-- Contents that are what the data says of a window, or, where the point leaves the window alone, what it found. -/
theorem live (w : Fin cfg0.W) (t : Fin cfg0.N) (hi : cfg0.idle w (cfg0.grid.coords t) = false) {X} (e : (dat V c).after w t = X) :
    (owns (c : Thread nD τ) ((cfg0.win w).stage (cfg0.slots t w)) fullShare X : sProp 𝕄) ⊢ (dat V c).leavesExact w t := by
  subst e; unfold Dat.leavesExact; rw [hi]
theorem kept (w : Fin cfg0.W) (t : Fin cfg0.N) (hi : cfg0.idle w (cfg0.grid.coords t) = true) (hf : (cfg0.win w).flush t = false) (d) :
    (owns (c : Thread nD τ) ((cfg0.win w).stage (cfg0.slots t w)) fullShare ((dat V c).before w t d) : sProp 𝕄) ⊢ (dat V c).leavesExact w t := by
  unfold Dat.leavesExact; rw [hi]; dsimp only; rw [hf]
  iintro H; iexists d; iexact H
theorem same (w : Fin cfg0.W) (t : Fin cfg0.N) (hi : cfg0.idle w (cfg0.grid.coords t) = true) (d)
    (e : (dat V c).before w t d = (dat V c).after w t) :
    (owns (c : Thread nD τ) ((cfg0.win w).stage (cfg0.slots t w)) fullShare ((dat V c).before w t d) : sProp 𝕄) ⊢ (dat V c).leavesExact w t := by
  cases hf : (cfg0.win w).flush t
  · exact kept V c w t hi hf d
  · rw [e]; unfold Dat.leavesExact; rw [hi]; dsimp only; rw [hf]

/-- The body table's row at a point's buffers. -/
theorem defs₀_row (t : Fin cfg0.N) : defs₀ (F := F) .tc cfg0.body (cfg0.bodyArgs t (cfg0.slots t)) = bodyAt0 t := by
  unfold defs₀; rw [Defs.onTc_tc]

/-- What the body is called with at a point, and what it returns. -/
def bodyPre (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d))
    ∗ (∃ d, owns (c : Thread nD τ) (st0_11 t) fullShare ((dat V c).before 11 t d))
    ∗ (∃ d, owns (c : Thread nD τ) (st0_12 t) fullShare ((dat V c).before 12 t d))
    ∗ (∃ d, owns (c : Thread nD τ) (st0_13 t) fullShare ((dat V c).before 13 t d))
    ∗ (∃ d, owns (c : Thread nD τ) (st0_14 t) fullShare ((dat V c).before 14 t d))
    ∗ (∃ d, owns (c : Thread nD τ) (st0_15 t) fullShare ((dat V c).before 15 t d)))
def bodyPost (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

theorem before14 (t : Fin cfg0.N) (h : ¬t.val % 4 = 0) (d) : (dat V c).before 14 t d = (dat V c).after 14 t := by
  rw [(dat V c).before_out_traj 14 rfl (fun _ _ => rfl) (fun t ht hi _ => by
    have h : ¬t.val % 4 = 0 := by rw [idle14] at hi; simpa using hi
    exact congrArg (fun s => k0_pay7 (blkAt V c 0 s)) (first_pred t h).symm) t.val t rfl d,
    if_neg (by rw [fresh14]; simpa using h)]
  exact congrArg (fun s => k0_pay7 (blkAt V c 0 s)) (first_pred t h)
theorem loss_pred (t : Fin cfg0.N) (h : t.val ≠ 0) :
    (dat V c).after 15 ⟨t.val - 1, by omega⟩ = loss V c t.val := by
  refine (loss_succ V c ⟨t.val - 1, by omega⟩).symm.trans ?_
  exact congrArg (loss V c) (by dsimp only; omega)
theorem before15 (t : Fin cfg0.N) (h : ¬t.val < 4) (d) : (dat V c).before 15 t d = loss V c t.val := by
  rw [(dat V c).before_out_traj 15 rfl (fun _ _ => rfl) (fun t ht hi _ => by
    have h : ¬t.val % 4 = 3 := by rw [idle15] at hi; simpa using hi
    rw [loss_pred V c t ht]
    exact if_neg h) t.val t rfl d,
    if_neg (by have := lt64 t; rw [fresh15]; simp; omega)]
  exact loss_pred V c t (by omega)

/-! ## The body at every point -/

/-- What a point leaves, from the values of the windows' buffers and of the two scratches. -/
theorem settle (t : Fin cfg0.N) {X10 X11 X12 X13 X14 X15 D S} (hD : D = acc V c (t.val + 1)) (hS : S = sx V c t)
    (h10 : (owns (c : Thread nD τ) (st0_10 t) fullShare X10 : sProp 𝕄) ⊢ (dat V c).leavesExact 10 t)
    (h11 : (owns (c : Thread nD τ) (st0_11 t) fullShare X11 : sProp 𝕄) ⊢ (dat V c).leavesExact 11 t)
    (h12 : (owns (c : Thread nD τ) (st0_12 t) fullShare X12 : sProp 𝕄) ⊢ (dat V c).leavesExact 12 t)
    (h13 : (owns (c : Thread nD τ) (st0_13 t) fullShare X13 : sProp 𝕄) ⊢ (dat V c).leavesExact 13 t)
    (h14 : (owns (c : Thread nD τ) (st0_14 t) fullShare X14 : sProp 𝕄) ⊢ (dat V c).leavesExact 14 t)
    (h15 : (owns (c : Thread nD τ) (st0_15 t) fullShare X15 : sProp 𝕄) ⊢ (dat V c).leavesExact 15 t) :
    iprop(Pipeline.scopedRestBut (Ix := Unit) (Name := ℕ) (U := UR sig nD τ) (Lvl := ℕ) (Val := Elt F) spec0 c [cc0_scratch0, cc0_scratch1]
      ∗ (dat V c).owesAt () t.castSucc ∗ ow c (st0_0 t) (blkAt V c 0 t) ∗ ow c (st0_1 t) (blkAt V c 1 t) ∗ ow c (st0_2 t) (blkAt V c 2 t) ∗ ow c (st0_3 t) (blkAt V c 3 t) ∗ ow c (st0_4 t) (blkAt V c 4 t) ∗ ow c (st0_5 t) (blkAt V c 5 t) ∗ ow c (st0_6 t) (blkAt V c 6 t) ∗ ow c (st0_7 t) (blkAt V c 7 t) ∗ ow c (st0_8 t) (blkAt V c 8 t) ∗ ow c (st0_9 t) (blkAt V c 9 t) ∗ ow c (st0_10 t) X10 ∗ ow c (st0_11 t) X11 ∗ ow c (st0_12 t) X12 ∗ ow c (st0_13 t) X13 ∗ ow c (st0_14 t) X14 ∗ ow c (st0_15 t) X15
      ∗ ow c (Memref.whole cc0_scratch0) D ∗ ow c (Memref.whole cc0_scratch1) S) ⊢ bodyPost V c t := by
  subst hD; subst hS
  unfold bodyPost
  rw [show (dat V c).Φ t.succ = Phi V c (t.val + 1) from rfl, show (dat V c).owesAt () t.succ = (dat V c).owesAt () t.castSucc from rfl]
  unfold Phi
  iintro ⟨Hrest, Howes, H0, H1, H2, H3, H4, H5, H6, H7, H8, H9, H10, H11, H12, H13, H14, H15, HD, HS⟩
  isplitl [HD HS Hrest]
  · isplitl [HD]
    · iexists _; isplitr; swap; (· iexact HD)
      ipureintro; exact .inr rfl
    isplitl [HS]
    · iexists _; isplitr; swap; (· iexact HS)
      ipureintro; intro t' ht'
      rcases Nat.decEq ((t.val + 1) % 4) 0 with h0 | h0
      · exact .inr (congrArg (fun s => k0_pay6 (blkAt V c 0 s)) (first_step t t' ht' h0).symm)
      · exact .inl h0
    iexact Hrest
  isplitl [Howes]; · iexact Howes
  isplitl [H0]; · iapply (live V c 0 t rfl rfl); iexact H0
  isplitl [H1]; · iapply (live V c 1 t rfl rfl); iexact H1
  isplitl [H2]; · iapply (live V c 2 t rfl rfl); iexact H2
  isplitl [H3]; · iapply (live V c 3 t rfl rfl); iexact H3
  isplitl [H4]; · iapply (live V c 4 t rfl rfl); iexact H4
  isplitl [H5]; · iapply (live V c 5 t rfl rfl); iexact H5
  isplitl [H6]; · iapply (live V c 6 t rfl rfl); iexact H6
  isplitl [H7]; · iapply (live V c 7 t rfl rfl); iexact H7
  isplitl [H8]; · iapply (live V c 8 t rfl rfl); iexact H8
  isplitl [H9]; · iapply (live V c 9 t rfl rfl); iexact H9
  isplitl [H10]; · iapply h10; iexact H10
  isplitl [H11]; · iapply h11; iexact H11
  isplitl [H12]; · iapply h12; iexact H12
  isplitl [H13]; · iapply h13; iexact H13
  isplitl [H14]; · iapply h14; iexact H14
  iapply h15; iexact H15

set_option maxHeartbeats 4000000 in
/-- A tile's first point. -/
theorem bodyA (t : Fin cfg0.N) (h : t.val % 4 = 0) :
    bodyPre V c t ⊢ wp frame (wpE (defs₀ (F := F)) Variants.none c none) Set.univ (bodyAt0 t) (fun _ => bodyPost V c t) := by
  unfold bodyPre bodyAt0
  rw [show (dat V c).Φ t.castSucc = Phi V c t.val from rfl]
  simp only [before0, before1, before2, before3, before4, before5, before6, before7, before8, before9]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have e := accOut_first V c t h (acc V c t.val)
  iapply (runA (grid0.coords t) c ((cond1_iff t).mpr h) (fun h2 => by have := (cond2_iff t).mp h2; omega))
  iframe H0 H1 H2 H3 H4 H5 H6 H7 H8 H9 H10 H11 H12 H13 H14 H15 HD HS
  iintro HP
  iapply (settle V c t (e.symm.trans (acc_succ V c t).symm) ((congrArg (fun s => k0_pay6 (blkAt V c 0 s)) (first_self t h)).symm)
    (kept V c 10 t (by rw [idle10]; simp [h]) (by rw [flush10]; simp [h]) d10)
    (kept V c 11 t (by rw [idle11]; simp [h]) (by rw [flush11]; simp [h]) d11)
    (kept V c 12 t (by rw [idle12]; simp [h]) (by rw [flush12]; simp [h]) d12)
    (live V c 13 t rfl (show (dat V c).after 13 t = k0_pay2 (k0_pay6 (blkAt V c 0 t)) (blkAt V c 2 t) from congrArg (fun s => k0_pay2 (k0_pay6 (blkAt V c 0 s)) (blkAt V c 2 t)) (first_self t h)))
    (live V c 14 t (by rw [idle14]; simp [h]) (show (dat V c).after 14 t = k0_pay7 (blkAt V c 0 t) from congrArg (fun s => k0_pay7 (blkAt V c 0 s)) (first_self t h)))
    (kept V c 15 t (by rw [idle15]; simp [h]) (by rw [flush15]; simp; omega) d15))
  isplitl [Hrest]; · iexact Hrest
  isplitl [Howes]; · iexact Howes
  iexact HP

set_option maxHeartbeats 4000000 in
/-- A point within a tile. -/
theorem bodyM (t : Fin cfg0.N) (h : ¬t.val % 4 = 0) (h3 : ¬t.val % 4 = 3) :
    bodyPre V c t ⊢ wp frame (wpE (defs₀ (F := F)) Variants.none c none) Set.univ (bodyAt0 t) (fun _ => bodyPost V c t) := by
  unfold bodyPre bodyAt0
  rw [show (dat V c).Φ t.castSucc = Phi V c t.val from rfl]
  simp only [before0, before1, before2, before3, before4, before5, before6, before7, before8, before9]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  obtain rfl := hD.resolve_left h
  obtain rfl := (hS t rfl).resolve_left h
  have e := accOut_mid V c t h (acc V c t.val)
  iapply (runM (grid0.coords t) c (fun h1 => h ((cond1_iff t).mp h1)) (fun h2 => h3 ((cond2_iff t).mp h2)))
  iframe H0 H1 H2 H3 H4 H5 H6 H7 H8 H9 H10 H11 H12 H13 H14 H15 HD HS
  iintro HP
  iapply (settle V c t (e.symm.trans (acc_succ V c t).symm) rfl
    (kept V c 10 t (by rw [idle10]; simp [h3]) (by rw [flush10]; simp [h3]) d10)
    (kept V c 11 t (by rw [idle11]; simp [h3]) (by rw [flush11]; simp [h3]) d11)
    (kept V c 12 t (by rw [idle12]; simp [h3]) (by rw [flush12]; simp [h3]) d12)
    (live V c 13 t rfl rfl)
    (same V c 14 t (by rw [idle14]; simp [h]) d14 (before14 V c t h d14))
    (kept V c 15 t (by rw [idle15]; simp [h3]) (by rw [flush15]; simp; omega) d15))
  isplitl [Hrest]; · iexact Hrest
  isplitl [Howes]; · iexact Howes
  iexact HP

set_option maxHeartbeats 4000000 in
/-- A tile's last point, of the first tile. -/
theorem bodyL0 (t : Fin cfg0.N) (h3 : t.val % 4 = 3) (h4 : t.val < 4) :
    bodyPre V c t ⊢ wp frame (wpE (defs₀ (F := F)) Variants.none c none) Set.univ (bodyAt0 t) (fun _ => bodyPost V c t) := by
  unfold bodyPre bodyAt0
  rw [show (dat V c).Φ t.castSucc = Phi V c t.val from rfl]
  simp only [before0, before1, before2, before3, before4, before5, before6, before7, before8, before9]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have h : ¬t.val % 4 = 0 := by omega
  obtain rfl := hD.resolve_left h
  obtain rfl := (hS t rfl).resolve_left h
  have e := accOut_mid V c t h (acc V c t.val)
  have el : (dat V c).after 15 t = k0_pay4 (k0_pay18 (k0_pay3 (sx V c t) (blkAt V c 2 t) (acc V c t.val) (blkAt V c 3 t)) (blkAt V c 7 t) (blkAt V c 8 t) (blkAt V c 9 t)) := by
    change lossOut V c t (loss V c t.val) = _
    unfold lossOut
    rw [if_pos h3, if_pos (by omega), e]
  iapply (runL0 (grid0.coords t) c (fun h1 => h ((cond1_iff t).mp h1)) ((cond2_iff t).mpr h3) ((cond3_iff t).mpr h4) (fun q => (cond4_iff t).mp q h4))
  iframe H0 H1 H2 H3 H4 H5 H6 H7 H8 H9 H10 H11 H12 H13 H14 H15 HD HS
  iintro HP
  iapply (settle V c t (e.symm.trans (acc_succ V c t).symm) rfl
    (live V c 10 t (by rw [idle10]; simp [h3]) (show (dat V c).after 10 t = k0_pay17 (k0_pay3 (sx V c t) (blkAt V c 2 t) (acc V c t.val) (blkAt V c 3 t)) (blkAt V c 7 t) (blkAt V c 8 t) (blkAt V c 9 t) from by change k0_pay17 (accOut V c t (acc V c t.val)) (blkAt V c 7 t) (blkAt V c 8 t) (blkAt V c 9 t) = _; rw [e]))
    (live V c 11 t (by rw [idle11]; simp [h3]) (show (dat V c).after 11 t = k0_pay15 (k0_pay3 (sx V c t) (blkAt V c 2 t) (acc V c t.val) (blkAt V c 3 t)) from by change k0_pay15 (accOut V c t (acc V c t.val)) = _; rw [e]))
    (live V c 12 t (by rw [idle12]; simp [h3]) (show (dat V c).after 12 t = k0_pay14 (k0_pay3 (sx V c t) (blkAt V c 2 t) (acc V c t.val) (blkAt V c 3 t)) from by change k0_pay14 (accOut V c t (acc V c t.val)) = _; rw [e]))
    (live V c 13 t rfl rfl)
    (same V c 14 t (by rw [idle14]; simp [h]) d14 (before14 V c t h d14))
    (live V c 15 t (by rw [idle15]; simp [h3]) el))
  isplitl [Hrest]; · iexact Hrest
  isplitl [Howes]; · iexact Howes
  iexact HP

set_option maxHeartbeats 4000000 in
/-- A tile's last point, of any other tile. -/
theorem bodyL (t : Fin cfg0.N) (h3 : t.val % 4 = 3) (h4 : ¬t.val < 4) :
    bodyPre V c t ⊢ wp frame (wpE (defs₀ (F := F)) Variants.none c none) Set.univ (bodyAt0 t) (fun _ => bodyPost V c t) := by
  unfold bodyPre bodyAt0
  rw [show (dat V c).Φ t.castSucc = Phi V c t.val from rfl]
  simp only [before0, before1, before2, before3, before4, before5, before6, before7, before8, before9]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have h : ¬t.val % 4 = 0 := by omega
  obtain rfl := hD.resolve_left h
  obtain rfl := (hS t rfl).resolve_left h
  have e := accOut_mid V c t h (acc V c t.val)
  rw [before15 V c t h4]
  have el : (dat V c).after 15 t = k0_pay5 (k0_pay18 (k0_pay3 (sx V c t) (blkAt V c 2 t) (acc V c t.val) (blkAt V c 3 t)) (blkAt V c 7 t) (blkAt V c 8 t) (blkAt V c 9 t)) (loss V c t.val) := by
    change lossOut V c t (loss V c t.val) = _
    unfold lossOut
    rw [if_pos h3, if_neg (by omega), e]
  iapply (runL (grid0.coords t) c (fun h1 => h ((cond1_iff t).mp h1)) ((cond2_iff t).mpr h3) (fun q => h4 ((cond3_iff t).mp q)) ((cond4_iff t).mpr h4))
  iframe H0 H1 H2 H3 H4 H5 H6 H7 H8 H9 H10 H11 H12 H13 H14 H15 HD HS
  iintro HP
  iapply (settle V c t (e.symm.trans (acc_succ V c t).symm) rfl
    (live V c 10 t (by rw [idle10]; simp [h3]) (show (dat V c).after 10 t = k0_pay17 (k0_pay3 (sx V c t) (blkAt V c 2 t) (acc V c t.val) (blkAt V c 3 t)) (blkAt V c 7 t) (blkAt V c 8 t) (blkAt V c 9 t) from by change k0_pay17 (accOut V c t (acc V c t.val)) (blkAt V c 7 t) (blkAt V c 8 t) (blkAt V c 9 t) = _; rw [e]))
    (live V c 11 t (by rw [idle11]; simp [h3]) (show (dat V c).after 11 t = k0_pay15 (k0_pay3 (sx V c t) (blkAt V c 2 t) (acc V c t.val) (blkAt V c 3 t)) from by change k0_pay15 (accOut V c t (acc V c t.val)) = _; rw [e]))
    (live V c 12 t (by rw [idle12]; simp [h3]) (show (dat V c).after 12 t = k0_pay14 (k0_pay3 (sx V c t) (blkAt V c 2 t) (acc V c t.val) (blkAt V c 3 t)) from by change k0_pay14 (accOut V c t (acc V c t.val)) = _; rw [e]))
    (live V c 13 t rfl rfl)
    (same V c 14 t (by rw [idle14]; simp [h]) d14 (before14 V c t h d14))
    (live V c 15 t (by rw [idle15]; simp [h3]) el))
  isplitl [Hrest]; · iexact Hrest
  isplitl [Howes]; · iexact Howes
  iexact HP

/-- The body's obligation at every point. -/
theorem body_obligation : BodyObligation (dat V c) (defs₀ (F := F)) Variants.none () Set.univ := fun t => by
  rw [bigSep_W0, bigSep_W0, defs₀_row]
  refine triple_restated (?_ : bodyPre V c t ⊢ wp frame (wpE (defs₀ (F := F)) Variants.none c none) Set.univ (bodyAt0 t) (fun _ => bodyPost V c t)) rfl .rfl fun _ => .rfl
  by_cases h : t.val % 4 = 0
  · exact bodyA V c t h
  by_cases h3 : t.val % 4 = 3
  · by_cases h4 : t.val < 4
    · exact bodyL0 V c t h3 h4
    · exact bodyL V c t h3 h4
  · exact bodyM V c t h h3

end Cert.Kernel7Ideal.RegF

end
-- ==== Proof.MlpBodyB.lean ====
/- The backward body of the MLP branch, run in each of its cases. -/
module

public import proofs.«01_k».proof.Proof.MlpBase

@[expose] public section

set_option maxRecDepth 16384

noncomputable section

namespace Cert.Kernel7Ideal.BodyB

open Cert.Kernel7Ideal Cert.Kernel7Ideal.Gen Cert.Kernel7Ideal.Base
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One part of the embedding's projection. -/
abbrev part (n : Fin 4) (PJ : Vec F S4x256x256 .bf16) : Vec F S1x256x256 .bf16 := match n with
  | 0 => View.ld PJ (Rect.unit (s := S4x256x256) ![0, 0, 0] S1x256x256.size inb_S4x256x256_S1x256x256_0_0_0)
  | 1 => View.ld PJ (Rect.unit (s := S4x256x256) ![1, 0, 0] S1x256x256.size inb_S4x256x256_S1x256x256_1_0_0)
  | 2 => View.ld PJ (Rect.unit (s := S4x256x256) ![2, 0, 0] S1x256x256.size inb_S4x256x256_S1x256x256_2_0_0)
  | 3 => View.ld PJ (Rect.unit (s := S4x256x256) ![3, 0, 0] S1x256x256.size inb_S4x256x256_S1x256x256_3_0_0)

/-- The narrowed hidden-side product of a point's rows and its gate's argument. -/
def zed (X : Vec F S512x1024 .f32) (GW : Vec F S4x256x1024 .bf16) : FVec F S512x1024 .f32 := k1_pay16 X GW
/-- The normalization's gradient. -/
def dr (DY XH : Vec F S512x1024 .f32) (RS : Vec F S512x1 .f32) (GN : Vec F S1x1024 .f32) : FVec F S512x1024 .f32 := k1_pay12 DY XH RS GN
/-- The gradient of the gate's argument. -/
def dz (DY XH : Vec F S512x1024 .f32) (RS : Vec F S512x1 .f32) (X : Vec F S512x1024 .f32) (P : Vec F S512x256 .f32)
    (GW : Vec F S4x256x1024 .bf16) (GB : Vec F S1x1024 .f32) (PJ : Vec F S4x256x256 .bf16) (GN : Vec F S1x1024 .f32) : FVec F S512x1024 .f32 :=
  k1_pay18 (dr DY XH RS GN) (zed X GW) GB P (part 0 PJ) (part 1 PJ) (part 2 PJ) (part 3 PJ)
/-- What the sum starts from. -/
def acc0 (DY XH : Vec F S512x1024 .f32) (RS : Vec F S512x1 .f32) (X : Vec F S512x1024 .f32) (P : Vec F S512x256 .f32)
    (GW : Vec F S4x256x1024 .bf16) (GB : Vec F S1x1024 .f32) (PJ : Vec F S4x256x256 .bf16) (GN : Vec F S1x1024 .f32) : FVec F S512x1024 .f32 :=
  k1_pay1 (dr DY XH RS GN) (k1_pay15 GW) (dz DY XH RS X P GW GB PJ GN) k1_pay21

set_option maxHeartbeats 4000000 in
/-- The first tile's first point: the sums over rows begin. -/
theorem runF (i : grid1.Coords) (c : Dev nD) (hc1 : k1_cond1 i = 1#1) (hc8 : ¬k1_cond8 i = 1#1) (hc2 : k1_cond2 i = 1#1) (hc3 : ¬k1_cond3 i = 1#1) (hc4 : k1_cond4 i = 1#1) (hc5 : ¬k1_cond5 i = 1#1) (hc6 : k1_cond6 i = 1#1) (hc7 : ¬k1_cond7 i = 1#1)
    {M0 M1 M3 M12 M20 : Memref sig .tc .vmem S512x1024 .f32}
    {M2 : Memref sig .tc .vmem S512x1 .f32}
    {M4 M13 M14 M15 M16 M21 : Memref sig .tc .vmem S512x1024 .bf16}
    {M5 : Memref sig .tc .vmem S512x256 .f32}
    {M6 M7 : Memref sig .tc .vmem S1x1024x1024 .bf16}
    {M8 : Memref sig .tc .vmem S4x256x1024 .bf16}
    {M9 M11 M17 M18 M19 : Memref sig .tc .vmem S1x1024 .f32}
    {M10 : Memref sig .tc .vmem S4x256x256 .bf16}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {h18 : M18.IsWhole} {h19 : M19.IsWhole} {h20 : M20.IsWhole} {h21 : M21.IsWhole}
    {DY XH : Vec F S512x1024 .f32} {RS : Vec F S512x1 .f32} {X : Vec F S512x1024 .f32} {A : Vec F S512x1024 .bf16}
    {P : Vec F S512x256 .f32} {W1 W2 : Vec F S1x1024x1024 .bf16} {GW : Vec F S4x256x1024 .bf16}
    {GB : Vec F S1x1024 .f32} {PJ : Vec F S4x256x256 .bf16} {GN : Vec F S1x1024 .f32} {DX : Vec F S512x1024 .f32}
    {DH DZ DP DR : Vec F S512x1024 .bf16} {DG DB DL : Vec F S1x1024 .f32} {AC : Vec F S512x1024 .f32}
    {SR : Vec F S512x1024 .bf16} {Q : PUnit → sProp 𝕄} :
    iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 DH ∗ ow c M14 DZ ∗ ow c M15 DP ∗ ow c M16 DR ∗ ow c M17 DG ∗ ow c M18 DB ∗ ow c M19 DL ∗ ow c M20 AC ∗ ow c M21 SR
      ∗ (iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 (k1_pay8 (k1_pay14 DY XH RS GN) W2 A) ∗ ow c M14 (k1_pay19 (dr DY XH RS GN) (zed X GW) GB P (part 0 PJ) (part 1 PJ) (part 2 PJ) (part 3 PJ)) ∗ ow c M15 (k1_pay20 (dr DY XH RS GN) (zed X GW) GB) ∗ ow c M16 (k1_pay13 DY XH RS GN) ∗ ow c M17 (k1_pay2 (k1_pay10 DY) (k1_pay11 XH)) ∗ ow c M18 (k1_pay4 (k1_pay10 DY)) ∗ ow c M19 (k1_pay6 (dz DY XH RS X P GW GB PJ GN)) ∗ ow c M20 (k1_pay9 (k1_pay14 DY XH RS GN) W2 A (acc0 DY XH RS X P GW GB PJ GN) W1) ∗ ow c M21 (k1_pay14 DY XH RS GN)) -∗ Q ⟨⟩))
      ⊢ wp frame (wpE (defs₀ (F := F)) Variants.none c none) Set.univ (cc1_mlp_bwd_1 i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  simp only [cc1_mlp_bwd_1_eq_skeleton]; unfold cc1_mlp_bwd_1_skel
  simp only [k1_part1_eq_skeleton, k1_part2_eq_skeleton]; unfold k1_part1_skel k1_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21
  sl_exec (disch := first | sl_exact hc1 | sl_exact hc8 | sl_exact hc2 | sl_exact hc3 | sl_exact hc4 | sl_exact hc5 | sl_exact hc6 | sl_exact hc7)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]; · iapply (back h10); iexact H10
  isplitl [H11]; · iapply (back h11); iexact H11
  isplitl [H12]; · iapply (back h12); iexact H12
  isplitl [H13]
  · iexists _; isplitr; swap; (· iexact H13); ipureintro
    refine (View.read_writes_full _ _ _ _ _).trans ?_
    unfold runF.sl.v3 runF.sl.H21_1
    simp only [View.readCov_full (s := S512x1024), View.readAt_eq_ld, ld_two, ld_three, Memref.IsWhole.read_unread]
  isplitl [H14]
  · iexists _; isplitr; swap; (· iexact H14); ipureintro
    refine (View.read_writes_full _ _ _ _ _).trans ?_
    simp only [View.readCov_full (s := S512x1024), View.readAt_eq_ld, ld_two, ld_three, Memref.IsWhole.read_unread]
    rfl
  isplitl [H15]
  · iexists _; isplitr; swap; (· iexact H15); ipureintro
    refine (View.read_writes_full _ _ _ _ _).trans ?_
    simp only [View.readCov_full (s := S512x1024), View.readAt_eq_ld, ld_two, ld_three, Memref.IsWhole.read_unread]
    rfl
  isplitl [H16]
  · iexists _; isplitr; swap; (· iexact H16); ipureintro
    refine (View.read_writes_full _ _ _ _ _).trans ?_
    simp only [View.readCov_full (s := S512x1024), View.readAt_eq_ld, ld_two, ld_three, Memref.IsWhole.read_unread]
  isplitl [H17]
  · iexists _; isplitr; swap; (· iexact H17); ipureintro
    refine (View.read_writes_full _ _ _ _ _).trans ?_
    simp only [View.readCov_full (s := S512x1024), View.readAt_eq_ld, ld_two, ld_three, Memref.IsWhole.read_unread]
  isplitl [H18]
  · iexists _; isplitr; swap; (· iexact H18); ipureintro
    refine (View.read_writes_full _ _ _ _ _).trans ?_
    simp only [View.readCov_full (s := S512x1024), View.readAt_eq_ld, ld_two, ld_three, Memref.IsWhole.read_unread]
  isplitl [H19]
  · iexists _; isplitr; swap; (· iexact H19); ipureintro
    refine (View.read_writes_full _ _ _ _ _).trans ?_
    simp only [View.readCov_full (s := S512x1024), View.readAt_eq_ld, ld_two, ld_three, Memref.IsWhole.read_unread]
    rfl
  isplitl [H20]
  · iexists _; isplitr; swap; (· iexact H20); ipureintro
    refine (View.read_writes_full _ _ _ _ _).trans ?_
    unfold runF.sl.v16 runF.sl.H20_1 runF.sl.v3 runF.sl.H21_1
    simp only [View.readCov_full (s := S512x1024), View.readAt_eq_ld, ld_two, ld_three, Memref.IsWhole.read_unread]
    rfl
  iexists _; isplitr; swap; (· iexact H21); ipureintro
  refine (View.read_writes_full _ _ _ _ _).trans ?_
  simp only [View.readCov_full (s := S512x1024), View.readAt_eq_ld, ld_two, ld_three, Memref.IsWhole.read_unread]

set_option maxHeartbeats 4000000 in
/-- Every other tile's first point: the sums over rows are added to. -/
theorem runA (i : grid1.Coords) (c : Dev nD) (hc1 : k1_cond1 i = 1#1) (hc8 : ¬k1_cond8 i = 1#1) (hc2 : ¬k1_cond2 i = 1#1) (hc3 : k1_cond3 i = 1#1) (hc4 : ¬k1_cond4 i = 1#1) (hc5 : k1_cond5 i = 1#1) (hc6 : ¬k1_cond6 i = 1#1) (hc7 : k1_cond7 i = 1#1)
    {M0 M1 M3 M12 M20 : Memref sig .tc .vmem S512x1024 .f32}
    {M2 : Memref sig .tc .vmem S512x1 .f32}
    {M4 M13 M14 M15 M16 M21 : Memref sig .tc .vmem S512x1024 .bf16}
    {M5 : Memref sig .tc .vmem S512x256 .f32}
    {M6 M7 : Memref sig .tc .vmem S1x1024x1024 .bf16}
    {M8 : Memref sig .tc .vmem S4x256x1024 .bf16}
    {M9 M11 M17 M18 M19 : Memref sig .tc .vmem S1x1024 .f32}
    {M10 : Memref sig .tc .vmem S4x256x256 .bf16}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {h18 : M18.IsWhole} {h19 : M19.IsWhole} {h20 : M20.IsWhole} {h21 : M21.IsWhole}
    {DY XH : Vec F S512x1024 .f32} {RS : Vec F S512x1 .f32} {X : Vec F S512x1024 .f32} {A : Vec F S512x1024 .bf16}
    {P : Vec F S512x256 .f32} {W1 W2 : Vec F S1x1024x1024 .bf16} {GW : Vec F S4x256x1024 .bf16}
    {GB : Vec F S1x1024 .f32} {PJ : Vec F S4x256x256 .bf16} {GN : Vec F S1x1024 .f32} {DX : Vec F S512x1024 .f32}
    {DH DZ DP DR : Vec F S512x1024 .bf16} {DG DB DL : Vec F S1x1024 .f32} {AC : Vec F S512x1024 .f32}
    {SR : Vec F S512x1024 .bf16} {Q : PUnit → sProp 𝕄} :
    iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 DH ∗ ow c M14 DZ ∗ ow c M15 DP ∗ ow c M16 DR ∗ ow c M17 DG ∗ ow c M18 DB ∗ ow c M19 DL ∗ ow c M20 AC ∗ ow c M21 SR
      ∗ (iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 (k1_pay8 (k1_pay14 DY XH RS GN) W2 A) ∗ ow c M14 (k1_pay19 (dr DY XH RS GN) (zed X GW) GB P (part 0 PJ) (part 1 PJ) (part 2 PJ) (part 3 PJ)) ∗ ow c M15 (k1_pay20 (dr DY XH RS GN) (zed X GW) GB) ∗ ow c M16 (k1_pay13 DY XH RS GN) ∗ ow c M17 (k1_pay3 (k1_pay10 DY) (k1_pay11 XH) DG) ∗ ow c M18 (k1_pay5 (k1_pay10 DY) DB) ∗ ow c M19 (k1_pay7 (dz DY XH RS X P GW GB PJ GN) DL) ∗ ow c M20 (k1_pay9 (k1_pay14 DY XH RS GN) W2 A (acc0 DY XH RS X P GW GB PJ GN) W1) ∗ ow c M21 (k1_pay14 DY XH RS GN)) -∗ Q ⟨⟩))
      ⊢ wp frame (wpE (defs₀ (F := F)) Variants.none c none) Set.univ (cc1_mlp_bwd_1 i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  simp only [cc1_mlp_bwd_1_eq_skeleton]; unfold cc1_mlp_bwd_1_skel
  simp only [k1_part1_eq_skeleton, k1_part2_eq_skeleton]; unfold k1_part1_skel k1_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21
  sl_exec (disch := first | sl_exact hc1 | sl_exact hc8 | sl_exact hc2 | sl_exact hc3 | sl_exact hc4 | sl_exact hc5 | sl_exact hc6 | sl_exact hc7)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]; · iapply (back h10); iexact H10
  isplitl [H11]; · iapply (back h11); iexact H11
  isplitl [H12]; · iapply (back h12); iexact H12
  isplitl [H13]
  · iexists _; isplitr; swap; (· iexact H13); ipureintro
    refine (View.read_writes_full _ _ _ _ _).trans ?_
    unfold runA.sl.v3 runA.sl.H21_1
    simp only [View.readCov_full (s := S512x1024), View.readAt_eq_ld, ld_two, ld_three, Memref.IsWhole.read_unread]
  isplitl [H14]
  · iexists _; isplitr; swap; (· iexact H14); ipureintro
    refine (View.read_writes_full _ _ _ _ _).trans ?_
    simp only [View.readCov_full (s := S512x1024), View.readAt_eq_ld, ld_two, ld_three, Memref.IsWhole.read_unread]
    rfl
  isplitl [H15]
  · iexists _; isplitr; swap; (· iexact H15); ipureintro
    refine (View.read_writes_full _ _ _ _ _).trans ?_
    simp only [View.readCov_full (s := S512x1024), View.readAt_eq_ld, ld_two, ld_three, Memref.IsWhole.read_unread]
    rfl
  isplitl [H16]
  · iexists _; isplitr; swap; (· iexact H16); ipureintro
    refine (View.read_writes_full _ _ _ _ _).trans ?_
    simp only [View.readCov_full (s := S512x1024), View.readAt_eq_ld, ld_two, ld_three, Memref.IsWhole.read_unread]
  isplitl [H17]
  · iexists _; isplitr; swap; (· iexact H17); ipureintro
    refine (View.read_writes_full _ _ _ _ _).trans ?_
    simp only [View.readCov_full (s := S512x1024), View.readAt_eq_ld, ld_two, ld_three, Memref.IsWhole.read_unread]
  isplitl [H18]
  · iexists _; isplitr; swap; (· iexact H18); ipureintro
    refine (View.read_writes_full _ _ _ _ _).trans ?_
    simp only [View.readCov_full (s := S512x1024), View.readAt_eq_ld, ld_two, ld_three, Memref.IsWhole.read_unread]
  isplitl [H19]
  · iexists _; isplitr; swap; (· iexact H19); ipureintro
    refine (View.read_writes_full _ _ _ _ _).trans ?_
    simp only [View.readCov_full (s := S512x1024), View.readAt_eq_ld, ld_two, ld_three, Memref.IsWhole.read_unread]
    rfl
  isplitl [H20]
  · iexists _; isplitr; swap; (· iexact H20); ipureintro
    refine (View.read_writes_full _ _ _ _ _).trans ?_
    unfold runA.sl.v16 runA.sl.H20_1 runA.sl.v3 runA.sl.H21_1
    simp only [View.readCov_full (s := S512x1024), View.readAt_eq_ld, ld_two, ld_three, Memref.IsWhole.read_unread]
    rfl
  iexists _; isplitr; swap; (· iexact H21); ipureintro
  refine (View.read_writes_full _ _ _ _ _).trans ?_
  simp only [View.readCov_full (s := S512x1024), View.readAt_eq_ld, ld_two, ld_three, Memref.IsWhole.read_unread]

set_option maxHeartbeats 4000000 in
/-- A point within a tile: the next part of the hidden values' gradient, added to the sum. -/
theorem runM (i : grid1.Coords) (c : Dev nD) (hc1 : ¬k1_cond1 i = 1#1) (hc8 : ¬k1_cond8 i = 1#1)
    {M0 M1 M3 M12 M20 : Memref sig .tc .vmem S512x1024 .f32}
    {M2 : Memref sig .tc .vmem S512x1 .f32}
    {M4 M13 M14 M15 M16 M21 : Memref sig .tc .vmem S512x1024 .bf16}
    {M5 : Memref sig .tc .vmem S512x256 .f32}
    {M6 M7 : Memref sig .tc .vmem S1x1024x1024 .bf16}
    {M8 : Memref sig .tc .vmem S4x256x1024 .bf16}
    {M9 M11 M17 M18 M19 : Memref sig .tc .vmem S1x1024 .f32}
    {M10 : Memref sig .tc .vmem S4x256x256 .bf16}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {h18 : M18.IsWhole} {h19 : M19.IsWhole} {h20 : M20.IsWhole} {h21 : M21.IsWhole}
    {DY XH : Vec F S512x1024 .f32} {RS : Vec F S512x1 .f32} {X : Vec F S512x1024 .f32} {A : Vec F S512x1024 .bf16}
    {P : Vec F S512x256 .f32} {W1 W2 : Vec F S1x1024x1024 .bf16} {GW : Vec F S4x256x1024 .bf16}
    {GB : Vec F S1x1024 .f32} {PJ : Vec F S4x256x256 .bf16} {GN : Vec F S1x1024 .f32} {DX : Vec F S512x1024 .f32}
    {DH DZ DP DR : Vec F S512x1024 .bf16} {DG DB DL : Vec F S1x1024 .f32} {AC : Vec F S512x1024 .f32}
    {SR : Vec F S512x1024 .bf16} {Q : PUnit → sProp 𝕄} :
    iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 DH ∗ ow c M14 DZ ∗ ow c M15 DP ∗ ow c M16 DR ∗ ow c M17 DG ∗ ow c M18 DB ∗ ow c M19 DL ∗ ow c M20 AC ∗ ow c M21 SR
      ∗ (iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 (k1_pay8 SR W2 A) ∗ ow c M14 DZ ∗ ow c M15 DP ∗ ow c M16 DR ∗ ow c M17 DG ∗ ow c M18 DB ∗ ow c M19 DL ∗ ow c M20 (k1_pay9 SR W2 A AC W1) ∗ ow c M21 SR) -∗ Q ⟨⟩))
      ⊢ wp frame (wpE (defs₀ (F := F)) Variants.none c none) Set.univ (cc1_mlp_bwd_1 i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  simp only [cc1_mlp_bwd_1_eq_skeleton]; unfold cc1_mlp_bwd_1_skel
  simp only [k1_part1_eq_skeleton, k1_part2_eq_skeleton]; unfold k1_part1_skel k1_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21
  sl_exec (disch := first | sl_exact hc1 | sl_exact hc8)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]; · iapply (back h10); iexact H10
  isplitl [H11]; · iapply (back h11); iexact H11
  isplitl [H12]; · iapply (back h12); iexact H12
  isplitl [H13]
  · iexists _; isplitr; swap; (· iexact H13); ipureintro
    refine (View.read_writes_full _ _ _ _ _).trans ?_
    simp only [View.readCov_full (s := S512x1024), View.readAt_eq_ld, ld_two, ld_three, Memref.IsWhole.read_unread]
  isplitl [H14]; · iapply (back h14); iexact H14
  isplitl [H15]; · iapply (back h15); iexact H15
  isplitl [H16]; · iapply (back h16); iexact H16
  isplitl [H17]; · iapply (back h17); iexact H17
  isplitl [H18]; · iapply (back h18); iexact H18
  isplitl [H19]; · iapply (back h19); iexact H19
  isplitl [H20]
  · iexists _; isplitr; swap; (· iexact H20); ipureintro
    refine (View.read_writes_full _ _ _ _ _).trans ?_
    simp only [View.readCov_full (s := S512x1024), View.readAt_eq_ld, ld_two, ld_three, Memref.IsWhole.read_unread]
  iapply (back h21); iexact H21

set_option maxHeartbeats 4000000 in
/-- A tile's last point: the sum is stored. -/
theorem runL (i : grid1.Coords) (c : Dev nD) (hc1 : ¬k1_cond1 i = 1#1) (hc8 : k1_cond8 i = 1#1)
    {M0 M1 M3 M12 M20 : Memref sig .tc .vmem S512x1024 .f32}
    {M2 : Memref sig .tc .vmem S512x1 .f32}
    {M4 M13 M14 M15 M16 M21 : Memref sig .tc .vmem S512x1024 .bf16}
    {M5 : Memref sig .tc .vmem S512x256 .f32}
    {M6 M7 : Memref sig .tc .vmem S1x1024x1024 .bf16}
    {M8 : Memref sig .tc .vmem S4x256x1024 .bf16}
    {M9 M11 M17 M18 M19 : Memref sig .tc .vmem S1x1024 .f32}
    {M10 : Memref sig .tc .vmem S4x256x256 .bf16}
    {h0 : M0.IsWhole} {h1 : M1.IsWhole} {h2 : M2.IsWhole} {h3 : M3.IsWhole} {h4 : M4.IsWhole} {h5 : M5.IsWhole}
    {h6 : M6.IsWhole} {h7 : M7.IsWhole} {h8 : M8.IsWhole} {h9 : M9.IsWhole} {h10 : M10.IsWhole} {h11 : M11.IsWhole}
    {h12 : M12.IsWhole} {h13 : M13.IsWhole} {h14 : M14.IsWhole} {h15 : M15.IsWhole} {h16 : M16.IsWhole} {h17 : M17.IsWhole}
    {h18 : M18.IsWhole} {h19 : M19.IsWhole} {h20 : M20.IsWhole} {h21 : M21.IsWhole}
    {DY XH : Vec F S512x1024 .f32} {RS : Vec F S512x1 .f32} {X : Vec F S512x1024 .f32} {A : Vec F S512x1024 .bf16}
    {P : Vec F S512x256 .f32} {W1 W2 : Vec F S1x1024x1024 .bf16} {GW : Vec F S4x256x1024 .bf16}
    {GB : Vec F S1x1024 .f32} {PJ : Vec F S4x256x256 .bf16} {GN : Vec F S1x1024 .f32} {DX : Vec F S512x1024 .f32}
    {DH DZ DP DR : Vec F S512x1024 .bf16} {DG DB DL : Vec F S1x1024 .f32} {AC : Vec F S512x1024 .f32}
    {SR : Vec F S512x1024 .bf16} {Q : PUnit → sProp 𝕄} :
    iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 DX ∗ ow c M13 DH ∗ ow c M14 DZ ∗ ow c M15 DP ∗ ow c M16 DR ∗ ow c M17 DG ∗ ow c M18 DB ∗ ow c M19 DL ∗ ow c M20 AC ∗ ow c M21 SR
      ∗ (iprop(ow c M0 DY ∗ ow c M1 XH ∗ ow c M2 RS ∗ ow c M3 X ∗ ow c M4 A ∗ ow c M5 P ∗ ow c M6 W1 ∗ ow c M7 W2 ∗ ow c M8 GW ∗ ow c M9 GB ∗ ow c M10 PJ ∗ ow c M11 GN ∗ ow c M12 (k1_pay9 SR W2 A AC W1) ∗ ow c M13 (k1_pay8 SR W2 A) ∗ ow c M14 DZ ∗ ow c M15 DP ∗ ow c M16 DR ∗ ow c M17 DG ∗ ow c M18 DB ∗ ow c M19 DL ∗ ow c M20 (k1_pay9 SR W2 A AC W1) ∗ ow c M21 SR) -∗ Q ⟨⟩))
      ⊢ wp frame (wpE (defs₀ (F := F)) Variants.none c none) Set.univ (cc1_mlp_bwd_1 i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  simp only [cc1_mlp_bwd_1_eq_skeleton]; unfold cc1_mlp_bwd_1_skel
  simp only [k1_part1_eq_skeleton, k1_part2_eq_skeleton]; unfold k1_part1_skel k1_part2_skel
  unfold ow owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21
  sl_exec (disch := first | sl_exact hc1 | sl_exact hc8)
  sl_step
  iapply Hk
  isplitl [H0]; · iapply (back h0); iexact H0
  isplitl [H1]; · iapply (back h1); iexact H1
  isplitl [H2]; · iapply (back h2); iexact H2
  isplitl [H3]; · iapply (back h3); iexact H3
  isplitl [H4]; · iapply (back h4); iexact H4
  isplitl [H5]; · iapply (back h5); iexact H5
  isplitl [H6]; · iapply (back h6); iexact H6
  isplitl [H7]; · iapply (back h7); iexact H7
  isplitl [H8]; · iapply (back h8); iexact H8
  isplitl [H9]; · iapply (back h9); iexact H9
  isplitl [H10]; · iapply (back h10); iexact H10
  isplitl [H11]; · iapply (back h11); iexact H11
  isplitl [H12]
  · iexists _; isplitr; swap; (· iexact H12); ipureintro
    refine (View.read_writes_full _ _ _ _ _).trans ?_
    unfold runL.sl.v27 runL.sl.H20_1
    simp only [View.readCov_full (s := S512x1024), View.readAt_eq_ld, ld_two, ld_three, Memref.IsWhole.read_unread]
  isplitl [H13]
  · iexists _; isplitr; swap; (· iexact H13); ipureintro
    refine (View.read_writes_full _ _ _ _ _).trans ?_
    simp only [View.readCov_full (s := S512x1024), View.readAt_eq_ld, ld_two, ld_three, Memref.IsWhole.read_unread]
  isplitl [H14]; · iapply (back h14); iexact H14
  isplitl [H15]; · iapply (back h15); iexact H15
  isplitl [H16]; · iapply (back h16); iexact H16
  isplitl [H17]; · iapply (back h17); iexact H17
  isplitl [H18]; · iapply (back h18); iexact H18
  isplitl [H19]; · iapply (back h19); iexact H19
  isplitl [H20]
  · iexists _; isplitr; swap; (· iexact H20); ipureintro
    refine (View.read_writes_full _ _ _ _ _).trans ?_
    simp only [View.readCov_full (s := S512x1024), View.readAt_eq_ld, ld_two, ld_three, Memref.IsWhole.read_unread]
  iapply (back h21); iexact H21

end Cert.Kernel7Ideal.BodyB

end
-- ==== Proof.MlpRegB.lean ====
/- The backward region of the MLP branch: what each grid point finds and leaves. -/
module

public import proofs.«01_k».proof.Proof.MlpBodyB

@[expose] public section

set_option maxRecDepth 16384

noncomputable section

namespace Cert.Kernel7Ideal.RegB

open Cert.Kernel7Ideal Cert.Kernel7Ideal.Gen Cert.Kernel7Ideal.Base Cert.Kernel7Ideal.BodyB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F)) (c : Dev nD)

/-- A window's block of a grid point. -/
def blkAt (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of a point's tile. -/
def first (t : Fin cfg1.N) : Fin cfg1.N := ⟨t.val - t.val % 4, lt_of_le_of_lt (Nat.sub_le _ _) t.isLt⟩

theorem first_self (t : Fin cfg1.N) (h : t.val % 4 = 0) : first t = t := Fin.ext (by unfold first; dsimp only; omega)
theorem first_pred (t : Fin cfg1.N) (h : ¬t.val % 4 = 0) : first ⟨t.val - 1, by omega⟩ = first t :=
  Fin.ext (by unfold first; dsimp only; omega)
theorem first_step (t t' : Fin cfg1.N) (h : t'.val = t.val + 1) (h0 : ¬(t.val + 1) % 4 = 0) : first t' = first t :=
  Fin.ext (by unfold first; dsimp only; omega)

/-- The rows' gradient, narrowed, at a point. -/
def srAt (t : Fin cfg1.N) : Vec F S512x1024 .bf16 := (k1_pay14 (blkAt V c 0 t) (blkAt V c 1 t) (blkAt V c 2 t) (blkAt V c 11 t))
/-- The tile's rows' gradient, narrowed. -/
def sr (t : Fin cfg1.N) : Vec F S512x1024 .bf16 := srAt V c (first t)
/-- The gate argument's gradient, narrowed, of a tile's rows at its first point. -/
def gz (t : Fin cfg1.N) : Vec F S512x1024 .bf16 := k1_pay19 (dr (blkAt V c 0 t) (blkAt V c 1 t) (blkAt V c 2 t) (blkAt V c 11 t)) (zed (blkAt V c 3 t) (blkAt V c 8 t)) (blkAt V c 9 t) (blkAt V c 5 t) (part 0 (blkAt V c 10 t)) (part 1 (blkAt V c 10 t)) (part 2 (blkAt V c 10 t)) (part 3 (blkAt V c 10 t))
/-- The gated values' gradient, narrowed, of a tile's rows at its first point. -/
def gp (t : Fin cfg1.N) : Vec F S512x1024 .bf16 := k1_pay20 (dr (blkAt V c 0 t) (blkAt V c 1 t) (blkAt V c 2 t) (blkAt V c 11 t)) (zed (blkAt V c 3 t) (blkAt V c 8 t)) (blkAt V c 9 t)
/-- The rows' gradient, narrowed, at a tile's first point. -/
def gr (t : Fin cfg1.N) : Vec F S512x1024 .bf16 := k1_pay13 (blkAt V c 0 t) (blkAt V c 1 t) (blkAt V c 2 t) (blkAt V c 11 t)

/-- What a point leaves in the sum, from what it found there. -/
def accOut (t : Fin cfg1.N) (D : Vec F S512x1024 .f32) : Vec F S512x1024 .f32 :=
  k1_pay9 (sr V c t) (blkAt V c 7 t) (blkAt V c 4 t) (if t.val % 4 = 0 then (acc0 (blkAt V c 0 t) (blkAt V c 1 t) (blkAt V c 2 t) (blkAt V c 3 t) (blkAt V c 5 t) (blkAt V c 8 t) (blkAt V c 9 t) (blkAt V c 10 t) (blkAt V c 11 t)) else D) (blkAt V c 6 t)

theorem accOut_first (t : Fin cfg1.N) (h : t.val % 4 = 0) (D : Vec F S512x1024 .f32) :
    accOut V c t D = k1_pay9 (k1_pay14 (blkAt V c 0 t) (blkAt V c 1 t) (blkAt V c 2 t) (blkAt V c 11 t)) (blkAt V c 7 t) (blkAt V c 4 t) (acc0 (blkAt V c 0 t) (blkAt V c 1 t) (blkAt V c 2 t) (blkAt V c 3 t) (blkAt V c 5 t) (blkAt V c 8 t) (blkAt V c 9 t) (blkAt V c 10 t) (blkAt V c 11 t)) (blkAt V c 6 t) := by
  unfold accOut sr srAt; rw [if_pos h, first_self t h]
theorem accOut_mid (t : Fin cfg1.N) (h : ¬t.val % 4 = 0) (D : Vec F S512x1024 .f32) :
    accOut V c t D = k1_pay9 (sr V c t) (blkAt V c 7 t) (blkAt V c 4 t) D (blkAt V c 6 t) := by
  unfold accOut; rw [if_neg h]

/-- The sum before point `n`. -/
def acc : Nat → Vec F S512x1024 .f32
  | 0 => View.canon []
  | n + 1 => if h : n < cfg1.N then accOut V c ⟨n, h⟩ (acc n) else acc n

theorem acc_succ (t : Fin cfg1.N) : acc V c (t.val + 1) = accOut V c t (acc V c t.val) := by
  rw [acc, dif_pos t.isLt]

/-- What a point leaves in the gain's gradient, from what it found there, and that gradient before point `n`. -/
def sgOut (t : Fin cfg1.N) (D : Vec F S1x1024 .f32) : Vec F S1x1024 .f32 :=
  if t.val % 4 = 0 then (if t.val = 0 then k1_pay2 (k1_pay10 (blkAt V c 0 t)) (k1_pay11 (blkAt V c 1 t)) else k1_pay3 (k1_pay10 (blkAt V c 0 t)) (k1_pay11 (blkAt V c 1 t)) D) else D
def sg : Nat → Vec F S1x1024 .f32
  | 0 => View.canon []
  | n + 1 => if h : n < cfg1.N then sgOut V c ⟨n, h⟩ (sg n) else sg n
theorem sg_succ (t : Fin cfg1.N) : sg V c (t.val + 1) = sgOut V c t (sg V c t.val) := by
  rw [sg, dif_pos t.isLt]

/-- What a point leaves in the bias's gradient, from what it found there, and that gradient before point `n`. -/
def sbOut (t : Fin cfg1.N) (D : Vec F S1x1024 .f32) : Vec F S1x1024 .f32 :=
  if t.val % 4 = 0 then (if t.val = 0 then k1_pay4 (k1_pay10 (blkAt V c 0 t)) else k1_pay5 (k1_pay10 (blkAt V c 0 t)) D) else D
def sb : Nat → Vec F S1x1024 .f32
  | 0 => View.canon []
  | n + 1 => if h : n < cfg1.N then sbOut V c ⟨n, h⟩ (sb n) else sb n
theorem sb_succ (t : Fin cfg1.N) : sb V c (t.val + 1) = sbOut V c t (sb V c t.val) := by
  rw [sb, dif_pos t.isLt]

/-- What a point leaves in the gate's bias's gradient, from what it found there, and that gradient before point `n`. -/
def slOut (t : Fin cfg1.N) (D : Vec F S1x1024 .f32) : Vec F S1x1024 .f32 :=
  if t.val % 4 = 0 then (if t.val = 0 then k1_pay6 (dz (blkAt V c 0 t) (blkAt V c 1 t) (blkAt V c 2 t) (blkAt V c 3 t) (blkAt V c 5 t) (blkAt V c 8 t) (blkAt V c 9 t) (blkAt V c 10 t) (blkAt V c 11 t)) else k1_pay7 (dz (blkAt V c 0 t) (blkAt V c 1 t) (blkAt V c 2 t) (blkAt V c 3 t) (blkAt V c 5 t) (blkAt V c 8 t) (blkAt V c 9 t) (blkAt V c 10 t) (blkAt V c 11 t)) D) else D
def sl : Nat → Vec F S1x1024 .f32
  | 0 => View.canon []
  | n + 1 => if h : n < cfg1.N then slOut V c ⟨n, h⟩ (sl n) else sl n
theorem sl_succ (t : Fin cfg1.N) : sl V c (t.val + 1) = slOut V c t (sl V c t.val) := by
  rw [sl, dif_pos t.isLt]

/-! ## The grid -/

theorem cond1_iff : ∀ t : Fin cfg1.N, k1_cond1 (grid1.coords t) = 1#1 ↔ t.val % 4 = 0 := by decide +kernel
theorem cond8_iff : ∀ t : Fin cfg1.N, k1_cond8 (grid1.coords t) = 1#1 ↔ t.val % 4 = 3 := by decide +kernel
theorem cond2_iff : ∀ t : Fin cfg1.N, k1_cond2 (grid1.coords t) = 1#1 ↔ t.val < 4 := by decide +kernel
theorem cond3_iff : ∀ t : Fin cfg1.N, k1_cond3 (grid1.coords t) = 1#1 ↔ ¬t.val < 4 := by decide +kernel
theorem cond4_iff : ∀ t : Fin cfg1.N, k1_cond4 (grid1.coords t) = 1#1 ↔ t.val < 4 := by decide +kernel
theorem cond5_iff : ∀ t : Fin cfg1.N, k1_cond5 (grid1.coords t) = 1#1 ↔ ¬t.val < 4 := by decide +kernel
theorem cond6_iff : ∀ t : Fin cfg1.N, k1_cond6 (grid1.coords t) = 1#1 ↔ t.val < 4 := by decide +kernel
theorem cond7_iff : ∀ t : Fin cfg1.N, k1_cond7 (grid1.coords t) = 1#1 ↔ ¬t.val < 4 := by decide +kernel
theorem idle12 : ∀ t : Fin cfg1.N, cfg1.idle 12 (cfg1.grid.coords t) = !decide (t.val % 4 = 3) := by decide +kernel
theorem idle14 : ∀ t : Fin cfg1.N, cfg1.idle 14 (cfg1.grid.coords t) = !decide (t.val % 4 = 0) := by decide +kernel
theorem idle15 : ∀ t : Fin cfg1.N, cfg1.idle 15 (cfg1.grid.coords t) = !decide (t.val % 4 = 0) := by decide +kernel
theorem idle16 : ∀ t : Fin cfg1.N, cfg1.idle 16 (cfg1.grid.coords t) = !decide (t.val % 4 = 0) := by decide +kernel
theorem idle17 : ∀ t : Fin cfg1.N, cfg1.idle 17 (cfg1.grid.coords t) = !decide (t.val % 4 = 0) := by decide +kernel
theorem idle18 : ∀ t : Fin cfg1.N, cfg1.idle 18 (cfg1.grid.coords t) = !decide (t.val % 4 = 0) := by decide +kernel
theorem idle19 : ∀ t : Fin cfg1.N, cfg1.idle 19 (cfg1.grid.coords t) = !decide (t.val % 4 = 0) := by decide +kernel
theorem flush12 (t : Fin cfg1.N) : (cfg1.win 12).flush t = decide (t.val % 4 = 3) := Bool.eq_iff_iff.mpr ((flush1_12 t).trans decide_eq_true_iff.symm)
theorem flush14 (t : Fin cfg1.N) : (cfg1.win 14).flush t = decide (t.val % 4 = 3) := Bool.eq_iff_iff.mpr ((flush1_14 t).trans decide_eq_true_iff.symm)
theorem flush15 (t : Fin cfg1.N) : (cfg1.win 15).flush t = decide (t.val % 4 = 3) := Bool.eq_iff_iff.mpr ((flush1_15 t).trans decide_eq_true_iff.symm)
theorem flush16 (t : Fin cfg1.N) : (cfg1.win 16).flush t = decide (t.val % 4 = 3) := Bool.eq_iff_iff.mpr ((flush1_16 t).trans decide_eq_true_iff.symm)
theorem flush17 (t : Fin cfg1.N) : (cfg1.win 17).flush t = decide (t.val % 64 = 63) := Bool.eq_iff_iff.mpr ((flush1_17 t).trans decide_eq_true_iff.symm)
theorem flush18 (t : Fin cfg1.N) : (cfg1.win 18).flush t = decide (t.val % 64 = 63) := Bool.eq_iff_iff.mpr ((flush1_18 t).trans decide_eq_true_iff.symm)
theorem flush19 (t : Fin cfg1.N) : (cfg1.win 19).flush t = decide (t.val % 64 = 63) := Bool.eq_iff_iff.mpr ((flush1_19 t).trans decide_eq_true_iff.symm)
theorem lt64 (t : Fin cfg1.N) : t.val < 64 := lt_of_lt_of_eq t.isLt (show cfg1.N = 64 from by decide)

theorem fresh_tile (w : Fin cfg1.W) (hi : ∀ t : Fin cfg1.N, cfg1.idle w (cfg1.grid.coords t) = !decide (t.val % 4 = 0))
    (hf : ∀ t, (cfg1.win w).flush t = decide (t.val % 4 = 3)) (t : Fin cfg1.N) : cfg1.fresh w t.val = decide (t.val % 4 = 0) :=
  Pipeline.Cfg.fresh_tab cfg1 w (fun n => decide (n % 4 = 0)) rfl
    (fun t => by
      rw [hf, hi, Bool.eq_iff_iff]
      have := lt64 t
      simp only [decide_eq_true_eq, Bool.or_eq_true, Bool.and_eq_true, Bool.not_eq_true', decide_eq_false_iff_not]
      omega) t.val (Nat.le_of_lt t.isLt)
theorem fresh_grid (w : Fin cfg1.W) (hi : ∀ t : Fin cfg1.N, cfg1.idle w (cfg1.grid.coords t) = !decide (t.val % 4 = 0))
    (hf : ∀ t, (cfg1.win w).flush t = decide (t.val % 64 = 63)) (t : Fin cfg1.N) :
    cfg1.fresh w t.val = decide (t.val = 0 ∨ 64 ≤ t.val) :=
  Pipeline.Cfg.fresh_tab cfg1 w (fun n => decide (n = 0 ∨ 64 ≤ n)) rfl
    (fun t => by
      rw [hf, hi, Bool.eq_iff_iff]
      have := lt64 t
      simp only [decide_eq_true_eq, Bool.or_eq_true, Bool.and_eq_true, Bool.not_eq_true', decide_eq_false_iff_not]
      omega) t.val (Nat.le_of_lt t.isLt)

/-- The invariant before point `n`: the two scratches at what the points before left (at a tile's first point, at
    anything), the other scoped buffers at anything. -/
def Phi (n : Nat) : sProp 𝕄 :=
  iprop((∃ D, ⌜n % 4 = 0 ∨ D = acc V c n⌝ ∗ ow c (Memref.whole cc1_scratch0) D)
    ∗ (∃ S, ⌜∀ t : Fin cfg1.N, t.val = n → n % 4 = 0 ∨ S = sr V c t⌝ ∗ ow c (Memref.whole cc1_scratch1) S)
    ∗ Pipeline.scopedRestBut (Ix := Unit) (Name := ℕ) (U := UR sig nD τ) (Lvl := ℕ) (Val := Elt F) spec1 c [cc1_scratch0, cc1_scratch1])

/-- The region's proof data. -/
def dat : Dat τ (Elt F) Unit ℕ (UR sig nD τ) ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => blkAt V c 8 t
    | ⟨9, _⟩ => blkAt V c 9 t
    | ⟨10, _⟩ => blkAt V c 10 t
    | ⟨11, _⟩ => blkAt V c 11 t
    | ⟨12, _⟩ => accOut V c t (acc V c t.val)
    | ⟨13, _⟩ => k1_pay8 (sr V c t) (blkAt V c 7 t) (blkAt V c 4 t)
    | ⟨14, _⟩ => gz V c (first t)
    | ⟨15, _⟩ => gp V c (first t)
    | ⟨16, _⟩ => gr V c (first t)
    | ⟨17, _⟩ => sgOut V c t (sg V c t.val)
    | ⟨18, _⟩ => sbOut V c t (sb V c t.val)
    | ⟨19, _⟩ => slOut V c t (sl V c t.val)
    | ⟨_ + 20, h⟩ => absurd h (Nat.not_lt.2 (Nat.le_add_left _ _))
  Φ t := Phi V c t.val
  q _ := fullShare
  owed _ := 0

/-! ## The inputs' buffers hold the point's blocks -/

theorem before0 (t : Fin cfg1.N) (d) : (dat V c).before 0 t d = blkAt V c 0 t :=
  ((dat V c).before_in_eq_fetched 0 rfl (fun _ => rfl) (fun _ _ _ => rfl) (fun _ => rfl) t d).trans rfl
theorem before1 (t : Fin cfg1.N) (d) : (dat V c).before 1 t d = blkAt V c 1 t :=
  ((dat V c).before_in_eq_fetched 1 rfl (fun _ => rfl) (fun _ _ _ => rfl) (fun _ => rfl) t d).trans rfl
theorem before2 (t : Fin cfg1.N) (d) : (dat V c).before 2 t d = blkAt V c 2 t :=
  ((dat V c).before_in_eq_fetched 2 rfl (fun _ => rfl) (fun _ _ _ => rfl) (fun _ => rfl) t d).trans rfl
theorem before3 (t : Fin cfg1.N) (d) : (dat V c).before 3 t d = blkAt V c 3 t :=
  ((dat V c).before_in_eq_fetched 3 rfl (fun _ => rfl) (fun _ _ _ => rfl) (fun _ => rfl) t d).trans rfl
theorem before4 (t : Fin cfg1.N) (d) : (dat V c).before 4 t d = blkAt V c 4 t :=
  ((dat V c).before_in_eq_fetched 4 rfl (fun _ => rfl) (fun _ _ _ => rfl) (fun _ => rfl) t d).trans rfl
theorem before5 (t : Fin cfg1.N) (d) : (dat V c).before 5 t d = blkAt V c 5 t :=
  ((dat V c).before_in_eq_fetched 5 rfl (fun _ => rfl) (fun _ _ _ => rfl) (fun _ => rfl) t d).trans rfl
theorem before6 (t : Fin cfg1.N) (d) : (dat V c).before 6 t d = blkAt V c 6 t :=
  ((dat V c).before_in_eq_fetched 6 rfl (fun _ => rfl) (fun _ _ _ => rfl) (fun _ => rfl) t d).trans rfl
theorem before7 (t : Fin cfg1.N) (d) : (dat V c).before 7 t d = blkAt V c 7 t :=
  ((dat V c).before_in_eq_fetched 7 rfl (fun _ => rfl) (fun _ _ _ => rfl) (fun _ => rfl) t d).trans rfl
theorem before8 (t : Fin cfg1.N) (d) : (dat V c).before 8 t d = blkAt V c 8 t :=
  ((dat V c).before_in_eq_fetched 8 rfl (fun _ => rfl) (fun _ _ _ => rfl) (fun _ => rfl) t d).trans rfl
theorem before9 (t : Fin cfg1.N) (d) : (dat V c).before 9 t d = blkAt V c 9 t :=
  ((dat V c).before_in_eq_fetched 9 rfl (fun _ => rfl) (fun _ _ _ => rfl) (fun _ => rfl) t d).trans rfl
theorem before10 (t : Fin cfg1.N) (d) : (dat V c).before 10 t d = blkAt V c 10 t :=
  ((dat V c).before_in_eq_fetched 10 rfl (fun _ => rfl) (fun _ _ _ => rfl) (fun _ => rfl) t d).trans rfl
theorem before11 (t : Fin cfg1.N) (d) : (dat V c).before 11 t d = blkAt V c 11 t :=
  ((dat V c).before_in_eq_fetched 11 rfl (fun _ => rfl) (fun _ _ _ => rfl) (fun _ => rfl) t d).trans rfl

/-! ## What the body leaves of a window -/

/-- Contents that are what the data says of a window, or, where the point leaves the window alone, what it found. -/
theorem live (w : Fin cfg1.W) (t : Fin cfg1.N) (hi : cfg1.idle w (cfg1.grid.coords t) = false) {X} (e : (dat V c).after w t = X) :
    (owns (c : Thread nD τ) ((cfg1.win w).stage (cfg1.slots t w)) fullShare X : sProp 𝕄) ⊢ (dat V c).leavesExact w t := by
  subst e; unfold Dat.leavesExact; rw [hi]
theorem kept (w : Fin cfg1.W) (t : Fin cfg1.N) (hi : cfg1.idle w (cfg1.grid.coords t) = true) (hf : (cfg1.win w).flush t = false) (d) :
    (owns (c : Thread nD τ) ((cfg1.win w).stage (cfg1.slots t w)) fullShare ((dat V c).before w t d) : sProp 𝕄) ⊢ (dat V c).leavesExact w t := by
  unfold Dat.leavesExact; rw [hi]; dsimp only; rw [hf]
  iintro H; iexists d; iexact H
theorem same (w : Fin cfg1.W) (t : Fin cfg1.N) (hi : cfg1.idle w (cfg1.grid.coords t) = true) (d)
    (e : (dat V c).before w t d = (dat V c).after w t) :
    (owns (c : Thread nD τ) ((cfg1.win w).stage (cfg1.slots t w)) fullShare ((dat V c).before w t d) : sProp 𝕄) ⊢ (dat V c).leavesExact w t := by
  cases hf : (cfg1.win w).flush t
  · exact kept V c w t hi hf d
  · rw [e]; unfold Dat.leavesExact; rw [hi]; dsimp only; rw [hf]

/-- The body table's row at a point's buffers. -/
theorem defs₀_row (t : Fin cfg1.N) : defs₀ (F := F) .tc cfg1.body (cfg1.bodyArgs t (cfg1.slots t)) = bodyAt1 t := by
  unfold defs₀; rw [Defs.onTc_tc]

/-- What the body is called with at a point, and what it returns. -/
def bodyPre (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d))
    ∗ (∃ d, owns (c : Thread nD τ) (st1_18 t) fullShare ((dat V c).before 18 t d))
    ∗ (∃ d, owns (c : Thread nD τ) (st1_19 t) fullShare ((dat V c).before 19 t d)))
def bodyPost (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t
    ∗ (dat V c).leavesExact 16 t
    ∗ (dat V c).leavesExact 17 t
    ∗ (dat V c).leavesExact 18 t
    ∗ (dat V c).leavesExact 19 t)

theorem before14 (t : Fin cfg1.N) (h : ¬t.val % 4 = 0) (d) : (dat V c).before 14 t d = (dat V c).after 14 t := by
  rw [(dat V c).before_out_traj 14 rfl (fun _ _ => rfl) (fun t ht hi _ => by
    have h : ¬t.val % 4 = 0 := by rw [idle14] at hi; simpa using hi
    exact congrArg (gz V c) (first_pred t h).symm) t.val t rfl d,
    if_neg (by rw [fresh_tile 14 idle14 flush14]; simpa using h)]
  exact congrArg (gz V c) (first_pred t h)
theorem before15 (t : Fin cfg1.N) (h : ¬t.val % 4 = 0) (d) : (dat V c).before 15 t d = (dat V c).after 15 t := by
  rw [(dat V c).before_out_traj 15 rfl (fun _ _ => rfl) (fun t ht hi _ => by
    have h : ¬t.val % 4 = 0 := by rw [idle15] at hi; simpa using hi
    exact congrArg (gp V c) (first_pred t h).symm) t.val t rfl d,
    if_neg (by rw [fresh_tile 15 idle15 flush15]; simpa using h)]
  exact congrArg (gp V c) (first_pred t h)
theorem before16 (t : Fin cfg1.N) (h : ¬t.val % 4 = 0) (d) : (dat V c).before 16 t d = (dat V c).after 16 t := by
  rw [(dat V c).before_out_traj 16 rfl (fun _ _ => rfl) (fun t ht hi _ => by
    have h : ¬t.val % 4 = 0 := by rw [idle16] at hi; simpa using hi
    exact congrArg (gr V c) (first_pred t h).symm) t.val t rfl d,
    if_neg (by rw [fresh_tile 16 idle16 flush16]; simpa using h)]
  exact congrArg (gr V c) (first_pred t h)
theorem sg_pred (t : Fin cfg1.N) (h : t.val ≠ 0) : (dat V c).after 17 ⟨t.val - 1, by omega⟩ = sg V c t.val := by
  refine (sg_succ V c ⟨t.val - 1, by omega⟩).symm.trans ?_
  exact congrArg (sg V c) (by dsimp only; omega)
theorem before17 (t : Fin cfg1.N) (h : ¬t.val = 0) (d) : (dat V c).before 17 t d = sg V c t.val := by
  rw [(dat V c).before_out_traj 17 rfl (fun _ _ => rfl) (fun t ht hi _ => by
    have h : ¬t.val % 4 = 0 := by rw [idle17] at hi; simpa using hi
    rw [sg_pred V c t ht]
    exact if_neg h) t.val t rfl d,
    if_neg (by have := lt64 t; rw [fresh_grid 17 idle17 flush17]; simp; omega)]
  exact sg_pred V c t h
theorem keeps17 (t : Fin cfg1.N) (h : ¬t.val % 4 = 0) (d) : (dat V c).before 17 t d = (dat V c).after 17 t := by
  rw [before17 V c t (by omega)]
  exact (if_neg h).symm
theorem sb_pred (t : Fin cfg1.N) (h : t.val ≠ 0) : (dat V c).after 18 ⟨t.val - 1, by omega⟩ = sb V c t.val := by
  refine (sb_succ V c ⟨t.val - 1, by omega⟩).symm.trans ?_
  exact congrArg (sb V c) (by dsimp only; omega)
theorem before18 (t : Fin cfg1.N) (h : ¬t.val = 0) (d) : (dat V c).before 18 t d = sb V c t.val := by
  rw [(dat V c).before_out_traj 18 rfl (fun _ _ => rfl) (fun t ht hi _ => by
    have h : ¬t.val % 4 = 0 := by rw [idle18] at hi; simpa using hi
    rw [sb_pred V c t ht]
    exact if_neg h) t.val t rfl d,
    if_neg (by have := lt64 t; rw [fresh_grid 18 idle18 flush18]; simp; omega)]
  exact sb_pred V c t h
theorem keeps18 (t : Fin cfg1.N) (h : ¬t.val % 4 = 0) (d) : (dat V c).before 18 t d = (dat V c).after 18 t := by
  rw [before18 V c t (by omega)]
  exact (if_neg h).symm
theorem sl_pred (t : Fin cfg1.N) (h : t.val ≠ 0) : (dat V c).after 19 ⟨t.val - 1, by omega⟩ = sl V c t.val := by
  refine (sl_succ V c ⟨t.val - 1, by omega⟩).symm.trans ?_
  exact congrArg (sl V c) (by dsimp only; omega)
theorem before19 (t : Fin cfg1.N) (h : ¬t.val = 0) (d) : (dat V c).before 19 t d = sl V c t.val := by
  rw [(dat V c).before_out_traj 19 rfl (fun _ _ => rfl) (fun t ht hi _ => by
    have h : ¬t.val % 4 = 0 := by rw [idle19] at hi; simpa using hi
    rw [sl_pred V c t ht]
    exact if_neg h) t.val t rfl d,
    if_neg (by have := lt64 t; rw [fresh_grid 19 idle19 flush19]; simp; omega)]
  exact sl_pred V c t h
theorem keeps19 (t : Fin cfg1.N) (h : ¬t.val % 4 = 0) (d) : (dat V c).before 19 t d = (dat V c).after 19 t := by
  rw [before19 V c t (by omega)]
  exact (if_neg h).symm

/-! ## The body at every point -/

/-- What a point leaves, from the values of the windows' buffers and of the two scratches. -/
theorem settle (t : Fin cfg1.N) {X12 X13 X14 X15 X16 X17 X18 X19 D S} (hD : D = acc V c (t.val + 1)) (hS : S = sr V c t)
    (h12 : (owns (c : Thread nD τ) (st1_12 t) fullShare X12 : sProp 𝕄) ⊢ (dat V c).leavesExact 12 t)
    (h13 : (owns (c : Thread nD τ) (st1_13 t) fullShare X13 : sProp 𝕄) ⊢ (dat V c).leavesExact 13 t)
    (h14 : (owns (c : Thread nD τ) (st1_14 t) fullShare X14 : sProp 𝕄) ⊢ (dat V c).leavesExact 14 t)
    (h15 : (owns (c : Thread nD τ) (st1_15 t) fullShare X15 : sProp 𝕄) ⊢ (dat V c).leavesExact 15 t)
    (h16 : (owns (c : Thread nD τ) (st1_16 t) fullShare X16 : sProp 𝕄) ⊢ (dat V c).leavesExact 16 t)
    (h17 : (owns (c : Thread nD τ) (st1_17 t) fullShare X17 : sProp 𝕄) ⊢ (dat V c).leavesExact 17 t)
    (h18 : (owns (c : Thread nD τ) (st1_18 t) fullShare X18 : sProp 𝕄) ⊢ (dat V c).leavesExact 18 t)
    (h19 : (owns (c : Thread nD τ) (st1_19 t) fullShare X19 : sProp 𝕄) ⊢ (dat V c).leavesExact 19 t) :
    iprop(Pipeline.scopedRestBut (Ix := Unit) (Name := ℕ) (U := UR sig nD τ) (Lvl := ℕ) (Val := Elt F) spec1 c [cc1_scratch0, cc1_scratch1]
      ∗ (dat V c).owesAt () t.castSucc ∗ ow c (st1_0 t) (blkAt V c 0 t) ∗ ow c (st1_1 t) (blkAt V c 1 t) ∗ ow c (st1_2 t) (blkAt V c 2 t) ∗ ow c (st1_3 t) (blkAt V c 3 t) ∗ ow c (st1_4 t) (blkAt V c 4 t) ∗ ow c (st1_5 t) (blkAt V c 5 t) ∗ ow c (st1_6 t) (blkAt V c 6 t) ∗ ow c (st1_7 t) (blkAt V c 7 t) ∗ ow c (st1_8 t) (blkAt V c 8 t) ∗ ow c (st1_9 t) (blkAt V c 9 t) ∗ ow c (st1_10 t) (blkAt V c 10 t) ∗ ow c (st1_11 t) (blkAt V c 11 t) ∗ ow c (st1_12 t) X12 ∗ ow c (st1_13 t) X13 ∗ ow c (st1_14 t) X14 ∗ ow c (st1_15 t) X15 ∗ ow c (st1_16 t) X16 ∗ ow c (st1_17 t) X17 ∗ ow c (st1_18 t) X18 ∗ ow c (st1_19 t) X19
      ∗ ow c (Memref.whole cc1_scratch0) D ∗ ow c (Memref.whole cc1_scratch1) S) ⊢ bodyPost V c t := by
  subst hD; subst hS
  unfold bodyPost
  rw [show (dat V c).Φ t.succ = Phi V c (t.val + 1) from rfl, show (dat V c).owesAt () t.succ = (dat V c).owesAt () t.castSucc from rfl]
  unfold Phi
  iintro ⟨Hrest, Howes, H0, H1, H2, H3, H4, H5, H6, H7, H8, H9, H10, H11, H12, H13, H14, H15, H16, H17, H18, H19, HD, HS⟩
  isplitl [HD HS Hrest]
  · isplitl [HD]
    · iexists _; isplitr; swap; (· iexact HD)
      ipureintro; exact .inr rfl
    isplitl [HS]
    · iexists _; isplitr; swap; (· iexact HS)
      ipureintro; intro t' ht'
      rcases Nat.decEq ((t.val + 1) % 4) 0 with h0 | h0
      · exact .inr (congrArg (srAt V c) (first_step t t' ht' h0).symm)
      · exact .inl h0
    iexact Hrest
  isplitl [Howes]; · iexact Howes
  isplitl [H0]; · iapply (live V c 0 t rfl rfl); iexact H0
  isplitl [H1]; · iapply (live V c 1 t rfl rfl); iexact H1
  isplitl [H2]; · iapply (live V c 2 t rfl rfl); iexact H2
  isplitl [H3]; · iapply (live V c 3 t rfl rfl); iexact H3
  isplitl [H4]; · iapply (live V c 4 t rfl rfl); iexact H4
  isplitl [H5]; · iapply (live V c 5 t rfl rfl); iexact H5
  isplitl [H6]; · iapply (live V c 6 t rfl rfl); iexact H6
  isplitl [H7]; · iapply (live V c 7 t rfl rfl); iexact H7
  isplitl [H8]; · iapply (live V c 8 t rfl rfl); iexact H8
  isplitl [H9]; · iapply (live V c 9 t rfl rfl); iexact H9
  isplitl [H10]; · iapply (live V c 10 t rfl rfl); iexact H10
  isplitl [H11]; · iapply (live V c 11 t rfl rfl); iexact H11
  isplitl [H12]; · iapply h12; iexact H12
  isplitl [H13]; · iapply h13; iexact H13
  isplitl [H14]; · iapply h14; iexact H14
  isplitl [H15]; · iapply h15; iexact H15
  isplitl [H16]; · iapply h16; iexact H16
  isplitl [H17]; · iapply h17; iexact H17
  isplitl [H18]; · iapply h18; iexact H18
  iapply h19; iexact H19

set_option maxHeartbeats 4000000 in
/-- The first point. -/
theorem bodyF0 (t : Fin cfg1.N) (h4 : t.val = 0) :
    bodyPre V c t ⊢ wp frame (wpE (defs₀ (F := F)) Variants.none c none) Set.univ (bodyAt1 t) (fun _ => bodyPost V c t) := by
  unfold bodyPre bodyAt1
  rw [show (dat V c).Φ t.castSucc = Phi V c t.val from rfl]
  simp only [before0, before1, before2, before3, before4, before5, before6, before7, before8, before9, before10, before11]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have h : t.val % 4 = 0 := by omega
  have e := accOut_first V c t h (acc V c t.val)
  iapply (runF (grid1.coords t) c ((cond1_iff t).mpr h) (fun q => absurd ((cond8_iff t).mp q) (by omega)) ((cond2_iff t).mpr (by omega)) (fun q => absurd ((cond3_iff t).mp q) (by omega)) ((cond4_iff t).mpr (by omega)) (fun q => absurd ((cond5_iff t).mp q) (by omega)) ((cond6_iff t).mpr (by omega)) (fun q => absurd ((cond7_iff t).mp q) (by omega)))
  iframe H0 H1 H2 H3 H4 H5 H6 H7 H8 H9 H10 H11 H12 H13 H14 H15 H16 H17 H18 H19 HD HS
  iintro HP
  iapply (settle V c t (e.symm.trans (acc_succ V c t).symm) ((congrArg (srAt V c) (first_self t h)).symm)
    (kept V c 12 t (by rw [idle12]; simp [h]) (by rw [flush12]; simp; omega) d12)
    (live V c 13 t rfl (show (dat V c).after 13 t = k1_pay8 (k1_pay14 (blkAt V c 0 t) (blkAt V c 1 t) (blkAt V c 2 t) (blkAt V c 11 t)) (blkAt V c 7 t) (blkAt V c 4 t) from congrArg (fun s => k1_pay8 (srAt V c s) (blkAt V c 7 t) (blkAt V c 4 t)) (first_self t h)))
    (live V c 14 t (by rw [idle14]; simp [h]) (show (dat V c).after 14 t = gz V c t from congrArg (gz V c) (first_self t h)))
    (live V c 15 t (by rw [idle15]; simp [h]) (show (dat V c).after 15 t = gp V c t from congrArg (gp V c) (first_self t h)))
    (live V c 16 t (by rw [idle16]; simp [h]) (show (dat V c).after 16 t = gr V c t from congrArg (gr V c) (first_self t h)))
    (live V c 17 t (by rw [idle17]; simp [h]) (show (dat V c).after 17 t = k1_pay2 (k1_pay10 (blkAt V c 0 t)) (k1_pay11 (blkAt V c 1 t)) from (if_pos h).trans (if_pos h4)))
    (live V c 18 t (by rw [idle18]; simp [h]) (show (dat V c).after 18 t = k1_pay4 (k1_pay10 (blkAt V c 0 t)) from (if_pos h).trans (if_pos h4)))
    (live V c 19 t (by rw [idle19]; simp [h]) (show (dat V c).after 19 t = k1_pay6 (dz (blkAt V c 0 t) (blkAt V c 1 t) (blkAt V c 2 t) (blkAt V c 3 t) (blkAt V c 5 t) (blkAt V c 8 t) (blkAt V c 9 t) (blkAt V c 10 t) (blkAt V c 11 t)) from (if_pos h).trans (if_pos h4))))
  isplitl [Hrest]; · iexact Hrest
  isplitl [Howes]; · iexact Howes
  iexact HP

set_option maxHeartbeats 4000000 in
/-- Any other tile's first point. -/
theorem bodyA (t : Fin cfg1.N) (h : t.val % 4 = 0) (h4 : ¬t.val = 0) :
    bodyPre V c t ⊢ wp frame (wpE (defs₀ (F := F)) Variants.none c none) Set.univ (bodyAt1 t) (fun _ => bodyPost V c t) := by
  unfold bodyPre bodyAt1
  rw [show (dat V c).Φ t.castSucc = Phi V c t.val from rfl]
  simp only [before0, before1, before2, before3, before4, before5, before6, before7, before8, before9, before10, before11]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  rw [before17 V c t h4, before18 V c t h4, before19 V c t h4]
  have e := accOut_first V c t h (acc V c t.val)
  iapply (runA (grid1.coords t) c ((cond1_iff t).mpr h) (fun q => absurd ((cond8_iff t).mp q) (by omega)) (fun q => absurd ((cond2_iff t).mp q) (by omega)) ((cond3_iff t).mpr (by omega)) (fun q => absurd ((cond4_iff t).mp q) (by omega)) ((cond5_iff t).mpr (by omega)) (fun q => absurd ((cond6_iff t).mp q) (by omega)) ((cond7_iff t).mpr (by omega)))
  iframe H0 H1 H2 H3 H4 H5 H6 H7 H8 H9 H10 H11 H12 H13 H14 H15 H16 H17 H18 H19 HD HS
  iintro HP
  iapply (settle V c t (e.symm.trans (acc_succ V c t).symm) ((congrArg (srAt V c) (first_self t h)).symm)
    (kept V c 12 t (by rw [idle12]; simp [h]) (by rw [flush12]; simp; omega) d12)
    (live V c 13 t rfl (show (dat V c).after 13 t = k1_pay8 (k1_pay14 (blkAt V c 0 t) (blkAt V c 1 t) (blkAt V c 2 t) (blkAt V c 11 t)) (blkAt V c 7 t) (blkAt V c 4 t) from congrArg (fun s => k1_pay8 (srAt V c s) (blkAt V c 7 t) (blkAt V c 4 t)) (first_self t h)))
    (live V c 14 t (by rw [idle14]; simp [h]) (show (dat V c).after 14 t = gz V c t from congrArg (gz V c) (first_self t h)))
    (live V c 15 t (by rw [idle15]; simp [h]) (show (dat V c).after 15 t = gp V c t from congrArg (gp V c) (first_self t h)))
    (live V c 16 t (by rw [idle16]; simp [h]) (show (dat V c).after 16 t = gr V c t from congrArg (gr V c) (first_self t h)))
    (live V c 17 t (by rw [idle17]; simp [h]) (show (dat V c).after 17 t = k1_pay3 (k1_pay10 (blkAt V c 0 t)) (k1_pay11 (blkAt V c 1 t)) (sg V c t.val) from (if_pos h).trans (if_neg h4)))
    (live V c 18 t (by rw [idle18]; simp [h]) (show (dat V c).after 18 t = k1_pay5 (k1_pay10 (blkAt V c 0 t)) (sb V c t.val) from (if_pos h).trans (if_neg h4)))
    (live V c 19 t (by rw [idle19]; simp [h]) (show (dat V c).after 19 t = k1_pay7 (dz (blkAt V c 0 t) (blkAt V c 1 t) (blkAt V c 2 t) (blkAt V c 3 t) (blkAt V c 5 t) (blkAt V c 8 t) (blkAt V c 9 t) (blkAt V c 10 t) (blkAt V c 11 t)) (sl V c t.val) from (if_pos h).trans (if_neg h4))))
  isplitl [Hrest]; · iexact Hrest
  isplitl [Howes]; · iexact Howes
  iexact HP

set_option maxHeartbeats 4000000 in
/-- A point within a tile. -/
theorem bodyM (t : Fin cfg1.N) (h : ¬t.val % 4 = 0) (h3 : ¬t.val % 4 = 3) :
    bodyPre V c t ⊢ wp frame (wpE (defs₀ (F := F)) Variants.none c none) Set.univ (bodyAt1 t) (fun _ => bodyPost V c t) := by
  unfold bodyPre bodyAt1
  rw [show (dat V c).Φ t.castSucc = Phi V c t.val from rfl]
  simp only [before0, before1, before2, before3, before4, before5, before6, before7, before8, before9, before10, before11]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  obtain rfl := hD.resolve_left h
  obtain rfl := (hS t rfl).resolve_left h
  have e := accOut_mid V c t h (acc V c t.val)
  iapply (runM (grid1.coords t) c (fun h1 => h ((cond1_iff t).mp h1)) (fun h2 => h3 ((cond8_iff t).mp h2)))
  iframe H0 H1 H2 H3 H4 H5 H6 H7 H8 H9 H10 H11 H12 H13 H14 H15 H16 H17 H18 H19 HD HS
  iintro HP
  iapply (settle V c t (e.symm.trans (acc_succ V c t).symm) rfl
    (kept V c 12 t (by rw [idle12]; simp [h3]) (by rw [flush12]; simp; omega) d12)
    (live V c 13 t rfl rfl)
    (same V c 14 t (by rw [idle14]; simp [h]) d14 (before14 V c t h d14))
    (same V c 15 t (by rw [idle15]; simp [h]) d15 (before15 V c t h d15))
    (same V c 16 t (by rw [idle16]; simp [h]) d16 (before16 V c t h d16))
    (same V c 17 t (by rw [idle17]; simp [h]) d17 (keeps17 V c t h d17))
    (same V c 18 t (by rw [idle18]; simp [h]) d18 (keeps18 V c t h d18))
    (same V c 19 t (by rw [idle19]; simp [h]) d19 (keeps19 V c t h d19)))
  isplitl [Hrest]; · iexact Hrest
  isplitl [Howes]; · iexact Howes
  iexact HP

set_option maxHeartbeats 4000000 in
/-- A tile's last point. -/
theorem bodyL (t : Fin cfg1.N) (h3 : t.val % 4 = 3) :
    bodyPre V c t ⊢ wp frame (wpE (defs₀ (F := F)) Variants.none c none) Set.univ (bodyAt1 t) (fun _ => bodyPost V c t) := by
  unfold bodyPre bodyAt1
  rw [show (dat V c).Φ t.castSucc = Phi V c t.val from rfl]
  simp only [before0, before1, before2, before3, before4, before5, before6, before7, before8, before9, before10, before11]
  unfold Phi
  iintro ⟨⟨⟨%D, %hD, HD⟩, ⟨%S, %hS, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have h : ¬t.val % 4 = 0 := by omega
  obtain rfl := hD.resolve_left h
  obtain rfl := (hS t rfl).resolve_left h
  have e := accOut_mid V c t h (acc V c t.val)
  iapply (runL (grid1.coords t) c (fun h1 => h ((cond1_iff t).mp h1)) ((cond8_iff t).mpr h3))
  iframe H0 H1 H2 H3 H4 H5 H6 H7 H8 H9 H10 H11 H12 H13 H14 H15 H16 H17 H18 H19 HD HS
  iintro HP
  iapply (settle V c t (e.symm.trans (acc_succ V c t).symm) rfl
    (live V c 12 t (by rw [idle12]; simp [h3]) (show (dat V c).after 12 t = (k1_pay9 (sr V c t) (blkAt V c 7 t) (blkAt V c 4 t) (acc V c t.val) (blkAt V c 6 t)) from e))
    (live V c 13 t rfl rfl)
    (same V c 14 t (by rw [idle14]; simp [h]) d14 (before14 V c t h d14))
    (same V c 15 t (by rw [idle15]; simp [h]) d15 (before15 V c t h d15))
    (same V c 16 t (by rw [idle16]; simp [h]) d16 (before16 V c t h d16))
    (same V c 17 t (by rw [idle17]; simp [h]) d17 (keeps17 V c t h d17))
    (same V c 18 t (by rw [idle18]; simp [h]) d18 (keeps18 V c t h d18))
    (same V c 19 t (by rw [idle19]; simp [h]) d19 (keeps19 V c t h d19)))
  isplitl [Hrest]; · iexact Hrest
  isplitl [Howes]; · iexact Howes
  iexact HP

/-- The body's obligation at every point. -/
theorem body_obligation : BodyObligation (dat V c) (defs₀ (F := F)) Variants.none () Set.univ := fun t => by
  rw [bigSep_W1, bigSep_W1, defs₀_row]
  refine triple_restated (?_ : bodyPre V c t ⊢ wp frame (wpE (defs₀ (F := F)) Variants.none c none) Set.univ (bodyAt1 t) (fun _ => bodyPost V c t)) rfl .rfl fun _ => .rfl
  by_cases h : t.val % 4 = 0
  · by_cases h4 : t.val = 0
    · exact bodyF0 V c t h4
    · exact bodyA V c t h h4
  by_cases h3 : t.val % 4 = 3
  · exact bodyL V c t h3
  · exact bodyM V c t h h3

end Cert.Kernel7Ideal.RegB

end
-- ==== Proof.MlpRun.lean ====
/- The whole program of the MLP branch: the forward region, the backward region. -/
module

public import proofs.«01_k».proof.Proof.MlpRegF
public import proofs.«01_k».proof.Proof.MlpRegB
public import Idealize.ShloMosaic.Lib.Pipeline.RegionsLoop

@[expose] public section

set_option maxRecDepth 16384

noncomputable section

namespace Cert.Kernel7Ideal.Run

open Cert.Kernel7Ideal Cert.Kernel7Ideal.Gen Cert.Kernel7Ideal.Base
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What the forward region leaves in its results. -/
def resY (c : Dev nD) : Buf (Elt F) ((c : Thread nD τ).loc main_v0_0) := (RegF.dat (V0 m) c).arrAt 10 cfg0.N
def resXH (c : Dev nD) : Buf (Elt F) ((c : Thread nD τ).loc main_v0_1) := (RegF.dat (V0 m) c).arrAt 11 cfg0.N
def resRS (c : Dev nD) : Buf (Elt F) ((c : Thread nD τ).loc main_v0_2) := (RegF.dat (V0 m) c).arrAt 12 cfg0.N
def resA (c : Dev nD) : Buf (Elt F) ((c : Thread nD τ).loc main_v0_3) := (RegF.dat (V0 m) c).arrAt 13 cfg0.N
def resXB (c : Dev nD) : Buf (Elt F) ((c : Thread nD τ).loc main_v0_4) := (RegF.dat (V0 m) c).arrAt 14 cfg0.N
def resLS (c : Dev nD) : Buf (Elt F) ((c : Thread nD τ).loc main_v0_5) := (RegF.dat (V0 m) c).arrAt 15 cfg0.N

/-- A core's buffers after the forward region. -/
def A2 (c : Dev nD) : Valuation τ sig (Elt F) :=
  Function.update (Function.update (Function.update (Function.update (Function.update (Function.update (V0 m c) main_v0_0 (resY m c)) main_v0_1 (resXH m c)) main_v0_2 (resRS m c)) main_v0_3 (resA m c)) main_v0_4 (resXB m c)) main_v0_5 (resLS m c)

/-- What the backward region leaves in its results. -/
def resDX (c : Dev nD) : Buf (Elt F) ((c : Thread nD τ).loc main_v1_0) := (RegB.dat (A2 m) c).arrAt 12 cfg1.N
def resDH (c : Dev nD) : Buf (Elt F) ((c : Thread nD τ).loc main_v1_1) := (RegB.dat (A2 m) c).arrAt 13 cfg1.N
def resDZ (c : Dev nD) : Buf (Elt F) ((c : Thread nD τ).loc main_v1_2) := (RegB.dat (A2 m) c).arrAt 14 cfg1.N
def resDP (c : Dev nD) : Buf (Elt F) ((c : Thread nD τ).loc main_v1_3) := (RegB.dat (A2 m) c).arrAt 15 cfg1.N
def resDR (c : Dev nD) : Buf (Elt F) ((c : Thread nD τ).loc main_v1_4) := (RegB.dat (A2 m) c).arrAt 16 cfg1.N
def resDG (c : Dev nD) : Buf (Elt F) ((c : Thread nD τ).loc main_v1_5) := (RegB.dat (A2 m) c).arrAt 17 cfg1.N
def resDB (c : Dev nD) : Buf (Elt F) ((c : Thread nD τ).loc main_v1_6) := (RegB.dat (A2 m) c).arrAt 18 cfg1.N
def resDL (c : Dev nD) : Buf (Elt F) ((c : Thread nD τ).loc main_v1_7) := (RegB.dat (A2 m) c).arrAt 19 cfg1.N

/-- A core's buffers after the backward region. -/
def A3 (c : Dev nD) : Valuation τ sig (Elt F) :=
  Function.update (Function.update (Function.update (Function.update (Function.update (Function.update (Function.update (Function.update (A2 m c) main_v1_0 (resDX m c)) main_v1_1 (resDH m c)) main_v1_2 (resDZ m c)) main_v1_3 (resDP m c)) main_v1_4 (resDR m c)) main_v1_5 (resDG m c)) main_v1_6 (resDB m c)) main_v1_7 (resDL m c)

theorem A2_of (c : Dev nD) (r : Ref sig .tc) (h : r ∉ ([main_v0_0, main_v0_1, main_v0_2, main_v0_3, main_v0_4, main_v0_5] : List (Ref sig .tc))) : A2 m c r = V0 m c r := by
  simp only [List.mem_cons, not_or] at h
  obtain ⟨h0, h1, h2, h3, h4, h5, -⟩ := h
  unfold A2
  rw [Function.update_of_ne (StableHlo.devRef_ne_of_ne h5), Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_of_ne (StableHlo.devRef_ne_of_ne h0)]
theorem A2_Y (c : Dev nD) : A2 m c main_v0_0 = resY m c := by
  unfold A2
  repeat rw [Function.update_of_ne (StableHlo.devRef_ne_of_ne (by decide))]
  exact Function.update_self ..
theorem A2_XH (c : Dev nD) : A2 m c main_v0_1 = resXH m c := by
  unfold A2
  repeat rw [Function.update_of_ne (StableHlo.devRef_ne_of_ne (by decide))]
  exact Function.update_self ..
theorem A2_RS (c : Dev nD) : A2 m c main_v0_2 = resRS m c := by
  unfold A2
  repeat rw [Function.update_of_ne (StableHlo.devRef_ne_of_ne (by decide))]
  exact Function.update_self ..
theorem A2_A (c : Dev nD) : A2 m c main_v0_3 = resA m c := by
  unfold A2
  repeat rw [Function.update_of_ne (StableHlo.devRef_ne_of_ne (by decide))]
  exact Function.update_self ..
theorem A2_XB (c : Dev nD) : A2 m c main_v0_4 = resXB m c := by
  unfold A2
  rw [Function.update_of_ne (StableHlo.devRef_ne_of_ne (by decide)), Function.update_self]
theorem A2_LS (c : Dev nD) : A2 m c main_v0_5 = resLS m c := by
  unfold A2
  rw [Function.update_self]

theorem A3_of (c : Dev nD) (r : Ref sig .tc) (h : r ∉ ([main_v1_0, main_v1_1, main_v1_2, main_v1_3, main_v1_4, main_v1_5, main_v1_6, main_v1_7] : List (Ref sig .tc))) : A3 m c r = A2 m c r := by
  simp only [List.mem_cons, not_or] at h
  obtain ⟨h0, h1, h2, h3, h4, h5, h6, h7, -⟩ := h
  unfold A3
  rw [Function.update_of_ne (StableHlo.devRef_ne_of_ne h7), Function.update_of_ne (StableHlo.devRef_ne_of_ne h6), Function.update_of_ne (StableHlo.devRef_ne_of_ne h5), Function.update_of_ne (StableHlo.devRef_ne_of_ne h4), Function.update_of_ne (StableHlo.devRef_ne_of_ne h3), Function.update_of_ne (StableHlo.devRef_ne_of_ne h2), Function.update_of_ne (StableHlo.devRef_ne_of_ne h1), Function.update_of_ne (StableHlo.devRef_ne_of_ne h0)]
theorem A3_DX (c : Dev nD) : A3 m c main_v1_0 = resDX m c := by
  unfold A3
  repeat rw [Function.update_of_ne (StableHlo.devRef_ne_of_ne (by decide))]
  exact Function.update_self ..
theorem A3_DH (c : Dev nD) : A3 m c main_v1_1 = resDH m c := by
  unfold A3
  repeat rw [Function.update_of_ne (StableHlo.devRef_ne_of_ne (by decide))]
  exact Function.update_self ..
theorem A3_DZ (c : Dev nD) : A3 m c main_v1_2 = resDZ m c := by
  unfold A3
  repeat rw [Function.update_of_ne (StableHlo.devRef_ne_of_ne (by decide))]
  exact Function.update_self ..
theorem A3_DP (c : Dev nD) : A3 m c main_v1_3 = resDP m c := by
  unfold A3
  repeat rw [Function.update_of_ne (StableHlo.devRef_ne_of_ne (by decide))]
  exact Function.update_self ..
theorem A3_DR (c : Dev nD) : A3 m c main_v1_4 = resDR m c := by
  unfold A3
  repeat rw [Function.update_of_ne (StableHlo.devRef_ne_of_ne (by decide))]
  exact Function.update_self ..
theorem A3_DG (c : Dev nD) : A3 m c main_v1_5 = resDG m c := by
  unfold A3
  repeat rw [Function.update_of_ne (StableHlo.devRef_ne_of_ne (by decide))]
  exact Function.update_self ..
theorem A3_DB (c : Dev nD) : A3 m c main_v1_6 = resDB m c := by
  unfold A3
  rw [Function.update_of_ne (StableHlo.devRef_ne_of_ne (by decide)), Function.update_self]
theorem A3_DL (c : Dev nD) : A3 m c main_v1_7 = resDL m c := by
  unfold A3
  rw [Function.update_self]

/-- No item writes an argument. -/
theorem A3_arg (c : Dev nD) (r : Ref sig .tc) (h : r ∉ ([main_v1_0, main_v1_1, main_v1_2, main_v1_3, main_v1_4, main_v1_5, main_v1_6, main_v1_7] : List (Ref sig .tc))) (h' : r ∉ ([main_v0_0, main_v0_1, main_v0_2, main_v0_3, main_v0_4, main_v0_5] : List (Ref sig .tc))) :
    A3 m c r = m ((c : Thread nD τ).loc r) :=
  (A3_of m c r h).trans ((A2_of m c r h').trans rfl)

/-! ## The regions' records -/

/-- The proof data of the two regions. -/
def pdats : (p : Fin 2) → (c : Dev nD) → Dat τ (Elt F) Unit ℕ (UR sig nD τ) ℕ (Pipeline.pin (pcfgs (F := F)) adm p) c
  | ⟨0, _⟩ => fun c => RegF.dat (V0 m) c
  | ⟨1, _⟩ => fun c => RegB.dat (A2 m) c

/-- No core owes another anything: no level is assigned. -/
abbrev L : GSem nD τ sig → Finset Unit := fun _ => ∅
abbrev lv : GSem nD τ sig → Unit → ℕ := fun _ _ => 0

/-- A core owing nothing. -/
abbrev rest (c : Dev nD) : sProp 𝕄 := iprop(∃ W, owes (c : Thread nD τ) (0 : CellTallies nD τ sig Unit) W)

theorem scratch_eq (c : Dev nD) (r : Ref sig .tc) : (owns (c : Thread nD τ) (Memref.whole r) fullShare : _ → sProp 𝕄) = fun X => iprop(((c : Thread nD τ).loc r) ↦{fullShare} X) := by
  funext X
  rw [owns_whole]

theorem Phi0_in (c : Dev nD) : (Pipeline.scopedRest (Ix := Unit) (Name := ℕ) (U := UR sig nD τ) (Lvl := ℕ) (Val := Elt F) spec0 c : sProp 𝕄)
    ⊢ RegF.Phi (V0 m) c 0 := by
  unfold RegF.Phi Base.ow
  rw [scopedRest0_split, scratch_eq, scratch_eq]
  iintro ⟨⟨⟨%f, H⟩, ⟨%g, H'⟩⟩, Hr⟩
  isplitl [H]
  · iexists f; isplitr; · ipureintro; exact .inl rfl
    iexact H
  isplitl [H']
  · iexists g; isplitr; · ipureintro; exact fun _ _ => .inl rfl
    iexact H'
  iexact Hr

theorem Phi0_out (c : Dev nD) (n : Nat) : RegF.Phi (V0 m) c n
    ⊢ (Pipeline.scopedRest (Ix := Unit) (Name := ℕ) (U := UR sig nD τ) (Lvl := ℕ) (Val := Elt F) spec0 c : sProp 𝕄) := by
  unfold RegF.Phi Base.ow
  rw [scopedRest0_split, scratch_eq, scratch_eq]
  iintro ⟨⟨%f, -, H⟩, ⟨%g, -, H'⟩, Hr⟩
  isplitl [H H']
  · isplitl [H]
    · iexists f; iexact H
    iexists g; iexact H'
  iexact Hr

theorem Phi1_in (c : Dev nD) : (Pipeline.scopedRest (Ix := Unit) (Name := ℕ) (U := UR sig nD τ) (Lvl := ℕ) (Val := Elt F) spec1 c : sProp 𝕄)
    ⊢ RegB.Phi (A2 m) c 0 := by
  unfold RegB.Phi Base.ow
  rw [scopedRest1_split, scratch_eq, scratch_eq]
  iintro ⟨⟨⟨%f, H⟩, ⟨%g, H'⟩⟩, Hr⟩
  isplitl [H]
  · iexists f; isplitr; · ipureintro; exact .inl rfl
    iexact H
  isplitl [H']
  · iexists g; isplitr; · ipureintro; exact fun _ _ => .inl rfl
    iexact H'
  iexact Hr

theorem Phi1_out (c : Dev nD) (n : Nat) : RegB.Phi (A2 m) c n
    ⊢ (Pipeline.scopedRest (Ix := Unit) (Name := ℕ) (U := UR sig nD τ) (Lvl := ℕ) (Val := Elt F) spec1 c : sProp 𝕄) := by
  unfold RegB.Phi Base.ow
  rw [scopedRest1_split, scratch_eq, scratch_eq]
  iintro ⟨⟨%f, -, H⟩, ⟨%g, -, H'⟩, Hr⟩
  isplitl [H H']
  · isplitl [H]
    · iexists f; iexact H
    iexists g; iexact H'
  iexact Hr

set_option maxHeartbeats 4000000 in
set_option backward.isDefEq.respectTransparency.types false in
/-- The forward region, from the buffers at launch to the ones with its results. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (RegF.body_obligation (V0 m) c).loose
  hwaits := Pipeline.hwaits_of_owed_zero _ _ _ _ L lv 0 fun _ _ => rfl
  pre c := iprop(unscopedBufs c (fun b => V0 m c b) ∗ rest c)
  post c := iprop(unscopedBufs c (fun b => A2 m c b) ∗ rest c)
  X _ := BI.emp
  Y _ := BI.emp
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = RegF.Phi (V0 m) c 0 from rfl]
    iintro ⟨-, -, Hr⟩; iapply (Phi0_in m c); iexact Hr
  hout c := by
    rw [Pipeline.ownSems0_none, show (pdats m 0 c).Φ (Fin.last _) = RegF.Phi (V0 m) c cfg0.N from rfl]
    iintro Hr
    isplitr; · iempintro
    isplitr; · iempintro
    iapply (Phi0_out m c cfg0.N); iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V0 m c b) (fun b => A2 m c b) ((pdats m 0 c).arrAt · cfg0.N)
      (fun w => by
        fin_cases w
        · exact ((pdats m 0 c).arrAt_in 0 rfl _).trans (A2_of m c main_arg0 (by decide)).symm
        · exact ((pdats m 0 c).arrAt_in 1 rfl _).trans (A2_of m c main_arg1 (by decide)).symm
        · exact ((pdats m 0 c).arrAt_in 2 rfl _).trans (A2_of m c main_arg2 (by decide)).symm
        · exact ((pdats m 0 c).arrAt_in 3 rfl _).trans (A2_of m c main_arg3 (by decide)).symm
        · exact ((pdats m 0 c).arrAt_in 4 rfl _).trans (A2_of m c main_arg4 (by decide)).symm
        · exact ((pdats m 0 c).arrAt_in 5 rfl _).trans (A2_of m c main_arg5 (by decide)).symm
        · exact ((pdats m 0 c).arrAt_in 6 rfl _).trans (A2_of m c main_arg6 (by decide)).symm
        · exact ((pdats m 0 c).arrAt_in 7 rfl _).trans (A2_of m c main_arg7 (by decide)).symm
        · exact ((pdats m 0 c).arrAt_in 8 rfl _).trans (A2_of m c main_arg8 (by decide)).symm
        · exact ((pdats m 0 c).arrAt_in 9 rfl _).trans (A2_of m c main_arg9 (by decide)).symm
        · exact (A2_Y m c).symm
        · exact (A2_XH m c).symm
        · exact (A2_RS m c).symm
        · exact (A2_A m c).symm
        · exact (A2_XB m c).symm
        · exact (A2_LS m c).symm)
      (fun b hb => A2_of m c b (by
        simp only [List.mem_cons, List.not_mem_nil, or_false, not_or]
        exact ⟨fun h => hb (h ▸ Finset.mem_image.mpr ⟨10, Finset.mem_univ _, rfl⟩), fun h => hb (h ▸ Finset.mem_image.mpr ⟨11, Finset.mem_univ _, rfl⟩), fun h => hb (h ▸ Finset.mem_image.mpr ⟨12, Finset.mem_univ _, rfl⟩), fun h => hb (h ▸ Finset.mem_image.mpr ⟨13, Finset.mem_univ _, rfl⟩), fun h => hb (h ▸ Finset.mem_image.mpr ⟨14, Finset.mem_univ _, rfl⟩), fun h => hb (h ▸ Finset.mem_image.mpr ⟨15, Finset.mem_univ _, rfl⟩)⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 4000000 in
set_option backward.isDefEq.respectTransparency.types false in
/-- The backward region. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (RegB.body_obligation (A2 m) c).loose
  hwaits := Pipeline.hwaits_of_owed_zero _ _ _ _ L lv 1 fun _ _ => rfl
  pre c := iprop(unscopedBufs c (fun b => A2 m c b) ∗ rest c)
  post c := iprop(unscopedBufs c (fun b => A3 m c b) ∗ rest c)
  X _ := BI.emp
  Y _ := BI.emp
  Z c := Pipeline.unscopedRest (Ix := Unit) (Name := ℕ) (U := UR sig nD τ) (Lvl := ℕ) spec1 c (fun b => A2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => A2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = RegB.Phi (A2 m) c 0 from rfl]
    iintro ⟨-, -, Hr⟩; iapply (Phi1_in m c); iexact Hr
  hout c := by
    rw [Pipeline.ownSems0_none, show (pdats m 1 c).Φ (Fin.last _) = RegB.Phi (A2 m) c cfg1.N from rfl]
    iintro Hr
    isplitr; · iempintro
    isplitr; · iempintro
    iapply (Phi1_out m c cfg1.N); iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => A2 m c b) (fun b => A3 m c b) ((pdats m 1 c).arrAt · cfg1.N)
      (fun w => by
        fin_cases w
        · exact ((pdats m 1 c).arrAt_in 0 rfl _).trans (A3_of m c main_v0_0 (by decide)).symm
        · exact ((pdats m 1 c).arrAt_in 1 rfl _).trans (A3_of m c main_v0_1 (by decide)).symm
        · exact ((pdats m 1 c).arrAt_in 2 rfl _).trans (A3_of m c main_v0_2 (by decide)).symm
        · exact ((pdats m 1 c).arrAt_in 3 rfl _).trans (A3_of m c main_arg0 (by decide)).symm
        · exact ((pdats m 1 c).arrAt_in 4 rfl _).trans (A3_of m c main_v0_3 (by decide)).symm
        · exact ((pdats m 1 c).arrAt_in 5 rfl _).trans (A3_of m c main_arg1 (by decide)).symm
        · exact ((pdats m 1 c).arrAt_in 6 rfl _).trans (A3_of m c main_arg2 (by decide)).symm
        · exact ((pdats m 1 c).arrAt_in 7 rfl _).trans (A3_of m c main_arg3 (by decide)).symm
        · exact ((pdats m 1 c).arrAt_in 8 rfl _).trans (A3_of m c main_arg4 (by decide)).symm
        · exact ((pdats m 1 c).arrAt_in 9 rfl _).trans (A3_of m c main_arg5 (by decide)).symm
        · exact ((pdats m 1 c).arrAt_in 10 rfl _).trans (A3_of m c main_arg6 (by decide)).symm
        · exact ((pdats m 1 c).arrAt_in 11 rfl _).trans (A3_of m c main_arg7 (by decide)).symm
        · exact (A3_DX m c).symm
        · exact (A3_DH m c).symm
        · exact (A3_DZ m c).symm
        · exact (A3_DP m c).symm
        · exact (A3_DR m c).symm
        · exact (A3_DG m c).symm
        · exact (A3_DB m c).symm
        · exact (A3_DL m c).symm)
      (fun b hb => A3_of m c b (by
        simp only [List.mem_cons, List.not_mem_nil, or_false, not_or]
        exact ⟨fun h => hb (h ▸ Finset.mem_image.mpr ⟨12, Finset.mem_univ _, rfl⟩), fun h => hb (h ▸ Finset.mem_image.mpr ⟨13, Finset.mem_univ _, rfl⟩), fun h => hb (h ▸ Finset.mem_image.mpr ⟨14, Finset.mem_univ _, rfl⟩), fun h => hb (h ▸ Finset.mem_image.mpr ⟨15, Finset.mem_univ _, rfl⟩), fun h => hb (h ▸ Finset.mem_image.mpr ⟨16, Finset.mem_univ _, rfl⟩), fun h => hb (h ▸ Finset.mem_image.mpr ⟨17, Finset.mem_univ _, rfl⟩), fun h => hb (h ▸ Finset.mem_image.mpr ⟨18, Finset.mem_univ _, rfl⟩), fun h => hb (h ▸ Finset.mem_image.mpr ⟨19, Finset.mem_univ _, rfl⟩)⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- What every item leaves beside the buffers. -/
abbrev E (_ : Fin 3) (c : Dev nD) : sProp 𝕄 := rest c

/-- The pipelines' resources at launch. -/
abbrev u₀ : UR sig nD τ := initOf (Pipeline.cells cfgs cellOf_inj) (Pipeline.launchToks cfgs cellOf_inj)

theorem pre0 (c : Dev nD) : iprop(StableHlo.held (c : Thread nD τ) (Pipeline.ucRefs τ sig) (V0 m c) ∗ rest c) ⊢ (reg0 m).pre c := by
  rw [← Pipeline.unscopedBufs_held c (V0 m c)]
  exact .rfl
theorem post0 (c : Dev nD) : (reg0 m).post c ⊢ (reg1 m).pre c := .rfl
theorem post1 (c : Dev nD) : (reg1 m).post c ⊢ iprop(StableHlo.held (c : Thread nD τ) (Pipeline.ucRefs τ sig) (A3 m c) ∗ rest c) := by
  rw [← Pipeline.unscopedBufs_held c (A3 m c)]
  exact .rfl

set_option maxHeartbeats 2000000 in
set_option backward.isDefEq.respectTransparency.types false in
/-- From any memory with zero counters the program ends, with every unscoped buffer at `A3` and every counter at zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = A3 m c b) ∧ r.2.sem = fun _ => 0) := by
  refine Pipeline.θ_run_regions_kit_dev_sems (pcfgs (F := F)) adm (pdats m) () cellOf_inj emb₁ defs₀ Variants.none L lv m ρ main
    (segs Variants.none L lv E () (pdats m) (reg0 m) (reg1 m))
    (fun c Q => by
      rewrite [main_chain c, Seg.run_eq_chain,
        show (segs Variants.none L lv E () (pdats m) (reg0 m) (reg1 m) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := u₀)
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (A3 m c))
    (hch := fun c => ⟨pre0 m c, post0 m c, post1 m c⟩)
    (hinit := ?_) (QY := fun c s => ∀ b ∈ Pipeline.ucRefs τ sig, s.mem ((c : Thread nD τ).1, b) = A3 m c b)
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (A3 m c) s') $$ [Hh HSI]
    · isplitl [Hh] <;> iassumption
    icases Hr with ⟨%h, HSI⟩
    imodintro
    isplitr
    · ipureintro; exact h
    · iexact HSI

/-- The run read at the arguments and the results. -/
theorem run_read : θ_run defs (onTc (τ := τ) (main (F := F))) ⟨m, fun _ => 0, ρ⟩
    (fun r => (∀ c : Dev nD, ∀ b : Ref sig .tc, (Proc.devRef .tc b : DevRef τ sig).isScoped = false → r.2.mem ((c.tc : Thread nD τ).loc b) = A3 m c b) ∧ r.2.sem = fun _ => 0) :=
  (θ_run defs _ _).mono (fun _ h => ⟨fun c b hb => h.1 c (Proc.devRef .tc b)
    (Finset.mem_filter.mpr ⟨StableHlo.devRef_mem_tcRefs b, by simp [hb]⟩), h.2⟩) (run_main m ρ)

end Cert.Kernel7Ideal.Run

end
-- ==== Proof.MlpFrame.lean ====
/- The layer's forward and backward call run and leave their arguments, and so does the reference. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.MlpRun

@[expose] public section

set_option maxRecDepth 16384

noncomputable section

namespace Cert.MlpFrame

open Idealize.ShloMosaic Idealize.ShloMosaic.TcCoe Idealize.SL.Sem Cert.Kernel7Ideal

/-- A buffer no call writes ends as it began. -/
theorem kept {F : FTy → Type} [FloatOps F] (m : (ℓ : Loc nD τ sig) → Buf (Elt F) ℓ) (c : Dev nD) (r : PUnit × MemSt nD τ sig (Elt F))
    (h : ∀ c : Dev nD, ∀ b : Ref sig .tc, (Proc.devRef .tc b : DevRef τ sig).isScoped = false → r.2.mem ((c.tc : Thread nD τ).loc b) = Run.A3 m c b)
    (b : Ref sig .tc) (h1 : b ∉ ([main_v1_0, main_v1_1, main_v1_2, main_v1_3, main_v1_4, main_v1_5, main_v1_6, main_v1_7] : List (Ref sig .tc)))
    (h2 : b ∉ ([main_v0_0, main_v0_1, main_v0_2, main_v0_3, main_v0_4, main_v0_5] : List (Ref sig .tc))) (hb : (Proc.devRef .tc b : DevRef τ sig).isScoped = false) :
    r.2.mem ((c.tc : Thread nD τ).loc b) = m ((c.tc : Thread nD τ).loc b) :=
  (h c b hb).trans (Run.A3_arg m c b h1 h2)

/-- The arguments end as they began. -/
theorem args_keep {F : FTy → Type} [FloatOps F] (m : (ℓ : Loc nD τ sig) → Buf (Elt F) ℓ) (r : PUnit × MemSt nD τ sig (Elt F))
    (h : ∀ c : Dev nD, ∀ b : Ref sig .tc, (Proc.devRef .tc b : DevRef τ sig).isScoped = false → r.2.mem ((c.tc : Thread nD τ).loc b) = Run.A3 m c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨kept m c r h _ (by decide) (by decide) rfl,
    kept m c r h _ (by decide) (by decide) rfl,
    kept m c r h _ (by decide) (by decide) rfl,
    kept m c r h _ (by decide) (by decide) rfl,
    kept m c r h _ (by decide) (by decide) rfl,
    kept m c r h _ (by decide) (by decide) rfl,
    kept m c r h _ (by decide) (by decide) rfl,
    kept m c r h _ (by decide) (by decide) rfl,
    kept m c r h _ (by decide) (by decide) rfl,
    kept m c r h _ (by decide) (by decide) rfl⟩

theorem frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => args_keep m r h.1 c, h.2⟩) (Run.run_read m g)

set_option maxHeartbeats 4000000 in
theorem main_eq : (Cert.Kernel7.main (F := Bits)) = (Cert.Kernel7Ideal.main (F := Bits)) := by exact rfl

set_option smartUnfolding false in
set_option maxHeartbeats 4000000 in
theorem bodies_eq : (Cert.Kernel7.defs₀ (F := Bits)) = (Cert.Kernel7Ideal.defs₀ (F := Bits)) := by
  unfold Cert.Kernel7.defs₀ Cert.Kernel7Ideal.defs₀
  refine congrArg _ (funext fun l => ?_)
  fin_cases l <;> exact rfl

set_option maxHeartbeats 4000000 in
theorem defs_eq : (Cert.Kernel7.defs (F := Bits)) = (Cert.Kernel7Ideal.defs (F := Bits)) := by
  unfold Cert.Kernel7.defs Cert.Kernel7Ideal.defs
  rw [bodies_eq]
  exact rfl

theorem kernelIdeal_frame : Cert.quiescent_Kernel7Ideal (hKernel7Ideal := Cert.Kernel7Ideal.Gen.facts) := fun m g _ => frame m g

set_option maxHeartbeats 4000000 in
/-- The kernel as it runs has the same text, so the same run serves it. -/
theorem kernel_frame : Cert.quiescent_Kernel7 (hKernel7 := Cert.Kernel7.Gen.facts) := by
  intro m g _
  rw [defs_eq, main_eq]
  exact frame (F := Bits) m g

theorem reference_frame : Cert.quiescent_Reference7Ideal (hReference7Ideal := Cert.Reference7Ideal.Gen.facts) := fun m g _ =>
  (θ_run _ _ _).mono (fun r h => ⟨fun c => (h c).2.2.2.2.2.2.2.2.2, sem_eq_zero_of_no_sems rfl _⟩) (Cert.Reference7Ideal.Value.run (F := Ideal) m g)

end Cert.MlpFrame

end
-- ==== Proof.Base.lean ====
/- What the modules about the two bodies share. -/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArrays
public import Idealize.ShloMosaic.Lib.Ring
public import Idealize.ShloMosaic.Lib.Tactic
public import Idealize.ShloMosaic.Lib.WordCmp

@[expose] public section

noncomputable section

namespace Cert.KernelIdeal.Base

open Cert.KernelIdeal Cert.KernelIdeal.Gen
open Idealize.ShloMosaic Idealize.ShloMosaic.TcCoe
open Idealize.SL Idealize.SL.RA Idealize.SL.BI
open scoped Idealize.SL.BI
open Idealize.ShloMosaic.Rounds

variable {F : FTy → Type} [FloatOps F]

local notation "𝕄" => MT nD τ sig Unit (Elt F) ℕ (UR sig nD τ) ℕ

/-- A core's contents of the buffer behind a memref. -/
abbrev Bf (c : Dev nD) {sp : Space} {S : Shape} {e : EltTy} (M : Memref sig .tc sp S e) : Type := Buf (Elt F) (M.view.loc (c : Thread nD τ))
/-- The buffer behind a memref, held whole. -/
abbrev pt (c : Dev nD) {sp : Space} {S : Shape} {e : EltTy} (M : Memref sig .tc sp S e) (f : Bf (F := F) c M) : sProp 𝕄 :=
  M.view.loc (c : Thread nD τ) ↦{fullShare} f

end Cert.KernelIdeal.Base

end
-- ==== Proof.Common.lean ====
/- Facts about whole buffers and lists of writes the two regions share. -/
module

public import proofs.«01_k».proof.Proof.Base

@[expose] public section

set_option maxRecDepth 16384

noncomputable section

namespace Cert.KernelIdeal.Base

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref owned at contents read through it. -/
abbrev ow (c : Dev nD) {sp : Space} {S : Shape} {e : EltTy} (M : Memref sig .tc sp S e) (X : S.Idx → Elt F e) : sProp 𝕄 :=
  owns (c : Thread nD τ) M fullShare X

/-- A whole memref owned is its buffer held whole at contents that read so. -/
theorem ow_eq (c : Dev nD) {sp : Space} {S : Shape} {e : EltTy} {M : Memref sig .tc sp S e} (h : M.IsWhole) (X : S.Idx → Elt F e) :
    ow (F := F) c M X = iprop(∃ f : Bf (F := F) c M, ⌜M.view.read (Elt F) f = X⌝ ∗ pt c M f) := by
  obtain ⟨b, hsp, hsh, he, h⟩ := h
  subst hsp hsh he
  cases h
  unfold ow owns pt
  simp only [Memref.view_whole, View.set_whole]

/-- A box's index lies in the list's canon where every piece agrees with `g` and some piece covers it. -/
theorem canon_eq_of_agree {S : Shape} {e : EltTy} (L : List (View.Piece (Elt F) S e)) (g : S.Idx → Elt F e)
    (hL : ∀ p ∈ L, ∀ x, p.2 x = g (p.1.emb x)) (y : S.Idx) (hy : ∃ p ∈ L, ∃ x, p.1.emb x = y) : View.canon L y = g y := by
  induction L with
  | nil => obtain ⟨p, hp, -⟩ := hy; cases hp
  | cons p L ih =>
    by_cases h : ∃ x, p.1.emb x = y
    · obtain ⟨x, rfl⟩ := h
      exact (View.canon_cons_emb p.1 p.2 L x).trans (hL p (List.mem_cons_self ..) x)
    · rw [View.canon_cons_of_not_mem p L (fun hm => h (by obtain ⟨x, hx⟩ := p.1.exists_idx_of_mem hm; exact ⟨x, hx⟩))]
      refine ih (fun q hq => hL q (List.mem_cons_of_mem _ hq)) ?_
      obtain ⟨q, hq, x, hx⟩ := hy
      rcases List.mem_cons.mp hq with rfl | hq'
      · exact absurd ⟨x, hx⟩ h
      · exact ⟨q, hq', x, hx⟩

end Cert.KernelIdeal.Base

end
-- ==== Proof.BodyF.lean ====
/- The forward scan's body, run once. -/
module

public import proofs.«01_k».proof.Proof.Base

@[expose] public section

set_option maxRecDepth 16384

noncomputable section

namespace Cert.KernelIdeal.BodyF

open Cert.KernelIdeal Cert.KernelIdeal.Gen Cert.KernelIdeal.Base
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in its output blocks and its scratch, found by running it. -/
noncomputable def kernelRun (i : grid0.Coords) (c : Dev nD)
    (M0 : Memref sig .tc .vmem S512x1024 .f32) (h0 : M0.IsWhole)
    (M1 : Memref sig .tc .vmem S512x1024 .f32) (h1 : M1.IsWhole)
    (M2 : Memref sig .tc .vmem S512x1024 .bf16) (h2 : M2.IsWhole)
    (M3 : Memref sig .tc .vmem S512x1024 .bf16) (h3 : M3.IsWhole)
    (M4 : Memref sig .tc .vmem S8x512x64 .bf16) (h4 : M4.IsWhole)
    (M5 : Memref sig .tc .vmem S1x8x8x128 .f32) (h5 : M5.IsWhole)
    (M6 : Memref sig .tc .vmem S512x1024 .f32) (h6 : M6.IsWhole)
    (M7 : Memref sig .tc .vmem S8x8x128x128 .bf16) (h7 : M7.IsWhole)
    (M8 : Memref sig .tc .vmem S8x128x128 .f32) (h8 : M8.IsWhole)
    (f0 : Bf (F := F) c M0) (f1 : Bf (F := F) c M1) (f2 : Bf (F := F) c M2) (f3 : Bf (F := F) c M3) (f4 : Bf (F := F) c M4) (f5 : Bf (F := F) c M5) (f8 : Bf (F := F) c M8) :
    { W : Bf (F := F) c M6 × Bf (F := F) c M7 × Bf (F := F) c M8 //
      ∀ (f6 : Bf (F := F) c M6) (f7 : Bf (F := F) c M7)
        (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8
          ∗ (iprop(pt c M0 f0 ∗ pt c M1 f1 ∗ pt c M2 f2 ∗ pt c M3 f3 ∗ pt c M4 f4 ∗ pt c M5 f5 ∗ pt c M6 W.1 ∗ pt c M7 W.2.1 ∗ pt c M8 W.2.2) -∗ Q ⟨⟩))
        ⊢ wp frame (wpE (defs₀ (F := F)) Variants.none c none) E
            (cc0_gdn_scan i M0 h0 M1 h1 M2 h2 M3 h3 M4 h4 M5 h5 M6 h6 M7 h7 M8 h8) Q } := by
  refine ⟨⟨?_, ?_, ?_⟩, fun f6 f7 E Q => ?run⟩
  case run =>
    iintro ⟨H0, H1, H2, H3, H4, H5, H6, H7, H8, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.BodyF

end
-- ==== Proof.StepF.lean ====
/- The forward body as functions of one chunk and one head. -/
module

public import proofs.«01_k».proof.Proof.BodyF

@[expose] public section

set_option maxRecDepth 16384

noncomputable section

namespace Cert.KernelIdeal.StepF

open Cert.KernelIdeal Cert.KernelIdeal.Gen Cert.KernelIdeal.Base
open Idealize.ShloMosaic Idealize.ShloMosaic.TcCoe

variable {F : FTy → Type} [FloatOps F]

/-- A natural number's chunk or head. -/
def at8 : Nat → Fin 8
  | 0 => 0 | 1 => 1 | 2 => 2 | 3 => 3 | 4 => 4 | 5 => 5 | 6 => 6 | _ => 7

/-- `f (n − 1), …, f 0`. -/
def down {α : Type} : Nat → (Nat → α) → List α
  | 0, _ => []
  | n + 1, f => f n :: down n f

/-! ## The boxes one chunk and one head touch -/

theorem inbT (c h : Fin 8) : ∀ a, (![64 * c.val, 128 * h.val] : Fin 2 → Nat) a + S64x128.size a ≤ S512x1024.size a := by
  revert c h; decide
theorem inbQ (c h : Fin 8) : ∀ a, (![h.val, 64 * c.val, 0] : Fin 3 → Nat) a + S1x64x64.size a ≤ S8x512x64.size a := by
  revert c h; decide
theorem inbG (c h : Fin 8) : ∀ a, (![0, c.val, h.val, 0] : Fin 4 → Nat) a + S1x1x1x128.size a ≤ S1x8x8x128.size a := by
  revert c h; decide
theorem inbS (c h : Fin 8) : ∀ a, (![c.val, h.val, 0, 0] : Fin 4 → Nat) a + S1x1x128x128.size a ≤ S8x8x128x128.size a := by
  revert c h; decide
theorem inbD (h : Fin 8) : ∀ a, (![h.val, 0, 0] : Fin 3 → Nat) a + S1x128x128.size a ≤ S8x128x128.size a := by
  revert h; decide

/-- Chunk `c`'s rows of head `h`'s lanes. -/
abbrev rT (c h : Fin 8) : Rect S512x1024 := Rect.unit ![64 * c.val, 128 * h.val] S64x128.size (inbT c h)
/-- Head `h`'s square of chunk `c`. -/
abbrev rQ (c h : Fin 8) : Rect S8x512x64 := Rect.unit ![h.val, 64 * c.val, 0] S1x64x64.size (inbQ c h)
/-- Chunk `c`'s gate row of head `h`. -/
abbrev rG (c h : Fin 8) : Rect S1x8x8x128 := Rect.unit ![0, c.val, h.val, 0] S1x1x1x128.size (inbG c h)
/-- Chunk `c`'s saved state of head `h`. -/
abbrev rS (c h : Fin 8) : Rect S8x8x128x128 := Rect.unit ![c.val, h.val, 0, 0] S1x1x128x128.size (inbS c h)
/-- Head `h` of the carried state. -/
abbrev rD (h : Fin 8) : Rect S8x128x128 := Rect.unit ![h.val, 0, 0] S1x128x128.size (inbD h)

/-- The state a grid point starts from: zero at the first one, the scratch's elsewhere. -/
def start (i : Fin 16) (D : Vec F S8x128x128 .f32) (h : Fin 8) : FVec F S128x128 .f32 :=
  Scalar.select (Scalar.cmpi .eq (BitVec.ofNat 32 i.val) 0#32) (broadcast S128x128 (Scalar.ofBits .f32 0x00000000#32))
    (shapeCast S128x128 (View.ld D (rD h)) shapeCasts_S1x128x128_S128x128)

/-- Head `h`'s gate row of chunk `c`, over the state's rows. -/
def gate (G : Vec F S1x8x8x128 .f32) (c h : Fin 8) : FVec F S128x128 .f32 :=
  broadcastTo S128x128 (shapeCast S1x128 (View.ld G (rG c h)) shapeCasts_S1x1x1x128_S1x128) broadcasts_S1x128_S128x128

/-- A tile narrowed. -/
def lo (X : Vec F S512x1024 .f32) (c h : Fin 8) : FVec F S64x128 .bf16 :=
  truncf .bf16 (View.ld X (rT c h)) bitsLt_bf16_f32

/-- A state narrowed. -/
def loS (S : FVec F S128x128 .f32) : FVec F S128x128 .bf16 := truncf .bf16 S bitsLt_bf16_f32

/-- `u − w·S`, narrowed, for `S` narrowed. -/
def vnew (U W : Vec F S512x1024 .f32) (S : FVec F S128x128 .bf16) (c h : Fin 8) : FVec F S64x128 .bf16 :=
  truncf .bf16 (subf (View.ld U (rT c h)) (matmul dot_S64x128_S128x128_S64x128_1_0_0_1_n_n none (lo W c h) S
    (constant S64x128 .f32 0x00000000#32))) bitsLt_bf16_f32

/-- The state after chunk `c`. -/
def next (U W : Vec F S512x1024 .f32) (K : Vec F S512x1024 .bf16) (G : Vec F S1x8x8x128 .f32)
    (S : Fin 8 → FVec F S128x128 .f32) (c h : Fin 8) : FVec F S128x128 .f32 :=
  addf (mulf (S h) (gate G c h)) (matmul dot_S64x128_S64x128_S128x128_0_0_1_1_n_n none (View.ld K (rT c h))
    (vnew U W (loS (S h)) c h) (constant S128x128 .f32 0x00000000#32))

/-- The state before chunk `n`. -/
def state (i : Fin 16) (U W : Vec F S512x1024 .f32) (K : Vec F S512x1024 .bf16) (G : Vec F S1x8x8x128 .f32)
    (D : Vec F S8x128x128 .f32) : Nat → Fin 8 → FVec F S128x128 .f32
  | 0 => start i D
  | n + 1 => next U W K G (state i U W K G D n) (at8 n)

/-- Chunk `c`'s outputs of head `h`. -/
def out (U W : Vec F S512x1024 .f32) (Qd : Vec F S512x1024 .bf16) (Qk : Vec F S8x512x64 .bf16)
    (S : Fin 8 → FVec F S128x128 .f32) (c h : Fin 8) : FVec F S64x128 .f32 :=
  addf (matmul dot_S64x128_S128x128_S64x128_1_0_0_1_n_n none (View.ld Qd (rT c h)) (loS (S h)) (constant S64x128 .f32 0x00000000#32))
    (matmul dot_S64x64_S64x128_S64x128_1_0_0_1_n_n none (shapeCast S64x64 (View.ld Qk (rQ c h)) shapeCasts_S1x64x64_S64x64)
      (vnew U W (loS (S h)) c h) (constant S64x128 .f32 0x00000000#32))

section Pieces

variable (i : Fin 16) (U W : Vec F S512x1024 .f32) (Qd K : Vec F S512x1024 .bf16) (Qk : Vec F S8x512x64 .bf16)
  (G : Vec F S1x8x8x128 .f32) (D : Vec F S8x128x128 .f32)

/-- The writes of the outputs, last first. -/
def piecesO : List (View.Piece (Elt F) S512x1024 .f32) :=
  down 64 fun k => ⟨rT (at8 (k / 8)) (at8 (k % 8)), out U W Qd Qk (state i U W K G D (k / 8)) (at8 (k / 8)) (at8 (k % 8))⟩
/-- The writes of the saved states, last first. -/
def piecesS : List (View.Piece (Elt F) S8x8x128x128 .bf16) :=
  down 64 fun k => ⟨rS (at8 (k / 8)) (at8 (k % 8)),
    shapeCast S1x1x128x128 (loS (state i U W K G D (k / 8) (at8 (k % 8)))) shapeCasts_S128x128_S1x1x128x128⟩
/-- The writes of the carried state, last first. -/
def piecesD : List (View.Piece (Elt F) S8x128x128 .f32) :=
  down 8 fun k => ⟨rD (at8 k), shapeCast S1x128x128 (state i U W K G D 8 (at8 k)) shapeCasts_S128x128_S1x128x128⟩

end Pieces

end Cert.KernelIdeal.StepF

end
-- ==== Proof.RunF.lean ====
/- The forward body in closed form. -/
module

public import proofs.«01_k».proof.Proof.StepF

@[expose] public section

set_option maxRecDepth 16384

noncomputable section

namespace Cert.KernelIdeal.StepF

open Cert.KernelIdeal Cert.KernelIdeal.Gen Cert.KernelIdeal.Base
open Idealize.ShloMosaic Idealize.ShloMosaic.TcCoe

variable {F : FTy → Type} [FloatOps F]

section Run

variable (i : grid0.Coords) (c : Dev nD)
    (M0 : Memref sig .tc .vmem S512x1024 .f32) (h0 : M0.IsWhole)
    (M1 : Memref sig .tc .vmem S512x1024 .f32) (h1 : M1.IsWhole)
    (M2 : Memref sig .tc .vmem S512x1024 .bf16) (h2 : M2.IsWhole)
    (M3 : Memref sig .tc .vmem S512x1024 .bf16) (h3 : M3.IsWhole)
    (M4 : Memref sig .tc .vmem S8x512x64 .bf16) (h4 : M4.IsWhole)
    (M5 : Memref sig .tc .vmem S1x8x8x128 .f32) (h5 : M5.IsWhole)
    (M6 : Memref sig .tc .vmem S512x1024 .f32) (h6 : M6.IsWhole)
    (M7 : Memref sig .tc .vmem S8x8x128x128 .bf16) (h7 : M7.IsWhole)
    (M8 : Memref sig .tc .vmem S8x128x128 .f32) (h8 : M8.IsWhole)
    (f0 : Bf (F := F) c M0) (f1 : Bf (F := F) c M1) (f2 : Bf (F := F) c M2) (f3 : Bf (F := F) c M3) (f4 : Bf (F := F) c M4)
    (f5 : Bf (F := F) c M5) (f8 : Bf (F := F) c M8)

set_option maxHeartbeats 20000000 in
theorem run_o : (BodyF.kernelRun i c M0 h0 M1 h1 M2 h2 M3 h3 M4 h4 M5 h5 M6 h6 M7 h7 M8 h8 f0 f1 f2 f3 f4 f5 f8).1.1
    = M6.view.writes (Elt F) M6.view.junk (piecesO (i 0) (M0.view.read _ f0) (M1.view.read _ f1) (M2.view.read _ f2) (M3.view.read _ f3)
        (M4.view.read _ f4) (M5.view.read _ f5) (M8.view.read _ f8)) := by exact rfl
set_option maxHeartbeats 20000000 in
theorem run_s : (BodyF.kernelRun i c M0 h0 M1 h1 M2 h2 M3 h3 M4 h4 M5 h5 M6 h6 M7 h7 M8 h8 f0 f1 f2 f3 f4 f5 f8).1.2.1
    = M7.view.writes (Elt F) M7.view.junk (piecesS (i 0) (M0.view.read _ f0) (M1.view.read _ f1) (M3.view.read _ f3)
        (M5.view.read _ f5) (M8.view.read _ f8)) := by exact rfl
set_option maxHeartbeats 20000000 in
theorem run_d : (BodyF.kernelRun i c M0 h0 M1 h1 M2 h2 M3 h3 M4 h4 M5 h5 M6 h6 M7 h7 M8 h8 f0 f1 f2 f3 f4 f5 f8).1.2.2
    = M8.view.writes (Elt F) M8.view.junk (piecesD (i 0) (M0.view.read _ f0) (M1.view.read _ f1) (M3.view.read _ f3)
        (M5.view.read _ f5) (M8.view.read _ f8)) := by exact rfl

end Run

end Cert.KernelIdeal.StepF

end
-- ==== Proof.RegionF.lean ====
/- The forward scan's region: what each grid point finds and leaves. -/
module

public import proofs.«01_k».proof.Proof.Common
public import proofs.«01_k».proof.Proof.RunF

@[expose] public section

set_option maxRecDepth 16384

noncomputable section

namespace Cert.KernelIdeal.RegionF

open Cert.KernelIdeal Cert.KernelIdeal.Gen Cert.KernelIdeal.Base Cert.KernelIdeal.StepF
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on blocks it owns. -/
theorem body_spec (i : grid0.Coords) (c : Dev nD)
    (M0 : Memref sig .tc .vmem S512x1024 .f32) (h0 : M0.IsWhole)
    (M1 : Memref sig .tc .vmem S512x1024 .f32) (h1 : M1.IsWhole)
    (M2 : Memref sig .tc .vmem S512x1024 .bf16) (h2 : M2.IsWhole)
    (M3 : Memref sig .tc .vmem S512x1024 .bf16) (h3 : M3.IsWhole)
    (M4 : Memref sig .tc .vmem S8x512x64 .bf16) (h4 : M4.IsWhole)
    (M5 : Memref sig .tc .vmem S1x8x8x128 .f32) (h5 : M5.IsWhole)
    (M6 : Memref sig .tc .vmem S512x1024 .f32) (h6 : M6.IsWhole)
    (M7 : Memref sig .tc .vmem S8x8x128x128 .bf16) (h7 : M7.IsWhole)
    (M8 : Memref sig .tc .vmem S8x128x128 .f32) (h8 : M8.IsWhole)
    (U W : Vec F S512x1024 .f32) (Qd K : Vec F S512x1024 .bf16) (Qk : Vec F S8x512x64 .bf16)
    (G : Vec F S1x8x8x128 .f32) (O : Vec F S512x1024 .f32) (S : Vec F S8x8x128x128 .bf16) (D : Vec F S8x128x128 .f32)
    (Q : PUnit → sProp 𝕄) :
    iprop(ow c M0 U ∗ ow c M1 W ∗ ow c M2 Qd ∗ ow c M3 K ∗ ow c M4 Qk ∗ ow c M5 G ∗ ow c M6 O ∗ ow c M7 S ∗ ow c M8 D
      ∗ (iprop(ow c M0 U ∗ ow c M1 W ∗ ow c M2 Qd ∗ ow c M3 K ∗ ow c M4 Qk ∗ ow c M5 G
          ∗ ow c M6 (View.canon (piecesO (i 0) U W Qd K Qk G D)) ∗ ow c M7 (View.canon (piecesS (i 0) U W K G D))
          ∗ ow c M8 (View.canon (piecesD (i 0) U W K G D))) -∗ Q ⟨⟩))
      ⊢ wp frame (wpE (defs₀ (F := F)) Variants.none c none) Set.univ
          (cc0_gdn_scan i M0 h0 M1 h1 M2 h2 M3 h3 M4 h4 M5 h5 M6 h6 M7 h7 M8 h8) Q := by
  simp only [ow_eq c h0, ow_eq c h1, ow_eq c h2, ow_eq c h3, ow_eq c h4, ow_eq c h5, ow_eq c h6, ow_eq c h7, ow_eq c h8]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, -, H6⟩, ⟨%f7, -, H7⟩,
    ⟨%f8, %e8, H8⟩, Hk⟩
  subst e0 e1 e2 e3 e4 e5 e8
  iapply ((BodyF.kernelRun i c M0 h0 M1 h1 M2 h2 M3 h3 M4 h4 M5 h5 M6 h6 M7 h7 M8 h8 f0 f1 f2 f3 f4 f5 f8).2 f6 f7 Set.univ Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [run_o, run_s, run_d]
  iintro ⟨H0, H1, H2, H3, H4, H5, H6, H7, H8⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; exact View.read_writes_junk_eq_canon _ _
  isplitl [H7]; · iexists _; isplitr; swap; (· iexact H7); ipureintro; exact View.read_writes_junk_eq_canon _ _
  iexists _; isplitr; swap; (· iexact H8); ipureintro; exact View.read_writes_junk_eq_canon _ _

/-! ## The proof data, at the contents the region is entered with -/

section Data

variable (V : Dev nD → Valuation τ sig (Elt F)) (c : Dev nD)

/-- A window's block of a grid point. -/
def blkAt (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The outputs' block a point leaves, from the carried state `D`. -/
def outO (t : Fin cfg0.N) (D : Vec F S8x128x128 .f32) : Vec F S512x1024 .f32 :=
  View.canon (piecesO ((grid0.coords t) 0) (blkAt V c 0 t) (blkAt V c 1 t) (blkAt V c 2 t) (blkAt V c 3 t) (blkAt V c 4 t) (blkAt V c 5 t) D)
/-- The saved states' block a point leaves. -/
def outS (t : Fin cfg0.N) (D : Vec F S8x128x128 .f32) : Vec F S8x8x128x128 .bf16 :=
  View.canon (piecesS ((grid0.coords t) 0) (blkAt V c 0 t) (blkAt V c 1 t) (blkAt V c 3 t) (blkAt V c 5 t) D)
/-- The carried state a point leaves. -/
def outD (t : Fin cfg0.N) (D : Vec F S8x128x128 .f32) : Vec F S8x128x128 .f32 :=
  View.canon (piecesD ((grid0.coords t) 0) (blkAt V c 0 t) (blkAt V c 1 t) (blkAt V c 3 t) (blkAt V c 5 t) D)

/-- The carried state before point `n`. -/
def scr : Nat → Vec F S8x128x128 .f32
  | 0 => View.canon []
  | n + 1 => if h : n < cfg0.N then outD V c ⟨n, h⟩ (scr n) else scr n

theorem scr_succ (t : Fin cfg0.N) : scr V c (t.val + 1) = outD V c t (scr V c t.val) := by
  rw [scr, dif_pos t.isLt]

/-- At the first point the scratch's contents do not matter. -/
theorem start_first (i : Fin 16) (hi : i.val = 0) (D D' : Vec F S8x128x128 .f32) : start i D = start i D' := by
  funext h
  obtain rfl : i = 0 := Fin.ext hi
  unfold start
  rfl

theorem state_first (i : Fin 16) (hi : i.val = 0) (U W : Vec F S512x1024 .f32) (K : Vec F S512x1024 .bf16) (G : Vec F S1x8x8x128 .f32)
    (D D' : Vec F S8x128x128 .f32) : state i U W K G D = state i U W K G D' := by
  funext n
  induction n with
  | zero => exact start_first i hi D D'
  | succ n ih => unfold state; rw [ih]

theorem coord_first (t : Fin cfg0.N) (h : t.val = 0) : ((grid0.coords t) 0).val = 0 := by
  obtain rfl : t = t0_0 := Fin.ext h
  decide +kernel

theorem outs_first (t : Fin cfg0.N) (h : t.val = 0) (D D' : Vec F S8x128x128 .f32) :
    outO V c t D = outO V c t D' ∧ outS V c t D = outS V c t D' ∧ outD V c t D = outD V c t D' := by
  have e := state_first ((grid0.coords t) 0) (coord_first t h) (blkAt V c 0 t) (blkAt V c 1 t) (blkAt V c 3 t) (blkAt V c 5 t) D D'
  unfold outO outS outD piecesO piecesS piecesD
  rw [e]
  exact ⟨rfl, rfl, rfl⟩

/-- The invariant before point `n`: the scratch at the carried state (at the first point, at anything), the other
    scoped buffers at anything. -/
def Phi (n : Nat) : sProp 𝕄 :=
  iprop((∃ D, ⌜n = 0 ∨ D = scr V c n⌝ ∗ ow c (Memref.whole cc0_scratch0) D)
    ∗ Pipeline.scopedRestBut (Ix := Unit) (Name := ℕ) (U := UR sig nD τ) (Lvl := ℕ) (Val := Elt F) spec0 c [cc0_scratch0])

/-- The region's proof data. -/
def dat : Dat τ (Elt F) Unit ℕ (UR sig nD τ) ℕ cfg0 c where
  A w := V c (Pipeline.arrRef spec0 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => outO V c t (scr V c t.val)
    | ⟨7, _⟩ => outS V c t (scr V c t.val)
  Φ t := Phi V c t.val
  q _ := fullShare
  owed _ := 0

/-- An input's buffer holds the point's block. -/
theorem before_of (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dat V c).after w t) = (dat V c).blockOf w t)
    (t : Fin cfg0.N) (d) : (dat V c).before w t d = (dat V c).fetched w t d :=
  (dat V c).before_in_eq_fetched w hw hlive hclip hkeep t d

theorem before0 (t : Fin cfg0.N) (d) : (dat V c).before 0 t d = blkAt V c 0 t :=
  (before_of V c 0 rfl (fun _ => rfl) (fun _ _ _ => rfl) (fun _ => rfl) t d).trans rfl
theorem before1 (t : Fin cfg0.N) (d) : (dat V c).before 1 t d = blkAt V c 1 t :=
  (before_of V c 1 rfl (fun _ => rfl) (fun _ _ _ => rfl) (fun _ => rfl) t d).trans rfl
theorem before2 (t : Fin cfg0.N) (d) : (dat V c).before 2 t d = blkAt V c 2 t :=
  (before_of V c 2 rfl (fun _ => rfl) (fun _ _ _ => rfl) (fun _ => rfl) t d).trans rfl
theorem before3 (t : Fin cfg0.N) (d) : (dat V c).before 3 t d = blkAt V c 3 t :=
  (before_of V c 3 rfl (fun _ => rfl) (fun _ _ _ => rfl) (fun _ => rfl) t d).trans rfl
theorem before4 (t : Fin cfg0.N) (d) : (dat V c).before 4 t d = blkAt V c 4 t :=
  (before_of V c 4 rfl (fun _ => rfl) (fun _ _ _ => rfl) (fun _ => rfl) t d).trans rfl
theorem before5 (t : Fin cfg0.N) (d) : (dat V c).before 5 t d = blkAt V c 5 t :=
  (before_of V c 5 rfl (fun _ => rfl) (fun _ _ _ => rfl) (fun _ => rfl) t d).trans rfl

end Data

end Cert.KernelIdeal.RegionF

end
-- ==== Proof.ObligF.lean ====
/- The forward scan's body meets its obligation at every grid point. -/
module

public import proofs.«01_k».proof.Proof.RegionF

@[expose] public section

set_option maxRecDepth 16384

noncomputable section

namespace Cert.KernelIdeal.RegionF

open Cert.KernelIdeal Cert.KernelIdeal.Gen Cert.KernelIdeal.Base Cert.KernelIdeal.StepF
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F)) (c : Dev nD)

set_option maxHeartbeats 4000000 in
/-- The body's obligation at every point. -/
theorem body_obligation : BodyObligation (dat V c) (defs₀ (F := F)) Variants.none () Set.univ := fun t => by
  rw [bigSep_W0, bigSep_W0]
  rw [show (dat V c).Φ t.castSucc = Phi V c t.val from rfl, show (dat V c).Φ t.succ = Phi V c (t.val + 1) from rfl,
    show (dat V c).owesAt () t.succ = (dat V c).owesAt () t.castSucc from rfl]
  unfold Phi
  iintro ⟨⟨⟨%D, %hD, H8⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1, before2, before3, before4, before5]
  have e : outO V c t D = outO V c t (scr V c t.val) ∧ outS V c t D = outS V c t (scr V c t.val) ∧ outD V c t D = outD V c t (scr V c t.val) := by
    rcases hD with h | rfl
    · exact outs_first V c t h D _
    · exact ⟨rfl, rfl, rfl⟩
  iapply (body_spec (grid0.coords t) c _ _ _ _ _ _ _ _ _ _ _ _ _ _ _ _ _ _ (blkAt V c 0 t) (blkAt V c 1 t) (blkAt V c 2 t) (blkAt V c 3 t)
    (blkAt V c 4 t) (blkAt V c 5 t) _ _ D _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [H8 Hrest]
  · isplitl [H8]
    · iexists (outD V c t D)
      isplitr
      · ipureintro; exact .inr (e.2.2.trans (scr_succ V c t).symm)
      · iexact H8
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]
  · rw [show (dat V c).after 6 t = outO V c t D from e.1.symm]; iexact H6
  rw [show (dat V c).after 7 t = outS V c t D from e.2.1.symm]; iexact H7

end Cert.KernelIdeal.RegionF

end
-- ==== Proof.BodyB.lean ====
/- The backward scan's body, run once. -/
module

public import proofs.«01_k».proof.Proof.Base

@[expose] public section

set_option maxRecDepth 16384

noncomputable section

namespace Cert.KernelIdeal.BodyB

open Cert.KernelIdeal Cert.KernelIdeal.Gen Cert.KernelIdeal.Base
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in its output blocks and its scratch, found by running it. -/
noncomputable def kernelRun (i : grid1.Coords) (c : Dev nD)
    (M0 : Memref sig .tc .vmem S512x1024 .f32) (h0 : M0.IsWhole)
    (M1 : Memref sig .tc .vmem S512x1024 .f32) (h1 : M1.IsWhole)
    (M2 : Memref sig .tc .vmem S512x1024 .f32) (h2 : M2.IsWhole)
    (M3 : Memref sig .tc .vmem S512x1024 .bf16) (h3 : M3.IsWhole)
    (M4 : Memref sig .tc .vmem S512x1024 .bf16) (h4 : M4.IsWhole)
    (M5 : Memref sig .tc .vmem S8x512x64 .bf16) (h5 : M5.IsWhole)
    (M6 : Memref sig .tc .vmem S1x8x8x128 .f32) (h6 : M6.IsWhole)
    (M7 : Memref sig .tc .vmem S8x8x128x128 .bf16) (h7 : M7.IsWhole)
    (M8 : Memref sig .tc .vmem S512x1024 .f32) (h8 : M8.IsWhole)
    (M9 : Memref sig .tc .vmem S512x1024 .f32) (h9 : M9.IsWhole)
    (M10 : Memref sig .tc .vmem S512x1024 .f32) (h10 : M10.IsWhole)
    (M11 : Memref sig .tc .vmem S512x1024 .f32) (h11 : M11.IsWhole)
    (M12 : Memref sig .tc .vmem S8x512x64 .f32) (h12 : M12.IsWhole)
    (M13 : Memref sig .tc .vmem S1x8x8x128 .f32) (h13 : M13.IsWhole)
    (M14 : Memref sig .tc .vmem S8x128x128 .f32) (h14 : M14.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f14 : Bf (F := F) c M14) :
    { W : Bf (F := F) c M8 × Bf (F := F) c M9 × Bf (F := F) c M10 × Bf (F := F) c M11 × Bf (F := F) c M12 × Bf (F := F) c M13 × Bf (F := F) c M14 //
      ∀ (f8 : Bf (F := F) c M8) (f9 : Bf (F := F) c M9) (f10 : Bf (F := F) c M10) (f11 : Bf (F := F) c M11) (f12 : Bf (F := F) c M12) (f13 : Bf (F := F) c M13)
        (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14
          ∗ (iprop(pt c M0 f0 ∗ pt c M1 f1 ∗ pt c M2 f2 ∗ pt c M3 f3 ∗ pt c M4 f4 ∗ pt c M5 f5 ∗ pt c M6 f6 ∗ pt c M7 f7 ∗ pt c M8 W.1 ∗ pt c M9 W.2.1 ∗ pt c M10 W.2.2.1 ∗ pt c M11 W.2.2.2.1 ∗ pt c M12 W.2.2.2.2.1 ∗ pt c M13 W.2.2.2.2.2.1 ∗ pt c M14 W.2.2.2.2.2.2) -∗ Q ⟨⟩))
        ⊢ wp frame (wpE (defs₀ (F := F)) Variants.none c none) E
            (cc1_gdn_scan_bwd i M0 h0 M1 h1 M2 h2 M3 h3 M4 h4 M5 h5 M6 h6 M7 h7 M8 h8 M9 h9 M10 h10 M11 h11 M12 h12 M13 h13 M14 h14) Q } := by
  refine ⟨⟨?_, ?_, ?_, ?_, ?_, ?_, ?_⟩, fun f8 f9 f10 f11 f12 f13 E Q => ?run⟩
  case run =>
    iintro ⟨H0, H1, H2, H3, H4, H5, H6, H7, H8, H9, H10, H11, H12, H13, H14, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.BodyB

end
-- ==== Proof.StepB.lean ====
/- The backward body as functions of one chunk and one head. -/
module

public import proofs.«01_k».proof.Proof.BodyB
public import proofs.«01_k».proof.Proof.StepF

@[expose] public section

set_option maxRecDepth 16384

noncomputable section

namespace Cert.KernelIdeal.StepB

open Cert.KernelIdeal Cert.KernelIdeal.Gen Cert.KernelIdeal.Base Cert.KernelIdeal.StepF
open Idealize.ShloMosaic Idealize.ShloMosaic.TcCoe

variable {F : FTy → Type} [FloatOps F]

/-- Chunk `c`'s saved state of head `h`. -/
def saved (St : Vec F S8x8x128x128 .bf16) (c h : Fin 8) : FVec F S128x128 .bf16 :=
  shapeCast S128x128 (View.ld St (rS c h)) shapeCasts_S1x1x128x128_S128x128

/-- The gradient of `vnew`, which is `u`'s. -/
def dvn (Do : Vec F S512x1024 .f32) (Kd : Vec F S512x1024 .bf16) (Qk : Vec F S8x512x64 .bf16)
    (S : FVec F S128x128 .f32) (c h : Fin 8) : FVec F S64x128 .f32 :=
  addf (matmul dot_S64x64_S64x128_S64x128_0_0_1_1_n_n none (shapeCast S64x64 (View.ld Qk (rQ c h)) shapeCasts_S1x64x64_S64x64)
      (lo Do c h) (constant S64x128 .f32 0x00000000#32))
    (matmul dot_S64x128_S128x128_S64x128_1_0_0_1_n_n none (View.ld Kd (rT c h)) (loS S) (constant S64x128 .f32 0x00000000#32))

/-- It narrowed. -/
def dvnLo (Do : Vec F S512x1024 .f32) (Kd : Vec F S512x1024 .bf16) (Qk : Vec F S8x512x64 .bf16)
    (S : FVec F S128x128 .f32) (c h : Fin 8) : FVec F S64x128 .bf16 :=
  truncf .bf16 (dvn Do Kd Qk S c h) bitsLt_bf16_f32

/-- The gradient of `w`. -/
def dw (Do : Vec F S512x1024 .f32) (Kd : Vec F S512x1024 .bf16) (Qk : Vec F S8x512x64 .bf16) (St : Vec F S8x8x128x128 .bf16)
    (S : FVec F S128x128 .f32) (c h : Fin 8) : FVec F S64x128 .f32 :=
  subf (broadcast S64x128 (Scalar.ofBits .f32 0x00000000#32)) (matmul dot_S64x128_S128x128_S64x128_1_1_0_0_n_n none
    (dvnLo Do Kd Qk S c h) (saved St c h) (constant S64x128 .f32 0x00000000#32))

/-- The gradient of `qd`. -/
def dqd (Do : Vec F S512x1024 .f32) (St : Vec F S8x8x128x128 .bf16) (c h : Fin 8) : FVec F S64x128 .f32 :=
  matmul dot_S64x128_S128x128_S64x128_1_1_0_0_n_n none (lo Do c h) (saved St c h) (constant S64x128 .f32 0x00000000#32)

/-- The gradient of `kd`. -/
def dkd (U W : Vec F S512x1024 .f32) (St : Vec F S8x8x128x128 .bf16) (S : FVec F S128x128 .f32) (c h : Fin 8) :
    FVec F S64x128 .f32 :=
  matmul dot_S64x128_S128x128_S64x128_1_1_0_0_n_n none (vnew U W (saved St c h) c h) (loS S) (constant S64x128 .f32 0x00000000#32)

/-- The gradient of `qk`. -/
def dqk (Do U W : Vec F S512x1024 .f32) (St : Vec F S8x8x128x128 .bf16) (c h : Fin 8) : FVec F S64x64 .f32 :=
  matmul dot_S64x128_S64x128_S64x64_1_1_0_0_n_n none (lo Do c h) (vnew U W (saved St c h) c h) (constant S64x64 .f32 0x00000000#32)

/-- The gradient of the gate, over a row's lanes. -/
def dgl (St : Vec F S8x8x128x128 .bf16) (S : FVec F S128x128 .f32) (c h : Fin 8) : FVec F S1x128 .f32 :=
  addf (broadcast S1x128 (extractAt ![0, 0, 0] (shapeCast S1x1x1 (multiReduction .add [1, 2] S1
      (shapeCast S1x128x128 (mulf (extf .f32 (saved St c h) bitsLt_bf16_f32) S) shapeCasts_S128x128_S1x128x128)
      0x00000000#32 reduces_S1x128x128_S1 (.inl rfl) rfl) shapeCasts_S1_S1x1x1) inpos_S1x1x1_p0_0_0))
    (broadcast S1x128 (Scalar.ofBits .f32 0x00000000#32))

/-- The gradient of the state before chunk `c`, from that of the state after it. -/
def dnext (Do W : Vec F S512x1024 .f32) (Qd Kd : Vec F S512x1024 .bf16) (Qk : Vec F S8x512x64 .bf16) (G : Vec F S1x8x8x128 .f32)
    (S : Fin 8 → FVec F S128x128 .f32) (c h : Fin 8) : FVec F S128x128 .f32 :=
  subf (addf (mulf (S h) (gate G c h)) (matmul dot_S64x128_S64x128_S128x128_0_0_1_1_n_n none (View.ld Qd (rT c h)) (lo Do c h)
      (constant S128x128 .f32 0x00000000#32)))
    (matmul dot_S64x128_S64x128_S128x128_0_0_1_1_n_n none (lo W c h) (dvnLo Do Kd Qk (S h) c h) (constant S128x128 .f32 0x00000000#32))

/-- The gradient of the state when `n` of the block's chunks are done, the last first. -/
def dstate (i : Fin 16) (Do W : Vec F S512x1024 .f32) (Qd Kd : Vec F S512x1024 .bf16) (Qk : Vec F S8x512x64 .bf16)
    (G : Vec F S1x8x8x128 .f32) (D : Vec F S8x128x128 .f32) : Nat → Fin 8 → FVec F S128x128 .f32
  | 0 => start i D
  | n + 1 => dnext Do W Qd Kd Qk G (dstate i Do W Qd Kd Qk G D n) (at8 (7 - n))

section Pieces

variable (i : Fin 16) (Do U W : Vec F S512x1024 .f32) (Qd Kd : Vec F S512x1024 .bf16) (Qk : Vec F S8x512x64 .bf16)
  (G : Vec F S1x8x8x128 .f32) (St : Vec F S8x8x128x128 .bf16) (D : Vec F S8x128x128 .f32)

/-- The writes of the gradient of u, last first. -/
def piecesU : List (View.Piece (Elt F) S512x1024 .f32) :=
  down 64 fun k => ⟨rT (at8 (7 - k / 8)) (at8 (k % 8)),
    dvn Do Kd Qk (dstate i Do W Qd Kd Qk G D (k / 8) (at8 (k % 8))) (at8 (7 - k / 8)) (at8 (k % 8))⟩
/-- The writes of the gradient of w, last first. -/
def piecesW : List (View.Piece (Elt F) S512x1024 .f32) :=
  down 64 fun k => ⟨rT (at8 (7 - k / 8)) (at8 (k % 8)),
    dw Do Kd Qk St (dstate i Do W Qd Kd Qk G D (k / 8) (at8 (k % 8))) (at8 (7 - k / 8)) (at8 (k % 8))⟩
/-- The writes of the gradient of qd, last first. -/
def piecesQd : List (View.Piece (Elt F) S512x1024 .f32) :=
  down 64 fun k => ⟨rT (at8 (7 - k / 8)) (at8 (k % 8)),
    dqd Do St (at8 (7 - k / 8)) (at8 (k % 8))⟩
/-- The writes of the gradient of kd, last first. -/
def piecesKd : List (View.Piece (Elt F) S512x1024 .f32) :=
  down 64 fun k => ⟨rT (at8 (7 - k / 8)) (at8 (k % 8)),
    dkd U W St (dstate i Do W Qd Kd Qk G D (k / 8) (at8 (k % 8))) (at8 (7 - k / 8)) (at8 (k % 8))⟩
/-- The writes of the gradient of qk, last first. -/
def piecesQk : List (View.Piece (Elt F) S8x512x64 .f32) :=
  down 64 fun k => ⟨rQ (at8 (7 - k / 8)) (at8 (k % 8)),
    shapeCast S1x64x64 (dqk Do U W St (at8 (7 - k / 8)) (at8 (k % 8))) shapeCasts_S64x64_S1x64x64⟩
/-- The writes of the gradient of the gate, last first. -/
def piecesG : List (View.Piece (Elt F) S1x8x8x128 .f32) :=
  down 64 fun k => ⟨rG (at8 (7 - k / 8)) (at8 (k % 8)),
    shapeCast S1x1x1x128 (dgl St (dstate i Do W Qd Kd Qk G D (k / 8) (at8 (k % 8))) (at8 (7 - k / 8)) (at8 (k % 8))) shapeCasts_S1x128_S1x1x1x128⟩
/-- The writes of the carried gradient, last first. -/
def piecesD : List (View.Piece (Elt F) S8x128x128 .f32) :=
  down 8 fun k => ⟨rD (at8 k), shapeCast S1x128x128 (dstate i Do W Qd Kd Qk G D 8 (at8 k)) shapeCasts_S128x128_S1x128x128⟩

end Pieces

end Cert.KernelIdeal.StepB

end
-- ==== Proof.RunB.lean ====
/- The backward body in closed form. -/
module

public import proofs.«01_k».proof.Proof.StepB

@[expose] public section

set_option maxRecDepth 16384

noncomputable section

namespace Cert.KernelIdeal.StepB

open Cert.KernelIdeal Cert.KernelIdeal.Gen Cert.KernelIdeal.Base Cert.KernelIdeal.StepF
open Idealize.ShloMosaic Idealize.ShloMosaic.TcCoe

variable {F : FTy → Type} [FloatOps F]

section Run

variable (i : grid1.Coords) (c : Dev nD)
    (M0 : Memref sig .tc .vmem S512x1024 .f32) (h0 : M0.IsWhole)
    (M1 : Memref sig .tc .vmem S512x1024 .f32) (h1 : M1.IsWhole)
    (M2 : Memref sig .tc .vmem S512x1024 .f32) (h2 : M2.IsWhole)
    (M3 : Memref sig .tc .vmem S512x1024 .bf16) (h3 : M3.IsWhole)
    (M4 : Memref sig .tc .vmem S512x1024 .bf16) (h4 : M4.IsWhole)
    (M5 : Memref sig .tc .vmem S8x512x64 .bf16) (h5 : M5.IsWhole)
    (M6 : Memref sig .tc .vmem S1x8x8x128 .f32) (h6 : M6.IsWhole)
    (M7 : Memref sig .tc .vmem S8x8x128x128 .bf16) (h7 : M7.IsWhole)
    (M8 : Memref sig .tc .vmem S512x1024 .f32) (h8 : M8.IsWhole)
    (M9 : Memref sig .tc .vmem S512x1024 .f32) (h9 : M9.IsWhole)
    (M10 : Memref sig .tc .vmem S512x1024 .f32) (h10 : M10.IsWhole)
    (M11 : Memref sig .tc .vmem S512x1024 .f32) (h11 : M11.IsWhole)
    (M12 : Memref sig .tc .vmem S8x512x64 .f32) (h12 : M12.IsWhole)
    (M13 : Memref sig .tc .vmem S1x8x8x128 .f32) (h13 : M13.IsWhole)
    (M14 : Memref sig .tc .vmem S8x128x128 .f32) (h14 : M14.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f14 : Bf (F := F) c M14)

set_option maxHeartbeats 20000000 in
theorem run_U : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.1
    = M8.view.writes (Elt F) M8.view.junk (piecesU (i 0) (M0.view.read _ f0) (M2.view.read _ f2) (M3.view.read _ f3) (M4.view.read _ f4) (M5.view.read _ f5) (M6.view.read _ f6) (M14.view.read _ f14)) := by exact rfl
set_option maxHeartbeats 20000000 in
theorem run_W : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.2.1
    = M9.view.writes (Elt F) M9.view.junk (piecesW (i 0) (M0.view.read _ f0) (M2.view.read _ f2) (M3.view.read _ f3) (M4.view.read _ f4) (M5.view.read _ f5) (M6.view.read _ f6) (M7.view.read _ f7) (M14.view.read _ f14)) := by exact rfl
set_option maxHeartbeats 20000000 in
theorem run_Qd : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.2.2.1
    = M10.view.writes (Elt F) M10.view.junk (piecesQd (M0.view.read _ f0) (M7.view.read _ f7)) := by exact rfl
set_option maxHeartbeats 20000000 in
theorem run_Kd : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.2.2.2.1
    = M11.view.writes (Elt F) M11.view.junk (piecesKd (i 0) (M0.view.read _ f0) (M1.view.read _ f1) (M2.view.read _ f2) (M3.view.read _ f3) (M4.view.read _ f4) (M5.view.read _ f5) (M6.view.read _ f6) (M7.view.read _ f7) (M14.view.read _ f14)) := by exact rfl
set_option maxHeartbeats 20000000 in
theorem run_Qk : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.2.2.2.2.1
    = M12.view.writes (Elt F) M12.view.junk (piecesQk (M0.view.read _ f0) (M1.view.read _ f1) (M2.view.read _ f2) (M7.view.read _ f7)) := by exact rfl
set_option maxHeartbeats 20000000 in
theorem run_G : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.2.2.2.2.2.1
    = M13.view.writes (Elt F) M13.view.junk (piecesG (i 0) (M0.view.read _ f0) (M2.view.read _ f2) (M3.view.read _ f3) (M4.view.read _ f4) (M5.view.read _ f5) (M6.view.read _ f6) (M7.view.read _ f7) (M14.view.read _ f14)) := by exact rfl
set_option maxHeartbeats 20000000 in
theorem run_D : (BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).1.2.2.2.2.2.2
    = M14.view.writes (Elt F) M14.view.junk (piecesD (i 0) (M0.view.read _ f0) (M2.view.read _ f2) (M3.view.read _ f3) (M4.view.read _ f4) (M5.view.read _ f5) (M6.view.read _ f6) (M14.view.read _ f14)) := by exact rfl

end Run

end Cert.KernelIdeal.StepB

end
-- ==== Proof.RegionB.lean ====
/- The backward scan's region: what each grid point finds and leaves. -/
module

public import proofs.«01_k».proof.Proof.Common
public import proofs.«01_k».proof.Proof.RunB
public import proofs.«01_k».proof.Proof.RegionF

@[expose] public section

set_option maxRecDepth 16384

noncomputable section

namespace Cert.KernelIdeal.RegionB

open Cert.KernelIdeal Cert.KernelIdeal.Gen Cert.KernelIdeal.Base Cert.KernelIdeal.StepB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on blocks it owns. -/
theorem body_spec (i : grid1.Coords) (c : Dev nD)
    (M0 : Memref sig .tc .vmem S512x1024 .f32) (h0 : M0.IsWhole)
    (M1 : Memref sig .tc .vmem S512x1024 .f32) (h1 : M1.IsWhole)
    (M2 : Memref sig .tc .vmem S512x1024 .f32) (h2 : M2.IsWhole)
    (M3 : Memref sig .tc .vmem S512x1024 .bf16) (h3 : M3.IsWhole)
    (M4 : Memref sig .tc .vmem S512x1024 .bf16) (h4 : M4.IsWhole)
    (M5 : Memref sig .tc .vmem S8x512x64 .bf16) (h5 : M5.IsWhole)
    (M6 : Memref sig .tc .vmem S1x8x8x128 .f32) (h6 : M6.IsWhole)
    (M7 : Memref sig .tc .vmem S8x8x128x128 .bf16) (h7 : M7.IsWhole)
    (M8 : Memref sig .tc .vmem S512x1024 .f32) (h8 : M8.IsWhole)
    (M9 : Memref sig .tc .vmem S512x1024 .f32) (h9 : M9.IsWhole)
    (M10 : Memref sig .tc .vmem S512x1024 .f32) (h10 : M10.IsWhole)
    (M11 : Memref sig .tc .vmem S512x1024 .f32) (h11 : M11.IsWhole)
    (M12 : Memref sig .tc .vmem S8x512x64 .f32) (h12 : M12.IsWhole)
    (M13 : Memref sig .tc .vmem S1x8x8x128 .f32) (h13 : M13.IsWhole)
    (M14 : Memref sig .tc .vmem S8x128x128 .f32) (h14 : M14.IsWhole)
    (Do : Vec F S512x1024 .f32) (U : Vec F S512x1024 .f32) (W : Vec F S512x1024 .f32) (Qd : Vec F S512x1024 .bf16) (Kd : Vec F S512x1024 .bf16) (Qk : Vec F S8x512x64 .bf16) (G : Vec F S1x8x8x128 .f32) (St : Vec F S8x8x128x128 .bf16)
    (X8 : Vec F S512x1024 .f32) (X9 : Vec F S512x1024 .f32) (X10 : Vec F S512x1024 .f32) (X11 : Vec F S512x1024 .f32) (X12 : Vec F S8x512x64 .f32) (X13 : Vec F S1x8x8x128 .f32) (D : Vec F S8x128x128 .f32)
    (Q : PUnit → sProp 𝕄) :
    iprop(ow c M0 Do ∗ ow c M1 U ∗ ow c M2 W ∗ ow c M3 Qd ∗ ow c M4 Kd ∗ ow c M5 Qk ∗ ow c M6 G ∗ ow c M7 St ∗ ow c M8 X8 ∗ ow c M9 X9 ∗ ow c M10 X10 ∗ ow c M11 X11 ∗ ow c M12 X12 ∗ ow c M13 X13 ∗ ow c M14 D
      ∗ (iprop(ow c M0 Do ∗ ow c M1 U ∗ ow c M2 W ∗ ow c M3 Qd ∗ ow c M4 Kd ∗ ow c M5 Qk ∗ ow c M6 G ∗ ow c M7 St
          ∗ ow c M8 (View.canon (piecesU (i 0) Do W Qd Kd Qk G D)) ∗ ow c M9 (View.canon (piecesW (i 0) Do W Qd Kd Qk G St D)) ∗ ow c M10 (View.canon (piecesQd Do St)) ∗ ow c M11 (View.canon (piecesKd (i 0) Do U W Qd Kd Qk G St D)) ∗ ow c M12 (View.canon (piecesQk Do U W St)) ∗ ow c M13 (View.canon (piecesG (i 0) Do W Qd Kd Qk G St D)) ∗ ow c M14 (View.canon (piecesD (i 0) Do W Qd Kd Qk G D))) -∗ Q ⟨⟩))
      ⊢ wp frame (wpE (defs₀ (F := F)) Variants.none c none) Set.univ
          (cc1_gdn_scan_bwd i M0 h0 M1 h1 M2 h2 M3 h3 M4 h4 M5 h5 M6 h6 M7 h7 M8 h8 M9 h9 M10 h10 M11 h11 M12 h12 M13 h13 M14 h14) Q := by
  simp only [ow_eq c h0, ow_eq c h1, ow_eq c h2, ow_eq c h3, ow_eq c h4, ow_eq c h5, ow_eq c h6, ow_eq c h7, ow_eq c h8, ow_eq c h9, ow_eq c h10, ow_eq c h11, ow_eq c h12, ow_eq c h13, ow_eq c h14]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, ⟨%f9, -, H9⟩, ⟨%f10, -, H10⟩, ⟨%f11, -, H11⟩, ⟨%f12, -, H12⟩, ⟨%f13, -, H13⟩, ⟨%f14, %e14, H14⟩, Hk⟩
  subst e0 e1 e2 e3 e4 e5 e6 e7 e14
  iapply ((BodyB.kernelRun i c M0 h0 M1 h1 M2 h2 M3 h3 M4 h4 M5 h5 M6 h6 M7 h7 M8 h8 M9 h9 M10 h10 M11 h11 M12 h12 M13 h13 M14 h14 f0 f1 f2 f3 f4 f5 f6 f7 f14).2 f8 f9 f10 f11 f12 f13 Set.univ Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  rw [run_U, run_W, run_Qd, run_Kd, run_Qk, run_G, run_D]
  iintro ⟨H0, H1, H2, H3, H4, H5, H6, H7, H8, H9, H10, H11, H12, H13, H14⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; exact View.read_writes_junk_eq_canon _ _
  isplitl [H9]; · iexists _; isplitr; swap; (· iexact H9); ipureintro; exact View.read_writes_junk_eq_canon _ _
  isplitl [H10]; · iexists _; isplitr; swap; (· iexact H10); ipureintro; exact View.read_writes_junk_eq_canon _ _
  isplitl [H11]; · iexists _; isplitr; swap; (· iexact H11); ipureintro; exact View.read_writes_junk_eq_canon _ _
  isplitl [H12]; · iexists _; isplitr; swap; (· iexact H12); ipureintro; exact View.read_writes_junk_eq_canon _ _
  isplitl [H13]; · iexists _; isplitr; swap; (· iexact H13); ipureintro; exact View.read_writes_junk_eq_canon _ _
  iexists _; isplitr; swap; (· iexact H14); ipureintro; exact View.read_writes_junk_eq_canon _ _

/-! ## The proof data, at the contents the region is entered with -/

section Data

variable (V : Dev nD → Valuation τ sig (Elt F)) (c : Dev nD)

/-- A window's block of a grid point. -/
def blkAt (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of the gradient of u a point leaves. -/
def outU (t : Fin cfg1.N) (D : Vec F S8x128x128 .f32) : Vec F S512x1024 .f32 :=
  View.canon (piecesU ((grid1.coords t) 0) (blkAt V c 0 t) (blkAt V c 2 t) (blkAt V c 3 t) (blkAt V c 4 t) (blkAt V c 5 t) (blkAt V c 6 t) D)
/-- The block of the gradient of w a point leaves. -/
def outW (t : Fin cfg1.N) (D : Vec F S8x128x128 .f32) : Vec F S512x1024 .f32 :=
  View.canon (piecesW ((grid1.coords t) 0) (blkAt V c 0 t) (blkAt V c 2 t) (blkAt V c 3 t) (blkAt V c 4 t) (blkAt V c 5 t) (blkAt V c 6 t) (blkAt V c 7 t) D)
/-- The block of the gradient of qd a point leaves. -/
def outQd (t : Fin cfg1.N) : Vec F S512x1024 .f32 :=
  View.canon (piecesQd (blkAt V c 0 t) (blkAt V c 7 t))
/-- The block of the gradient of kd a point leaves. -/
def outKd (t : Fin cfg1.N) (D : Vec F S8x128x128 .f32) : Vec F S512x1024 .f32 :=
  View.canon (piecesKd ((grid1.coords t) 0) (blkAt V c 0 t) (blkAt V c 1 t) (blkAt V c 2 t) (blkAt V c 3 t) (blkAt V c 4 t) (blkAt V c 5 t) (blkAt V c 6 t) (blkAt V c 7 t) D)
/-- The block of the gradient of qk a point leaves. -/
def outQk (t : Fin cfg1.N) : Vec F S8x512x64 .f32 :=
  View.canon (piecesQk (blkAt V c 0 t) (blkAt V c 1 t) (blkAt V c 2 t) (blkAt V c 7 t))
/-- The block of the gradient of the gate a point leaves. -/
def outG (t : Fin cfg1.N) (D : Vec F S8x128x128 .f32) : Vec F S1x8x8x128 .f32 :=
  View.canon (piecesG ((grid1.coords t) 0) (blkAt V c 0 t) (blkAt V c 2 t) (blkAt V c 3 t) (blkAt V c 4 t) (blkAt V c 5 t) (blkAt V c 6 t) (blkAt V c 7 t) D)
/-- The carried gradient a point leaves. -/
def outD (t : Fin cfg1.N) (D : Vec F S8x128x128 .f32) : Vec F S8x128x128 .f32 :=
  View.canon (piecesD ((grid1.coords t) 0) (blkAt V c 0 t) (blkAt V c 2 t) (blkAt V c 3 t) (blkAt V c 4 t) (blkAt V c 5 t) (blkAt V c 6 t) D)

/-- The carried gradient before point `n`. -/
def scr : Nat → Vec F S8x128x128 .f32
  | 0 => View.canon []
  | n + 1 => if h : n < cfg1.N then outD V c ⟨n, h⟩ (scr n) else scr n

theorem scr_succ (t : Fin cfg1.N) : scr V c (t.val + 1) = outD V c t (scr V c t.val) := by
  rw [scr, dif_pos t.isLt]

/-- At the first point the scratch's contents do not matter. -/
theorem dstate_first (i : Fin 16) (hi : i.val = 0) (Do W : Vec F S512x1024 .f32) (Qd Kd : Vec F S512x1024 .bf16)
    (Qk : Vec F S8x512x64 .bf16) (G : Vec F S1x8x8x128 .f32) (D D' : Vec F S8x128x128 .f32) :
    dstate i Do W Qd Kd Qk G D = dstate i Do W Qd Kd Qk G D' := by
  funext n
  induction n with
  | zero => exact RegionF.start_first i hi D D'
  | succ n ih => unfold dstate; rw [ih]

theorem coord_first (t : Fin cfg1.N) (h : t.val = 0) : ((grid1.coords t) 0).val = 0 := by
  obtain rfl : t = t1_0 := Fin.ext h
  decide +kernel

theorem outs_first (t : Fin cfg1.N) (h : t.val = 0) (D D' : Vec F S8x128x128 .f32) :
    outU V c t D = outU V c t D' ∧ outW V c t D = outW V c t D' ∧ outKd V c t D = outKd V c t D' ∧ outG V c t D = outG V c t D' ∧ outD V c t D = outD V c t D' := by
  have e := dstate_first ((grid1.coords t) 0) (coord_first t h) (blkAt V c 0 t) (blkAt V c 2 t) (blkAt V c 3 t) (blkAt V c 4 t)
    (blkAt V c 5 t) (blkAt V c 6 t) D D'
  unfold outU outW outKd outG outD piecesU piecesW piecesKd piecesG piecesD
  rw [e]
  exact ⟨rfl, rfl, rfl, rfl, rfl⟩

/-- The invariant before point `n`: the scratch at the carried gradient (at the first point, at anything), the other
    scoped buffers at anything. -/
def Phi (n : Nat) : sProp 𝕄 :=
  iprop((∃ D, ⌜n = 0 ∨ D = scr V c n⌝ ∗ ow c (Memref.whole cc1_scratch0) D)
    ∗ Pipeline.scopedRestBut (Ix := Unit) (Name := ℕ) (U := UR sig nD τ) (Lvl := ℕ) (Val := Elt F) spec1 c [cc1_scratch0])

/-- The region's proof data. -/
def dat : Dat τ (Elt F) Unit ℕ (UR sig nD τ) ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => outU V c t (scr V c t.val)
    | ⟨9, _⟩ => outW V c t (scr V c t.val)
    | ⟨10, _⟩ => outQd V c t
    | ⟨11, _⟩ => outKd V c t (scr V c t.val)
    | ⟨12, _⟩ => outQk V c t
    | ⟨13, _⟩ => outG V c t (scr V c t.val)
  Φ t := Phi V c t.val
  q _ := fullShare
  owed _ := 0

/-- An input's buffer holds the point's block. -/
theorem before_of (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat V c).after w t) = (dat V c).blockOf w t)
    (t : Fin cfg1.N) (d) : (dat V c).before w t d = (dat V c).fetched w t d :=
  (dat V c).before_in_eq_fetched w hw hlive hclip hkeep t d

theorem before0 (t : Fin cfg1.N) (d) : (dat V c).before 0 t d = blkAt V c 0 t :=
  (before_of V c 0 rfl (fun _ => rfl) (fun _ _ _ => rfl) (fun _ => rfl) t d).trans rfl
theorem before1 (t : Fin cfg1.N) (d) : (dat V c).before 1 t d = blkAt V c 1 t :=
  (before_of V c 1 rfl (fun _ => rfl) (fun _ _ _ => rfl) (fun _ => rfl) t d).trans rfl
theorem before2 (t : Fin cfg1.N) (d) : (dat V c).before 2 t d = blkAt V c 2 t :=
  (before_of V c 2 rfl (fun _ => rfl) (fun _ _ _ => rfl) (fun _ => rfl) t d).trans rfl
theorem before3 (t : Fin cfg1.N) (d) : (dat V c).before 3 t d = blkAt V c 3 t :=
  (before_of V c 3 rfl (fun _ => rfl) (fun _ _ _ => rfl) (fun _ => rfl) t d).trans rfl
theorem before4 (t : Fin cfg1.N) (d) : (dat V c).before 4 t d = blkAt V c 4 t :=
  (before_of V c 4 rfl (fun _ => rfl) (fun _ _ _ => rfl) (fun _ => rfl) t d).trans rfl
theorem before5 (t : Fin cfg1.N) (d) : (dat V c).before 5 t d = blkAt V c 5 t :=
  (before_of V c 5 rfl (fun _ => rfl) (fun _ _ _ => rfl) (fun _ => rfl) t d).trans rfl
theorem before6 (t : Fin cfg1.N) (d) : (dat V c).before 6 t d = blkAt V c 6 t :=
  (before_of V c 6 rfl (fun _ => rfl) (fun _ _ _ => rfl) (fun _ => rfl) t d).trans rfl
theorem before7 (t : Fin cfg1.N) (d) : (dat V c).before 7 t d = blkAt V c 7 t :=
  (before_of V c 7 rfl (fun _ => rfl) (fun _ _ _ => rfl) (fun _ => rfl) t d).trans rfl

end Data

end Cert.KernelIdeal.RegionB

end
-- ==== Proof.ObligB.lean ====
/- The backward scan's body meets its obligation at every grid point. -/
module

public import proofs.«01_k».proof.Proof.RegionB

@[expose] public section

set_option maxRecDepth 16384

noncomputable section

namespace Cert.KernelIdeal.RegionB

open Cert.KernelIdeal Cert.KernelIdeal.Gen Cert.KernelIdeal.Base Cert.KernelIdeal.StepB
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F)) (c : Dev nD)

set_option maxHeartbeats 8000000 in
/-- The body's obligation at every point. -/
theorem body_obligation : BodyObligation (dat V c) (defs₀ (F := F)) Variants.none () Set.univ := fun t => by
  rw [bigSep_W1, bigSep_W1]
  rw [show (dat V c).Φ t.castSucc = Phi V c t.val from rfl, show (dat V c).Φ t.succ = Phi V c (t.val + 1) from rfl,
    show (dat V c).owesAt () t.succ = (dat V c).owesAt () t.castSucc from rfl]
  unfold Phi
  iintro ⟨⟨⟨%D, %hD, H14⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0, before1, before2, before3, before4, before5, before6, before7]
  have e : outU V c t D = outU V c t (scr V c t.val) ∧ outW V c t D = outW V c t (scr V c t.val) ∧ outKd V c t D = outKd V c t (scr V c t.val) ∧ outG V c t D = outG V c t (scr V c t.val) ∧ outD V c t D = outD V c t (scr V c t.val) := by
    rcases hD with h | rfl
    · exact outs_first V c t h D _
    · exact ⟨rfl, rfl, rfl, rfl, rfl⟩
  iapply (body_spec (grid1.coords t) c _ _ _ _ _ _ _ _ _ _ _ _ _ _ _ _ _ _ _ _ _ _ _ _ _ _ _ _ _ _ (blkAt V c 0 t) (blkAt V c 1 t) (blkAt V c 2 t) (blkAt V c 3 t) (blkAt V c 4 t) (blkAt V c 5 t) (blkAt V c 6 t) (blkAt V c 7 t) _ _ _ _ _ _ D _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [H14 Hrest]
  · isplitl [H14]
    · iexists (outD V c t D)
      isplitr
      · ipureintro; exact .inr (e.2.2.2.2.trans (scr_succ V c t).symm)
      · iexact H14
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [show (dat V c).after 8 t = outU V c t D from e.1.symm]; iexact H8
  isplitl [H9]
  · rw [show (dat V c).after 9 t = outW V c t D from e.2.1.symm]; iexact H9
  isplitl [H10]
  · rw [show (dat V c).after 10 t = outQd V c t from rfl]; iexact H10
  isplitl [H11]
  · rw [show (dat V c).after 11 t = outKd V c t D from e.2.2.1.symm]; iexact H11
  isplitl [H12]
  · rw [show (dat V c).after 12 t = outQk V c t from rfl]; iexact H12
  rw [show (dat V c).after 13 t = outG V c t D from e.2.2.2.1.symm]; iexact H13

end Cert.KernelIdeal.RegionB

end
-- ==== Proof.Run.lean ====
/- The whole program: the host's operations, the forward region, the backward region. -/
module

public import proofs.«01_k».proof.Proof.ObligF
public import proofs.«01_k».proof.Proof.ObligB
public import Idealize.ShloMosaic.Lib.Pipeline.RegionsLoop

@[expose] public section

set_option maxRecDepth 16384

noncomputable section

namespace Cert.KernelIdeal.Run

open Cert.KernelIdeal Cert.KernelIdeal.Gen Cert.KernelIdeal.Base
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- The outputs and the saved states the forward region leaves. -/
def resO (c : Dev nD) : Buf (Elt F) ((c : Thread nD τ).loc main_v3_0) := (RegionF.dat (V1 m) c).arrAt 6 cfg0.N
def resS (c : Dev nD) : Buf (Elt F) ((c : Thread nD τ).loc main_v3_1) := (RegionF.dat (V1 m) c).arrAt 7 cfg0.N

/-- A core's buffers after the forward region. -/
def A2 (c : Dev nD) : Valuation τ sig (Elt F) :=
  Function.update (Function.update (V1 m c) main_v3_0 (resO m c)) main_v3_1 (resS m c)

/-- The gradients the backward region leaves. -/
def resU (c : Dev nD) : Buf (Elt F) ((c : Thread nD τ).loc main_v4_0) := (RegionB.dat (A2 m) c).arrAt 8 cfg1.N
def resW (c : Dev nD) : Buf (Elt F) ((c : Thread nD τ).loc main_v4_1) := (RegionB.dat (A2 m) c).arrAt 9 cfg1.N
def resQd (c : Dev nD) : Buf (Elt F) ((c : Thread nD τ).loc main_v4_2) := (RegionB.dat (A2 m) c).arrAt 10 cfg1.N
def resKd (c : Dev nD) : Buf (Elt F) ((c : Thread nD τ).loc main_v4_3) := (RegionB.dat (A2 m) c).arrAt 11 cfg1.N
def resQk (c : Dev nD) : Buf (Elt F) ((c : Thread nD τ).loc main_v4_4) := (RegionB.dat (A2 m) c).arrAt 12 cfg1.N
def resG (c : Dev nD) : Buf (Elt F) ((c : Thread nD τ).loc main_v4_5) := (RegionB.dat (A2 m) c).arrAt 13 cfg1.N

/-- A core's buffers after the backward region. -/
def A3 (c : Dev nD) : Valuation τ sig (Elt F) :=
  Function.update (Function.update (Function.update (Function.update (Function.update (Function.update (A2 m c)
    main_v4_0 (resU m c)) main_v4_1 (resW m c)) main_v4_2 (resQd m c)) main_v4_3 (resKd m c)) main_v4_4 (resQk m c)) main_v4_5 (resG m c)

theorem A2_of (c : Dev nD) (r : Ref sig .tc) (h0 : r ≠ main_v3_0) (h1 : r ≠ main_v3_1) : A2 m c r = V1 m c r := by
  unfold A2
  rw [Function.update_of_ne (StableHlo.devRef_ne_of_ne h1), Function.update_of_ne (StableHlo.devRef_ne_of_ne h0)]

theorem A2_o (c : Dev nD) : A2 m c main_v3_0 = resO m c := by
  unfold A2
  rw [Function.update_of_ne (StableHlo.devRef_ne_of_ne (by decide)), Function.update_self]

theorem A2_s (c : Dev nD) : A2 m c main_v3_1 = resS m c := by
  unfold A2
  rw [Function.update_self]

theorem A3_of (c : Dev nD) (r : Ref sig .tc) (h0 : r ≠ main_v4_0) (h1 : r ≠ main_v4_1) (h2 : r ≠ main_v4_2) (h3 : r ≠ main_v4_3)
    (h4 : r ≠ main_v4_4) (h5 : r ≠ main_v4_5) : A3 m c r = A2 m c r := by
  unfold A3
  rw [Function.update_of_ne (StableHlo.devRef_ne_of_ne h5), Function.update_of_ne (StableHlo.devRef_ne_of_ne h4),
    Function.update_of_ne (StableHlo.devRef_ne_of_ne h3), Function.update_of_ne (StableHlo.devRef_ne_of_ne h2),
    Function.update_of_ne (StableHlo.devRef_ne_of_ne h1), Function.update_of_ne (StableHlo.devRef_ne_of_ne h0)]

theorem A3_U (c : Dev nD) : A3 m c main_v4_0 = resU m c := by
  unfold A3
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide)), Function.update_self]
theorem A3_W (c : Dev nD) : A3 m c main_v4_1 = resW m c := by
  unfold A3
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]
theorem A3_Qd (c : Dev nD) : A3 m c main_v4_2 = resQd m c := by
  unfold A3
  rw [Function.update_of_ne (StableHlo.devRef_ne_of_ne (by decide)), Function.update_of_ne (StableHlo.devRef_ne_of_ne (by decide)),
    Function.update_of_ne (StableHlo.devRef_ne_of_ne (by decide)), Function.update_self]
theorem A3_Kd (c : Dev nD) : A3 m c main_v4_3 = resKd m c := by
  unfold A3
  rw [Function.update_of_ne (StableHlo.devRef_ne_of_ne (by decide)), Function.update_of_ne (StableHlo.devRef_ne_of_ne (by decide)),
    Function.update_self]
theorem A3_Qk (c : Dev nD) : A3 m c main_v4_4 = resQk m c := by
  unfold A3
  rw [Function.update_of_ne (StableHlo.devRef_ne_of_ne (by decide)), Function.update_self]
theorem A3_G (c : Dev nD) : A3 m c main_v4_5 = resG m c := by
  unfold A3
  rw [Function.update_self]

/-- No item writes an argument. -/
theorem A3_arg (c : Dev nD) (r : Ref sig .tc)
    (h : r ∉ ([main_v4_0, main_v4_1, main_v4_2, main_v4_3, main_v4_4, main_v4_5, main_v3_0, main_v3_1] : List (Ref sig .tc)))
    (h' : r ∉ hostOps0_W) : A3 m c r = m ((c : Thread nD τ).loc r) := by
  simp only [List.mem_cons, not_or] at h
  obtain ⟨h0, h1, h2, h3, h4, h5, h6, h7, -⟩ := h
  exact (A3_of m c r h0 h1 h2 h3 h4 h5).trans ((A2_of m c r h6 h7).trans ((V1_of m c r h').trans rfl))

/-! ## The regions' records -/

/-- The proof data of the two regions. -/
def pdats : (p : Fin 2) → (c : Dev nD) → Dat τ (Elt F) Unit ℕ (UR sig nD τ) ℕ (Pipeline.pin (pcfgs (F := F)) adm p) c
  | ⟨0, _⟩ => fun c => RegionF.dat (V1 m) c
  | ⟨1, _⟩ => fun c => RegionB.dat (A2 m) c

/-- No core owes another anything: no level is assigned. -/
abbrev L : GSem nD τ sig → Finset Unit := fun _ => ∅
abbrev lv : GSem nD τ sig → Unit → ℕ := fun _ _ => 0

/-- A core owing nothing. -/
abbrev rest (c : Dev nD) : sProp 𝕄 := iprop(∃ W, owes (c : Thread nD τ) (0 : CellTallies nD τ sig Unit) W)

theorem scratch0_eq (c : Dev nD) : (ow (F := F) c (Memref.whole cc0_scratch0)) = fun X => iprop(((c : Thread nD τ).loc cc0_scratch0) ↦{fullShare} X) := by
  funext X
  unfold Base.ow
  rw [owns_whole]

theorem scratch1_eq (c : Dev nD) : (ow (F := F) c (Memref.whole cc1_scratch0)) = fun X => iprop(((c : Thread nD τ).loc cc1_scratch0) ↦{fullShare} X) := by
  funext X
  unfold Base.ow
  rw [owns_whole]

theorem rest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem Phi0_in (c : Dev nD) : (Pipeline.scopedRest (Ix := Unit) (Name := ℕ) (U := UR sig nD τ) (Lvl := ℕ) (Val := Elt F) spec0 c : sProp 𝕄)
    ⊢ RegionF.Phi (V1 m) c 0 := by
  unfold RegionF.Phi
  rw [scopedRest0_split, scratch0_eq]
  iintro ⟨⟨%f, H⟩, Hr⟩
  isplitl [H]
  · iexists f; isplitr; · ipureintro; exact .inl rfl
    iexact H
  iexact Hr

theorem Phi0_out (c : Dev nD) (n : Nat) : RegionF.Phi (V1 m) c n
    ⊢ (Pipeline.scopedRest (Ix := Unit) (Name := ℕ) (U := UR sig nD τ) (Lvl := ℕ) (Val := Elt F) spec0 c : sProp 𝕄) := by
  unfold RegionF.Phi
  rw [scopedRest0_split, scratch0_eq]
  iintro ⟨⟨%f, -, H⟩, Hr⟩
  isplitl [H]
  · iexists f; iexact H
  iexact Hr

theorem Phi1_in (c : Dev nD) : (Pipeline.scopedRest (Ix := Unit) (Name := ℕ) (U := UR sig nD τ) (Lvl := ℕ) (Val := Elt F) spec1 c : sProp 𝕄)
    ⊢ RegionB.Phi (A2 m) c 0 := by
  unfold RegionB.Phi
  rw [rest1_split, scratch1_eq]
  iintro ⟨⟨%f, H⟩, Hr⟩
  isplitl [H]
  · iexists f; isplitr; · ipureintro; exact .inl rfl
    iexact H
  iexact Hr

theorem Phi1_out (c : Dev nD) (n : Nat) : RegionB.Phi (A2 m) c n
    ⊢ (Pipeline.scopedRest (Ix := Unit) (Name := ℕ) (U := UR sig nD τ) (Lvl := ℕ) (Val := Elt F) spec1 c : sProp 𝕄) := by
  unfold RegionB.Phi
  rw [rest1_split, scratch1_eq]
  iintro ⟨⟨%f, -, H⟩, Hr⟩
  isplitl [H]
  · iexists f; iexact H
  iexact Hr

set_option backward.isDefEq.respectTransparency.types false in
/-- The forward region, from the buffers the host leaves to the ones with its results. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (RegionF.body_obligation (V1 m) c).loose
  hwaits := Pipeline.hwaits_of_owed_zero _ _ _ _ L lv 0 fun _ _ => rfl
  pre c := iprop(unscopedBufs c (fun b => V1 m c b) ∗ rest c)
  post c := iprop(unscopedBufs c (fun b => A2 m c b) ∗ rest c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = RegionF.Phi (V1 m) c 0 from rfl]
    iintro ⟨-, -, Hr⟩; iapply (Phi0_in m c); iexact Hr
  hout c := by
    rw [Pipeline.ownSems0_none, show (pdats m 0 c).Φ (Fin.last _) = RegionF.Phi (V1 m) c cfg0.N from rfl]
    iintro Hr
    isplitr; · iempintro
    isplitr; · iempintro
    iapply (Phi0_out m c cfg0.N); iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => A2 m c b) ((pdats m 0 c).arrAt · cfg0.N)
      (fun w => by
        fin_cases w
        · exact ((pdats m 0 c).arrAt_in 0 rfl _).trans (A2_of m c main_arg1 (by decide) (by decide)).symm
        · exact ((pdats m 0 c).arrAt_in 1 rfl _).trans (A2_of m c main_arg2 (by decide) (by decide)).symm
        · exact ((pdats m 0 c).arrAt_in 2 rfl _).trans (A2_of m c main_arg3 (by decide) (by decide)).symm
        · exact ((pdats m 0 c).arrAt_in 3 rfl _).trans (A2_of m c main_arg4 (by decide) (by decide)).symm
        · exact ((pdats m 0 c).arrAt_in 4 rfl _).trans (A2_of m c main_arg5 (by decide) (by decide)).symm
        · exact ((pdats m 0 c).arrAt_in 5 rfl _).trans (A2_of m c main_v2 (by decide) (by decide)).symm
        · exact (A2_o m c).symm
        · exact (A2_s m c).symm)
      (fun b hb => A2_of m c b (fun h => hb (h ▸ Finset.mem_image.mpr ⟨6, Finset.mem_univ _, rfl⟩))
        (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The backward region. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (RegionB.body_obligation (A2 m) c).loose
  hwaits := Pipeline.hwaits_of_owed_zero _ _ _ _ L lv 1 fun _ _ => rfl
  pre c := iprop(unscopedBufs c (fun b => A2 m c b) ∗ rest c)
  post c := iprop(unscopedBufs c (fun b => A3 m c b) ∗ rest c)
  X _ := BI.emp
  Y _ := BI.emp
  Z c := Pipeline.unscopedRest (Ix := Unit) (Name := ℕ) (U := UR sig nD τ) (Lvl := ℕ) spec1 c (fun b => A2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => A2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = RegionB.Phi (A2 m) c 0 from rfl]
    iintro ⟨-, -, Hr⟩; iapply (Phi1_in m c); iexact Hr
  hout c := by
    rw [Pipeline.ownSems0_none, show (pdats m 1 c).Φ (Fin.last _) = RegionB.Phi (A2 m) c cfg1.N from rfl]
    iintro Hr
    isplitr; · iempintro
    isplitr; · iempintro
    iapply (Phi1_out m c cfg1.N); iexact Hr
  hexit c := by
    have hin : ∀ r : Ref sig .tc, r ∉ ([main_v4_0, main_v4_1, main_v4_2, main_v4_3, main_v4_4, main_v4_5] : List (Ref sig .tc)) →
        A3 m c r = A2 m c r := fun r h => by
      simp only [List.mem_cons, not_or] at h
      exact A3_of m c r h.1 h.2.1 h.2.2.1 h.2.2.2.1 h.2.2.2.2.1 h.2.2.2.2.2.1
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => A2 m c b) (fun b => A3 m c b) ((pdats m 1 c).arrAt · cfg1.N)
      (fun w => by
        fin_cases w
        · exact ((pdats m 1 c).arrAt_in 0 rfl _).trans (hin main_arg0 (by decide)).symm
        · exact ((pdats m 1 c).arrAt_in 1 rfl _).trans (hin main_arg1 (by decide)).symm
        · exact ((pdats m 1 c).arrAt_in 2 rfl _).trans (hin main_arg2 (by decide)).symm
        · exact ((pdats m 1 c).arrAt_in 3 rfl _).trans (hin main_arg3 (by decide)).symm
        · exact ((pdats m 1 c).arrAt_in 4 rfl _).trans (hin main_arg4 (by decide)).symm
        · exact ((pdats m 1 c).arrAt_in 5 rfl _).trans (hin main_arg5 (by decide)).symm
        · exact ((pdats m 1 c).arrAt_in 6 rfl _).trans (hin main_v2 (by decide)).symm
        · exact ((pdats m 1 c).arrAt_in 7 rfl _).trans (hin main_v3_1 (by decide)).symm
        · exact (A3_U m c).symm
        · exact (A3_W m c).symm
        · exact (A3_Qd m c).symm
        · exact (A3_Kd m c).symm
        · exact (A3_Qk m c).symm
        · exact (A3_G m c).symm)
      (fun b hb => A3_of m c b (fun h => hb (h ▸ Finset.mem_image.mpr ⟨8, Finset.mem_univ _, rfl⟩))
        (fun h => hb (h ▸ Finset.mem_image.mpr ⟨9, Finset.mem_univ _, rfl⟩))
        (fun h => hb (h ▸ Finset.mem_image.mpr ⟨10, Finset.mem_univ _, rfl⟩))
        (fun h => hb (h ▸ Finset.mem_image.mpr ⟨11, Finset.mem_univ _, rfl⟩))
        (fun h => hb (h ▸ Finset.mem_image.mpr ⟨12, Finset.mem_univ _, rfl⟩))
        (fun h => hb (h ▸ Finset.mem_image.mpr ⟨13, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- What every item leaves beside the buffers. -/
abbrev E (_ : Fin 3) (c : Dev nD) : sProp 𝕄 := rest c

/-- The pipelines' resources at launch. -/
abbrev u₀ : UR sig nD τ := initOf (Pipeline.cells cfgs cellOf_inj) (Pipeline.launchToks cfgs cellOf_inj)

theorem pre0 (c : Dev nD) : iprop(StableHlo.held (c : Thread nD τ) (Pipeline.ucRefs τ sig) (V1 m c) ∗ rest c) ⊢ (reg0 m).pre c := by
  rw [← Pipeline.unscopedBufs_held c (V1 m c)]
  exact .rfl
theorem post0 (c : Dev nD) : (reg0 m).post c ⊢ (reg1 m).pre c := .rfl
theorem post1 (c : Dev nD) : (reg1 m).post c ⊢ iprop(StableHlo.held (c : Thread nD τ) (Pipeline.ucRefs τ sig) (A3 m c) ∗ rest c) := by
  rw [← Pipeline.unscopedBufs_held c (A3 m c)]
  exact .rfl

set_option maxHeartbeats 2000000 in
set_option backward.isDefEq.respectTransparency.types false in
/-- From any memory with zero counters the program ends, with every unscoped buffer at `A3` and every counter at zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = A3 m c b) ∧ r.2.sem = fun _ => 0) := by
  refine Pipeline.θ_run_regions_kit_dev_sems (pcfgs (F := F)) adm (pdats m) () cellOf_inj emb₁ defs₀ Variants.none L lv m ρ main
    (segs m Variants.none L lv E () (pdats m) (reg0 m) (reg1 m))
    (fun c Q => by
      rewrite [main_chain c, Seg.run_eq_chain,
        show (segs m Variants.none L lv E () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := u₀)
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (A3 m c))
    (hch := fun c => ⟨.rfl, pre0 m c, post0 m c, post1 m c⟩)
    (hinit := ?_) (QY := fun c s => ∀ b ∈ Pipeline.ucRefs τ sig, s.mem ((c : Thread nD τ).1, b) = A3 m c b)
    (hfin := fun c s' => ?_) (hQ := fun _ h hz => ⟨h, funext fun g => hz g (.inr (regions_no_unscoped g.2))⟩)
  · refine Pipeline.initEach L lv fun c => ?_
    rw [← Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (A3 m c) s') $$ [Hh HSI]
    · isplitl [Hh] <;> iassumption
    icases Hr with ⟨%h, HSI⟩
    imodintro
    isplitr
    · ipureintro; exact h
    · iexact HSI

/-- The run read at the arguments and the results. -/
theorem run_read : θ_run defs (onTc (τ := τ) (main (F := F))) ⟨m, fun _ => 0, ρ⟩
    (fun r => (∀ c : Dev nD, ∀ b : Ref sig .tc, (Proc.devRef .tc b : DevRef τ sig).isScoped = false → r.2.mem ((c.tc : Thread nD τ).loc b) = A3 m c b) ∧ r.2.sem = fun _ => 0) :=
  (θ_run defs _ _).mono (fun _ h => ⟨fun c b hb => h.1 c (Proc.devRef .tc b)
    (Finset.mem_filter.mpr ⟨StableHlo.devRef_mem_tcRefs b, by simp [hb]⟩), h.2⟩) (run_main m ρ)

end Cert.KernelIdeal.Run

end
-- ==== Proof.Spec.lean ====
/- The scan and its gradient in plain terms: one head's chunks, over the extended reals. -/
module

public import Idealize.ShloMosaic.Lib.Pointwise
public import Idealize.ShloMosaic.PureOps.Ideal

@[expose] public section

set_option maxRecDepth 16384

noncomputable section

namespace Cert.Spec

open Idealize.ShloMosaic

abbrev Mat (a b : ℕ) : Type := Fin a → Fin b → EReal

/-- The chunk of a number, counted round. -/
def ck (n : ℕ) : Fin 128 := ⟨n % 128, Nat.mod_lt _ (by decide)⟩
theorem ck_val (n : Fin 128) : ck n.val = n := Fin.ext (Nat.mod_eq_of_lt n.isLt)
theorem ck_of_lt {n : ℕ} (h : n < 128) : ck n = ⟨n, h⟩ := Fin.ext (Nat.mod_eq_of_lt h)

/-- One head's inputs, chunk by chunk. -/
structure Head where
  o' : Fin 128 → Mat 64 128
  u : Fin 128 → Mat 64 128
  w : Fin 128 → Mat 64 128
  qd : Fin 128 → Mat 64 128
  kd : Fin 128 → Mat 64 128
  qk : Fin 128 → Mat 64 64
  g : Fin 128 → EReal

/-! ## One chunk -/

/-- `u − w·S`. -/
def vnew (u w : Mat 64 128) (S : Mat 128 128) : Mat 64 128 := fun c e => u c e - ∑ d, w c d * S d e
/-- The state after a chunk. -/
def next (S : Mat 128 128) (g : EReal) (kd v : Mat 64 128) : Mat 128 128 := fun d e => S d e * g + ∑ c, kd c d * v c e
/-- A chunk's outputs. -/
def outs (qd : Mat 64 128) (qk : Mat 64 64) (S : Mat 128 128) (v : Mat 64 128) : Mat 64 128 :=
  fun c e => ∑ d, qd c d * S d e + ∑ i, qk c i * v i e
/-- The gradient of `vnew`. -/
def dvnew (o' kd : Mat 64 128) (qk : Mat 64 64) (D : Mat 128 128) : Mat 64 128 :=
  fun c e => ∑ i, qk i c * o' i e + ∑ d, kd c d * D d e
/-- The gradient of the state before a chunk, from that of the state after it. -/
def dprev (D : Mat 128 128) (g : EReal) (qd o' w dv : Mat 64 128) : Mat 128 128 :=
  fun d e => (D d e * g + ∑ c, qd c d * o' c e) - ∑ c, w c d * dv c e
/-- The same with the last sum's terms negated. -/
def dprevNeg (D : Mat 128 128) (g : EReal) (qd o' w dv : Mat 64 128) : Mat 128 128 :=
  fun d e => (D d e * g + ∑ c, qd c d * o' c e) + ∑ c, w c d * -dv c e
/-- `x·yᵀ`. -/
def outer {a b : ℕ} (x : Mat a 128) (y : Mat b 128) : Mat a b := fun i j => ∑ e, x i e * y j e
/-- The sum of the entries' products. -/
def inner (S D : Mat 128 128) : EReal := ∑ d, ∑ e, S d e * D d e

/-! ## All of them -/

/-- The state before chunk `n`. -/
def st (H : Head) : ℕ → Mat 128 128
  | 0 => fun _ _ => 0
  | n + 1 => next (st H n) (H.g (ck n)) (H.kd (ck n)) (vnew (H.u (ck n)) (H.w (ck n)) (st H n))

/-- Chunk `n`'s `vnew`. -/
def vn (H : Head) (n : Fin 128) : Mat 64 128 := vnew (H.u n) (H.w n) (st H n)
/-- Chunk `n`'s outputs. -/
def out (H : Head) (n : Fin 128) : Mat 64 128 := outs (H.qd n) (H.qk n) (st H n) (vn H n)

/-- The gradient of the state when the last `j` chunks are done. -/
def ds (H : Head) : ℕ → Mat 128 128
  | 0 => fun _ _ => 0
  | j + 1 => dprev (ds H j) (H.g (ck (127 - j))) (H.qd (ck (127 - j))) (H.o' (ck (127 - j))) (H.w (ck (127 - j)))
      (dvnew (H.o' (ck (127 - j))) (H.kd (ck (127 - j))) (H.qk (ck (127 - j))) (ds H j))

/-- The gradient of the state after chunk `n`. -/
def dS (H : Head) (n : Fin 128) : Mat 128 128 := ds H (127 - n.val)
/-- The gradient of chunk `n`'s `vnew`, which is that of its `u`. -/
def du (H : Head) (n : Fin 128) : Mat 64 128 := dvnew (H.o' n) (H.kd n) (H.qk n) (dS H n)
/-- The gradient of chunk `n`'s `w`. -/
def dw (H : Head) (n : Fin 128) : Mat 64 128 := fun c d => -outer (du H n) (st H n) c d
/-- The gradient of chunk `n`'s `qd`. -/
def dqd (H : Head) (n : Fin 128) : Mat 64 128 := outer (H.o' n) (st H n)
/-- The gradient of chunk `n`'s `kd`. -/
def dkd (H : Head) (n : Fin 128) : Mat 64 128 := outer (vn H n) (dS H n)
/-- The gradient of chunk `n`'s `qk`. -/
def dqk (H : Head) (n : Fin 128) : Mat 64 64 := outer (H.o' n) (vn H n)
/-- The gradient of chunk `n`'s gate. -/
def dg (H : Head) (n : Fin 128) : EReal := inner (st H n) (dS H n)

theorem ds_succ (H : Head) (n : Fin 128) :
    ds H (127 - n.val + 1) = dprev (dS H n) (H.g n) (H.qd n) (H.o' n) (H.w n) (du H n) := by
  have e : ck (127 - (127 - n.val)) = n := by
    rw [show 127 - (127 - n.val) = n.val by have := n.isLt; omega, ck_val]
  rw [ds, e]
  rfl

/-! ## Reals among the extended reals -/

/-- Neither infinity. -/
def IsReal (x : EReal) : Prop := ∃ r : ℝ, x = (r : EReal)

theorem IsReal.zero : IsReal 0 := ⟨0, rfl⟩
theorem IsReal.add {x y : EReal} : IsReal x → IsReal y → IsReal (x + y)
  | ⟨a, ha⟩, ⟨b, hb⟩ => ⟨a + b, by rw [ha, hb]; rfl⟩
theorem IsReal.neg {x : EReal} : IsReal x → IsReal (-x)
  | ⟨a, ha⟩ => ⟨-a, by rw [ha]; rfl⟩
theorem IsReal.sub {x y : EReal} (hx : IsReal x) (hy : IsReal y) : IsReal (x - y) := by
  rw [sub_eq_add_neg]; exact hx.add hy.neg
theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) {f : ι → EReal} (h : ∀ i, IsReal (f i)) : IsReal (∑ i ∈ s, f i) := by
  classical
  induction s using Finset.induction_on with
  | empty => rw [Finset.sum_empty]; exact .zero
  | insert a s ha ih => rw [Finset.sum_insert ha]; exact (h a).add ih

/-- Over the reals a sum's negation is the negations' sum. -/
theorem neg_sum {ι : Type} (s : Finset ι) {f : ι → EReal} (h : ∀ i, IsReal (f i)) : -∑ i ∈ s, f i = ∑ i ∈ s, -f i := by
  classical
  induction s using Finset.induction_on with
  | empty => simp
  | insert a s ha ih =>
    rw [Finset.sum_insert ha, Finset.sum_insert ha, ← ih]
    obtain ⟨x, hx⟩ := h a
    obtain ⟨y, hy⟩ := IsReal.sum s h
    rw [hx, hy, ← EReal.coe_add, ← EReal.coe_neg, ← EReal.coe_neg, ← EReal.coe_neg, ← EReal.coe_add, neg_add]

/-- Every input is real. -/
structure Head.IsReal (H : Head) : Prop where
  o' : ∀ n c e, Spec.IsReal (H.o' n c e)
  u : ∀ n c e, Spec.IsReal (H.u n c e)
  w : ∀ n c e, Spec.IsReal (H.w n c e)
  qd : ∀ n c e, Spec.IsReal (H.qd n c e)
  kd : ∀ n c e, Spec.IsReal (H.kd n c e)
  qk : ∀ n c e, Spec.IsReal (H.qk n c e)
  g : ∀ n, Spec.IsReal (H.g n)

theorem isReal_dvnew {o' kd : Mat 64 128} {qk : Mat 64 64} {D : Mat 128 128} (ho : ∀ c e, IsReal (o' c e)) (hk : ∀ c e, IsReal (kd c e))
    (hq : ∀ c e, IsReal (qk c e)) (hD : ∀ d e, IsReal (D d e)) (c : Fin 64) (e : Fin 128) : IsReal (dvnew o' kd qk D c e) :=
  (IsReal.sum _ fun _ => (hq _ _).mul (ho _ _)).add (IsReal.sum _ fun _ => (hk _ _).mul (hD _ _))

/-- So is the carried gradient. -/
theorem isReal_ds {H : Head} (h : H.IsReal) : ∀ j d e, IsReal (ds H j d e)
  | 0, _, _ => .zero
  | j + 1, d, e => by
    have ih := isReal_ds h j
    rw [ds]
    exact (((ih d e).mul (h.g _)).add (IsReal.sum _ fun _ => (h.qd _ _ _).mul (h.o' _ _ _))).sub
      (IsReal.sum _ fun _ => (h.w _ _ _).mul (isReal_dvnew (h.o' _) (h.kd _) (h.qk _) ih _ _))

/-- Then it makes no difference where the last sum's sign sits. -/
theorem dprevNeg_eq {H : Head} (h : H.IsReal) (n : Fin 128) :
    dprevNeg (dS H n) (H.g n) (H.qd n) (H.o' n) (H.w n) (du H n) = dprev (dS H n) (H.g n) (H.qd n) (H.o' n) (H.w n) (du H n) := by
  funext d e
  unfold dprevNeg dprev
  rw [sub_eq_add_neg, neg_sum Finset.univ (f := fun c => H.w n c d * du H n c e)
    fun c => (h.w n c d).mul (isReal_dvnew (h.o' n) (h.kd n) (h.qk n) (isReal_ds h _) c e)]
  exact congrArg _ (Finset.sum_congr rfl fun c _ => mul_neg ..)

theorem isReal_vn_st {H : Head} (h : H.IsReal) : ∀ n, (∀ d e, IsReal (st H n d e))
  | 0 => fun _ _ => .zero
  | n + 1 => fun d e => by
    have ih := isReal_vn_st h n
    rw [st]
    exact ((ih d e).mul (h.g _)).add (IsReal.sum _ fun _ => (h.kd _ _ _).mul ((h.u _ _ _).sub (IsReal.sum _ fun _ => (h.w _ _ _).mul (ih _ _))))

/-- The gradient of `w` as a sum of negated gradients of `u`. -/
theorem dw_eq {H : Head} (h : H.IsReal) (n : Fin 128) (c : Fin 64) (d : Fin 128) : dw H n c d = ∑ e, -du H n c e * st H n d e := by
  unfold dw outer
  rw [neg_sum Finset.univ (f := fun e => du H n c e * st H n d e)
    fun e => (isReal_dvnew (h.o' n) (h.kd n) (h.qk n) (isReal_ds h _) c e).mul (isReal_vn_st h n d e)]
  exact Finset.sum_congr rfl fun e _ => (neg_mul ..).symm

/-! ## The arrays -/

abbrev Rows : Type := (⟨2, ![8192, 1024]⟩ : Shape).Idx → EReal
abbrev Squares : Type := (⟨3, ![8, 8192, 64]⟩ : Shape).Idx → EReal
abbrev Gates : Type := (⟨2, ![128, 8]⟩ : Shape).Idx → EReal
abbrev Lanes : Type := (⟨4, ![4, 32, 8, 128]⟩ : Shape).Idx → EReal

/-- Row `c` of chunk `n`. -/
abbrev row (n : Fin 128) (c : Fin 64) : Fin 8192 := ⟨64 * n.val + c.val, by have := n.isLt; have := c.isLt; omega⟩
/-- Lane `e` of head `h`. -/
abbrev lane (h : Fin 8) (e : Fin 128) : Fin 1024 := ⟨128 * h.val + e.val, by have := h.isLt; have := e.isLt; omega⟩

/-- Chunk `n` of head `h`. -/
def tile (X : Rows) (h : Fin 8) (n : Fin 128) : Mat 64 128 := fun c e => X (ix2 (row n c) (lane h e))
def square (X : Squares) (h : Fin 8) (n : Fin 128) : Mat 64 64 := fun c i => X (ix3 h (row n c) i)

/-- Head `h` of the arrays. -/
def head (Do U W Qd Kd : Rows) (Qk : Squares) (G : Gates) (h : Fin 8) : Head where
  o' := tile Do h
  u := tile U h
  w := tile W h
  qd := tile Qd h
  kd := tile Kd h
  qk := square Qk h
  g := fun n => G (ix2 n h)

/-- Chunks of heads laid out as rows. -/
def rows (f : Fin 8 → Fin 128 → Mat 64 128) : Rows := fun i =>
  f ⟨(i 1).val / 128, by have : (i 1).val < 1024 := (i 1).isLt; omega⟩ ⟨(i 0).val / 64, by have : (i 0).val < 8192 := (i 0).isLt; omega⟩
    ⟨(i 0).val % 64, Nat.mod_lt _ (by decide)⟩ ⟨(i 1).val % 128, Nat.mod_lt _ (by decide)⟩
def squares (f : Fin 8 → Fin 128 → Mat 64 64) : Squares := fun i =>
  f (i 0) ⟨(i 1).val / 64, by have : (i 1).val < 8192 := (i 1).isLt; omega⟩ ⟨(i 1).val % 64, Nat.mod_lt _ (by decide)⟩ (i 2)
def lanes (f : Fin 8 → Fin 128 → EReal) : Lanes := fun i =>
  f (i 2) ⟨(i 0).val * 32 + (i 1).val, by have : (i 0).val < 4 := (i 0).isLt; have : (i 1).val < 32 := (i 1).isLt; omega⟩

theorem congr4 {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

theorem rows_at (f : Fin 8 → Fin 128 → Mat 64 128) (h : Fin 8) (n : Fin 128) (c : Fin 64) (e : Fin 128) :
    rows f (ix2 (row n c) (lane h e)) = f h n c e := by
  have h1 := c.isLt; have h2 := e.isLt
  refine congr4 f (Fin.ext ?_) (Fin.ext ?_) (Fin.ext ?_) (Fin.ext ?_)
  · show (128 * h.val + e.val) / 128 = h.val; omega
  · show (64 * n.val + c.val) / 64 = n.val; omega
  · show (64 * n.val + c.val) % 64 = c.val; omega
  · show (128 * h.val + e.val) % 128 = e.val; omega

theorem squares_at (f : Fin 8 → Fin 128 → Mat 64 64) (h : Fin 8) (n : Fin 128) (c i : Fin 64) :
    squares f (ix3 h (row n c) i) = f h n c i := by
  have h1 := c.isLt
  refine congr4 f rfl (Fin.ext ?_) (Fin.ext ?_) rfl
  · show (64 * n.val + c.val) / 64 = n.val; omega
  · show (64 * n.val + c.val) % 64 = c.val; omega

/-- Rows are known by their chunks of heads. -/
theorem rows_ext (X : Rows) (f : Fin 8 → Fin 128 → Mat 64 128) (hX : ∀ h n c e, X (ix2 (row n c) (lane h e)) = f h n c e) : X = rows f := by
  funext i
  rw [rows, ← hX]
  refine congrArg X ?_
  have h0 : (i 0).val < 8192 := (i 0).isLt
  have h1 : (i 1).val < 1024 := (i 1).isLt
  rw [eq_ix2 i]
  refine (ix2_inj ..).2 ⟨Fin.ext ?_, Fin.ext ?_⟩
  · show (i 0).val = 64 * ((i 0).val / 64) + (i 0).val % 64; omega
  · show (i 1).val = 128 * ((i 1).val / 128) + (i 1).val % 128; omega

theorem squares_ext (X : Squares) (f : Fin 8 → Fin 128 → Mat 64 64) (hX : ∀ h n c i, X (ix3 h (row n c) i) = f h n c i) : X = squares f := by
  funext i
  unfold squares
  refine Eq.trans ?_ (hX _ _ _ _)
  refine congrArg X ?_
  rw [eq_ix3 i]
  refine (ix3_inj ..).2 ⟨rfl, Fin.ext ?_, rfl⟩
  show (i 1).val = 64 * ((i 1).val / 64) + (i 1).val % 64; omega

theorem lanes_ext (X : Lanes) (f : Fin 8 → Fin 128 → EReal)
    (hX : ∀ (a : Fin 4) (b : Fin 32) (h : Fin 8) (l : Fin 128), X (ix4 a b h l) = f h ⟨a.val * 32 + b.val, by have := a.isLt; have := b.isLt; omega⟩) :
    X = lanes f := by
  funext i
  rw [eq_ix4 i]
  exact hX (i 0) (i 1) (i 2) (i 3)

end Cert.Spec

end
-- ==== Proof.ValStep.lean ====
/- The two bodies' chunk steps in plain terms. -/
module

public import proofs.«01_k».proof.Proof.Spec
public import proofs.«01_k».proof.Proof.StepB
public import Idealize.ShloMosaic.Lib.Pointwise

@[expose] public section

set_option maxRecDepth 16384

noncomputable section

namespace Cert.KernelIdeal.ValStep

open Cert.KernelIdeal Cert.KernelIdeal.Gen Cert.KernelIdeal.StepF Cert.KernelIdeal.StepB
open Idealize.ShloMosaic Idealize.ShloMosaic.TcCoe
open Cert.Spec (Mat)

/-! ## A block's chunks and heads -/

/-- Chunk `k` of head `h` of a block of rows. -/
def bt (X : S512x1024.Idx → EReal) (k h : Fin 8) : Mat 64 128 := fun c e =>
  X (ix2 ⟨64 * k.val + c.val, by have := k.isLt; have := c.isLt; omega⟩ ⟨128 * h.val + e.val, by have := h.isLt; have := e.isLt; omega⟩)
def bq (X : S8x512x64.Idx → EReal) (k h : Fin 8) : Mat 64 64 := fun c i =>
  X (ix3 h ⟨64 * k.val + c.val, by have := k.isLt; have := c.isLt; omega⟩ i)
/-- A saved state. -/
def bs (X : S8x8x128x128.Idx → EReal) (k h : Fin 8) : Mat 128 128 := fun d e => X (ix4 k h d e)
/-- A carried state. -/
def bd (X : S8x128x128.Idx → EReal) (h : Fin 8) : Mat 128 128 := fun d e => X (ix3 h d e)
/-- A state as a matrix. -/
def mat (X : S128x128.Idx → EReal) : Mat 128 128 := fun d e => X (ix2 d e)

/-! ## A load's element -/

theorem cast_square (Y : S1x64x64.Idx → EReal) (c i : Fin 64) : shapeCast S64x64 Y shapeCasts_S1x64x64_S64x64 (ix2 c i) = Y (ix3 0 c i) := by
  pointwise
theorem cast_state (Y : S1x128x128.Idx → EReal) (d e : Fin 128) :
    shapeCast S128x128 Y shapeCasts_S1x128x128_S128x128 (ix2 d e) = Y (ix3 0 d e) := by
  pointwise
theorem cast_saved (Y : S1x1x128x128.Idx → EReal) (d e : Fin 128) :
    shapeCast S128x128 Y shapeCasts_S1x1x128x128_S128x128 (ix2 d e) = Y (ix4 0 0 d e) := by
  pointwise
theorem cast_gate (Y : S1x1x1x128.Idx → EReal) (d e : Fin 128) :
    broadcastTo S128x128 (shapeCast S1x128 Y shapeCasts_S1x1x1x128_S1x128) broadcasts_S1x128_S128x128 (ix2 d e) = Y (ix4 0 0 0 e) := by
  pointwise

theorem rT_at (X : S512x1024.Idx → EReal) (k h : Fin 8) (c : Fin 64) (e : Fin 128) : X ((rT k h).idx (ix2 c e)) = bt X k h c e := by
  refine congrArg X (funext fun a => Fin.ext ?_)
  match a with
  | ⟨0, _⟩ => show 64 * k.val + 1 * c.val = 64 * k.val + c.val; omega
  | ⟨1, _⟩ => show 128 * h.val + 1 * e.val = 128 * h.val + e.val; omega

theorem rQ_at (X : S8x512x64.Idx → EReal) (k h : Fin 8) (c i : Fin 64) :
    shapeCast S64x64 (fun x => X ((rQ k h).idx x)) shapeCasts_S1x64x64_S64x64 (ix2 c i) = bq X k h c i := by
  refine (cast_square _ c i).trans ?_
  refine congrArg X (funext fun a => Fin.ext ?_)
  match a with
  | ⟨0, _⟩ => show h.val + 1 * 0 = h.val; omega
  | ⟨1, _⟩ => show 64 * k.val + 1 * c.val = 64 * k.val + c.val; omega
  | ⟨2, _⟩ => show 0 + 1 * i.val = i.val; omega

theorem rD_at (X : S8x128x128.Idx → EReal) (h : Fin 8) (d e : Fin 128) :
    shapeCast S128x128 (fun x => X ((rD h).idx x)) shapeCasts_S1x128x128_S128x128 (ix2 d e) = bd X h d e := by
  refine (cast_state _ d e).trans ?_
  refine congrArg X (funext fun a => Fin.ext ?_)
  match a with
  | ⟨0, _⟩ => show h.val + 1 * 0 = h.val; omega
  | ⟨1, _⟩ => show 0 + 1 * d.val = d.val; omega
  | ⟨2, _⟩ => show 0 + 1 * e.val = e.val; omega

theorem saved_at (St : FVec Ideal S8x8x128x128 .bf16) (k h : Fin 8) (d e : Fin 128) : saved (F := Ideal) St k h (ix2 d e) = bs St k h d e := by
  refine (cast_saved _ d e).trans ?_
  refine congrArg St (funext fun a => Fin.ext ?_)
  match a with
  | ⟨0, _⟩ => show k.val + 1 * 0 = k.val; omega
  | ⟨1, _⟩ => show h.val + 1 * 0 = h.val; omega
  | ⟨2, _⟩ => show 0 + 1 * d.val = d.val; omega
  | ⟨3, _⟩ => show 0 + 1 * e.val = e.val; omega

theorem gate_at (G : FVec Ideal S1x8x8x128 .f32) (k h : Fin 8) (g : EReal) (hg : ∀ l : Fin 128, G (ix4 0 k h l) = g) (d e : Fin 128) :
    gate (F := Ideal) G k h (ix2 d e) = g := by
  refine (cast_gate _ d e).trans (Eq.trans ?_ (hg e))
  refine congrArg G (funext fun a => Fin.ext ?_)
  match a with
  | ⟨0, _⟩ => show 0 + 1 * 0 = 0; omega
  | ⟨1, _⟩ => show k.val + 1 * 0 = k.val; omega
  | ⟨2, _⟩ => show h.val + 1 * 0 = h.val; omega
  | ⟨3, _⟩ => show 0 + 1 * e.val = e.val; omega

/-! ## The products -/

section Dots

variable {φ ψ : FTy}

theorem dot_tall (A : FVec Ideal S64x128 .bf16) (B : FVec Ideal S128x128 .bf16) (c : Fin 64) (e : Fin 128) :
    matmul dot_S64x128_S128x128_S64x128_1_0_0_1_n_n none A B (constant (F := Ideal) S64x128 .f32 0x00000000#32) (ix2 c e) = ∑ d, A (ix2 c d) * B (ix2 d e) := by
  pointwise!
theorem dot_square (A : FVec Ideal S64x64 .bf16) (B : FVec Ideal S64x128 .bf16) (c : Fin 64) (e : Fin 128) :
    matmul dot_S64x64_S64x128_S64x128_1_0_0_1_n_n none A B (constant (F := Ideal) S64x128 .f32 0x00000000#32) (ix2 c e) = ∑ i, A (ix2 c i) * B (ix2 i e) := by
  pointwise!
theorem dot_squareT (A : FVec Ideal S64x64 .bf16) (B : FVec Ideal S64x128 .bf16) (c : Fin 64) (e : Fin 128) :
    matmul dot_S64x64_S64x128_S64x128_0_0_1_1_n_n none A B (constant (F := Ideal) S64x128 .f32 0x00000000#32) (ix2 c e) = ∑ i, A (ix2 i c) * B (ix2 i e) := by
  pointwise!
theorem dot_over (A B : FVec Ideal S64x128 .bf16) (d e : Fin 128) :
    matmul dot_S64x128_S64x128_S128x128_0_0_1_1_n_n none A B (constant (F := Ideal) S128x128 .f32 0x00000000#32) (ix2 d e) = ∑ c, A (ix2 c d) * B (ix2 c e) := by
  pointwise!
theorem dot_tallT (A : FVec Ideal S64x128 .bf16) (B : FVec Ideal S128x128 .bf16) (c : Fin 64) (d : Fin 128) :
    matmul dot_S64x128_S128x128_S64x128_1_1_0_0_n_n none A B (constant (F := Ideal) S64x128 .f32 0x00000000#32) (ix2 c d) = ∑ e, A (ix2 c e) * B (ix2 d e) := by
  pointwise!
theorem dot_lanes (A B : FVec Ideal S64x128 .bf16) (c j : Fin 64) :
    matmul dot_S64x128_S64x128_S64x64_1_1_0_0_n_n none A B (constant (F := Ideal) S64x64 .f32 0x00000000#32) (ix2 c j) = ∑ e, A (ix2 c e) * B (ix2 j e) := by
  pointwise!
theorem sum_all (X : FVec Ideal S128x128 .f32) (l : Fin 128) :
    broadcast S1x128 (extractAt ![0, 0, 0] (shapeCast S1x1x1 (multiReduction .add [1, 2] S1
      (shapeCast S1x128x128 X shapeCasts_S128x128_S1x128x128) 0x00000000#32 reduces_S1x128x128_S1 (.inl rfl) rfl) shapeCasts_S1_S1x1x1)
      inpos_S1x1x1_p0_0_0) (ix2 0 l) = ∑ d, ∑ e, X (ix2 d e) := by
  pointwise!

end Dots

theorem zero_at (s : Shape) (j : s.Idx) : broadcast s (Scalar.ofBits (F := Ideal) .f32 0x00000000#32) j = (0 : EReal) := by
  pointwise

/-! ## The steps -/

section Steps

variable (i : Fin 16) (Do U W : FVec Ideal S512x1024 .f32) (Qd K : FVec Ideal S512x1024 .bf16) (Qk : FVec Ideal S8x512x64 .bf16)
  (G : FVec Ideal S1x8x8x128 .f32) (St : FVec Ideal S8x8x128x128 .bf16) (D : FVec Ideal S8x128x128 .f32)

theorem start_zero (hi : i.val = 0) (h : Fin 8) (d e : Fin 128) : start (F := Ideal) i D h (ix2 d e) = 0 := by
  obtain rfl : i = 0 := Fin.ext hi
  exact zero_at S128x128 (ix2 d e)

theorem start_pos (hi : i.val ≠ 0) (h : Fin 8) (d e : Fin 128) : start (F := Ideal) i D h (ix2 d e) = bd D h d e := by
  unfold start
  rw [show Scalar.cmpi .eq (BitVec.ofNat 32 i.val) 0#32 = 0#1 by revert hi; revert i; decide]
  exact rD_at D h d e

theorem vnew_at (S : FVec Ideal S128x128 .bf16) (k h : Fin 8) (c : Fin 64) (e : Fin 128) :
    StepF.vnew (F := Ideal) U W S k h (ix2 c e) = Spec.vnew (bt U k h) (bt W k h) (mat S) c e :=
  congrArg₂ (· - ·) (rT_at U k h c e) ((dot_tall _ _ c e).trans (Finset.sum_congr rfl fun d _ => congrArg (· * _) (rT_at W k h c d)))

theorem next_at (S : Fin 8 → FVec Ideal S128x128 .f32) (k h : Fin 8) (g : EReal) (hg : ∀ l : Fin 128, G (ix4 0 k h l) = g) (d e : Fin 128) :
    next (F := Ideal) U W K G S k h (ix2 d e) = Spec.next (mat (S h)) g (bt K k h) (Spec.vnew (bt U k h) (bt W k h) (mat (S h))) d e :=
  congrArg₂ (· + ·) (congrArg (_ * ·) (gate_at G k h g hg d e))
    ((dot_over _ _ d e).trans (Finset.sum_congr rfl fun c _ => congrArg₂ (· * ·) (rT_at K k h c d) (vnew_at U W (loS (S h)) k h c e)))

theorem out_at (S : Fin 8 → FVec Ideal S128x128 .f32) (k h : Fin 8) (c : Fin 64) (e : Fin 128) :
    out (F := Ideal) U W Qd Qk S k h (ix2 c e)
      = Spec.outs (bt Qd k h) (bq Qk k h) (mat (S h)) (Spec.vnew (bt U k h) (bt W k h) (mat (S h))) c e :=
  congrArg₂ (· + ·) ((dot_tall _ _ c e).trans (Finset.sum_congr rfl fun d _ => congrArg (· * _) (rT_at Qd k h c d)))
    ((dot_square _ _ c e).trans (Finset.sum_congr rfl fun i _ => congrArg₂ (· * ·) (rQ_at Qk k h c i) (vnew_at U W (loS (S h)) k h i e)))

theorem mat_saved (k h : Fin 8) : mat (saved (F := Ideal) St k h) = bs St k h := by
  funext d e
  exact saved_at St k h d e

theorem dvn_at (S : FVec Ideal S128x128 .f32) (k h : Fin 8) (c : Fin 64) (e : Fin 128) :
    dvn (F := Ideal) Do K Qk S k h (ix2 c e) = Spec.dvnew (bt Do k h) (bt K k h) (bq Qk k h) (mat S) c e :=
  congrArg₂ (· + ·) ((dot_squareT _ _ c e).trans (Finset.sum_congr rfl fun i _ => congrArg₂ (· * ·) (rQ_at Qk k h i c) (rT_at Do k h i e)))
    ((dot_tall _ _ c e).trans (Finset.sum_congr rfl fun d _ => congrArg (· * _) (rT_at K k h c d)))

theorem dw_at (S : FVec Ideal S128x128 .f32) (k h : Fin 8) (c : Fin 64) (d : Fin 128) :
    dw (F := Ideal) Do K Qk St S k h (ix2 c d)
      = -Spec.outer (Spec.dvnew (bt Do k h) (bt K k h) (bq Qk k h) (mat S)) (bs St k h) c d :=
  (congrArg₂ (· - ·) (zero_at S64x128 (ix2 c d)) ((dot_tallT _ _ c d).trans (Finset.sum_congr rfl fun e _ =>
    congrArg₂ (· * ·) (dvn_at Do K Qk S k h c e) (saved_at St k h d e)))).trans (zero_sub _)

theorem dqd_at (k h : Fin 8) (c : Fin 64) (d : Fin 128) :
    dqd (F := Ideal) Do St k h (ix2 c d) = Spec.outer (bt Do k h) (bs St k h) c d :=
  (dot_tallT _ _ c d).trans (Finset.sum_congr rfl fun e _ => congrArg₂ (· * ·) (rT_at Do k h c e) (saved_at St k h d e))

theorem dkd_at (S : FVec Ideal S128x128 .f32) (k h : Fin 8) (c : Fin 64) (d : Fin 128) :
    dkd (F := Ideal) U W St S k h (ix2 c d) = Spec.outer (Spec.vnew (bt U k h) (bt W k h) (bs St k h)) (mat S) c d := by
  rw [← mat_saved]
  exact (dot_tallT _ _ c d).trans (Finset.sum_congr rfl fun e _ => congrArg (· * _) (vnew_at U W (saved St k h) k h c e))

theorem dqk_at (k h : Fin 8) (c j : Fin 64) :
    dqk (F := Ideal) Do U W St k h (ix2 c j) = Spec.outer (bt Do k h) (Spec.vnew (bt U k h) (bt W k h) (bs St k h)) c j := by
  rw [← mat_saved]
  exact (dot_lanes _ _ c j).trans (Finset.sum_congr rfl fun e _ =>
    congrArg₂ (· * ·) (rT_at Do k h c e) (vnew_at U W (saved St k h) k h j e))

theorem dgl_at (S : FVec Ideal S128x128 .f32) (k h : Fin 8) (l : Fin 128) :
    dgl (F := Ideal) St S k h (ix2 0 l) = Spec.inner (bs St k h) (mat S) :=
  (congrArg₂ (· + ·) ((sum_all _ l).trans (Finset.sum_congr rfl fun d _ => Finset.sum_congr rfl fun e _ =>
    congrArg (· * _) (saved_at St k h d e))) (zero_at S1x128 (ix2 0 l))).trans (add_zero _)

theorem dnext_at (S : Fin 8 → FVec Ideal S128x128 .f32) (k h : Fin 8) (g : EReal) (hg : ∀ l : Fin 128, G (ix4 0 k h l) = g) (d e : Fin 128) :
    dnext (F := Ideal) Do W Qd K Qk G S k h (ix2 d e)
      = Spec.dprev (mat (S h)) g (bt Qd k h) (bt Do k h) (bt W k h) (Spec.dvnew (bt Do k h) (bt K k h) (bq Qk k h) (mat (S h))) d e :=
  congrArg₂ (· - ·) (congrArg₂ (· + ·) (congrArg (_ * ·) (gate_at G k h g hg d e))
      ((dot_over _ _ d e).trans (Finset.sum_congr rfl fun c _ => congrArg₂ (· * ·) (rT_at Qd k h c d) (rT_at Do k h c e))))
    ((dot_over _ _ d e).trans (Finset.sum_congr rfl fun c _ => congrArg₂ (· * ·) (rT_at W k h c d) (dvn_at Do K Qk (S h) k h c e)))

end Steps

end Cert.KernelIdeal.ValStep

end
-- ==== Proof.ValCanon.lean ====
/- What a block reads after its chunks' and heads' writes. -/
module

public import proofs.«01_k».proof.Proof.ValStep
public import proofs.«01_k».proof.Proof.Common

@[expose] public section

set_option maxRecDepth 16384

noncomputable section

namespace Cert.KernelIdeal.ValCanon

open Cert.KernelIdeal Cert.KernelIdeal.Gen Cert.KernelIdeal.Base Cert.KernelIdeal.StepF Cert.KernelIdeal.ValStep
open Idealize.ShloMosaic Idealize.ShloMosaic.TcCoe
open Cert.Spec (Mat)

theorem at8_val {n : ℕ} (h : n < 8) : (at8 n).val = n := by
  match n, h with
  | 0, _ => rfl | 1, _ => rfl | 2, _ => rfl | 3, _ => rfl | 4, _ => rfl | 5, _ => rfl | 6, _ => rfl | 7, _ => rfl

theorem at8_fin (k : Fin 8) : at8 k.val = k := Fin.ext (at8_val k.isLt)

theorem mem_down {α : Type} {f : ℕ → α} {p : α} : ∀ {n : ℕ}, p ∈ down n f ↔ ∃ k, k < n ∧ p = f k
  | 0 => ⟨fun h => (List.not_mem_nil h).elim, fun ⟨_, h, _⟩ => (Nat.not_lt_zero _ h).elim⟩
  | n + 1 => by
    rw [down, List.mem_cons, mem_down]
    constructor
    · rintro (rfl | ⟨k, hk, rfl⟩)
      · exact ⟨n, Nat.lt_succ_self _, rfl⟩
      · exact ⟨k, Nat.lt_succ_of_lt hk, rfl⟩
    · rintro ⟨k, hk, rfl⟩
      rcases Nat.lt_succ_iff_lt_or_eq.mp hk with h | rfl
      · exact .inr ⟨k, h, rfl⟩
      · exact .inl rfl

variable (P : ℕ → Fin 8) (Q : Fin 8 → ℕ) (hQ : ∀ k, Q k < 8) (hP : ∀ k, P (Q k) = k)

/-- A block of rows by its chunks and heads. -/
def blkRows (f : Fin 8 → Fin 8 → Mat 64 128) : S512x1024.Idx → EReal := fun i =>
  f ⟨(i 0).val / 64, by have : (i 0).val < 512 := (i 0).isLt; omega⟩ ⟨(i 1).val / 128, by have : (i 1).val < 1024 := (i 1).isLt; omega⟩
    ⟨(i 0).val % 64, Nat.mod_lt _ (by decide)⟩ ⟨(i 1).val % 128, Nat.mod_lt _ (by decide)⟩

theorem emb_rT (k h : Fin 8) (c : Fin 64) (e : Fin 128) : (rT k h).emb (ix2 c e)
    = ix2 ⟨64 * k.val + c.val, by have := k.isLt; have := c.isLt; omega⟩ ⟨128 * h.val + e.val, by have := h.isLt; have := e.isLt; omega⟩ := by
  funext a
  refine Fin.ext ?_
  match a with
  | ⟨0, _⟩ => show 64 * k.val + 1 * c.val = 64 * k.val + c.val; omega
  | ⟨1, _⟩ => show 128 * h.val + 1 * e.val = 128 * h.val + e.val; omega

theorem blkRows_at (f : Fin 8 → Fin 8 → Mat 64 128) (k h : Fin 8) (c : Fin 64) (e : Fin 128) : blkRows f ((rT k h).emb (ix2 c e)) = f k h c e := by
  rw [emb_rT]
  have h1 := c.isLt; have h2 := e.isLt
  refine Spec.congr4 f (Fin.ext ?_) (Fin.ext ?_) (Fin.ext ?_) (Fin.ext ?_)
  · show (64 * k.val + c.val) / 64 = k.val; omega
  · show (128 * h.val + e.val) / 128 = h.val; omega
  · show (64 * k.val + c.val) % 64 = c.val; omega
  · show (128 * h.val + e.val) % 128 = e.val; omega

include hQ hP in
theorem canon_rows (X : ℕ → ℕ → FVec Ideal S64x128 .f32) (f : Fin 8 → Fin 8 → Mat 64 128)
    (hX : ∀ a b, a < 8 → b < 8 → ∀ c e, X a b (ix2 c e) = f (P a) (at8 b) c e) (k h : Fin 8) (c : Fin 64) (e : Fin 128) :
    View.canon (Val := Elt Ideal) (e := .f32) (down 64 fun n => ⟨rT (P (n / 8)) (at8 (n % 8)), X (n / 8) (n % 8)⟩)
      (ix2 ⟨64 * k.val + c.val, by have := k.isLt; have := c.isLt; omega⟩ ⟨128 * h.val + e.val, by have := h.isLt; have := e.isLt; omega⟩) = f k h c e := by
  have hk := hQ k
  have hh := h.isLt
  have e1 : (Q k * 8 + h.val) / 8 = Q k := by omega
  have e2 : (Q k * 8 + h.val) % 8 = h.val := by omega
  rw [← emb_rT]
  refine (canon_eq_of_agree (F := Ideal) (e := .f32) _ (blkRows f) ?_ _ ⟨_, mem_down.mpr ⟨Q k * 8 + h.val, by omega, rfl⟩, ?_⟩).trans (blkRows_at f k h c e)
  · intro p hp x
    obtain ⟨n, hn, rfl⟩ := mem_down.mp hp
    dsimp only
    rw [eq_ix2 x]
    exact (hX _ _ (by omega) (by omega) _ _).trans (blkRows_at f _ _ _ _).symm
  · dsimp only
    rw [e1, e2, hP, at8_fin]
    exact ⟨_, rfl⟩

/-- A block of squares by its chunks and heads. -/
def blkSquares (f : Fin 8 → Fin 8 → Mat 64 64) : S8x512x64.Idx → EReal := fun i =>
  f ⟨(i 1).val / 64, by have : (i 1).val < 512 := (i 1).isLt; omega⟩ (i 0) ⟨(i 1).val % 64, Nat.mod_lt _ (by decide)⟩ (i 2)

theorem emb_rQ (k h : Fin 8) (z : Fin 1) (c i : Fin 64) : (rQ k h).emb (ix3 z c i)
    = ix3 h ⟨64 * k.val + c.val, by have := k.isLt; have := c.isLt; omega⟩ i := by
  funext a
  refine Fin.ext ?_
  match a with
  | ⟨0, _⟩ => show h.val + 1 * z.val = h.val; omega
  | ⟨1, _⟩ => show 64 * k.val + 1 * c.val = 64 * k.val + c.val; omega
  | ⟨2, _⟩ => show 0 + 1 * i.val = i.val; omega

theorem blkSquares_at (f : Fin 8 → Fin 8 → Mat 64 64) (k h : Fin 8) (z : Fin 1) (c i : Fin 64) : blkSquares f ((rQ k h).emb (ix3 z c i)) = f k h c i := by
  rw [emb_rQ]
  have h1 := c.isLt
  refine Spec.congr4 f (Fin.ext ?_) rfl (Fin.ext ?_) rfl
  · show (64 * k.val + c.val) / 64 = k.val; omega
  · show (64 * k.val + c.val) % 64 = c.val; omega

theorem lift_square (Y : S64x64.Idx → EReal) (z : Fin 1) (c i : Fin 64) : shapeCast S1x64x64 Y shapeCasts_S64x64_S1x64x64 (ix3 z c i) = Y (ix2 c i) := by
  pointwise
theorem lift_state (Y : S128x128.Idx → EReal) (z : Fin 1) (d e : Fin 128) :
    shapeCast S1x128x128 Y shapeCasts_S128x128_S1x128x128 (ix3 z d e) = Y (ix2 d e) := by
  pointwise
theorem lift_saved (Y : S128x128.Idx → EReal) (z z' : Fin 1) (d e : Fin 128) :
    shapeCast S1x1x128x128 Y shapeCasts_S128x128_S1x1x128x128 (ix4 z z' d e) = Y (ix2 d e) := by
  pointwise
theorem lift_gate (Y : S1x128.Idx → EReal) (z z' z'' : Fin 1) (l : Fin 128) :
    shapeCast S1x1x1x128 Y shapeCasts_S1x128_S1x1x1x128 (ix4 z z' z'' l) = Y (ix2 0 l) := by
  pointwise

include hQ hP in
theorem canon_squares (X : ℕ → ℕ → FVec Ideal S64x64 .f32) (f : Fin 8 → Fin 8 → Mat 64 64)
    (hX : ∀ a b, a < 8 → b < 8 → ∀ c i, X a b (ix2 c i) = f (P a) (at8 b) c i) (k h : Fin 8) (c i : Fin 64) :
    View.canon (Val := Elt Ideal) (e := .f32) (down 64 fun n => ⟨rQ (P (n / 8)) (at8 (n % 8)),
        shapeCast S1x64x64 (X (n / 8) (n % 8)) shapeCasts_S64x64_S1x64x64⟩)
      (ix3 h ⟨64 * k.val + c.val, by have := k.isLt; have := c.isLt; omega⟩ i) = f k h c i := by
  have hk := hQ k
  have hh := h.isLt
  have e1 : (Q k * 8 + h.val) / 8 = Q k := by omega
  have e2 : (Q k * 8 + h.val) % 8 = h.val := by omega
  rw [← emb_rQ k h 0]
  refine (canon_eq_of_agree (F := Ideal) (e := .f32) _ (blkSquares f) ?_ _ ⟨_, mem_down.mpr ⟨Q k * 8 + h.val, by omega, rfl⟩, ?_⟩).trans
    (blkSquares_at f k h 0 c i)
  · intro p hp x
    obtain ⟨n, hn, rfl⟩ := mem_down.mp hp
    dsimp only
    rw [eq_ix3 x]
    exact (lift_square _ _ _ _).trans ((hX _ _ (by omega) (by omega) _ _).trans (blkSquares_at f _ _ _ _ _).symm)
  · dsimp only
    rw [e1, e2, hP, at8_fin]
    exact ⟨_, rfl⟩

theorem emb_rS (k h : Fin 8) (z z' : Fin 1) (d e : Fin 128) : (rS k h).emb (ix4 z z' d e) = ix4 k h d e := by
  funext a
  refine Fin.ext ?_
  match a with
  | ⟨0, _⟩ => show k.val + 1 * z.val = k.val; omega
  | ⟨1, _⟩ => show h.val + 1 * z'.val = h.val; omega
  | ⟨2, _⟩ => show 0 + 1 * d.val = d.val; omega
  | ⟨3, _⟩ => show 0 + 1 * e.val = e.val; omega

/-- A block of saved states by its chunks and heads. -/
def blkSaved (f : Fin 8 → Fin 8 → Mat 128 128) : S8x8x128x128.Idx → EReal := fun i => f (i 0) (i 1) (i 2) (i 3)

theorem blkSaved_at (f : Fin 8 → Fin 8 → Mat 128 128) (k h : Fin 8) (z z' : Fin 1) (d e : Fin 128) :
    blkSaved f ((rS k h).emb (ix4 z z' d e)) = f k h d e :=
  congrArg (blkSaved f) (emb_rS k h z z' d e)

theorem canon_saved (X : ℕ → ℕ → FVec Ideal S128x128 .bf16) (f : Fin 8 → Fin 8 → Mat 128 128)
    (hX : ∀ a b, a < 8 → b < 8 → ∀ d e, X a b (ix2 d e) = f (at8 a) (at8 b) d e) (k h : Fin 8) (d e : Fin 128) :
    View.canon (Val := Elt Ideal) (e := .bf16) (down 64 fun n => ⟨rS (at8 (n / 8)) (at8 (n % 8)),
        shapeCast S1x1x128x128 (X (n / 8) (n % 8)) shapeCasts_S128x128_S1x1x128x128⟩) (ix4 k h d e) = f k h d e := by
  have hk := k.isLt
  have hh := h.isLt
  have e1 : (k.val * 8 + h.val) / 8 = k.val := by omega
  have e2 : (k.val * 8 + h.val) % 8 = h.val := by omega
  rw [← emb_rS k h 0 0]
  refine (canon_eq_of_agree (F := Ideal) (e := .bf16) _ (blkSaved f) ?_ _
    ⟨_, mem_down.mpr ⟨k.val * 8 + h.val, by omega, rfl⟩, ?_⟩).trans (blkSaved_at f k h 0 0 d e)
  · intro p hp x
    obtain ⟨n, hn, rfl⟩ := mem_down.mp hp
    dsimp only
    rw [eq_ix4 x]
    exact (lift_saved _ _ _ _ _).trans ((hX _ _ (by omega) (by omega) _ _).trans (blkSaved_at f _ _ _ _ _ _).symm)
  · dsimp only
    rw [e1, e2, at8_fin, at8_fin]
    exact ⟨_, rfl⟩

theorem emb_rG (k h : Fin 8) (z z' z'' : Fin 1) (l : Fin 128) : (rG k h).emb (ix4 z z' z'' l) = ix4 0 k h l := by
  funext a
  refine Fin.ext ?_
  match a with
  | ⟨0, _⟩ => show 0 + 1 * z.val = 0; omega
  | ⟨1, _⟩ => show k.val + 1 * z'.val = k.val; omega
  | ⟨2, _⟩ => show h.val + 1 * z''.val = h.val; omega
  | ⟨3, _⟩ => show 0 + 1 * l.val = l.val; omega

/-- A block of gates by its chunks and heads. -/
def blkGates (f : Fin 8 → Fin 8 → EReal) : S1x8x8x128.Idx → EReal := fun i => f (i 1) (i 2)

theorem blkGates_at (f : Fin 8 → Fin 8 → EReal) (k h : Fin 8) (z z' z'' : Fin 1) (l : Fin 128) :
    blkGates f ((rG k h).emb (ix4 z z' z'' l)) = f k h :=
  congrArg (blkGates f) (emb_rG k h z z' z'' l)

include hQ hP in
theorem canon_gates (X : ℕ → ℕ → FVec Ideal S1x128 .f32) (f : Fin 8 → Fin 8 → EReal)
    (hX : ∀ a b, a < 8 → b < 8 → ∀ l, X a b (ix2 0 l) = f (P a) (at8 b)) (k h : Fin 8) (l : Fin 128) :
    View.canon (Val := Elt Ideal) (e := .f32) (down 64 fun n => ⟨rG (P (n / 8)) (at8 (n % 8)),
        shapeCast S1x1x1x128 (X (n / 8) (n % 8)) shapeCasts_S1x128_S1x1x1x128⟩) (ix4 0 k h l) = f k h := by
  have hk := hQ k
  have hh := h.isLt
  have e1 : (Q k * 8 + h.val) / 8 = Q k := by omega
  have e2 : (Q k * 8 + h.val) % 8 = h.val := by omega
  rw [← emb_rG k h 0 0 0]
  refine (canon_eq_of_agree (F := Ideal) (e := .f32) _ (blkGates f) ?_ _
    ⟨_, mem_down.mpr ⟨Q k * 8 + h.val, by omega, rfl⟩, ?_⟩).trans (blkGates_at f k h 0 0 0 l)
  · intro p hp x
    obtain ⟨n, hn, rfl⟩ := mem_down.mp hp
    dsimp only
    rw [eq_ix4 x]
    exact (lift_gate _ _ _ _ _).trans ((hX _ _ (by omega) (by omega) _).trans (blkGates_at f _ _ _ _ _ _).symm)
  · dsimp only
    rw [e1, e2, hP, at8_fin]
    exact ⟨_, rfl⟩

theorem emb_rD (h : Fin 8) (z : Fin 1) (d e : Fin 128) : (rD h).emb (ix3 z d e) = ix3 h d e := by
  funext a
  refine Fin.ext ?_
  match a with
  | ⟨0, _⟩ => show h.val + 1 * z.val = h.val; omega
  | ⟨1, _⟩ => show 0 + 1 * d.val = d.val; omega
  | ⟨2, _⟩ => show 0 + 1 * e.val = e.val; omega

/-- A carried state by its heads. -/
def blkState (f : Fin 8 → Mat 128 128) : S8x128x128.Idx → EReal := fun i => f (i 0) (i 1) (i 2)

theorem blkState_at (f : Fin 8 → Mat 128 128) (h : Fin 8) (z : Fin 1) (d e : Fin 128) : blkState f ((rD h).emb (ix3 z d e)) = f h d e :=
  congrArg (blkState f) (emb_rD h z d e)

theorem canon_state (X : ℕ → FVec Ideal S128x128 .f32) (f : Fin 8 → Mat 128 128)
    (hX : ∀ b, b < 8 → ∀ d e, X b (ix2 d e) = f (at8 b) d e) (h : Fin 8) (d e : Fin 128) :
    View.canon (Val := Elt Ideal) (e := .f32) (down 8 fun n => ⟨rD (at8 n), shapeCast S1x128x128 (X n) shapeCasts_S128x128_S1x128x128⟩)
      (ix3 h d e) = f h d e := by
  rw [← emb_rD h 0]
  refine (canon_eq_of_agree (F := Ideal) (e := .f32) _ (blkState f) ?_ _ ⟨_, mem_down.mpr ⟨h.val, h.isLt, rfl⟩, ?_⟩).trans (blkState_at f h 0 d e)
  · intro p hp x
    obtain ⟨n, hn, rfl⟩ := mem_down.mp hp
    dsimp only
    rw [eq_ix3 x]
    exact (lift_state _ _ _ _).trans ((hX _ hn _ _).trans (blkState_at f _ _ _ _).symm)
  · dsimp only
    rw [at8_fin]
    exact ⟨_, rfl⟩

/-- Two blocks of rows that agree on every chunk and head are the same. -/
theorem rows_split {X Y : S512x1024.Idx → EReal}
    (hXY : ∀ (k h : Fin 8) (c : Fin 64) (e : Fin 128), X (ix2 ⟨64 * k.val + c.val, by have := k.isLt; have := c.isLt; omega⟩
      ⟨128 * h.val + e.val, by have := h.isLt; have := e.isLt; omega⟩) = Y (ix2 ⟨64 * k.val + c.val, by have := k.isLt; have := c.isLt; omega⟩
      ⟨128 * h.val + e.val, by have := h.isLt; have := e.isLt; omega⟩)) (y : S512x1024.Idx) : X y = Y y := by
  have h0 : (y 0).val < 512 := (y 0).isLt
  have h1 : (y 1).val < 1024 := (y 1).isLt
  have e := hXY ⟨(y 0).val / 64, by omega⟩ ⟨(y 1).val / 128, by omega⟩ ⟨(y 0).val % 64, by omega⟩ ⟨(y 1).val % 128, by omega⟩
  rw [show y = ix2 ⟨64 * ((y 0).val / 64) + (y 0).val % 64, by omega⟩ ⟨128 * ((y 1).val / 128) + (y 1).val % 128, by omega⟩ from
    (eq_ix2 y).trans ((ix2_inj ..).2 ⟨Fin.ext (by dsimp only; omega), Fin.ext (by dsimp only; omega)⟩)]
  exact e

theorem squares_split {X Y : S8x512x64.Idx → EReal}
    (hXY : ∀ (k h : Fin 8) (c i : Fin 64), X (ix3 h ⟨64 * k.val + c.val, by have := k.isLt; have := c.isLt; omega⟩ i)
      = Y (ix3 h ⟨64 * k.val + c.val, by have := k.isLt; have := c.isLt; omega⟩ i)) (y : S8x512x64.Idx) : X y = Y y := by
  have h1 : (y 1).val < 512 := (y 1).isLt
  have e := hXY ⟨(y 1).val / 64, by omega⟩ (y 0) ⟨(y 1).val % 64, by omega⟩ (y 2)
  rw [show y = ix3 (y 0) ⟨64 * ((y 1).val / 64) + (y 1).val % 64, by omega⟩ (y 2) from
    (eq_ix3 y).trans ((ix3_inj ..).2 ⟨rfl, Fin.ext (by dsimp only; omega), rfl⟩)]
  exact e

theorem saved_split {X Y : S8x8x128x128.Idx → EReal} (hXY : ∀ (k h : Fin 8) (d e : Fin 128), X (ix4 k h d e) = Y (ix4 k h d e))
    (y : S8x8x128x128.Idx) : X y = Y y := by
  rw [eq_ix4 y]
  exact hXY (y 0) (y 1) (y 2) (y 3)

theorem gates_split {X Y : S1x8x8x128.Idx → EReal} (hXY : ∀ (k h : Fin 8) (l : Fin 128), X (ix4 0 k h l) = Y (ix4 0 k h l))
    (y : S1x8x8x128.Idx) : X y = Y y := by
  rw [eq_ix4 y, show y 0 = (0 : Fin 1) from Subsingleton.elim (α := Fin 1) _ _]
  exact hXY (y 1) (y 2) (y 3)

end Cert.KernelIdeal.ValCanon

end
-- ==== Proof.ValF.lean ====
/- The forward region's results: the scan's outputs and its states. -/
module

public import proofs.«01_k».proof.Proof.ValCanon
public import proofs.«01_k».proof.Proof.RegionF
public import Idealize.ShloMosaic.Lib.Pipeline.ValueKit

@[expose] public section

set_option maxRecDepth 16384

noncomputable section

namespace Cert.KernelIdeal.ValF

open Cert.KernelIdeal Cert.KernelIdeal.Gen Cert.KernelIdeal.Base Cert.KernelIdeal.StepF Cert.KernelIdeal.ValStep Cert.KernelIdeal.ValCanon
open Idealize.ShloMosaic Idealize.ShloMosaic.TcCoe
open Idealize.ShloMosaic.Pipeline (Dat Cfg Window)
open Cert.Spec (Mat ck)

/-- Each window's block at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val / 4, t.val % 4, 0, 0]
    ∧ win0_6.index t = ![t.val, 0] ∧ win0_7.index t = ![t.val, 0, 0, 0] :=
  (by decide +kernel : ∀ t : Fin grid0.N, _)

theorem coord : ∀ t : Fin cfg0.N, ((grid0.coords t) 0).val = t.val := (by decide +kernel : ∀ t : Fin grid0.N, _)

theorem lt16 (t : Fin cfg0.N) : t.val < 16 := lt_of_lt_of_eq t.isLt (by decide +kernel)

theorem ck_block (t : Fin cfg0.N) (k : Fin 8) : (ck (8 * t.val + k.val)).val = 8 * t.val + k.val :=
  Nat.mod_eq_of_lt (by have := lt16 t; have := k.isLt; omega)

theorem after_o {F : FTy → Type} [FloatOps F] (V : Dev nD → Valuation τ sig (Elt F)) (c : Dev nD) (t : Fin cfg0.N) :
    (RegionF.dat V c).after 6 t = RegionF.outO V c t (RegionF.scr V c t.val) := by unfold RegionF.dat; dsimp only
theorem after_s {F : FTy → Type} [FloatOps F] (V : Dev nD → Valuation τ sig (Elt F)) (c : Dev nD) (t : Fin cfg0.N) :
    (RegionF.dat V c).after 7 t = RegionF.outS V c t (RegionF.scr V c t.val) := by unfold RegionF.dat; dsimp only

variable (V : Dev nD → Valuation τ sig (Elt Ideal)) (c : Dev nD)

/-- The arrays the region reads. -/
structure Reads (U W Qd Kd : Spec.Rows) (Qk : Spec.Squares) (Gt : Spec.Gates) : Prop where
  u : V c main_arg1 = U
  w : V c main_arg2 = W
  qd : V c main_arg3 = Qd
  kd : V c main_arg4 = Kd
  qk : V c main_arg5 = Qk
  g : ∀ (a : Fin 4) (b : Fin 32) (h : Fin 8) (l : Fin 128),
    (V c main_v2 : S4x32x8x128.Idx → EReal) (ix4 a b h l) = Gt (ix2 ⟨32 * a.val + b.val, by have := a.isLt; have := b.isLt; omega⟩ h)

variable {V c} {Do U W Qd Kd : Spec.Rows} {Qk : Spec.Squares} {Gt : Spec.Gates} (r : Reads V c U W Qd Kd Qk Gt)

include r

theorem blk_u (t : Fin cfg0.N) (k h : Fin 8) : bt (RegionF.blkAt V c 0 t) k h = Spec.tile U h (ck (8 * t.val + k.val)) := by
  funext i e
  have hc := ck_block t k
  unfold bt Spec.tile
  rw [← r.u]
  blk_ext [RegionF.blkAt, idx t]
theorem blk_w (t : Fin cfg0.N) (k h : Fin 8) : bt (RegionF.blkAt V c 1 t) k h = Spec.tile W h (ck (8 * t.val + k.val)) := by
  funext i e
  have hc := ck_block t k
  unfold bt Spec.tile
  rw [← r.w]
  blk_ext [RegionF.blkAt, idx t]
theorem blk_qd (t : Fin cfg0.N) (k h : Fin 8) : bt (RegionF.blkAt V c 2 t) k h = Spec.tile Qd h (ck (8 * t.val + k.val)) := by
  funext i e
  have hc := ck_block t k
  unfold bt Spec.tile
  rw [← r.qd]
  blk_ext [RegionF.blkAt, idx t]
theorem blk_kd (t : Fin cfg0.N) (k h : Fin 8) : bt (RegionF.blkAt V c 3 t) k h = Spec.tile Kd h (ck (8 * t.val + k.val)) := by
  funext i e
  have hc := ck_block t k
  unfold bt Spec.tile
  rw [← r.kd]
  blk_ext [RegionF.blkAt, idx t]
theorem blk_qk (t : Fin cfg0.N) (k h : Fin 8) : bq (RegionF.blkAt V c 4 t) k h = Spec.square Qk h (ck (8 * t.val + k.val)) := by
  funext i e
  have hc := ck_block t k
  unfold bq Spec.square
  rw [← r.qk]
  blk_ext [RegionF.blkAt, idx t]
theorem blk_g (t : Fin cfg0.N) (k h : Fin 8) (l : Fin 128) : (RegionF.blkAt V c 5 t : S1x8x8x128.Idx → EReal) (ix4 0 k h l) = Gt (ix2 (ck (8 * t.val + k.val)) h) := by
  have hc := ck_block t k
  have ht := lt16 t
  have hk := k.isLt
  have e := r.g ⟨t.val / 4, by omega⟩ ⟨8 * (t.val % 4) + k.val, by omega⟩ h l
  rw [show (⟨32 * (t.val / 4) + (8 * (t.val % 4) + k.val), by omega⟩ : Fin 128) = ck (8 * t.val + k.val) from
    Fin.ext (by rw [hc]; show 32 * (t.val / 4) + (8 * (t.val % 4) + k.val) = _; omega)] at e
  rw [← e]
  blk_ext [RegionF.blkAt, idx t]

/-! ## The states -/

local notation "hd" => Spec.head Do U W Qd Kd Qk Gt

/-- The states inside a block, from the one it starts with. -/
theorem state_at (t : Fin cfg0.N) (D : FVec Ideal S8x128x128 .f32)
    (h0 : ∀ h, mat (start (F := Ideal) ((grid0.coords t) 0) D h) = Spec.st (hd h) (8 * t.val)) : ∀ n, n ≤ 8 → ∀ h,
      mat (state (F := Ideal) ((grid0.coords t) 0) (RegionF.blkAt V c 0 t) (RegionF.blkAt V c 1 t) (RegionF.blkAt V c 3 t) (RegionF.blkAt V c 5 t) D n h)
        = Spec.st (hd h) (8 * t.val + n)
  | 0, _, h => h0 h
  | n + 1, hn, h => by
    have ih := state_at t D h0 n (by omega) h
    have hk : (at8 n).val = n := at8_val (by omega)
    funext d e
    refine (next_at _ _ _ _ _ (at8 n) h (Gt (ix2 (ck (8 * t.val + (at8 n).val)) h)) (blk_g r t (at8 n) h) d e).trans ?_
    rw [ih, blk_u r, blk_w r, blk_kd r, hk]
    rfl

/-- The state a point starts with, from the one carried to it. -/
theorem start_at (t : Fin cfg0.N) (D : FVec Ideal S8x128x128 .f32) (hD : t.val ≠ 0 → ∀ h, bd D h = Spec.st (hd h) (8 * t.val)) (h : Fin 8) :
    mat (start (F := Ideal) ((grid0.coords t) 0) D h) = Spec.st (hd h) (8 * t.val) := by
  funext d e
  by_cases ht : t.val = 0
  · refine (start_zero _ D ((coord t).trans ht) h d e).trans ?_
    rw [ht]
    rfl
  · exact (start_pos _ D (fun e => ht ((coord t).symm.trans e)) h d e).trans (congrFun (congrFun (hD ht h) d) e)

/-- The state carried to a point. -/
theorem scr_at : ∀ n, n ≤ 16 → n ≠ 0 → ∀ h, bd (RegionF.scr V c n) h = Spec.st (hd h) (8 * n)
  | 0, _, h, _ => absurd rfl h
  | n + 1, hn, _, h => by
    have hN : n < cfg0.N := lt_of_lt_of_eq (by omega : n < 16) (by decide +kernel)
    have hs := start_at (Do := Do) r ⟨n, hN⟩ (RegionF.scr V c n) fun h0 => scr_at n (by omega) h0
    have e := RegionF.scr_succ V c ⟨n, hN⟩
    dsimp only at e
    rw [e]
    funext d e'
    unfold bd RegionF.outD piecesD
    refine canon_state (fun b => state (F := Ideal) ((grid0.coords ⟨n, hN⟩) 0) (RegionF.blkAt V c 0 ⟨n, hN⟩) (RegionF.blkAt V c 1 ⟨n, hN⟩)
      (RegionF.blkAt V c 3 ⟨n, hN⟩) (RegionF.blkAt V c 5 ⟨n, hN⟩) (RegionF.scr V c n) 8 (at8 b)) (fun h => Spec.st (hd h) (8 * (n + 1))) (fun b hb d e => ?_) h d e'
    exact congrFun (congrFun (state_at r ⟨n, hN⟩ _ hs 8 (le_refl _) (at8 b)) d) e

theorem carried (t : Fin cfg0.N) (h : Fin 8) :
    mat (start (F := Ideal) ((grid0.coords t) 0) (RegionF.scr V c t.val) h) = Spec.st (hd h) (8 * t.val) :=
  start_at r t _ (fun h0 => scr_at r t.val (le_of_lt (lt16 t)) h0) h

/-! ## The results -/

theorem outO_at (t : Fin cfg0.N) (k h : Fin 8) (i : Fin 64) (e : Fin 128) :
    RegionF.outO V c t (RegionF.scr V c t.val) (ix2 ⟨64 * k.val + i.val, by have := k.isLt; have := i.isLt; omega⟩
      ⟨128 * h.val + e.val, by have := h.isLt; have := e.isLt; omega⟩) = Spec.out (hd h) (ck (8 * t.val + k.val)) i e := by
  refine canon_rows at8 (fun k => k.val) (fun k => k.isLt) at8_fin (fun a b => out (F := Ideal) _ _ _ _ (state _ _ _ _ _ _ a) (at8 a) (at8 b))
    (fun k h => Spec.out (hd h) (ck (8 * t.val + k.val))) (fun a b ha hb i e => ?_) k h i e
  refine (out_at _ _ _ _ _ (at8 a) (at8 b) i e).trans ?_
  have hst := state_at r t _ (carried (Do := Do) r t) a (by omega) (at8 b)
  rw [hst, blk_u r, blk_w r, blk_qd r, blk_qk r]
  unfold Spec.out Spec.vn
  rw [ck_block t, at8_val ha]
  rfl

theorem outS_at (t : Fin cfg0.N) (k h : Fin 8) (d e : Fin 128) :
    RegionF.outS V c t (RegionF.scr V c t.val) (ix4 k h d e) = Spec.st (hd h) (8 * t.val + k.val) d e := by
  refine canon_saved (fun a b => loS (F := Ideal) (state _ _ _ _ _ _ a (at8 b)))
    (fun k h => Spec.st (hd h) (8 * t.val + k.val)) (fun a b ha hb i e => ?_) k h d e
  refine (congrFun (congrFun (state_at (Do := Do) r t _ (carried (Do := Do) r t) a (by omega) (at8 b)) i) e).trans ?_
  rw [at8_val ha]

theorem final_o : (RegionF.dat V c).arrAt 6 cfg0.N = Spec.rows fun h n => Spec.out (hd h) n := by
  refine (RegionF.dat V c).arrAt_eq_of_covers 6 _ (by decide +kernel) fun t _ y => ?_
  blk_simp [idx t]
  rw [after_o]
  refine rows_split (X := RegionF.outO V c t (RegionF.scr V c t.val))
    (Y := fun y => Spec.rows (fun h n => Spec.out (hd h) n) ((win0_6.blk t).view.emb y)) (fun k h i e => ?_) y
  have hc := ck_block t k
  refine (outO_at (Do := Do) r t k h i e).trans ((Spec.rows_at (fun h n => Spec.out (hd h) n) h (ck (8 * t.val + k.val)) i e).symm.trans (congrArg _ ?_))
  blk_ext [idx t]

omit r in
theorem emb_s (t : Fin cfg0.N) (k h : Fin 8) (d e : Fin 128) : ((win0_7.blk t).view.emb (ix4 k h d e : S8x8x128x128.Idx))
    = (ix4 ⟨8 * t.val + k.val, by have := lt16 t; have := k.isLt; omega⟩ h d e : S128x8x128x128.Idx) := by
  blk_ext [idx t]

/-- The states, chunk by chunk and head by head. -/
theorem final_s (S : S128x8x128x128.Idx → EReal) (hS : ∀ (n : Fin 128) (h : Fin 8) (d e : Fin 128), S (ix4 n h d e) = Spec.st (hd h) n.val d e) :
    (RegionF.dat V c).arrAt 7 cfg0.N = S := by
  refine (RegionF.dat V c).arrAt_eq_of_covers 7 _ (by decide +kernel) fun t _ y => ?_
  blk_simp [idx t]
  rw [after_s]
  refine saved_split (X := RegionF.outS V c t (RegionF.scr V c t.val)) (Y := fun y => S ((win0_7.blk t).view.emb y)) (fun k h d e => ?_) y
  dsimp only
  rw [emb_s, hS]
  exact outS_at (Do := Do) r t k h d e

end Cert.KernelIdeal.ValF

end
-- ==== Proof.ValB.lean ====
/- The backward region's results: the gradients of the scan's inputs. -/
module

public import proofs.«01_k».proof.Proof.ValCanon
public import proofs.«01_k».proof.Proof.RegionB
public import Idealize.ShloMosaic.Lib.Pipeline.ValueKit

@[expose] public section

set_option maxRecDepth 16384

noncomputable section

namespace Cert.KernelIdeal.ValB

open Cert.KernelIdeal Cert.KernelIdeal.Gen Cert.KernelIdeal.Base Cert.KernelIdeal.StepF Cert.KernelIdeal.StepB
open Cert.KernelIdeal.ValStep Cert.KernelIdeal.ValCanon
open Idealize.ShloMosaic Idealize.ShloMosaic.TcCoe
open Idealize.ShloMosaic.Pipeline (Dat Cfg Window)
open Cert.Spec (Mat ck)

/-- Each window's block at a point: the last block first. -/
theorem idx : ∀ t : Fin cfg1.N, win1_0.index t = ![15 - t.val, 0] ∧ win1_1.index t = ![15 - t.val, 0] ∧ win1_2.index t = ![15 - t.val, 0]
    ∧ win1_3.index t = ![15 - t.val, 0] ∧ win1_4.index t = ![15 - t.val, 0] ∧ win1_5.index t = ![0, 15 - t.val, 0]
    ∧ win1_6.index t = ![(15 - t.val) / 4, (15 - t.val) % 4, 0, 0] ∧ win1_7.index t = ![15 - t.val, 0, 0, 0] :=
  (by decide +kernel : ∀ t : Fin grid1.N, _)
theorem idx' : ∀ t : Fin cfg1.N, win1_8.index t = ![15 - t.val, 0] ∧ win1_9.index t = ![15 - t.val, 0] ∧ win1_10.index t = ![15 - t.val, 0]
    ∧ win1_11.index t = ![15 - t.val, 0] ∧ win1_12.index t = ![0, 15 - t.val, 0] ∧ win1_13.index t = ![(15 - t.val) / 4, (15 - t.val) % 4, 0, 0] :=
  (by decide +kernel : ∀ t : Fin grid1.N, _)

theorem coord : ∀ t : Fin cfg1.N, ((grid1.coords t) 0).val = t.val := (by decide +kernel : ∀ t : Fin grid1.N, _)

theorem lt16 (t : Fin cfg1.N) : t.val < 16 := lt_of_lt_of_eq t.isLt (by decide +kernel)

/-- Chunk `k` of point `t`'s block. -/
def chunk (t : Fin cfg1.N) (k : Fin 8) : Fin 128 := ⟨8 * (15 - t.val) + k.val, by have := k.isLt; omega⟩

/-- The chunk a point does after `n` others. -/
theorem chunk_eq (t : Fin cfg1.N) {n : ℕ} (hn : n < 8) : chunk t (at8 (7 - n)) = ck (127 - (8 * t.val + n)) := by
  have ht := lt16 t
  refine Fin.ext ?_
  show 8 * (15 - t.val) + (at8 (7 - n)).val = (127 - (8 * t.val + n)) % 128
  rw [at8_val (by omega)]
  omega

theorem chunk_sub (t : Fin cfg1.N) {n : ℕ} (hn : n < 8) : 127 - (chunk t (at8 (7 - n))).val = 8 * t.val + n := by
  have ht := lt16 t
  show 127 - (8 * (15 - t.val) + (at8 (7 - n)).val) = _
  rw [at8_val (by omega)]
  omega

theorem after_u {F : FTy → Type} [FloatOps F] (V : Dev nD → Valuation τ sig (Elt F)) (c : Dev nD) (t : Fin cfg1.N) :
    (RegionB.dat V c).after 8 t = RegionB.outU V c t (RegionB.scr V c t.val) := by unfold RegionB.dat; dsimp only
theorem after_w {F : FTy → Type} [FloatOps F] (V : Dev nD → Valuation τ sig (Elt F)) (c : Dev nD) (t : Fin cfg1.N) :
    (RegionB.dat V c).after 9 t = RegionB.outW V c t (RegionB.scr V c t.val) := by unfold RegionB.dat; dsimp only
theorem after_qd {F : FTy → Type} [FloatOps F] (V : Dev nD → Valuation τ sig (Elt F)) (c : Dev nD) (t : Fin cfg1.N) :
    (RegionB.dat V c).after 10 t = RegionB.outQd V c t := by unfold RegionB.dat; dsimp only
theorem after_kd {F : FTy → Type} [FloatOps F] (V : Dev nD → Valuation τ sig (Elt F)) (c : Dev nD) (t : Fin cfg1.N) :
    (RegionB.dat V c).after 11 t = RegionB.outKd V c t (RegionB.scr V c t.val) := by unfold RegionB.dat; dsimp only
theorem after_qk {F : FTy → Type} [FloatOps F] (V : Dev nD → Valuation τ sig (Elt F)) (c : Dev nD) (t : Fin cfg1.N) :
    (RegionB.dat V c).after 12 t = RegionB.outQk V c t := by unfold RegionB.dat; dsimp only
theorem after_g {F : FTy → Type} [FloatOps F] (V : Dev nD → Valuation τ sig (Elt F)) (c : Dev nD) (t : Fin cfg1.N) :
    (RegionB.dat V c).after 13 t = RegionB.outG V c t (RegionB.scr V c t.val) := by unfold RegionB.dat; dsimp only

variable (V : Dev nD → Valuation τ sig (Elt Ideal)) (c : Dev nD)

/-- The arrays the region reads. -/
structure Reads (Do U W Qd Kd : Spec.Rows) (Qk : Spec.Squares) (Gt : Spec.Gates) : Prop where
  o' : V c main_arg0 = Do
  u : V c main_arg1 = U
  w : V c main_arg2 = W
  qd : V c main_arg3 = Qd
  kd : V c main_arg4 = Kd
  qk : V c main_arg5 = Qk
  g : ∀ (a : Fin 4) (b : Fin 32) (h : Fin 8) (l : Fin 128),
    (V c main_v2 : S4x32x8x128.Idx → EReal) (ix4 a b h l) = Gt (ix2 ⟨32 * a.val + b.val, by have := a.isLt; have := b.isLt; omega⟩ h)
  s : ∀ (n : Fin 128) (h : Fin 8) (d e : Fin 128),
    (V c main_v3_1 : S128x8x128x128.Idx → EReal) (ix4 n h d e) = Spec.st (Spec.head Do U W Qd Kd Qk Gt h) n.val d e

variable {V c} {Do U W Qd Kd : Spec.Rows} {Qk : Spec.Squares} {Gt : Spec.Gates} (r : Reads V c Do U W Qd Kd Qk Gt)

local notation "hd" => Spec.head Do U W Qd Kd Qk Gt

include r

theorem blk_o' (t : Fin cfg1.N) (k h : Fin 8) : bt (RegionB.blkAt V c 0 t) k h = Spec.tile Do h (chunk t k) := by
  funext i e
  unfold bt Spec.tile chunk
  rw [← r.o']
  blk_ext [RegionB.blkAt, idx t]
theorem blk_u (t : Fin cfg1.N) (k h : Fin 8) : bt (RegionB.blkAt V c 1 t) k h = Spec.tile U h (chunk t k) := by
  funext i e
  unfold bt Spec.tile chunk
  rw [← r.u]
  blk_ext [RegionB.blkAt, idx t]
theorem blk_w (t : Fin cfg1.N) (k h : Fin 8) : bt (RegionB.blkAt V c 2 t) k h = Spec.tile W h (chunk t k) := by
  funext i e
  unfold bt Spec.tile chunk
  rw [← r.w]
  blk_ext [RegionB.blkAt, idx t]
theorem blk_qd (t : Fin cfg1.N) (k h : Fin 8) : bt (RegionB.blkAt V c 3 t) k h = Spec.tile Qd h (chunk t k) := by
  funext i e
  unfold bt Spec.tile chunk
  rw [← r.qd]
  blk_ext [RegionB.blkAt, idx t]
theorem blk_kd (t : Fin cfg1.N) (k h : Fin 8) : bt (RegionB.blkAt V c 4 t) k h = Spec.tile Kd h (chunk t k) := by
  funext i e
  unfold bt Spec.tile chunk
  rw [← r.kd]
  blk_ext [RegionB.blkAt, idx t]
theorem blk_qk (t : Fin cfg1.N) (k h : Fin 8) : bq (RegionB.blkAt V c 5 t) k h = Spec.square Qk h (chunk t k) := by
  funext i e
  unfold bq Spec.square chunk
  rw [← r.qk]
  blk_ext [RegionB.blkAt, idx t]
theorem blk_g (t : Fin cfg1.N) (k h : Fin 8) (l : Fin 128) :
    (RegionB.blkAt V c 6 t : S1x8x8x128.Idx → EReal) (ix4 0 k h l) = Gt (ix2 (chunk t k) h) := by
  have ht := lt16 t
  have hk := k.isLt
  have e := r.g ⟨(15 - t.val) / 4, by omega⟩ ⟨8 * ((15 - t.val) % 4) + k.val, by omega⟩ h l
  rw [show (⟨32 * ((15 - t.val) / 4) + (8 * ((15 - t.val) % 4) + k.val), by omega⟩ : Fin 128) = chunk t k from
    Fin.ext (by show 32 * ((15 - t.val) / 4) + (8 * ((15 - t.val) % 4) + k.val) = 8 * (15 - t.val) + k.val; omega)] at e
  rw [← e]
  blk_ext [RegionB.blkAt, idx t]
theorem blk_s (t : Fin cfg1.N) (k h : Fin 8) : bs (RegionB.blkAt V c 7 t) k h = Spec.st (hd h) (chunk t k).val := by
  funext d e
  rw [← r.s]
  unfold bs chunk
  blk_ext [RegionB.blkAt, idx t]

/-! ## The carried gradient -/

/-- The gradients inside a block, from the one it starts with. -/
theorem dstate_at (t : Fin cfg1.N) (D : FVec Ideal S8x128x128 .f32)
    (h0 : ∀ h, mat (start (F := Ideal) ((grid1.coords t) 0) D h) = Spec.ds (hd h) (8 * t.val)) : ∀ n, n ≤ 8 → ∀ h,
      mat (dstate (F := Ideal) ((grid1.coords t) 0) (RegionB.blkAt V c 0 t) (RegionB.blkAt V c 2 t) (RegionB.blkAt V c 3 t)
        (RegionB.blkAt V c 4 t) (RegionB.blkAt V c 5 t) (RegionB.blkAt V c 6 t) D n h) = Spec.ds (hd h) (8 * t.val + n)
  | 0, _, h => h0 h
  | n + 1, hn, h => by
    have ih := dstate_at t D h0 n (by omega) h
    funext d e
    refine (dnext_at _ _ _ _ _ _ _ (at8 (7 - n)) h (Gt (ix2 (chunk t (at8 (7 - n))) h)) (blk_g r t (at8 (7 - n)) h) d e).trans ?_
    rw [ih, blk_o' r, blk_w r, blk_qd r, blk_kd r, blk_qk r, chunk_eq t (by omega)]
    rfl

/-- The gradient a point starts with, from the one carried to it. -/
theorem start_at (t : Fin cfg1.N) (D : FVec Ideal S8x128x128 .f32) (hD : t.val ≠ 0 → ∀ h, bd D h = Spec.ds (hd h) (8 * t.val)) (h : Fin 8) :
    mat (start (F := Ideal) ((grid1.coords t) 0) D h) = Spec.ds (hd h) (8 * t.val) := by
  funext d e
  by_cases ht : t.val = 0
  · refine (start_zero _ D ((coord t).trans ht) h d e).trans ?_
    rw [ht]
    rfl
  · exact (start_pos _ D (fun e => ht ((coord t).symm.trans e)) h d e).trans (congrFun (congrFun (hD ht h) d) e)

/-- The gradient carried to a point. -/
theorem scr_at : ∀ n, n ≤ 16 → n ≠ 0 → ∀ h, bd (RegionB.scr V c n) h = Spec.ds (hd h) (8 * n)
  | 0, _, h, _ => absurd rfl h
  | n + 1, hn, _, h => by
    have hN : n < cfg1.N := lt_of_lt_of_eq (by omega : n < 16) (by decide +kernel)
    have hs := start_at r ⟨n, hN⟩ (RegionB.scr V c n) fun h0 => scr_at n (by omega) h0
    have e := RegionB.scr_succ V c ⟨n, hN⟩
    dsimp only at e
    rw [e]
    funext d e'
    unfold bd RegionB.outD StepB.piecesD
    refine canon_state (fun b => dstate (F := Ideal) ((grid1.coords ⟨n, hN⟩) 0) (RegionB.blkAt V c 0 ⟨n, hN⟩) (RegionB.blkAt V c 2 ⟨n, hN⟩)
      (RegionB.blkAt V c 3 ⟨n, hN⟩) (RegionB.blkAt V c 4 ⟨n, hN⟩) (RegionB.blkAt V c 5 ⟨n, hN⟩) (RegionB.blkAt V c 6 ⟨n, hN⟩)
      (RegionB.scr V c n) 8 (at8 b)) (fun h => Spec.ds (hd h) (8 * (n + 1))) (fun b hb d e => ?_) h d e'
    exact congrFun (congrFun (dstate_at r ⟨n, hN⟩ _ hs 8 (le_refl _) (at8 b)) d) e

/-- The gradient of the state after the chunk a point does after `n` others. -/
theorem carried (t : Fin cfg1.N) {n : ℕ} (hn : n < 8) (h : Fin 8) :
    mat (dstate (F := Ideal) ((grid1.coords t) 0) (RegionB.blkAt V c 0 t) (RegionB.blkAt V c 2 t) (RegionB.blkAt V c 3 t)
      (RegionB.blkAt V c 4 t) (RegionB.blkAt V c 5 t) (RegionB.blkAt V c 6 t) (RegionB.scr V c t.val) n h)
      = Spec.dS (hd h) (chunk t (at8 (7 - n))) := by
  unfold Spec.dS
  rw [chunk_sub t hn]
  exact dstate_at r t _ (fun h => start_at r t _ (fun h0 => scr_at r t.val (le_of_lt (lt16 t)) h0) h) n (le_of_lt hn) h

/-! ## The results -/

omit r in
theorem seven (k : Fin 8) : 7 - k.val < 8 := by omega
omit r in
theorem at8_seven (k : Fin 8) : at8 (7 - (7 - k.val)) = k := by
  rw [show 7 - (7 - k.val) = k.val by have := k.isLt; omega, at8_fin]

theorem outU_at (t : Fin cfg1.N) (k h : Fin 8) (i : Fin 64) (e : Fin 128) :
    RegionB.outU V c t (RegionB.scr V c t.val) (ix2 ⟨64 * k.val + i.val, by have := k.isLt; have := i.isLt; omega⟩
      ⟨128 * h.val + e.val, by have := h.isLt; have := e.isLt; omega⟩) = Spec.du (hd h) (chunk t k) i e := by
  refine canon_rows (fun k => at8 (7 - k)) (fun k => 7 - k.val) seven at8_seven
    (fun a b => dvn (F := Ideal) _ _ _ (dstate _ _ _ _ _ _ _ _ a (at8 b)) (at8 (7 - a)) (at8 b))
    (fun k h => Spec.du (hd h) (chunk t k)) (fun a b ha hb i e => ?_) k h i e
  refine (dvn_at _ _ _ _ (at8 (7 - a)) (at8 b) i e).trans ?_
  rw [carried r t ha, blk_o' r, blk_kd r, blk_qk r]
  rfl

theorem final_u : (RegionB.dat V c).arrAt 8 cfg1.N = Spec.rows fun h n => Spec.du (hd h) n := by
  refine (RegionB.dat V c).arrAt_eq_of_covers 8 _ (by decide +kernel) fun t _ y => ?_
  blk_simp [idx' t]
  rw [after_u]
  refine rows_split (X := RegionB.outU V c t (RegionB.scr V c t.val))
    (Y := fun y => Spec.rows (fun h n => Spec.du (hd h) n) ((win1_8.blk t).view.emb y)) (fun k h i e => ?_) y
  refine (outU_at r t k h i e).trans ((Spec.rows_at (fun h n => Spec.du (hd h) n) h (chunk t k) i e).symm.trans (congrArg _ ?_))
  unfold chunk
  blk_ext [idx' t]

theorem outW_at (t : Fin cfg1.N) (k h : Fin 8) (i : Fin 64) (e : Fin 128) :
    RegionB.outW V c t (RegionB.scr V c t.val) (ix2 ⟨64 * k.val + i.val, by have := k.isLt; have := i.isLt; omega⟩
      ⟨128 * h.val + e.val, by have := h.isLt; have := e.isLt; omega⟩) = Spec.dw (hd h) (chunk t k) i e := by
  refine canon_rows (fun k => at8 (7 - k)) (fun k => 7 - k.val) seven at8_seven
    (fun a b => dw (F := Ideal) _ _ _ _ (dstate _ _ _ _ _ _ _ _ a (at8 b)) (at8 (7 - a)) (at8 b))
    (fun k h => Spec.dw (hd h) (chunk t k)) (fun a b ha hb i e => ?_) k h i e
  refine (dw_at _ _ _ _ _ (at8 (7 - a)) (at8 b) i e).trans ?_
  rw [carried r t ha, blk_o' r, blk_kd r, blk_qk r, blk_s r]
  rfl

theorem final_w : (RegionB.dat V c).arrAt 9 cfg1.N = Spec.rows fun h n => Spec.dw (hd h) n := by
  refine (RegionB.dat V c).arrAt_eq_of_covers 9 _ (by decide +kernel) fun t _ y => ?_
  blk_simp [idx' t]
  rw [after_w]
  refine rows_split (X := RegionB.outW V c t (RegionB.scr V c t.val))
    (Y := fun y => Spec.rows (fun h n => Spec.dw (hd h) n) ((win1_9.blk t).view.emb y)) (fun k h i e => ?_) y
  refine (outW_at r t k h i e).trans ((Spec.rows_at (fun h n => Spec.dw (hd h) n) h (chunk t k) i e).symm.trans (congrArg _ ?_))
  unfold chunk
  blk_ext [idx' t]

theorem outQd_at (t : Fin cfg1.N) (k h : Fin 8) (i : Fin 64) (e : Fin 128) :
    RegionB.outQd V c t (ix2 ⟨64 * k.val + i.val, by have := k.isLt; have := i.isLt; omega⟩
      ⟨128 * h.val + e.val, by have := h.isLt; have := e.isLt; omega⟩) = Spec.dqd (hd h) (chunk t k) i e := by
  refine canon_rows (fun k => at8 (7 - k)) (fun k => 7 - k.val) seven at8_seven
    (fun a b => dqd (F := Ideal) _ _ (at8 (7 - a)) (at8 b))
    (fun k h => Spec.dqd (hd h) (chunk t k)) (fun a b ha hb i e => ?_) k h i e
  refine (dqd_at _ _ (at8 (7 - a)) (at8 b) i e).trans ?_
  rw [blk_o' r, blk_s r]
  rfl

theorem final_qd : (RegionB.dat V c).arrAt 10 cfg1.N = Spec.rows fun h n => Spec.dqd (hd h) n := by
  refine (RegionB.dat V c).arrAt_eq_of_covers 10 _ (by decide +kernel) fun t _ y => ?_
  blk_simp [idx' t]
  rw [after_qd]
  refine rows_split (X := RegionB.outQd V c t)
    (Y := fun y => Spec.rows (fun h n => Spec.dqd (hd h) n) ((win1_10.blk t).view.emb y)) (fun k h i e => ?_) y
  refine (outQd_at r t k h i e).trans ((Spec.rows_at (fun h n => Spec.dqd (hd h) n) h (chunk t k) i e).symm.trans (congrArg _ ?_))
  unfold chunk
  blk_ext [idx' t]

theorem outKd_at (t : Fin cfg1.N) (k h : Fin 8) (i : Fin 64) (e : Fin 128) :
    RegionB.outKd V c t (RegionB.scr V c t.val) (ix2 ⟨64 * k.val + i.val, by have := k.isLt; have := i.isLt; omega⟩
      ⟨128 * h.val + e.val, by have := h.isLt; have := e.isLt; omega⟩) = Spec.dkd (hd h) (chunk t k) i e := by
  refine canon_rows (fun k => at8 (7 - k)) (fun k => 7 - k.val) seven at8_seven
    (fun a b => dkd (F := Ideal) _ _ _ (dstate _ _ _ _ _ _ _ _ a (at8 b)) (at8 (7 - a)) (at8 b))
    (fun k h => Spec.dkd (hd h) (chunk t k)) (fun a b ha hb i e => ?_) k h i e
  refine (dkd_at _ _ _ _ (at8 (7 - a)) (at8 b) i e).trans ?_
  rw [carried r t ha, blk_u r, blk_w r, blk_s r]
  rfl

theorem final_kd : (RegionB.dat V c).arrAt 11 cfg1.N = Spec.rows fun h n => Spec.dkd (hd h) n := by
  refine (RegionB.dat V c).arrAt_eq_of_covers 11 _ (by decide +kernel) fun t _ y => ?_
  blk_simp [idx' t]
  rw [after_kd]
  refine rows_split (X := RegionB.outKd V c t (RegionB.scr V c t.val))
    (Y := fun y => Spec.rows (fun h n => Spec.dkd (hd h) n) ((win1_11.blk t).view.emb y)) (fun k h i e => ?_) y
  refine (outKd_at r t k h i e).trans ((Spec.rows_at (fun h n => Spec.dkd (hd h) n) h (chunk t k) i e).symm.trans (congrArg _ ?_))
  unfold chunk
  blk_ext [idx' t]

theorem outQk_at (t : Fin cfg1.N) (k h : Fin 8) (i j : Fin 64) :
    RegionB.outQk V c t (ix3 h ⟨64 * k.val + i.val, by have := k.isLt; have := i.isLt; omega⟩ j) = Spec.dqk (hd h) (chunk t k) i j := by
  refine canon_squares (fun k => at8 (7 - k)) (fun k => 7 - k.val) seven at8_seven
    (fun a b => dqk (F := Ideal) _ _ _ _ (at8 (7 - a)) (at8 b))
    (fun k h => Spec.dqk (hd h) (chunk t k)) (fun a b ha hb i e => ?_) k h i j
  refine (dqk_at _ _ _ _ (at8 (7 - a)) (at8 b) i e).trans ?_
  rw [blk_o' r, blk_u r, blk_w r, blk_s r]
  rfl

theorem final_qk : (RegionB.dat V c).arrAt 12 cfg1.N = Spec.squares fun h n => Spec.dqk (hd h) n := by
  refine (RegionB.dat V c).arrAt_eq_of_covers 12 _ (by decide +kernel) fun t _ y => ?_
  blk_simp [idx' t]
  rw [after_qk]
  refine squares_split (X := RegionB.outQk V c t)
    (Y := fun y => Spec.squares (fun h n => Spec.dqk (hd h) n) ((win1_12.blk t).view.emb y)) (fun k h i j => ?_) y
  refine (outQk_at r t k h i j).trans ((Spec.squares_at (fun h n => Spec.dqk (hd h) n) h (chunk t k) i j).symm.trans (congrArg _ ?_))
  unfold chunk
  blk_ext [idx' t]

theorem outG_at (t : Fin cfg1.N) (k h : Fin 8) (l : Fin 128) :
    RegionB.outG V c t (RegionB.scr V c t.val) (ix4 0 k h l) = Spec.dg (hd h) (chunk t k) := by
  refine canon_gates (fun k => at8 (7 - k)) (fun k => 7 - k.val) seven at8_seven
    (fun a b => dgl (F := Ideal) _ (dstate _ _ _ _ _ _ _ _ a (at8 b)) (at8 (7 - a)) (at8 b))
    (fun k h => Spec.dg (hd h) (chunk t k)) (fun a b ha hb l => ?_) k h l
  refine (dgl_at _ _ (at8 (7 - a)) (at8 b) l).trans ?_
  rw [carried r t ha, blk_s r]
  rfl

theorem final_g : (RegionB.dat V c).arrAt 13 cfg1.N = Spec.lanes fun h n => Spec.dg (hd h) n := by
  refine (RegionB.dat V c).arrAt_eq_of_covers 13 _ (by decide +kernel) fun t _ y => ?_
  blk_simp [idx' t]
  rw [after_g]
  refine gates_split (X := RegionB.outG V c t (RegionB.scr V c t.val))
    (Y := fun y => Spec.lanes (fun h n => Spec.dg (hd h) n) ((win1_13.blk t).view.emb y)) (fun k h l => ?_) y
  have ht := lt16 t
  have hk := k.isLt
  refine (outG_at r t k h l).trans ?_
  rw [show chunk t k = ⟨(15 - t.val) / 4 * 32 + (8 * ((15 - t.val) % 4) + k.val), by omega⟩ from
    Fin.ext (by show 8 * (15 - t.val) + k.val = (15 - t.val) / 4 * 32 + (8 * ((15 - t.val) % 4) + k.val); omega)]
  refine Eq.trans (b := Spec.lanes (fun h n => Spec.dg (hd h) n) (ix4 ⟨(15 - t.val) / 4, by omega⟩ ⟨8 * ((15 - t.val) % 4) + k.val, by omega⟩ h l))
    rfl (congrArg _ ?_)
  blk_ext [idx' t]

end Cert.KernelIdeal.ValB

end
-- ==== Proof.KerVal.lean ====
/- What the kernel computes. -/
module

public import proofs.«01_k».proof.Proof.Run
public import proofs.«01_k».proof.Proof.ValF
public import proofs.«01_k».proof.Proof.ValB

@[expose] public section

set_option maxRecDepth 16384

noncomputable section

namespace Cert.KernelIdeal.Val

open Cert.KernelIdeal Cert.KernelIdeal.Gen
open Idealize.ShloMosaic Idealize.ShloMosaic.TcCoe
open StableHlo
open Cert.Spec (Head head rows squares lanes)

theorem lanes_in (X : S128x8.Idx → EReal) (a : Fin 4) (b : Fin 32) (h : Fin 8) (l : Fin 128) :
    shapeCast S4x32x8x128 (broadcastInDim S128x8x128 ![0, 1, 2] bcast_S128x8x1_S128x8x128_0_1_2 (broadcastInDim S128x8x1 ![0, 1] bcast_S128x8_S128x8x1_0_1 X))
      shapeCasts_S128x8x128_S4x32x8x128 (ix4 a b h l) = X (ix2 ⟨32 * a.val + b.val, by have := a.isLt; have := b.isLt; omega⟩ h) := by
  pointwise
  refine congrArg X ((ix2_inj ..).2 ⟨Fin.ext ?_, rfl⟩)
  show a.val * 32 + b.val = 32 * a.val + b.val; omega

theorem host_g (V : Valuation τ sig (Elt Ideal)) (a : Fin 4) (b : Fin 32) (h : Fin 8) (l : Fin 128) :
    (after hostOps0 V main_v2 : S4x32x8x128.Idx → EReal) (ix4 a b h l)
      = (V main_arg6 : S128x8.Idx → EReal) (ix2 ⟨32 * a.val + b.val, by have := a.isLt; have := b.isLt; omega⟩ h) := by
  after_results
  exact lanes_in _ a b h l

variable (m : (ℓ : Loc nD τ sig) → Buf (Elt Ideal) ℓ) (c : Dev nD)

/-- Core `c`'s argument. -/
abbrev arg (r : Ref sig .tc) : Buf (Elt Ideal) ((c.tc : Thread nD τ).loc r) := m ((c.tc : Thread nD τ).loc r)

/-- The heads of core `c`'s arguments. -/
abbrev hds (h : Fin 8) : Head :=
  head (arg m c main_arg0) (arg m c main_arg1) (arg m c main_arg2) (arg m c main_arg3) (arg m c main_arg4) (arg m c main_arg5) (arg m c main_arg6) h

theorem readsF : ValF.Reads (V1 m) c (arg m c main_arg1) (arg m c main_arg2) (arg m c main_arg3) (arg m c main_arg4) (arg m c main_arg5) (arg m c main_arg6) where
  u := V1_of m c main_arg1 (by decide)
  w := V1_of m c main_arg2 (by decide)
  qd := V1_of m c main_arg3 (by decide)
  kd := V1_of m c main_arg4 (by decide)
  qk := V1_of m c main_arg5 (by decide)
  g a b h l := host_g _ a b h l

/-- The saved states. -/
def states : S128x8x128x128.Idx → EReal := fun i => Spec.st (hds m c (i 1)) (i 0).val (i 2) (i 3)

theorem resS_eq : Run.resS m c = states m c := ValF.final_s (Do := arg m c main_arg0) (readsF m c) (states m c) fun _ _ _ _ => rfl

theorem readsB : ValB.Reads (Run.A2 m) c (arg m c main_arg0) (arg m c main_arg1) (arg m c main_arg2) (arg m c main_arg3) (arg m c main_arg4) (arg m c main_arg5)
    (arg m c main_arg6) where
  o' := (Run.A2_of m c main_arg0 (by decide) (by decide)).trans (V1_of m c main_arg0 (by decide))
  u := (Run.A2_of m c main_arg1 (by decide) (by decide)).trans (readsF m c).u
  w := (Run.A2_of m c main_arg2 (by decide) (by decide)).trans (readsF m c).w
  qd := (Run.A2_of m c main_arg3 (by decide) (by decide)).trans (readsF m c).qd
  kd := (Run.A2_of m c main_arg4 (by decide) (by decide)).trans (readsF m c).kd
  qk := (Run.A2_of m c main_arg5 (by decide) (by decide)).trans (readsF m c).qk
  g a b h l := (congrFun (Run.A2_of m c main_v2 (by decide) (by decide)) _).trans ((readsF m c).g a b h l)
  s n h d e := congrFun ((Run.A2_s m c).trans (resS_eq m c)) _

theorem res_o : Run.A3 m c main_v3_0 = rows fun h n => Spec.out (hds m c h) n :=
  (Run.A3_of m c main_v3_0 (by decide) (by decide) (by decide) (by decide) (by decide) (by decide)).trans
    ((Run.A2_o m c).trans (ValF.final_o (Do := arg m c main_arg0) (readsF m c)))
theorem res_du : Run.A3 m c main_v4_0 = rows fun h n => Spec.du (hds m c h) n := (Run.A3_U m c).trans (ValB.final_u (readsB m c))
theorem res_dw : Run.A3 m c main_v4_1 = rows fun h n => Spec.dw (hds m c h) n := (Run.A3_W m c).trans (ValB.final_w (readsB m c))
theorem res_dqd : Run.A3 m c main_v4_2 = rows fun h n => Spec.dqd (hds m c h) n := (Run.A3_Qd m c).trans (ValB.final_qd (readsB m c))
theorem res_dkd : Run.A3 m c main_v4_3 = rows fun h n => Spec.dkd (hds m c h) n := (Run.A3_Kd m c).trans (ValB.final_kd (readsB m c))
theorem res_dqk : Run.A3 m c main_v4_4 = squares fun h n => Spec.dqk (hds m c h) n := (Run.A3_Qk m c).trans (ValB.final_qk (readsB m c))
theorem res_dg : Run.A3 m c main_v4_5 = lanes fun h n => Spec.dg (hds m c h) n := (Run.A3_G m c).trans (ValB.final_g (readsB m c))

end Cert.KernelIdeal.Val

end
-- ==== Proof.RefOpsM.lean ====
/- The operations of the reference around its two loops. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Ops

open Cert.ReferenceIdeal Cert.ReferenceIdeal.Gen
open Idealize.ShloMosaic Idealize.ShloMosaic.TcCoe
open Idealize.SL.Sem
open StableHlo

variable {F : FTy → Type} [FloatOps F]

/-- What a buffer of a shape and an element type holds. -/
abbrev Ct (F : FTy → Type) (S : Shape) (e : EltTy) : Type := (⟨S, e⟩ : BufTy).Contents (Elt F)

/-- 36 operations of this stretch, in order. -/
abbrev mops0 : List (HloOp τ sig (Elt F)) :=
  [ reshape main_arg1 main_v0 (rfl : (.f32 : EltTy) = .f32) shapeCasts_S8192x1024_S128x64x8x128,
    unary main_v0 main_v1 ((transpose S128x8x64x128 [0, 2, 1, 3] · transposes_S128x64x8x128_S128x8x64x128_0_2_1_3) : Ct F S128x64x8x128 .f32 → Ct F S128x8x64x128 .f32),
    reshape main_arg2 main_v2 (rfl : (.f32 : EltTy) = .f32) shapeCasts_S8192x1024_S128x64x8x128,
    unary main_v2 main_v3 ((transpose S128x8x64x128 [0, 2, 1, 3] · transposes_S128x64x8x128_S128x8x64x128_0_2_1_3) : Ct F S128x64x8x128 .f32 → Ct F S128x8x64x128 .f32),
    unary main_arg5 main_v4 ((extf .f32 · bitsLt_bf16_f32) : Ct F S8x8192x64 .bf16 → Ct F S8x8192x64 .f32),
    reshape main_v4 main_v5 (rfl : (.f32 : EltTy) = .f32) shapeCasts_S8x8192x64_S8x128x64x64,
    unary main_v5 main_v6 ((transpose S128x8x64x64 [1, 0, 2, 3] · transposes_S8x128x64x64_S128x8x64x64_1_0_2_3) : Ct F S8x128x64x64 .f32 → Ct F S128x8x64x64 .f32),
    unary main_arg3 main_v7 ((extf .f32 · bitsLt_bf16_f32) : Ct F S8192x1024 .bf16 → Ct F S8192x1024 .f32),
    reshape main_v7 main_v8 (rfl : (.f32 : EltTy) = .f32) shapeCasts_S8192x1024_S128x64x8x128,
    unary main_v8 main_v9 ((transpose S128x8x64x128 [0, 2, 1, 3] · transposes_S128x64x8x128_S128x8x64x128_0_2_1_3) : Ct F S128x64x8x128 .f32 → Ct F S128x8x64x128 .f32),
    unary main_arg4 main_v10 ((extf .f32 · bitsLt_bf16_f32) : Ct F S8192x1024 .bf16 → Ct F S8192x1024 .f32),
    reshape main_v10 main_v11 (rfl : (.f32 : EltTy) = .f32) shapeCasts_S8192x1024_S128x64x8x128,
    unary main_v11 main_v12 ((transpose S128x8x64x128 [0, 2, 1, 3] · transposes_S128x64x8x128_S128x8x64x128_0_2_1_3) : Ct F S128x64x8x128 .f32 → Ct F S128x8x64x128 .f32),
    nullary main_cst (constant S_ .f32 0x00000000#32),
    unary main_cst main_v13 (broadcastInDim S8x128x128 ![] bcast_S_S8x128x128 : Ct F S_ .f32 → Ct F S8x128x128 .f32),
    nullary main_cst_0 (constant S_ .f32 0x00000000#32),
    unary main_cst_0 main_v14 (broadcastInDim S128x8x64x128 ![] bcast_S_S128x8x64x128 : Ct F S_ .f32 → Ct F S128x8x64x128 .f32),
    nullary main_cst_1 (constant S_ .f32 0x00000000#32),
    unary main_cst_1 main_v15 (broadcastInDim S128x8x128x128 ![] bcast_S_S128x8x128x128 : Ct F S_ .f32 → Ct F S128x8x128x128 .f32),
    nullary main_cst_2 (constant S_ .f32 0x00000000#32),
    unary main_cst_2 main_v16 (broadcastInDim S128x8x64x128 ![] bcast_S_S128x8x64x128 : Ct F S_ .f32 → Ct F S128x8x64x128 .f32),
    nullary main_cst_3 (constant S_ .f32 0x00000000#32),
    unary main_cst_3 main_v17 (broadcastInDim S128x8x1x1 ![] bcast_S_S128x8x1x1 : Ct F S_ .f32 → Ct F S128x8x1x1 .f32),
    nullary main_c (constantI S_ 32 0#32),
    unary main_v1 main_v18_0 id,
    unary main_v3 main_v18_1 id,
    unary main_v6 main_v18_2 id,
    unary main_v9 main_v18_3 id,
    unary main_v12 main_v18_4 id,
    unary main_arg6 main_v18_5 id,
    unary main_c main_v18_6 id,
    unary main_v13 main_v18_7 id,
    unary main_v14 main_v18_8 id,
    unary main_v15 main_v18_9 id,
    unary main_v16 main_v18_10 id,
    unary main_v17 main_v18_11 id ]
theorem mops0_sub : (mops0 (F := F)).Forall fun op => op.bufs ⊆ tcRefs τ sig :=
  ⟨reshape_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem mops0_fresh : (mops0 (F := F)).Forall fun op => op.fresh = ∅ := forall_fresh_of_map rfl
/-- What they write. -/
abbrev mops0_W : List (Ref sig .tc) := [main_v0, main_v1, main_v2, main_v3, main_v4, main_v5, main_v6, main_v7, main_v8, main_v9, main_v10, main_v11, main_v12, main_cst, main_v13, main_cst_0, main_v14, main_cst_1, main_v15, main_cst_2, main_v16, main_cst_3, main_v17, main_c, main_v18_0, main_v18_1, main_v18_2, main_v18_3, main_v18_4, main_v18_5, main_v18_6, main_v18_7, main_v18_8, main_v18_9, main_v18_10, main_v18_11]
theorem mops0_writes : (mops0 (F := F)).Forall fun op => op.writes ⊆ (mops0_W.map (Proc.devRef (τ := τ) .tc)).toFinset :=
  forall_writes_sub_of_map rfl
theorem mops0_keep (V : Valuation τ sig (Elt F)) (r : Ref sig .tc) (h : r ∉ mops0_W) :
    after mops0 V (no_index (Proc.devRef .tc r)) = V (Proc.devRef .tc r) :=
  after_of_writes_sub mops0 V mops0_writes h

/-- 35 operations of this stretch, in order. -/
abbrev mops1 : List (HloOp τ sig (Elt F)) :=
  [ reshape main_arg0 main_v19 (rfl : (.f32 : EltTy) = .f32) shapeCasts_S8192x1024_S128x64x8x128,
    unary main_v19 main_v20 ((transpose S128x8x64x128 [0, 2, 1, 3] · transposes_S128x64x8x128_S128x8x64x128_0_2_1_3) : Ct F S128x64x8x128 .f32 → Ct F S128x8x64x128 .f32),
    nullary main_cst_4 (constant S_ .f32 0x00000000#32),
    unary main_cst_4 main_v21 (broadcastInDim S8x128x128 ![] bcast_S_S8x128x128 : Ct F S_ .f32 → Ct F S8x128x128 .f32),
    nullary main_cst_5 (constant S_ .f32 0x00000000#32),
    unary main_cst_5 main_v22 (broadcastInDim S8x128x128 ![] bcast_S_S8x128x128 : Ct F S_ .f32 → Ct F S8x128x128 .f32),
    nullary main_cst_6 (constant S_ .f32 0x00000000#32),
    unary main_cst_6 main_v23 (broadcastInDim S128x8x64x128 ![] bcast_S_S128x8x64x128 : Ct F S_ .f32 → Ct F S128x8x64x128 .f32),
    nullary main_cst_7 (constant S_ .f32 0x00000000#32),
    unary main_cst_7 main_v24 (broadcastInDim S128x8x64x128 ![] bcast_S_S128x8x64x128 : Ct F S_ .f32 → Ct F S128x8x64x128 .f32),
    nullary main_cst_8 (constant S_ .f32 0x00000000#32),
    unary main_cst_8 main_v25 (broadcastInDim S128x8x64x64 ![] bcast_S_S128x8x64x64 : Ct F S_ .f32 → Ct F S128x8x64x64 .f32),
    nullary main_cst_9 (constant S_ .f32 0x00000000#32),
    unary main_cst_9 main_v26 (broadcastInDim S128x8x64x128 ![] bcast_S_S128x8x64x128 : Ct F S_ .f32 → Ct F S128x8x64x128 .f32),
    nullary main_cst_10 (constant S_ .f32 0x00000000#32),
    unary main_cst_10 main_v27 (broadcastInDim S128x8x64x128 ![] bcast_S_S128x8x64x128 : Ct F S_ .f32 → Ct F S128x8x64x128 .f32),
    nullary main_cst_11 (constant S_ .f32 0x00000000#32),
    unary main_cst_11 main_v28 (broadcastInDim S128x8 ![] bcast_S_S128x8 : Ct F S_ .f32 → Ct F S128x8 .f32),
    nullary main_c_12 (constantI S_ 32 0#32),
    unary main_v20 main_v29_0 id,
    unary main_v18_9 main_v29_1 id,
    unary main_v3 main_v29_2 id,
    unary main_v9 main_v29_3 id,
    unary main_v18_10 main_v29_4 id,
    unary main_v6 main_v29_5 id,
    unary main_v18_11 main_v29_6 id,
    unary main_v12 main_v29_7 id,
    unary main_c_12 main_v29_8 id,
    unary main_v22 main_v29_9 id,
    unary main_v23 main_v29_10 id,
    unary main_v24 main_v29_11 id,
    unary main_v25 main_v29_12 id,
    unary main_v26 main_v29_13 id,
    unary main_v27 main_v29_14 id,
    unary main_v28 main_v29_15 id ]
theorem mops1_sub : (mops1 (F := F)).Forall fun op => op.bufs ⊆ tcRefs τ sig :=
  ⟨reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem mops1_fresh : (mops1 (F := F)).Forall fun op => op.fresh = ∅ := forall_fresh_of_map rfl
/-- What they write. -/
abbrev mops1_W : List (Ref sig .tc) := [main_v19, main_v20, main_cst_4, main_v21, main_cst_5, main_v22, main_cst_6, main_v23, main_cst_7, main_v24, main_cst_8, main_v25, main_cst_9, main_v26, main_cst_10, main_v27, main_cst_11, main_v28, main_c_12, main_v29_0, main_v29_1, main_v29_2, main_v29_3, main_v29_4, main_v29_5, main_v29_6, main_v29_7, main_v29_8, main_v29_9, main_v29_10, main_v29_11, main_v29_12, main_v29_13, main_v29_14, main_v29_15]
theorem mops1_writes : (mops1 (F := F)).Forall fun op => op.writes ⊆ (mops1_W.map (Proc.devRef (τ := τ) .tc)).toFinset :=
  forall_writes_sub_of_map rfl
theorem mops1_keep (V : Valuation τ sig (Elt F)) (r : Ref sig .tc) (h : r ∉ mops1_W) :
    after mops1 V (no_index (Proc.devRef .tc r)) = V (Proc.devRef .tc r) :=
  after_of_writes_sub mops1 V mops1_writes h

/-- 15 operations of this stretch, in order. -/
abbrev mops2 : List (HloOp τ sig (Elt F)) :=
  [ unary main_v18_8 main_v30 ((transpose S128x64x8x128 [0, 2, 1, 3] · transposes_S128x8x64x128_S128x64x8x128_0_2_1_3) : Ct F S128x8x64x128 .f32 → Ct F S128x64x8x128 .f32),
    reshape main_v30 main_v31 (rfl : (.f32 : EltTy) = .f32) shapeCasts_S128x64x8x128_S8192x1024,
    unary main_v29_10 main_v32 ((transpose S128x64x8x128 [0, 2, 1, 3] · transposes_S128x8x64x128_S128x64x8x128_0_2_1_3) : Ct F S128x8x64x128 .f32 → Ct F S128x64x8x128 .f32),
    reshape main_v32 main_v33 (rfl : (.f32 : EltTy) = .f32) shapeCasts_S128x64x8x128_S8192x1024,
    unary main_v29_11 main_v34 ((transpose S128x64x8x128 [0, 2, 1, 3] · transposes_S128x8x64x128_S128x64x8x128_0_2_1_3) : Ct F S128x8x64x128 .f32 → Ct F S128x64x8x128 .f32),
    reshape main_v34 main_v35 (rfl : (.f32 : EltTy) = .f32) shapeCasts_S128x64x8x128_S8192x1024,
    unary main_v29_13 main_v36 ((transpose S128x64x8x128 [0, 2, 1, 3] · transposes_S128x8x64x128_S128x64x8x128_0_2_1_3) : Ct F S128x8x64x128 .f32 → Ct F S128x64x8x128 .f32),
    reshape main_v36 main_v37 (rfl : (.f32 : EltTy) = .f32) shapeCasts_S128x64x8x128_S8192x1024,
    unary main_v29_14 main_v38 ((transpose S128x64x8x128 [0, 2, 1, 3] · transposes_S128x8x64x128_S128x64x8x128_0_2_1_3) : Ct F S128x8x64x128 .f32 → Ct F S128x64x8x128 .f32),
    reshape main_v38 main_v39 (rfl : (.f32 : EltTy) = .f32) shapeCasts_S128x64x8x128_S8192x1024,
    unary main_v29_12 main_v40 ((transpose S8x128x64x64 [1, 0, 2, 3] · transposes_S128x8x64x64_S8x128x64x64_1_0_2_3) : Ct F S128x8x64x64 .f32 → Ct F S8x128x64x64 .f32),
    reshape main_v40 main_v41 (rfl : (.f32 : EltTy) = .f32) shapeCasts_S8x128x64x64_S8x8192x64,
    unary main_v29_15 main_v42 (broadcastInDim S128x8x1 ![0, 1] bcast_S128x8_S128x8x1_0_1 : Ct F S128x8 .f32 → Ct F S128x8x1 .f32),
    unary main_v42 main_v43 (broadcastInDim S128x8x128 ![0, 1, 2] bcast_S128x8x1_S128x8x128_0_1_2 : Ct F S128x8x1 .f32 → Ct F S128x8x128 .f32),
    reshape main_v43 main_v44 (rfl : (.f32 : EltTy) = .f32) shapeCasts_S128x8x128_S4x32x8x128 ]
theorem mops2_sub : (mops2 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., reshape_bufs_sub ..⟩
theorem mops2_fresh : (mops2 (F := F)).Forall fun op => op.fresh = ∅ := forall_fresh_of_map rfl
/-- What they write. -/
abbrev mops2_W : List (Ref sig .tc) := [main_v30, main_v31, main_v32, main_v33, main_v34, main_v35, main_v36, main_v37, main_v38, main_v39, main_v40, main_v41, main_v42, main_v43, main_v44]
theorem mops2_writes : (mops2 (F := F)).Forall fun op => op.writes ⊆ (mops2_W.map (Proc.devRef (τ := τ) .tc)).toFinset :=
  forall_writes_sub_of_map rfl
theorem mops2_keep (V : Valuation τ sig (Elt F)) (r : Ref sig .tc) (h : r ∉ mops2_W) :
    after mops2 V (no_index (Proc.devRef .tc r)) = V (Proc.devRef .tc r) :=
  after_of_writes_sub mops2 V mops2_writes h

end Cert.ReferenceIdeal.Ops

end
-- ==== Proof.RefOpsF.lean ====
/- The operations of the reference's forward loop. -/
module

public import proofs.«01_k».proof.Proof.RefOpsM

@[expose] public section

set_option maxRecDepth 16384

noncomputable section

namespace Cert.ReferenceIdeal.Ops

open Cert.ReferenceIdeal Cert.ReferenceIdeal.Gen
open Idealize.ShloMosaic Idealize.ShloMosaic.TcCoe
open Idealize.SL.Sem
open StableHlo

variable {F : FTy → Type} [FloatOps F]

/-- Chunk read: the trip's entry of one stacked array. -/
abbrev fcall0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v18_0 : TRef sig ⟨S128x8x64x128, .f32⟩) ![(.of main_v18_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call0_v0 : TRef sig ⟨S1x8x64x128, .f32⟩) (.of main_while0b_v45 : TRef sig ⟨S8x64x128, .f32⟩) (rfl : (.f32 : EltTy) = .f32) shapeCasts_S1x8x64x128_S8x64x128 ]
theorem fcall0_sub : (fcall0 (F := F)).Forall fun op => op.bufs ⊆ tcRefs τ sig :=
  ⟨nullary_bufs_sub .., nullary_bufs_sub .., nullary_bufs_sub .., unaryIndexed_bufs_sub .., reshape_bufs_sub ..⟩
theorem fcall0_fresh : (fcall0 (F := F)).Forall fun op => op.fresh = ∅ := forall_fresh_of_map rfl
/-- What they write. -/
abbrev fcall0_W : List (Ref sig .tc) := [main_while0b_call0_c, main_while0b_call0_c_0, main_while0b_call0_c_1, main_while0b_call0_v0, main_while0b_v45]
theorem fcall0_writes : (fcall0 (F := F)).Forall fun op => op.writes ⊆ (fcall0_W.map (Proc.devRef (τ := τ) .tc)).toFinset :=
  forall_writes_sub_of_map rfl
theorem fcall0_keep (V : Valuation τ sig (Elt F)) (r : Ref sig .tc) (h : r ∉ fcall0_W) :
    after fcall0 V (no_index (Proc.devRef .tc r)) = V (Proc.devRef .tc r) :=
  after_of_writes_sub fcall0 V fcall0_writes h

/-- Chunk read: the trip's entry of one stacked array. -/
abbrev fcall1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v18_1 : TRef sig ⟨S128x8x64x128, .f32⟩) ![(.of main_v18_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call1_v0 : TRef sig ⟨S1x8x64x128, .f32⟩) (.of main_while0b_v46 : TRef sig ⟨S8x64x128, .f32⟩) (rfl : (.f32 : EltTy) = .f32) shapeCasts_S1x8x64x128_S8x64x128 ]
theorem fcall1_sub : (fcall1 (F := F)).Forall fun op => op.bufs ⊆ tcRefs τ sig :=
  ⟨nullary_bufs_sub .., nullary_bufs_sub .., nullary_bufs_sub .., unaryIndexed_bufs_sub .., reshape_bufs_sub ..⟩
theorem fcall1_fresh : (fcall1 (F := F)).Forall fun op => op.fresh = ∅ := forall_fresh_of_map rfl
/-- What they write. -/
abbrev fcall1_W : List (Ref sig .tc) := [main_while0b_call1_c, main_while0b_call1_c_0, main_while0b_call1_c_1, main_while0b_call1_v0, main_while0b_v46]
theorem fcall1_writes : (fcall1 (F := F)).Forall fun op => op.writes ⊆ (fcall1_W.map (Proc.devRef (τ := τ) .tc)).toFinset :=
  forall_writes_sub_of_map rfl
theorem fcall1_keep (V : Valuation τ sig (Elt F)) (r : Ref sig .tc) (h : r ∉ fcall1_W) :
    after fcall1 V (no_index (Proc.devRef .tc r)) = V (Proc.devRef .tc r) :=
  after_of_writes_sub fcall1 V fcall1_writes h

/-- Chunk read: the trip's entry of one stacked array. -/
abbrev fcall2 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v18_2 : TRef sig ⟨S128x8x64x64, .f32⟩) ![(.of main_v18_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x8x64x64, .f32⟩) (fun x i => Host.dynamicSlice S1x8x64x64 x (fun k => (i k (Shape.Idx.first h_S_)).toInt) sliceFits_S128x8x64x64_S1x8x64x64),
    TRef.reshape (.of main_while0b_call2_v0 : TRef sig ⟨S1x8x64x64, .f32⟩) (.of main_while0b_v47 : TRef sig ⟨S8x64x64, .f32⟩) (rfl : (.f32 : EltTy) = .f32) shapeCasts_S1x8x64x64_S8x64x64 ]
theorem fcall2_sub : (fcall2 (F := F)).Forall fun op => op.bufs ⊆ tcRefs τ sig :=
  ⟨nullary_bufs_sub .., nullary_bufs_sub .., nullary_bufs_sub .., unaryIndexed_bufs_sub .., reshape_bufs_sub ..⟩
theorem fcall2_fresh : (fcall2 (F := F)).Forall fun op => op.fresh = ∅ := forall_fresh_of_map rfl
/-- What they write. -/
abbrev fcall2_W : List (Ref sig .tc) := [main_while0b_call2_c, main_while0b_call2_c_0, main_while0b_call2_c_1, main_while0b_call2_v0, main_while0b_v47]
theorem fcall2_writes : (fcall2 (F := F)).Forall fun op => op.writes ⊆ (fcall2_W.map (Proc.devRef (τ := τ) .tc)).toFinset :=
  forall_writes_sub_of_map rfl
theorem fcall2_keep (V : Valuation τ sig (Elt F)) (r : Ref sig .tc) (h : r ∉ fcall2_W) :
    after fcall2 V (no_index (Proc.devRef .tc r)) = V (Proc.devRef .tc r) :=
  after_of_writes_sub fcall2 V fcall2_writes h

/-- Chunk read: the trip's entry of one stacked array. -/
abbrev fcall3 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v18_3 : TRef sig ⟨S128x8x64x128, .f32⟩) ![(.of main_v18_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call3_v0 : TRef sig ⟨S1x8x64x128, .f32⟩) (.of main_while0b_v48 : TRef sig ⟨S8x64x128, .f32⟩) (rfl : (.f32 : EltTy) = .f32) shapeCasts_S1x8x64x128_S8x64x128 ]
theorem fcall3_sub : (fcall3 (F := F)).Forall fun op => op.bufs ⊆ tcRefs τ sig :=
  ⟨nullary_bufs_sub .., nullary_bufs_sub .., nullary_bufs_sub .., unaryIndexed_bufs_sub .., reshape_bufs_sub ..⟩
theorem fcall3_fresh : (fcall3 (F := F)).Forall fun op => op.fresh = ∅ := forall_fresh_of_map rfl
/-- What they write. -/
abbrev fcall3_W : List (Ref sig .tc) := [main_while0b_call3_c, main_while0b_call3_c_0, main_while0b_call3_c_1, main_while0b_call3_v0, main_while0b_v48]
theorem fcall3_writes : (fcall3 (F := F)).Forall fun op => op.writes ⊆ (fcall3_W.map (Proc.devRef (τ := τ) .tc)).toFinset :=
  forall_writes_sub_of_map rfl
theorem fcall3_keep (V : Valuation τ sig (Elt F)) (r : Ref sig .tc) (h : r ∉ fcall3_W) :
    after fcall3 V (no_index (Proc.devRef .tc r)) = V (Proc.devRef .tc r) :=
  after_of_writes_sub fcall3 V fcall3_writes h

/-- Chunk read: the trip's entry of one stacked array. -/
abbrev fcall4 : List (HloOp τ sig (Elt F)) :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v18_4 : TRef sig ⟨S128x8x64x128, .f32⟩) ![(.of main_v18_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call4_v0 : TRef sig ⟨S1x8x64x128, .f32⟩) (.of main_while0b_v49 : TRef sig ⟨S8x64x128, .f32⟩) (rfl : (.f32 : EltTy) = .f32) shapeCasts_S1x8x64x128_S8x64x128 ]
theorem fcall4_sub : (fcall4 (F := F)).Forall fun op => op.bufs ⊆ tcRefs τ sig :=
  ⟨nullary_bufs_sub .., nullary_bufs_sub .., nullary_bufs_sub .., unaryIndexed_bufs_sub .., reshape_bufs_sub ..⟩
theorem fcall4_fresh : (fcall4 (F := F)).Forall fun op => op.fresh = ∅ := forall_fresh_of_map rfl
/-- What they write. -/
abbrev fcall4_W : List (Ref sig .tc) := [main_while0b_call4_c, main_while0b_call4_c_0, main_while0b_call4_c_1, main_while0b_call4_v0, main_while0b_v49]
theorem fcall4_writes : (fcall4 (F := F)).Forall fun op => op.writes ⊆ (fcall4_W.map (Proc.devRef (τ := τ) .tc)).toFinset :=
  forall_writes_sub_of_map rfl
theorem fcall4_keep (V : Valuation τ sig (Elt F)) (r : Ref sig .tc) (h : r ∉ fcall4_W) :
    after fcall4 V (no_index (Proc.devRef .tc r)) = V (Proc.devRef .tc r) :=
  after_of_writes_sub fcall4 V fcall4_writes h

/-- Chunk read: the trip's entry of one stacked array. -/
abbrev fcall5 : List (HloOp τ sig (Elt F)) :=
  [ TRef.nullary (.of main_while0b_call5_c : TRef sig ⟨S_, .i32⟩) (constantI S_ 32 0#32),
    TRef.unaryIndexed (.of main_v18_5 : TRef sig ⟨S128x8, .f32⟩) ![(.of main_v18_6 : TRef sig ⟨S_, .i32⟩), (.of main_while0b_call5_c : TRef sig ⟨S_, .i32⟩)] (.of main_while0b_call5_v0 : TRef sig ⟨S1x8, .f32⟩) (fun x i => Host.dynamicSlice S1x8 x (fun k => (i k (Shape.Idx.first h_S_)).toInt) sliceFits_S128x8_S1x8),
    TRef.reshape (.of main_while0b_call5_v0 : TRef sig ⟨S1x8, .f32⟩) (.of main_while0b_v50 : TRef sig ⟨S8, .f32⟩) (rfl : (.f32 : EltTy) = .f32) shapeCasts_S1x8_S8 ]
theorem fcall5_sub : (fcall5 (F := F)).Forall fun op => op.bufs ⊆ tcRefs τ sig :=
  ⟨nullary_bufs_sub .., unaryIndexed_bufs_sub .., reshape_bufs_sub ..⟩
theorem fcall5_fresh : (fcall5 (F := F)).Forall fun op => op.fresh = ∅ := forall_fresh_of_map rfl
/-- What they write. -/
abbrev fcall5_W : List (Ref sig .tc) := [main_while0b_call5_c, main_while0b_call5_v0, main_while0b_v50]
theorem fcall5_writes : (fcall5 (F := F)).Forall fun op => op.writes ⊆ (fcall5_W.map (Proc.devRef (τ := τ) .tc)).toFinset :=
  forall_writes_sub_of_map rfl
theorem fcall5_keep (V : Valuation τ sig (Elt F)) (r : Ref sig .tc) (h : r ∉ fcall5_W) :
    after fcall5 V (no_index (Proc.devRef .tc r)) = V (Proc.devRef .tc r) :=
  after_of_writes_sub fcall5 V fcall5_writes h

/-- 2 operations of this stretch, in order. -/
abbrev fops0 : List (HloOp τ sig (Elt F)) :=
  [ binary main_while0b_v46 main_v18_7 main_while0b_v51 ((fun l r => Host.dotGeneral dot_S8x64x128_S8x128x128_S8x64x128_2_1_1_2_0_0 none l r) : Ct F S8x64x128 .f32 → Ct F S8x128x128 .f32 → Ct F S8x64x128 .f32),
    binary main_while0b_v45 main_while0b_v51 main_while0b_v52 (subf : Ct F S8x64x128 .f32 → Ct F S8x64x128 .f32 → Ct F S8x64x128 .f32) ]
theorem fops0_sub : (fops0 (F := F)).Forall fun op => op.bufs ⊆ tcRefs τ sig :=
  ⟨binary_bufs_sub .., binary_bufs_sub ..⟩
theorem fops0_fresh : (fops0 (F := F)).Forall fun op => op.fresh = ∅ := forall_fresh_of_map rfl
/-- What they write. -/
abbrev fops0_W : List (Ref sig .tc) := [main_while0b_v51, main_while0b_v52]
theorem fops0_writes : (fops0 (F := F)).Forall fun op => op.writes ⊆ (fops0_W.map (Proc.devRef (τ := τ) .tc)).toFinset :=
  forall_writes_sub_of_map rfl
theorem fops0_keep (V : Valuation τ sig (Elt F)) (r : Ref sig .tc) (h : r ∉ fops0_W) :
    after fops0 V (no_index (Proc.devRef .tc r)) = V (Proc.devRef .tc r) :=
  after_of_writes_sub fops0 V fops0_writes h

/-- 8 operations of this stretch, in order. -/
abbrev fops1 : List (HloOp τ sig (Elt F)) :=
  [ binary main_while0b_v48 main_v18_7 main_while0b_v53 ((fun l r => Host.dotGeneral dot_S8x64x128_S8x128x128_S8x64x128_2_1_1_2_0_0 none l r) : Ct F S8x64x128 .f32 → Ct F S8x128x128 .f32 → Ct F S8x64x128 .f32),
    binary main_while0b_v47 main_while0b_v52 main_while0b_v54 ((fun l r => Host.dotGeneral dot_S8x64x64_S8x64x128_S8x64x128_2_1_1_2_0_0 none l r) : Ct F S8x64x64 .f32 → Ct F S8x64x128 .f32 → Ct F S8x64x128 .f32),
    binary main_while0b_v53 main_while0b_v54 main_while0b_v55 (addf : Ct F S8x64x128 .f32 → Ct F S8x64x128 .f32 → Ct F S8x64x128 .f32),
    unary main_while0b_v50 main_while0b_v56 (broadcastInDim S8x1x1 ![0] bcast_S8_S8x1x1_0 : Ct F S8 .f32 → Ct F S8x1x1 .f32),
    unary main_while0b_v56 main_while0b_v57 (broadcastInDim S8x128x128 ![0, 1, 2] bcast_S8x1x1_S8x128x128_0_1_2 : Ct F S8x1x1 .f32 → Ct F S8x128x128 .f32),
    binary main_v18_7 main_while0b_v57 main_while0b_v58 (mulf : Ct F S8x128x128 .f32 → Ct F S8x128x128 .f32 → Ct F S8x128x128 .f32),
    binary main_while0b_v49 main_while0b_v52 main_while0b_v59 ((fun l r => Host.dotGeneral dot_S8x64x128_S8x64x128_S8x128x128_1_1_2_2_0_0 none l r) : Ct F S8x64x128 .f32 → Ct F S8x64x128 .f32 → Ct F S8x128x128 .f32),
    binary main_while0b_v58 main_while0b_v59 main_while0b_v60 (addf : Ct F S8x128x128 .f32 → Ct F S8x128x128 .f32 → Ct F S8x128x128 .f32) ]
theorem fops1_sub : (fops1 (F := F)).Forall fun op => op.bufs ⊆ tcRefs τ sig :=
  ⟨binary_bufs_sub .., binary_bufs_sub .., binary_bufs_sub .., unary_bufs_sub .., unary_bufs_sub .., binary_bufs_sub .., binary_bufs_sub .., binary_bufs_sub ..⟩
theorem fops1_fresh : (fops1 (F := F)).Forall fun op => op.fresh = ∅ := forall_fresh_of_map rfl
/-- What they write. -/
abbrev fops1_W : List (Ref sig .tc) := [main_while0b_v53, main_while0b_v54, main_while0b_v55, main_while0b_v56, main_while0b_v57, main_while0b_v58, main_while0b_v59, main_while0b_v60]
theorem fops1_writes : (fops1 (F := F)).Forall fun op => op.writes ⊆ (fops1_W.map (Proc.devRef (τ := τ) .tc)).toFinset :=
  forall_writes_sub_of_map rfl
theorem fops1_keep (V : Valuation τ sig (Elt F)) (r : Ref sig .tc) (h : r ∉ fops1_W) :
    after fops1 V (no_index (Proc.devRef .tc r)) = V (Proc.devRef .tc r) :=
  after_of_writes_sub fops1 V fops1_writes h

/-- Chunk written: the trip's entry of one stacked result. -/
abbrev fcall6 : List (HloOp τ sig (Elt F)) :=
  [ TRef.unary (.of main_while0b_v55 : TRef sig ⟨S8x64x128, .f32⟩) (.of main_while0b_call6_v0 : TRef sig ⟨S1x8x64x128, .f32⟩) (broadcastInDim S1x8x64x128 ![1, 2, 3] bcast_S8x64x128_S1x8x64x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v18_8 : TRef sig ⟨S128x8x64x128, .f32⟩) (.of main_while0b_call6_v0 : TRef sig ⟨S1x8x64x128, .f32⟩) ![(.of main_v18_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v61 : TRef sig ⟨S128x8x64x128, .f32⟩) (fun x u i => Host.dynamicUpdateSlice x u (fun k => (i k (Shape.Idx.first h_S_)).toInt) updateFits_S128x8x64x128_S1x8x64x128) ]
theorem fcall6_sub : (fcall6 (F := F)).Forall fun op => op.bufs ⊆ tcRefs τ sig :=
  ⟨unary_bufs_sub .., nullary_bufs_sub .., nullary_bufs_sub .., nullary_bufs_sub .., binaryIndexed_bufs_sub ..⟩
theorem fcall6_fresh : (fcall6 (F := F)).Forall fun op => op.fresh = ∅ := forall_fresh_of_map rfl
/-- What they write. -/
abbrev fcall6_W : List (Ref sig .tc) := [main_while0b_call6_v0, main_while0b_call6_c, main_while0b_call6_c_0, main_while0b_call6_c_1, main_while0b_v61]
theorem fcall6_writes : (fcall6 (F := F)).Forall fun op => op.writes ⊆ (fcall6_W.map (Proc.devRef (τ := τ) .tc)).toFinset :=
  forall_writes_sub_of_map rfl
theorem fcall6_keep (V : Valuation τ sig (Elt F)) (r : Ref sig .tc) (h : r ∉ fcall6_W) :
    after fcall6 V (no_index (Proc.devRef .tc r)) = V (Proc.devRef .tc r) :=
  after_of_writes_sub fcall6 V fcall6_writes h

/-- Chunk written: the trip's entry of one stacked result. -/
abbrev fcall7 : List (HloOp τ sig (Elt F)) :=
  [ TRef.unary (.of main_v18_7 : TRef sig ⟨S8x128x128, .f32⟩) (.of main_while0b_call7_v0 : TRef sig ⟨S1x8x128x128, .f32⟩) (broadcastInDim S1x8x128x128 ![1, 2, 3] bcast_S8x128x128_S1x8x128x128_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v18_9 : TRef sig ⟨S128x8x128x128, .f32⟩) (.of main_while0b_call7_v0 : TRef sig ⟨S1x8x128x128, .f32⟩) ![(.of main_v18_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v62 : TRef sig ⟨S128x8x128x128, .f32⟩) (fun x u i => Host.dynamicUpdateSlice x u (fun k => (i k (Shape.Idx.first h_S_)).toInt) updateFits_S128x8x128x128_S1x8x128x128) ]
theorem fcall7_sub : (fcall7 (F := F)).Forall fun op => op.bufs ⊆ tcRefs τ sig :=
  ⟨unary_bufs_sub .., nullary_bufs_sub .., nullary_bufs_sub .., nullary_bufs_sub .., binaryIndexed_bufs_sub ..⟩
theorem fcall7_fresh : (fcall7 (F := F)).Forall fun op => op.fresh = ∅ := forall_fresh_of_map rfl
/-- What they write. -/
abbrev fcall7_W : List (Ref sig .tc) := [main_while0b_call7_v0, main_while0b_call7_c, main_while0b_call7_c_0, main_while0b_call7_c_1, main_while0b_v62]
theorem fcall7_writes : (fcall7 (F := F)).Forall fun op => op.writes ⊆ (fcall7_W.map (Proc.devRef (τ := τ) .tc)).toFinset :=
  forall_writes_sub_of_map rfl
theorem fcall7_keep (V : Valuation τ sig (Elt F)) (r : Ref sig .tc) (h : r ∉ fcall7_W) :
    after fcall7 V (no_index (Proc.devRef .tc r)) = V (Proc.devRef .tc r) :=
  after_of_writes_sub fcall7 V fcall7_writes h

/-- Chunk written: the trip's entry of one stacked result. -/
abbrev fcall8 : List (HloOp τ sig (Elt F)) :=
  [ TRef.unary (.of main_while0b_v52 : TRef sig ⟨S8x64x128, .f32⟩) (.of main_while0b_call8_v0 : TRef sig ⟨S1x8x64x128, .f32⟩) (broadcastInDim S1x8x64x128 ![1, 2, 3] bcast_S8x64x128_S1x8x64x128_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v18_10 : TRef sig ⟨S128x8x64x128, .f32⟩) (.of main_while0b_call8_v0 : TRef sig ⟨S1x8x64x128, .f32⟩) ![(.of main_v18_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v63 : TRef sig ⟨S128x8x64x128, .f32⟩) (fun x u i => Host.dynamicUpdateSlice x u (fun k => (i k (Shape.Idx.first h_S_)).toInt) updateFits_S128x8x64x128_S1x8x64x128) ]
theorem fcall8_sub : (fcall8 (F := F)).Forall fun op => op.bufs ⊆ tcRefs τ sig :=
  ⟨unary_bufs_sub .., nullary_bufs_sub .., nullary_bufs_sub .., nullary_bufs_sub .., binaryIndexed_bufs_sub ..⟩
theorem fcall8_fresh : (fcall8 (F := F)).Forall fun op => op.fresh = ∅ := forall_fresh_of_map rfl
/-- What they write. -/
abbrev fcall8_W : List (Ref sig .tc) := [main_while0b_call8_v0, main_while0b_call8_c, main_while0b_call8_c_0, main_while0b_call8_c_1, main_while0b_v63]
theorem fcall8_writes : (fcall8 (F := F)).Forall fun op => op.writes ⊆ (fcall8_W.map (Proc.devRef (τ := τ) .tc)).toFinset :=
  forall_writes_sub_of_map rfl
theorem fcall8_keep (V : Valuation τ sig (Elt F)) (r : Ref sig .tc) (h : r ∉ fcall8_W) :
    after fcall8 V (no_index (Proc.devRef .tc r)) = V (Proc.devRef .tc r) :=
  after_of_writes_sub fcall8 V fcall8_writes h

/-- Chunk written: the trip's entry of one stacked result. -/
abbrev fcall9 : List (HloOp τ sig (Elt F)) :=
  [ TRef.unary (.of main_while0b_v56 : TRef sig ⟨S8x1x1, .f32⟩) (.of main_while0b_call9_v0 : TRef sig ⟨S1x8x1x1, .f32⟩) (broadcastInDim S1x8x1x1 ![1, 2, 3] bcast_S8x1x1_S1x8x1x1_1_2_3),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.binaryIndexed (.of main_v18_11 : TRef sig ⟨S128x8x1x1, .f32⟩) (.of main_while0b_call9_v0 : TRef sig ⟨S1x8x1x1, .f32⟩) ![(.of main_v18_6 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v64 : TRef sig ⟨S128x8x1x1, .f32⟩) (fun x u i => Host.dynamicUpdateSlice x u (fun k => (i k (Shape.Idx.first h_S_)).toInt) updateFits_S128x8x1x1_S1x8x1x1) ]
theorem fcall9_sub : (fcall9 (F := F)).Forall fun op => op.bufs ⊆ tcRefs τ sig :=
  ⟨unary_bufs_sub .., nullary_bufs_sub .., nullary_bufs_sub .., nullary_bufs_sub .., binaryIndexed_bufs_sub ..⟩
theorem fcall9_fresh : (fcall9 (F := F)).Forall fun op => op.fresh = ∅ := forall_fresh_of_map rfl
/-- What they write. -/
abbrev fcall9_W : List (Ref sig .tc) := [main_while0b_call9_v0, main_while0b_call9_c, main_while0b_call9_c_0, main_while0b_call9_c_1, main_while0b_v64]
theorem fcall9_writes : (fcall9 (F := F)).Forall fun op => op.writes ⊆ (fcall9_W.map (Proc.devRef (τ := τ) .tc)).toFinset :=
  forall_writes_sub_of_map rfl
theorem fcall9_keep (V : Valuation τ sig (Elt F)) (r : Ref sig .tc) (h : r ∉ fcall9_W) :
    after fcall9 V (no_index (Proc.devRef .tc r)) = V (Proc.devRef .tc r) :=
  after_of_writes_sub fcall9 V fcall9_writes h

/-- 8 operations of this stretch, in order. -/
abbrev fops2 : List (HloOp τ sig (Elt F)) :=
  [ nullary main_while0b_c_24 (constantI S_ 32 1#32),
    binary main_v18_6 main_while0b_c_24 main_while0b_v65 (addi : Ct F S_ .i32 → Ct F S_ .i32 → Ct F S_ .i32),
    unary main_while0b_v65 main_v18_6 id,
    unary main_while0b_v60 main_v18_7 id,
    unary main_while0b_v61 main_v18_8 id,
    unary main_while0b_v62 main_v18_9 id,
    unary main_while0b_v63 main_v18_10 id,
    unary main_while0b_v64 main_v18_11 id ]
theorem fops2_sub : (fops2 (F := F)).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩
theorem fops2_fresh : (fops2 (F := F)).Forall fun op => op.fresh = ∅ := forall_fresh_of_map rfl
/-- What they write. -/
abbrev fops2_W : List (Ref sig .tc) := [main_while0b_c_24, main_while0b_v65, main_v18_6, main_v18_7, main_v18_8, main_v18_9, main_v18_10, main_v18_11]
theorem fops2_writes : (fops2 (F := F)).Forall fun op => op.writes ⊆ (fops2_W.map (Proc.devRef (τ := τ) .tc)).toFinset :=
  forall_writes_sub_of_map rfl
theorem fops2_keep (V : Valuation τ sig (Elt F)) (r : Ref sig .tc) (h : r ∉ fops2_W) :
    after fops2 V (no_index (Proc.devRef .tc r)) = V (Proc.devRef .tc r) :=
  after_of_writes_sub fops2 V fops2_writes h

end Cert.ReferenceIdeal.Ops

end
-- ==== Proof.RefOpsB.lean ====
/- The operations of the reference's backward loop. -/
module

public import proofs.«01_k».proof.Proof.RefOpsM

@[expose] public section

set_option maxRecDepth 16384

noncomputable section

namespace Cert.ReferenceIdeal.Ops

open Cert.ReferenceIdeal Cert.ReferenceIdeal.Gen
open Idealize.ShloMosaic Idealize.ShloMosaic.TcCoe
open Idealize.SL.Sem
open StableHlo

variable {F : FTy → Type} [FloatOps F]

/-- 4 operations of this stretch, in order. -/
abbrev bops0 : List (HloOp τ sig (Elt F)) :=
  [ nullary main_while1b_c_28 (constantI S_ 32 128#32),
    binary main_while1b_c_28 main_v29_8 main_while1b_v45 (subi : Ct F S_ .i32 → Ct F S_ .i32 → Ct F S_ .i32),
    nullary main_while1b_c_29 (constantI S_ 32 1#32),
    binary main_while1b_v45 main_while1b_c_29 main_while1b_v46 (subi : Ct F S_ .i32 → Ct F S_ .i32 → Ct F S_ .i32) ]
theorem bops0_sub : (bops0 (F := F)).Forall fun op => op.bufs ⊆ tcRefs τ sig :=
  ⟨nullary_bufs_sub .., binary_bufs_sub .., nullary_bufs_sub .., binary_bufs_sub ..⟩
theorem bops0_fresh : (bops0 (F := F)).Forall fun op => op.fresh = ∅ := forall_fresh_of_map rfl
/-- What they write. -/
abbrev bops0_W : List (Ref sig .tc) := [main_while1b_c_28, main_while1b_v45, main_while1b_c_29, main_while1b_v46]
theorem bops0_writes : (bops0 (F := F)).Forall fun op => op.writes ⊆ (bops0_W.map (Proc.devRef (τ := τ) .tc)).toFinset :=
  forall_writes_sub_of_map rfl
theorem bops0_keep (V : Valuation τ sig (Elt F)) (r : Ref sig .tc) (h : r ∉ bops0_W) :
    after bops0 V (no_index (Proc.devRef .tc r)) = V (Proc.devRef .tc r) :=
  after_of_writes_sub bops0 V bops0_writes h

/-- Chunk read: the trip's entry of one stacked array. -/
abbrev bcall0 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v29_0 : TRef sig ⟨S128x8x64x128, .f32⟩) ![(.of main_while1b_v46 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call10_v0 : TRef sig ⟨S1x8x64x128, .f32⟩) (.of main_while1b_v47 : TRef sig ⟨S8x64x128, .f32⟩) (rfl : (.f32 : EltTy) = .f32) shapeCasts_S1x8x64x128_S8x64x128 ]
theorem bcall0_sub : (bcall0 (F := F)).Forall fun op => op.bufs ⊆ tcRefs τ sig :=
  ⟨nullary_bufs_sub .., nullary_bufs_sub .., nullary_bufs_sub .., unaryIndexed_bufs_sub .., reshape_bufs_sub ..⟩
theorem bcall0_fresh : (bcall0 (F := F)).Forall fun op => op.fresh = ∅ := forall_fresh_of_map rfl
/-- What they write. -/
abbrev bcall0_W : List (Ref sig .tc) := [main_while1b_call10_c, main_while1b_call10_c_0, main_while1b_call10_c_1, main_while1b_call10_v0, main_while1b_v47]
theorem bcall0_writes : (bcall0 (F := F)).Forall fun op => op.writes ⊆ (bcall0_W.map (Proc.devRef (τ := τ) .tc)).toFinset :=
  forall_writes_sub_of_map rfl
theorem bcall0_keep (V : Valuation τ sig (Elt F)) (r : Ref sig .tc) (h : r ∉ bcall0_W) :
    after bcall0 V (no_index (Proc.devRef .tc r)) = V (Proc.devRef .tc r) :=
  after_of_writes_sub bcall0 V bcall0_writes h

/-- Chunk read: the trip's entry of one stacked array. -/
abbrev bcall1 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v29_1 : TRef sig ⟨S128x8x128x128, .f32⟩) ![(.of main_while1b_v46 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x8x128x128, .f32⟩) (fun x i => Host.dynamicSlice S1x8x128x128 x (fun k => (i k (Shape.Idx.first h_S_)).toInt) sliceFits_S128x8x128x128_S1x8x128x128),
    TRef.reshape (.of main_while1b_call11_v0 : TRef sig ⟨S1x8x128x128, .f32⟩) (.of main_while1b_v48 : TRef sig ⟨S8x128x128, .f32⟩) (rfl : (.f32 : EltTy) = .f32) shapeCasts_S1x8x128x128_S8x128x128 ]
theorem bcall1_sub : (bcall1 (F := F)).Forall fun op => op.bufs ⊆ tcRefs τ sig :=
  ⟨nullary_bufs_sub .., nullary_bufs_sub .., nullary_bufs_sub .., unaryIndexed_bufs_sub .., reshape_bufs_sub ..⟩
theorem bcall1_fresh : (bcall1 (F := F)).Forall fun op => op.fresh = ∅ := forall_fresh_of_map rfl
/-- What they write. -/
abbrev bcall1_W : List (Ref sig .tc) := [main_while1b_call11_c, main_while1b_call11_c_0, main_while1b_call11_c_1, main_while1b_call11_v0, main_while1b_v48]
theorem bcall1_writes : (bcall1 (F := F)).Forall fun op => op.writes ⊆ (bcall1_W.map (Proc.devRef (τ := τ) .tc)).toFinset :=
  forall_writes_sub_of_map rfl
theorem bcall1_keep (V : Valuation τ sig (Elt F)) (r : Ref sig .tc) (h : r ∉ bcall1_W) :
    after bcall1 V (no_index (Proc.devRef .tc r)) = V (Proc.devRef .tc r) :=
  after_of_writes_sub bcall1 V bcall1_writes h

/-- Chunk read: the trip's entry of one stacked array. -/
abbrev bcall2 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v29_2 : TRef sig ⟨S128x8x64x128, .f32⟩) ![(.of main_while1b_v46 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call12_v0 : TRef sig ⟨S1x8x64x128, .f32⟩) (.of main_while1b_v49 : TRef sig ⟨S8x64x128, .f32⟩) (rfl : (.f32 : EltTy) = .f32) shapeCasts_S1x8x64x128_S8x64x128 ]
theorem bcall2_sub : (bcall2 (F := F)).Forall fun op => op.bufs ⊆ tcRefs τ sig :=
  ⟨nullary_bufs_sub .., nullary_bufs_sub .., nullary_bufs_sub .., unaryIndexed_bufs_sub .., reshape_bufs_sub ..⟩
theorem bcall2_fresh : (bcall2 (F := F)).Forall fun op => op.fresh = ∅ := forall_fresh_of_map rfl
/-- What they write. -/
abbrev bcall2_W : List (Ref sig .tc) := [main_while1b_call12_c, main_while1b_call12_c_0, main_while1b_call12_c_1, main_while1b_call12_v0, main_while1b_v49]
theorem bcall2_writes : (bcall2 (F := F)).Forall fun op => op.writes ⊆ (bcall2_W.map (Proc.devRef (τ := τ) .tc)).toFinset :=
  forall_writes_sub_of_map rfl
theorem bcall2_keep (V : Valuation τ sig (Elt F)) (r : Ref sig .tc) (h : r ∉ bcall2_W) :
    after bcall2 V (no_index (Proc.devRef .tc r)) = V (Proc.devRef .tc r) :=
  after_of_writes_sub bcall2 V bcall2_writes h

/-- Chunk read: the trip's entry of one stacked array. -/
abbrev bcall3 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v29_3 : TRef sig ⟨S128x8x64x128, .f32⟩) ![(.of main_while1b_v46 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call13_v0 : TRef sig ⟨S1x8x64x128, .f32⟩) (.of main_while1b_v50 : TRef sig ⟨S8x64x128, .f32⟩) (rfl : (.f32 : EltTy) = .f32) shapeCasts_S1x8x64x128_S8x64x128 ]
theorem bcall3_sub : (bcall3 (F := F)).Forall fun op => op.bufs ⊆ tcRefs τ sig :=
  ⟨nullary_bufs_sub .., nullary_bufs_sub .., nullary_bufs_sub .., unaryIndexed_bufs_sub .., reshape_bufs_sub ..⟩
theorem bcall3_fresh : (bcall3 (F := F)).Forall fun op => op.fresh = ∅ := forall_fresh_of_map rfl
/-- What they write. -/
abbrev bcall3_W : List (Ref sig .tc) := [main_while1b_call13_c, main_while1b_call13_c_0, main_while1b_call13_c_1, main_while1b_call13_v0, main_while1b_v50]
theorem bcall3_writes : (bcall3 (F := F)).Forall fun op => op.writes ⊆ (bcall3_W.map (Proc.devRef (τ := τ) .tc)).toFinset :=
  forall_writes_sub_of_map rfl
theorem bcall3_keep (V : Valuation τ sig (Elt F)) (r : Ref sig .tc) (h : r ∉ bcall3_W) :
    after bcall3 V (no_index (Proc.devRef .tc r)) = V (Proc.devRef .tc r) :=
  after_of_writes_sub bcall3 V bcall3_writes h

/-- Chunk read: the trip's entry of one stacked array. -/
abbrev bcall4 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v29_4 : TRef sig ⟨S128x8x64x128, .f32⟩) ![(.of main_while1b_v46 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call14_v0 : TRef sig ⟨S1x8x64x128, .f32⟩) (.of main_while1b_v51 : TRef sig ⟨S8x64x128, .f32⟩) (rfl : (.f32 : EltTy) = .f32) shapeCasts_S1x8x64x128_S8x64x128 ]
theorem bcall4_sub : (bcall4 (F := F)).Forall fun op => op.bufs ⊆ tcRefs τ sig :=
  ⟨nullary_bufs_sub .., nullary_bufs_sub .., nullary_bufs_sub .., unaryIndexed_bufs_sub .., reshape_bufs_sub ..⟩
theorem bcall4_fresh : (bcall4 (F := F)).Forall fun op => op.fresh = ∅ := forall_fresh_of_map rfl
/-- What they write. -/
abbrev bcall4_W : List (Ref sig .tc) := [main_while1b_call14_c, main_while1b_call14_c_0, main_while1b_call14_c_1, main_while1b_call14_v0, main_while1b_v51]
theorem bcall4_writes : (bcall4 (F := F)).Forall fun op => op.writes ⊆ (bcall4_W.map (Proc.devRef (τ := τ) .tc)).toFinset :=
  forall_writes_sub_of_map rfl
theorem bcall4_keep (V : Valuation τ sig (Elt F)) (r : Ref sig .tc) (h : r ∉ bcall4_W) :
    after bcall4 V (no_index (Proc.devRef .tc r)) = V (Proc.devRef .tc r) :=
  after_of_writes_sub bcall4 V bcall4_writes h

/-- Chunk read: the trip's entry of one stacked array. -/
abbrev bcall5 : List (HloOp τ sig (Elt F)) :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v29_5 : TRef sig ⟨S128x8x64x64, .f32⟩) ![(.of main_while1b_v46 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x8x64x64, .f32⟩) (fun x i => Host.dynamicSlice S1x8x64x64 x (fun k => (i k (Shape.Idx.first h_S_)).toInt) sliceFits_S128x8x64x64_S1x8x64x64),
    TRef.reshape (.of main_while1b_call15_v0 : TRef sig ⟨S1x8x64x64, .f32⟩) (.of main_while1b_v52 : TRef sig ⟨S8x64x64, .f32⟩) (rfl : (.f32 : EltTy) = .f32) shapeCasts_S1x8x64x64_S8x64x64 ]
theorem bcall5_sub : (bcall5 (F := F)).Forall fun op => op.bufs ⊆ tcRefs τ sig :=
  ⟨nullary_bufs_sub .., nullary_bufs_sub .., nullary_bufs_sub .., unaryIndexed_bufs_sub .., reshape_bufs_sub ..⟩
theorem bcall5_fresh : (bcall5 (F := F)).Forall fun op => op.fresh = ∅ := forall_fresh_of_map rfl
/-- What they write. -/
abbrev bcall5_W : List (Ref sig .tc) := [main_while1b_call15_c, main_while1b_call15_c_0, main_while1b_call15_c_1, main_while1b_call15_v0, main_while1b_v52]
theorem bcall5_writes : (bcall5 (F := F)).Forall fun op => op.writes ⊆ (bcall5_W.map (Proc.devRef (τ := τ) .tc)).toFinset :=
  forall_writes_sub_of_map rfl
theorem bcall5_keep (V : Valuation τ sig (Elt F)) (r : Ref sig .tc) (h : r ∉ bcall5_W) :
    after bcall5 V (no_index (Proc.devRef .tc r)) = V (Proc.devRef .tc r) :=
  after_of_writes_sub bcall5 V bcall5_writes h

/-- Chunk read: the trip's entry of one stacked array. -/
abbrev bcall6 : List (HloOp τ sig (Elt F)) :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v29_6 : TRef sig ⟨S128x8x1x1, .f32⟩) ![(.of main_while1b_v46 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x8x1x1, .f32⟩) (fun x i => Host.dynamicSlice S1x8x1x1 x (fun k => (i k (Shape.Idx.first h_S_)).toInt) sliceFits_S128x8x1x1_S1x8x1x1),
    TRef.reshape (.of main_while1b_call16_v0 : TRef sig ⟨S1x8x1x1, .f32⟩) (.of main_while1b_v53 : TRef sig ⟨S8x1x1, .f32⟩) (rfl : (.f32 : EltTy) = .f32) shapeCasts_S1x8x1x1_S8x1x1 ]
theorem bcall6_sub : (bcall6 (F := F)).Forall fun op => op.bufs ⊆ tcRefs τ sig :=
  ⟨nullary_bufs_sub .., nullary_bufs_sub .., nullary_bufs_sub .., unaryIndexed_bufs_sub .., reshape_bufs_sub ..⟩
theorem bcall6_fresh : (bcall6 (F := F)).Forall fun op => op.fresh = ∅ := forall_fresh_of_map rfl
/-- What they write. -/
abbrev bcall6_W : List (Ref sig .tc) := [main_while1b_call16_c, main_while1b_call16_c_0, main_while1b_call16_c_1, main_while1b_call16_v0, main_while1b_v53]
theorem bcall6_writes : (bcall6 (F := F)).Forall fun op => op.writes ⊆ (bcall6_W.map (Proc.devRef (τ := τ) .tc)).toFinset :=
  forall_writes_sub_of_map rfl
theorem bcall6_keep (V : Valuation τ sig (Elt F)) (r : Ref sig .tc) (h : r ∉ bcall6_W) :
    after bcall6 V (no_index (Proc.devRef .tc r)) = V (Proc.devRef .tc r) :=
  after_of_writes_sub bcall6 V bcall6_writes h

/-- Chunk read: the trip's entry of one stacked array. -/
abbrev bcall7 : List (HloOp τ sig (Elt F)) :=
  [ TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.unaryIndexed (.of main_v29_7 : TRef sig ⟨S128x8x64x128, .f32⟩) ![(.of main_while1b_v46 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_call17_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call17_v0 : TRef sig ⟨S1x8x64x128, .f32⟩) (.of main_while1b_v54 : TRef sig ⟨S8x64x128, .f32⟩) (rfl : (.f32 : EltTy) = .f32) shapeCasts_S1x8x64x128_S8x64x128 ]
theorem bcall7_sub : (bcall7 (F := F)).Forall fun op => op.bufs ⊆ tcRefs τ sig :=
  ⟨nullary_bufs_sub .., nullary_bufs_sub .., nullary_bufs_sub .., unaryIndexed_bufs_sub .., reshape_bufs_sub ..⟩
theorem bcall7_fresh : (bcall7 (F := F)).Forall fun op => op.fresh = ∅ := forall_fresh_of_map rfl
/-- What they write. -/
abbrev bcall7_W : List (Ref sig .tc) := [main_while1b_call17_c, main_while1b_call17_c_0, main_while1b_call17_c_1, main_while1b_call17_v0, main_while1b_v54]
theorem bcall7_writes : (bcall7 (F := F)).Forall fun op => op.writes ⊆ (bcall7_W.map (Proc.devRef (τ := τ) .tc)).toFinset :=
  forall_writes_sub_of_map rfl
theorem bcall7_keep (V : Valuation τ sig (Elt F)) (r : Ref sig .tc) (h : r ∉ bcall7_W) :
    after bcall7 V (no_index (Proc.devRef .tc r)) = V (Proc.devRef .tc r) :=
  after_of_writes_sub bcall7 V bcall7_writes h

/-- 15 operations of this stretch, in order. -/
abbrev bops1 : List (HloOp τ sig (Elt F)) :=
  [ binary main_v29_9 main_while1b_v54 main_while1b_v55 ((fun l r => Host.dotGeneral dot_S8x128x128_S8x64x128_S8x128x64_1_2_2_1_0_0 none l r) : Ct F S8x128x128 .f32 → Ct F S8x64x128 .f32 → Ct F S8x128x64 .f32),
    unary main_while1b_v55 main_while1b_v56 ((transpose S8x64x128 [0, 2, 1] · transposes_S8x128x64_S8x64x128_0_2_1) : Ct F S8x128x64 .f32 → Ct F S8x64x128 .f32),
    binary main_v29_9 main_while1b_v51 main_while1b_v57 ((fun l r => Host.dotGeneral dot_S8x128x128_S8x64x128_S8x128x64_2_2_1_1_0_0 none l r) : Ct F S8x128x128 .f32 → Ct F S8x64x128 .f32 → Ct F S8x128x64 .f32),
    unary main_while1b_v57 main_while1b_v58 ((transpose S8x64x128 [0, 2, 1] · transposes_S8x128x64_S8x64x128_0_2_1) : Ct F S8x128x64 .f32 → Ct F S8x64x128 .f32),
    binary main_while1b_v48 main_v29_9 main_while1b_v59 (mulf : Ct F S8x128x128 .f32 → Ct F S8x128x128 .f32 → Ct F S8x128x128 .f32),
    nullary main_while1b_cst_30 (constant S_ .f32 0x00000000#32),
    binary main_while1b_v59 main_while1b_cst_30 main_while1b_v60 ((fun x v => Host.reduceAdd x v reducesTo_S8x128x128_S8_d1_2 h_S_) : Ct F S8x128x128 .f32 → Ct F S_ .f32 → Ct F S8 .f32),
    reshape main_while1b_v60 main_while1b_v61 (rfl : (.f32 : EltTy) = .f32) shapeCasts_S8_S8x1x1,
    unary main_while1b_v53 main_while1b_v62 (broadcastInDim S8x128x128 ![0, 1, 2] bcast_S8x1x1_S8x128x128_0_1_2 : Ct F S8x1x1 .f32 → Ct F S8x128x128 .f32),
    binary main_v29_9 main_while1b_v62 main_while1b_v63 (mulf : Ct F S8x128x128 .f32 → Ct F S8x128x128 .f32 → Ct F S8x128x128 .f32),
    nullary main_while1b_cst_31 (constant S_ .f32 0x00000000#32),
    binary main_while1b_v61 main_while1b_cst_31 main_while1b_v64 ((fun x v => Host.reduceAdd x v reducesTo_S8x1x1_S8_d1_2 h_S_) : Ct F S8x1x1 .f32 → Ct F S_ .f32 → Ct F S8 .f32),
    binary main_while1b_v47 main_while1b_v52 main_while1b_v65 ((fun l r => Host.dotGeneral dot_S8x64x128_S8x64x64_S8x128x64_1_1_2_2_0_0 none l r) : Ct F S8x64x128 .f32 → Ct F S8x64x64 .f32 → Ct F S8x128x64 .f32),
    unary main_while1b_v65 main_while1b_v66 ((transpose S8x64x128 [0, 2, 1] · transposes_S8x128x64_S8x64x128_0_2_1) : Ct F S8x128x64 .f32 → Ct F S8x64x128 .f32),
    binary main_while1b_v56 main_while1b_v66 main_while1b_v67 (addf : Ct F S8x64x128 .f32 → Ct F S8x64x128 .f32 → Ct F S8x64x128 .f32) ]
theorem bops1_sub : (bops1 (F := F)).Forall fun op => op.bufs ⊆ tcRefs τ sig :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub ..⟩
theorem bops1_fresh : (bops1 (F := F)).Forall fun op => op.fresh = ∅ := forall_fresh_of_map rfl
/-- What they write. -/
abbrev bops1_W : List (Ref sig .tc) := [main_while1b_v55, main_while1b_v56, main_while1b_v57, main_while1b_v58, main_while1b_v59, main_while1b_cst_30, main_while1b_v60, main_while1b_v61, main_while1b_v62, main_while1b_v63, main_while1b_cst_31, main_while1b_v64, main_while1b_v65, main_while1b_v66, main_while1b_v67]
theorem bops1_writes : (bops1 (F := F)).Forall fun op => op.writes ⊆ (bops1_W.map (Proc.devRef (τ := τ) .tc)).toFinset :=
  forall_writes_sub_of_map rfl
theorem bops1_keep (V : Valuation τ sig (Elt F)) (r : Ref sig .tc) (h : r ∉ bops1_W) :
    after bops1 V (no_index (Proc.devRef .tc r)) = V (Proc.devRef .tc r) :=
  after_of_writes_sub bops1 V bops1_writes h

/-- 6 operations of this stretch, in order. -/
abbrev bops2 : List (HloOp τ sig (Elt F)) :=
  [ binary main_while1b_v47 main_while1b_v51 main_while1b_v68 ((fun l r => Host.dotGeneral dot_S8x64x128_S8x64x128_S8x64x64_2_2_1_1_0_0 none l r) : Ct F S8x64x128 .f32 → Ct F S8x64x128 .f32 → Ct F S8x64x64 .f32),
    binary main_while1b_v47 main_while1b_v50 main_while1b_v69 ((fun l r => Host.dotGeneral dot_S8x64x128_S8x64x128_S8x128x128_1_1_2_2_0_0 none l r) : Ct F S8x64x128 .f32 → Ct F S8x64x128 .f32 → Ct F S8x128x128 .f32),
    unary main_while1b_v69 main_while1b_v70 ((transpose S8x128x128 [0, 2, 1] · transposes_S8x128x128_S8x128x128_0_2_1) : Ct F S8x128x128 .f32 → Ct F S8x128x128 .f32),
    binary main_while1b_v63 main_while1b_v70 main_while1b_v71 (addf : Ct F S8x128x128 .f32 → Ct F S8x128x128 .f32 → Ct F S8x128x128 .f32),
    binary main_while1b_v47 main_while1b_v48 main_while1b_v72 ((fun l r => Host.dotGeneral dot_S8x64x128_S8x128x128_S8x64x128_2_2_1_1_0_0 none l r) : Ct F S8x64x128 .f32 → Ct F S8x128x128 .f32 → Ct F S8x64x128 .f32),
    unary main_while1b_v67 main_while1b_v73 (Host.negf : Ct F S8x64x128 .f32 → Ct F S8x64x128 .f32) ]
theorem bops2_sub : (bops2 (F := F)).Forall fun op => op.bufs ⊆ tcRefs τ sig :=
  ⟨binary_bufs_sub .., binary_bufs_sub .., unary_bufs_sub .., binary_bufs_sub .., binary_bufs_sub .., unary_bufs_sub ..⟩
theorem bops2_fresh : (bops2 (F := F)).Forall fun op => op.fresh = ∅ := forall_fresh_of_map rfl
/-- What they write. -/
abbrev bops2_W : List (Ref sig .tc) := [main_while1b_v68, main_while1b_v69, main_while1b_v70, main_while1b_v71, main_while1b_v72, main_while1b_v73]
theorem bops2_writes : (bops2 (F := F)).Forall fun op => op.writes ⊆ (bops2_W.map (Proc.devRef (τ := τ) .tc)).toFinset :=
  forall_writes_sub_of_map rfl
theorem bops2_keep (V : Valuation τ sig (Elt F)) (r : Ref sig .tc) (h : r ∉ bops2_W) :
    after bops2 V (no_index (Proc.devRef .tc r)) = V (Proc.devRef .tc r) :=
  after_of_writes_sub bops2 V bops2_writes h

/-- 4 operations of this stretch, in order. -/
abbrev bops3 : List (HloOp τ sig (Elt F)) :=
  [ binary main_while1b_v73 main_while1b_v49 main_while1b_v74 ((fun l r => Host.dotGeneral dot_S8x64x128_S8x64x128_S8x128x128_1_1_2_2_0_0 none l r) : Ct F S8x64x128 .f32 → Ct F S8x64x128 .f32 → Ct F S8x128x128 .f32),
    unary main_while1b_v74 main_while1b_v75 ((transpose S8x128x128 [0, 2, 1] · transposes_S8x128x128_S8x128x128_0_2_1) : Ct F S8x128x128 .f32 → Ct F S8x128x128 .f32),
    binary main_while1b_v71 main_while1b_v75 main_while1b_v76 (addf : Ct F S8x128x128 .f32 → Ct F S8x128x128 .f32 → Ct F S8x128x128 .f32),
    binary main_while1b_v73 main_while1b_v48 main_while1b_v77 ((fun l r => Host.dotGeneral dot_S8x64x128_S8x128x128_S8x64x128_2_2_1_1_0_0 none l r) : Ct F S8x64x128 .f32 → Ct F S8x128x128 .f32 → Ct F S8x64x128 .f32) ]
theorem bops3_sub : (bops3 (F := F)).Forall fun op => op.bufs ⊆ tcRefs τ sig :=
  ⟨binary_bufs_sub .., unary_bufs_sub .., binary_bufs_sub .., binary_bufs_sub ..⟩
theorem bops3_fresh : (bops3 (F := F)).Forall fun op => op.fresh = ∅ := forall_fresh_of_map rfl
/-- What they write. -/
abbrev bops3_W : List (Ref sig .tc) := [main_while1b_v74, main_while1b_v75, main_while1b_v76, main_while1b_v77]
theorem bops3_writes : (bops3 (F := F)).Forall fun op => op.writes ⊆ (bops3_W.map (Proc.devRef (τ := τ) .tc)).toFinset :=
  forall_writes_sub_of_map rfl
theorem bops3_keep (V : Valuation τ sig (Elt F)) (r : Ref sig .tc) (h : r ∉ bops3_W) :
    after bops3 V (no_index (Proc.devRef .tc r)) = V (Proc.devRef .tc r) :=
  after_of_writes_sub bops3 V bops3_writes h

/-- Chunk written: the trip's entry of one stacked result. -/
abbrev bcall8 : List (HloOp τ sig (Elt F)) :=
  [ TRef.unary (.of main_while1b_v67 : TRef sig ⟨S8x64x128, .f32⟩) (.of main_while1b_call18_v0 : TRef sig ⟨S1x8x64x128, .f32⟩) (broadcastInDim S1x8x64x128 ![1, 2, 3] bcast_S8x64x128_S1x8x64x128_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v29_10 : TRef sig ⟨S128x8x64x128, .f32⟩) (.of main_while1b_call18_v0 : TRef sig ⟨S1x8x64x128, .f32⟩) ![(.of main_while1b_v46 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v78 : TRef sig ⟨S128x8x64x128, .f32⟩) (fun x u i => Host.dynamicUpdateSlice x u (fun k => (i k (Shape.Idx.first h_S_)).toInt) updateFits_S128x8x64x128_S1x8x64x128) ]
theorem bcall8_sub : (bcall8 (F := F)).Forall fun op => op.bufs ⊆ tcRefs τ sig :=
  ⟨unary_bufs_sub .., nullary_bufs_sub .., nullary_bufs_sub .., nullary_bufs_sub .., binaryIndexed_bufs_sub ..⟩
theorem bcall8_fresh : (bcall8 (F := F)).Forall fun op => op.fresh = ∅ := forall_fresh_of_map rfl
/-- What they write. -/
abbrev bcall8_W : List (Ref sig .tc) := [main_while1b_call18_v0, main_while1b_call18_c, main_while1b_call18_c_0, main_while1b_call18_c_1, main_while1b_v78]
theorem bcall8_writes : (bcall8 (F := F)).Forall fun op => op.writes ⊆ (bcall8_W.map (Proc.devRef (τ := τ) .tc)).toFinset :=
  forall_writes_sub_of_map rfl
theorem bcall8_keep (V : Valuation τ sig (Elt F)) (r : Ref sig .tc) (h : r ∉ bcall8_W) :
    after bcall8 V (no_index (Proc.devRef .tc r)) = V (Proc.devRef .tc r) :=
  after_of_writes_sub bcall8 V bcall8_writes h

/-- Chunk written: the trip's entry of one stacked result. -/
abbrev bcall9 : List (HloOp τ sig (Elt F)) :=
  [ TRef.unary (.of main_while1b_v77 : TRef sig ⟨S8x64x128, .f32⟩) (.of main_while1b_call19_v0 : TRef sig ⟨S1x8x64x128, .f32⟩) (broadcastInDim S1x8x64x128 ![1, 2, 3] bcast_S8x64x128_S1x8x64x128_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v29_11 : TRef sig ⟨S128x8x64x128, .f32⟩) (.of main_while1b_call19_v0 : TRef sig ⟨S1x8x64x128, .f32⟩) ![(.of main_while1b_v46 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v79 : TRef sig ⟨S128x8x64x128, .f32⟩) (fun x u i => Host.dynamicUpdateSlice x u (fun k => (i k (Shape.Idx.first h_S_)).toInt) updateFits_S128x8x64x128_S1x8x64x128) ]
theorem bcall9_sub : (bcall9 (F := F)).Forall fun op => op.bufs ⊆ tcRefs τ sig :=
  ⟨unary_bufs_sub .., nullary_bufs_sub .., nullary_bufs_sub .., nullary_bufs_sub .., binaryIndexed_bufs_sub ..⟩
theorem bcall9_fresh : (bcall9 (F := F)).Forall fun op => op.fresh = ∅ := forall_fresh_of_map rfl
/-- What they write. -/
abbrev bcall9_W : List (Ref sig .tc) := [main_while1b_call19_v0, main_while1b_call19_c, main_while1b_call19_c_0, main_while1b_call19_c_1, main_while1b_v79]
theorem bcall9_writes : (bcall9 (F := F)).Forall fun op => op.writes ⊆ (bcall9_W.map (Proc.devRef (τ := τ) .tc)).toFinset :=
  forall_writes_sub_of_map rfl
theorem bcall9_keep (V : Valuation τ sig (Elt F)) (r : Ref sig .tc) (h : r ∉ bcall9_W) :
    after bcall9 V (no_index (Proc.devRef .tc r)) = V (Proc.devRef .tc r) :=
  after_of_writes_sub bcall9 V bcall9_writes h

/-- Chunk written: the trip's entry of one stacked result. -/
abbrev bcall10 : List (HloOp τ sig (Elt F)) :=
  [ TRef.unary (.of main_while1b_v68 : TRef sig ⟨S8x64x64, .f32⟩) (.of main_while1b_call20_v0 : TRef sig ⟨S1x8x64x64, .f32⟩) (broadcastInDim S1x8x64x64 ![1, 2, 3] bcast_S8x64x64_S1x8x64x64_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v29_12 : TRef sig ⟨S128x8x64x64, .f32⟩) (.of main_while1b_call20_v0 : TRef sig ⟨S1x8x64x64, .f32⟩) ![(.of main_while1b_v46 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v80 : TRef sig ⟨S128x8x64x64, .f32⟩) (fun x u i => Host.dynamicUpdateSlice x u (fun k => (i k (Shape.Idx.first h_S_)).toInt) updateFits_S128x8x64x64_S1x8x64x64) ]
theorem bcall10_sub : (bcall10 (F := F)).Forall fun op => op.bufs ⊆ tcRefs τ sig :=
  ⟨unary_bufs_sub .., nullary_bufs_sub .., nullary_bufs_sub .., nullary_bufs_sub .., binaryIndexed_bufs_sub ..⟩
theorem bcall10_fresh : (bcall10 (F := F)).Forall fun op => op.fresh = ∅ := forall_fresh_of_map rfl
/-- What they write. -/
abbrev bcall10_W : List (Ref sig .tc) := [main_while1b_call20_v0, main_while1b_call20_c, main_while1b_call20_c_0, main_while1b_call20_c_1, main_while1b_v80]
theorem bcall10_writes : (bcall10 (F := F)).Forall fun op => op.writes ⊆ (bcall10_W.map (Proc.devRef (τ := τ) .tc)).toFinset :=
  forall_writes_sub_of_map rfl
theorem bcall10_keep (V : Valuation τ sig (Elt F)) (r : Ref sig .tc) (h : r ∉ bcall10_W) :
    after bcall10 V (no_index (Proc.devRef .tc r)) = V (Proc.devRef .tc r) :=
  after_of_writes_sub bcall10 V bcall10_writes h

/-- Chunk written: the trip's entry of one stacked result. -/
abbrev bcall11 : List (HloOp τ sig (Elt F)) :=
  [ TRef.unary (.of main_while1b_v72 : TRef sig ⟨S8x64x128, .f32⟩) (.of main_while1b_call21_v0 : TRef sig ⟨S1x8x64x128, .f32⟩) (broadcastInDim S1x8x64x128 ![1, 2, 3] bcast_S8x64x128_S1x8x64x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v29_13 : TRef sig ⟨S128x8x64x128, .f32⟩) (.of main_while1b_call21_v0 : TRef sig ⟨S1x8x64x128, .f32⟩) ![(.of main_while1b_v46 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v81 : TRef sig ⟨S128x8x64x128, .f32⟩) (fun x u i => Host.dynamicUpdateSlice x u (fun k => (i k (Shape.Idx.first h_S_)).toInt) updateFits_S128x8x64x128_S1x8x64x128) ]
theorem bcall11_sub : (bcall11 (F := F)).Forall fun op => op.bufs ⊆ tcRefs τ sig :=
  ⟨unary_bufs_sub .., nullary_bufs_sub .., nullary_bufs_sub .., nullary_bufs_sub .., binaryIndexed_bufs_sub ..⟩
theorem bcall11_fresh : (bcall11 (F := F)).Forall fun op => op.fresh = ∅ := forall_fresh_of_map rfl
/-- What they write. -/
abbrev bcall11_W : List (Ref sig .tc) := [main_while1b_call21_v0, main_while1b_call21_c, main_while1b_call21_c_0, main_while1b_call21_c_1, main_while1b_v81]
theorem bcall11_writes : (bcall11 (F := F)).Forall fun op => op.writes ⊆ (bcall11_W.map (Proc.devRef (τ := τ) .tc)).toFinset :=
  forall_writes_sub_of_map rfl
theorem bcall11_keep (V : Valuation τ sig (Elt F)) (r : Ref sig .tc) (h : r ∉ bcall11_W) :
    after bcall11 V (no_index (Proc.devRef .tc r)) = V (Proc.devRef .tc r) :=
  after_of_writes_sub bcall11 V bcall11_writes h

/-- Chunk written: the trip's entry of one stacked result. -/
abbrev bcall12 : List (HloOp τ sig (Elt F)) :=
  [ TRef.unary (.of main_while1b_v58 : TRef sig ⟨S8x64x128, .f32⟩) (.of main_while1b_call22_v0 : TRef sig ⟨S1x8x64x128, .f32⟩) (broadcastInDim S1x8x64x128 ![1, 2, 3] bcast_S8x64x128_S1x8x64x128_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v29_14 : TRef sig ⟨S128x8x64x128, .f32⟩) (.of main_while1b_call22_v0 : TRef sig ⟨S1x8x64x128, .f32⟩) ![(.of main_while1b_v46 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v82 : TRef sig ⟨S128x8x64x128, .f32⟩) (fun x u i => Host.dynamicUpdateSlice x u (fun k => (i k (Shape.Idx.first h_S_)).toInt) updateFits_S128x8x64x128_S1x8x64x128) ]
theorem bcall12_sub : (bcall12 (F := F)).Forall fun op => op.bufs ⊆ tcRefs τ sig :=
  ⟨unary_bufs_sub .., nullary_bufs_sub .., nullary_bufs_sub .., nullary_bufs_sub .., binaryIndexed_bufs_sub ..⟩
theorem bcall12_fresh : (bcall12 (F := F)).Forall fun op => op.fresh = ∅ := forall_fresh_of_map rfl
/-- What they write. -/
abbrev bcall12_W : List (Ref sig .tc) := [main_while1b_call22_v0, main_while1b_call22_c, main_while1b_call22_c_0, main_while1b_call22_c_1, main_while1b_v82]
theorem bcall12_writes : (bcall12 (F := F)).Forall fun op => op.writes ⊆ (bcall12_W.map (Proc.devRef (τ := τ) .tc)).toFinset :=
  forall_writes_sub_of_map rfl
theorem bcall12_keep (V : Valuation τ sig (Elt F)) (r : Ref sig .tc) (h : r ∉ bcall12_W) :
    after bcall12 V (no_index (Proc.devRef .tc r)) = V (Proc.devRef .tc r) :=
  after_of_writes_sub bcall12 V bcall12_writes h

/-- Chunk written: the trip's entry of one stacked result. -/
abbrev bcall13 : List (HloOp τ sig (Elt F)) :=
  [ TRef.unary (.of main_while1b_v64 : TRef sig ⟨S8, .f32⟩) (.of main_while1b_call23_v0 : TRef sig ⟨S1x8, .f32⟩) (broadcastInDim S1x8 ![1] bcast_S8_S1x8_1),
    TRef.nullary (.of main_while1b_call23_c : TRef sig ⟨S_, .i32⟩) (constantI S_ 32 0#32),
    TRef.binaryIndexed (.of main_v29_15 : TRef sig ⟨S128x8, .f32⟩) (.of main_while1b_call23_v0 : TRef sig ⟨S1x8, .f32⟩) ![(.of main_while1b_v46 : TRef sig ⟨S_, .i32⟩), (.of main_while1b_call23_c : TRef sig ⟨S_, .i32⟩)] (.of main_while1b_v83 : TRef sig ⟨S128x8, .f32⟩) (fun x u i => Host.dynamicUpdateSlice x u (fun k => (i k (Shape.Idx.first h_S_)).toInt) updateFits_S128x8_S1x8) ]
theorem bcall13_sub : (bcall13 (F := F)).Forall fun op => op.bufs ⊆ tcRefs τ sig :=
  ⟨unary_bufs_sub .., nullary_bufs_sub .., binaryIndexed_bufs_sub ..⟩
theorem bcall13_fresh : (bcall13 (F := F)).Forall fun op => op.fresh = ∅ := forall_fresh_of_map rfl
/-- What they write. -/
abbrev bcall13_W : List (Ref sig .tc) := [main_while1b_call23_v0, main_while1b_call23_c, main_while1b_v83]
theorem bcall13_writes : (bcall13 (F := F)).Forall fun op => op.writes ⊆ (bcall13_W.map (Proc.devRef (τ := τ) .tc)).toFinset :=
  forall_writes_sub_of_map rfl
theorem bcall13_keep (V : Valuation τ sig (Elt F)) (r : Ref sig .tc) (h : r ∉ bcall13_W) :
    after bcall13 V (no_index (Proc.devRef .tc r)) = V (Proc.devRef .tc r) :=
  after_of_writes_sub bcall13 V bcall13_writes h

/-- 10 operations of this stretch, in order. -/
abbrev bops4 : List (HloOp τ sig (Elt F)) :=
  [ nullary main_while1b_c_32 (constantI S_ 32 1#32),
    binary main_v29_8 main_while1b_c_32 main_while1b_v84 (addi : Ct F S_ .i32 → Ct F S_ .i32 → Ct F S_ .i32),
    unary main_while1b_v84 main_v29_8 id,
    unary main_while1b_v76 main_v29_9 id,
    unary main_while1b_v78 main_v29_10 id,
    unary main_while1b_v79 main_v29_11 id,
    unary main_while1b_v80 main_v29_12 id,
    unary main_while1b_v81 main_v29_13 id,
    unary main_while1b_v82 main_v29_14 id,
    unary main_while1b_v83 main_v29_15 id ]
theorem bops4_sub : (bops4 (F := F)).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub ..⟩
theorem bops4_fresh : (bops4 (F := F)).Forall fun op => op.fresh = ∅ := forall_fresh_of_map rfl
/-- What they write. -/
abbrev bops4_W : List (Ref sig .tc) := [main_while1b_c_32, main_while1b_v84, main_v29_8, main_v29_9, main_v29_10, main_v29_11, main_v29_12, main_v29_13, main_v29_14, main_v29_15]
theorem bops4_writes : (bops4 (F := F)).Forall fun op => op.writes ⊆ (bops4_W.map (Proc.devRef (τ := τ) .tc)).toFinset :=
  forall_writes_sub_of_map rfl
theorem bops4_keep (V : Valuation τ sig (Elt F)) (r : Ref sig .tc) (h : r ∉ bops4_W) :
    after bops4 V (no_index (Proc.devRef .tc r)) = V (Proc.devRef .tc r) :=
  after_of_writes_sub bops4 V bops4_writes h

end Cert.ReferenceIdeal.Ops

end
-- ==== Proof.RefRun.lean ====
/- The reference's run: a stretch, the forward loop, a stretch, the backward loop, a stretch. -/
module

public import proofs.«01_k».proof.Proof.RefOpsF
public import proofs.«01_k».proof.Proof.RefOpsB
public import proofs.«01_k».proof.Proof.RefOpsM
public import Idealize.ShloMosaic.Lib.Pipeline.RegionsLoop

@[expose] public section

set_option maxRecDepth 16384

noncomputable section

namespace Cert.ReferenceIdeal.Run

open Cert.ReferenceIdeal Cert.ReferenceIdeal.Gen Cert.ReferenceIdeal.Ops
open Idealize.ShloMosaic Idealize.ShloMosaic.TcCoe
open Idealize.SL Idealize.SL.RA Idealize.SL.BI
open scoped Idealize.SL.BI
open Idealize.SL.BI.BIBase Idealize.SL.Sem
open StableHlo
open Idealize.ShloMosaic.Pipeline (CSeg Ticket ucRefs sub_ucRefs)

variable {F : FTy → Type} [FloatOps F]

/-! ## The lists the program is made of -/

/-- The forward loop's test. -/
abbrev fcond : List (HloOp τ sig (Elt F)) :=
  [ StableHlo.nullary main_while0c_c_24 (constantI S_ 32 128#32),
    StableHlo.binary main_v18_6 main_while0c_c_24 main_while0c_v45 (cmpi .slt) ]
/-- The backward loop's test. -/
abbrev bcond : List (HloOp τ sig (Elt F)) :=
  [ StableHlo.nullary main_while1c_c_28 (constantI S_ 32 128#32),
    StableHlo.binary main_v29_8 main_while1c_c_28 main_while1c_v45 (cmpi .slt) ]

theorem fcond_keep (V : Valuation τ sig (Elt F)) (r : Ref sig .tc) (h : r ∉ [main_while0c_c_24, main_while0c_v45]) :
    after fcond V (no_index (Proc.devRef .tc r)) = V (Proc.devRef .tc r) :=
  after_unwritten [main_while0c_c_24, main_while0c_v45] rfl h V
theorem bcond_keep (V : Valuation τ sig (Elt F)) (r : Ref sig .tc) (h : r ∉ [main_while1c_c_28, main_while1c_v45]) :
    after bcond V (no_index (Proc.devRef .tc r)) = V (Proc.devRef .tc r) :=
  after_unwritten [main_while1c_c_28, main_while1c_v45] rfl h V

/-- The forward loop's body. -/
abbrev fbody : List (List (HloOp τ sig (Elt F))) :=
  [fcall0, fcall1, fcall2, fcall3, fcall4, fcall5, fops0, fops1, fcall6, fcall7, fcall8, fcall9, fops2]
/-- The backward loop's body. -/
abbrev bbody : List (List (HloOp τ sig (Elt F))) :=
  [bops0, bcall0, bcall1, bcall2, bcall3, bcall4, bcall5, bcall6, bcall7, bops1, bops2, bops3, bcall8, bcall9, bcall10, bcall11, bcall12, bcall13, bops4]

/-- A stretch none of whose operations allocates a buffer, before a plain list. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) : Plain (ops :: rest) :=
  .cons hs (hf := List.forall_iff_forall_mem.mp hf) h

theorem fplain : Plain (fbody (F := F)) :=
  plain_cons fcall0_sub fcall0_fresh <| plain_cons fcall1_sub fcall1_fresh <| plain_cons fcall2_sub fcall2_fresh <|
  plain_cons fcall3_sub fcall3_fresh <| plain_cons fcall4_sub fcall4_fresh <| plain_cons fcall5_sub fcall5_fresh <|
  plain_cons fops0_sub fops0_fresh <| plain_cons fops1_sub fops1_fresh <| plain_cons fcall6_sub fcall6_fresh <|
  plain_cons fcall7_sub fcall7_fresh <| plain_cons fcall8_sub fcall8_fresh <| plain_cons fcall9_sub fcall9_fresh <|
  plain_cons fops2_sub fops2_fresh .nil
theorem bplain : Plain (bbody (F := F)) :=
  plain_cons bops0_sub bops0_fresh <| plain_cons bcall0_sub bcall0_fresh <| plain_cons bcall1_sub bcall1_fresh <|
  plain_cons bcall2_sub bcall2_fresh <| plain_cons bcall3_sub bcall3_fresh <| plain_cons bcall4_sub bcall4_fresh <|
  plain_cons bcall5_sub bcall5_fresh <| plain_cons bcall6_sub bcall6_fresh <| plain_cons bcall7_sub bcall7_fresh <|
  plain_cons bops1_sub bops1_fresh <| plain_cons bops2_sub bops2_fresh <| plain_cons bops3_sub bops3_fresh <|
  plain_cons bcall8_sub bcall8_fresh <| plain_cons bcall9_sub bcall9_fresh <| plain_cons bcall10_sub bcall10_fresh <|
  plain_cons bcall11_sub bcall11_fresh <| plain_cons bcall12_sub bcall12_fresh <| plain_cons bcall13_sub bcall13_fresh <|
  plain_cons bops4_sub bops4_fresh .nil
theorem plain0 : Plain [mops0 (F := F)] := plain_cons mops0_sub mops0_fresh .nil
theorem plain1 : Plain [mops1 (F := F)] := plain_cons mops1_sub mops1_fresh .nil
theorem plain2 : Plain [mops2 (F := F)] := plain_cons mops2_sub mops2_fresh .nil

theorem fbody_chain : main_while0_body (F := F) = Pipeline.chain (fbody.map fun ops => (seq ops : Prog _ PUnit)) := by
  simp only [fbody, List.map_cons, List.map_nil]
  chain_rfl

theorem bbody_chain : main_while1_body (F := F) = Pipeline.chain (bbody.map fun ops => (seq ops : Prog _ PUnit)) := by
  simp only [bbody, List.map_cons, List.map_nil]
  chain_rfl

theorem main_chain (c : Dev nD) : main (F := F) c = Pipeline.chain [seq mops0, HostLoop.enter 0, seq mops1, HostLoop.enter 1, seq mops2] := by
  chain_rfl

/-- What the forward loop's body writes. -/
abbrev fbody_W : List (Ref sig .tc) := fcall0_W ++ (fcall1_W ++ (fcall2_W ++ (fcall3_W ++ (fcall4_W ++ (fcall5_W ++ (fops0_W ++ (fops1_W ++ (fcall6_W ++ (fcall7_W ++ (fcall8_W ++ (fcall9_W ++ fops2_W)))))))))))
theorem fbody_keep (V : Valuation τ sig (Elt F)) (r : Ref sig .tc) (h : r ∉ fbody_W) :
    afterL fbody V (no_index (Proc.devRef .tc r)) = V (Proc.devRef .tc r) := by
  simp only [fbody_W, List.mem_append, not_or] at h
  obtain ⟨h0, h1, h2, h3, h4, h5, h6, h7, h8, h9, h10, h11, h12⟩ := h
  simp only [fbody, afterL_cons, afterL_nil]
  rw [fops2_keep _ _ h12, fcall9_keep _ _ h11, fcall8_keep _ _ h10, fcall7_keep _ _ h9, fcall6_keep _ _ h8, fops1_keep _ _ h7, fops0_keep _ _ h6, fcall5_keep _ _ h5, fcall4_keep _ _ h4, fcall3_keep _ _ h3, fcall2_keep _ _ h2, fcall1_keep _ _ h1, fcall0_keep _ _ h0]

/-- What the backward loop's body writes. -/
abbrev bbody_W : List (Ref sig .tc) := bops0_W ++ (bcall0_W ++ (bcall1_W ++ (bcall2_W ++ (bcall3_W ++ (bcall4_W ++ (bcall5_W ++ (bcall6_W ++ (bcall7_W ++ (bops1_W ++ (bops2_W ++ (bops3_W ++ (bcall8_W ++ (bcall9_W ++ (bcall10_W ++ (bcall11_W ++ (bcall12_W ++ (bcall13_W ++ bops4_W)))))))))))))))))
theorem bbody_keep (V : Valuation τ sig (Elt F)) (r : Ref sig .tc) (h : r ∉ bbody_W) :
    afterL bbody V (no_index (Proc.devRef .tc r)) = V (Proc.devRef .tc r) := by
  simp only [bbody_W, List.mem_append, not_or] at h
  obtain ⟨h0, h1, h2, h3, h4, h5, h6, h7, h8, h9, h10, h11, h12, h13, h14, h15, h16, h17, h18⟩ := h
  simp only [bbody, afterL_cons, afterL_nil]
  rw [bops4_keep _ _ h18, bcall13_keep _ _ h17, bcall12_keep _ _ h16, bcall11_keep _ _ h15, bcall10_keep _ _ h14, bcall9_keep _ _ h13, bcall8_keep _ _ h12, bops3_keep _ _ h11, bops2_keep _ _ h10, bops1_keep _ _ h9, bcall7_keep _ _ h8, bcall6_keep _ _ h7, bcall5_keep _ _ h6, bcall4_keep _ _ h5, bcall3_keep _ _ h4, bcall2_keep _ _ h3, bcall1_keep _ _ h2, bcall0_keep _ _ h1, bops0_keep _ _ h0]

variable (m : (ℓ : Loc nD τ sig) → Buf (Elt F) ℓ) (ρ : Dev nD → PrngReg)

/-- Core `c`'s buffers at the forward loop's entry. -/
abbrev W0 (c : Dev nD) : Valuation τ sig (Elt F) := after mops0 (launchContents m c)

/-! ## The forward loop -/

/-- Core `c`'s buffers before trip `k` of the forward loop. -/
abbrev fAt (k : ℕ) (c : Dev nD) : Valuation τ sig (Elt F) := atTrip fcond fbody (W0 m) k c

theorem fAt_keep (c : Dev nD) (r : Ref sig .tc) (hc : r ∉ [main_while0c_c_24, main_while0c_v45]) (hb : r ∉ fbody_W) :
    ∀ k, fAt m k c (Proc.devRef .tc r) = W0 m c (Proc.devRef .tc r)
  | 0 => rfl
  | k + 1 => by
    rw [show fAt m (k + 1) c = afterL fbody (after fcond (fAt m k c)) from rfl, fbody_keep _ _ hb, fcond_keep _ _ hc]
    exact fAt_keep c r hc hb k

theorem fstep_ctr (X : Valuation τ sig (Elt F)) :
    after fops2 X (Proc.devRef .tc main_v18_6) = addi (X (Proc.devRef .tc main_v18_6)) (constantI S_ 32 1#32) := by
  after_results
  rfl

theorem fentry_ctr (c : Dev nD) : W0 m c (Proc.devRef .tc main_v18_6) = fun _ => (0#32 : BitVec 32) := by
  after_reads_simp
  rfl

/-- Before trip `k` the counter is `k`. -/
theorem fAt_ctr (c : Dev nD) : ∀ k, fAt m k c (Proc.devRef .tc main_v18_6) = fun _ => Scf.iv 0#32 1#32 k
  | 0 => by rw [show fAt m 0 c = W0 m c from rfl, fentry_ctr, Scf.iv_zero]
  | k + 1 => by
    rw [show fAt m (k + 1) c = afterL fbody (after fcond (fAt m k c)) from rfl]
    simp only [fbody, afterL_cons, afterL_nil]
    rw [fstep_ctr, fcall9_keep _ _ (by decide), fcall8_keep _ _ (by decide), fcall7_keep _ _ (by decide), fcall6_keep _ _ (by decide), fops1_keep _ _ (by decide), fops0_keep _ _ (by decide), fcall5_keep _ _ (by decide), fcall4_keep _ _ (by decide), fcall3_keep _ _ (by decide), fcall2_keep _ _ (by decide), fcall1_keep _ _ (by decide), fcall0_keep _ _ (by decide), fcond_keep _ _ (by decide), fAt_ctr c k, Scf.iv_succ]
    rfl

set_option backward.isDefEq.respectTransparency.types false in
/-- The forward loop's test says whether a trip is left. -/
theorem fcond_spec : CondSpec (pcfgs (F := F)) defs₀ loops (main_while0_cond (F := F)) fcond fbody (W0 m) 128 := by
  intro k hk c bd
  have hctr := fAt_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]
  imodintro
  isplitr
  · ipureintro
    show Iff (IntOp.cmpi .slt (HloOp.result _ (fAt m k c) main_v18_6 HostLoop.idx0) (HloOp.result _ (fAt m k c) main_while0c_c_24 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]
  · iexact Hb
  · rw [after_cons, after_cons, after_nil]
    iexact Hh

/-- Core `c`'s buffers at the backward loop's entry. -/
abbrev W1 (c : Dev nD) : Valuation τ sig (Elt F) := after mops1 (after fcond (fAt m 128 c))

/-! ## The backward loop -/

/-- Core `c`'s buffers before trip `k` of the backward loop. -/
abbrev bAt (k : ℕ) (c : Dev nD) : Valuation τ sig (Elt F) := atTrip bcond bbody (W1 m) k c

theorem bAt_keep (c : Dev nD) (r : Ref sig .tc) (hc : r ∉ [main_while1c_c_28, main_while1c_v45]) (hb : r ∉ bbody_W) :
    ∀ k, bAt m k c (Proc.devRef .tc r) = W1 m c (Proc.devRef .tc r)
  | 0 => rfl
  | k + 1 => by
    rw [show bAt m (k + 1) c = afterL bbody (after bcond (bAt m k c)) from rfl, bbody_keep _ _ hb, bcond_keep _ _ hc]
    exact bAt_keep c r hc hb k

theorem bstep_ctr (X : Valuation τ sig (Elt F)) :
    after bops4 X (Proc.devRef .tc main_v29_8) = addi (X (Proc.devRef .tc main_v29_8)) (constantI S_ 32 1#32) := by
  after_results
  rfl

theorem bentry_ctr (c : Dev nD) : W1 m c (Proc.devRef .tc main_v29_8) = fun _ => (0#32 : BitVec 32) := by
  after_reads_simp
  rfl

/-- Before trip `k` the counter is `k`. -/
theorem bAt_ctr (c : Dev nD) : ∀ k, bAt m k c (Proc.devRef .tc main_v29_8) = fun _ => Scf.iv 0#32 1#32 k
  | 0 => by rw [show bAt m 0 c = W1 m c from rfl, bentry_ctr, Scf.iv_zero]
  | k + 1 => by
    rw [show bAt m (k + 1) c = afterL bbody (after bcond (bAt m k c)) from rfl]
    simp only [bbody, afterL_cons, afterL_nil]
    rw [bstep_ctr, bcall13_keep _ _ (by decide), bcall12_keep _ _ (by decide), bcall11_keep _ _ (by decide), bcall10_keep _ _ (by decide), bcall9_keep _ _ (by decide), bcall8_keep _ _ (by decide), bops3_keep _ _ (by decide), bops2_keep _ _ (by decide), bops1_keep _ _ (by decide), bcall7_keep _ _ (by decide), bcall6_keep _ _ (by decide), bcall5_keep _ _ (by decide), bcall4_keep _ _ (by decide), bcall3_keep _ _ (by decide), bcall2_keep _ _ (by decide), bcall1_keep _ _ (by decide), bcall0_keep _ _ (by decide), bops0_keep _ _ (by decide), bcond_keep _ _ (by decide), bAt_ctr c k, Scf.iv_succ]
    rfl

set_option backward.isDefEq.respectTransparency.types false in
/-- The backward loop's test says whether a trip is left. -/
theorem bcond_spec : CondSpec (pcfgs (F := F)) defs₀ loops (main_while1_cond (F := F)) bcond bbody (W1 m) 128 := by
  intro k hk c bd
  have hctr := bAt_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]
    · iexact Hb
    · iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    · iexact Hh
  iintro ⟨Hb, Hh⟩
  rw [HostLoop.elt_apply, wp_ret]
  imodintro
  isplitr
  · ipureintro
    show Iff (IntOp.cmpi .slt (HloOp.result _ (bAt m k c) main_v29_8 HostLoop.idx0) (HloOp.result _ (bAt m k c) main_while1c_c_28 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]
  · iexact Hb
  · rw [after_cons, after_cons, after_nil]
    iexact Hh

/-- Core `c`'s buffers at the end. -/
abbrev W2 (c : Dev nD) : Valuation τ sig (Elt F) := after mops2 (after bcond (bAt m 128 c))
end Cert.ReferenceIdeal.Run

end
-- ==== Proof.RefIdx.lean ====
/- The reference's reads and writes of one chunk of a stack. -/
module

public import proofs.«01_k».proof.Proof.RefRun
public import proofs.«01_k».proof.Proof.Spec
public import Idealize.ShloMosaic.Lib.Pointwise
public import Idealize.ShloMosaic.Lib.DynamicIndex

@[expose] public section

set_option maxRecDepth 16384

noncomputable section

namespace Cert.ReferenceIdeal.Idx

open Cert.ReferenceIdeal Cert.ReferenceIdeal.Gen Cert.ReferenceIdeal.Ops
open Idealize.ShloMosaic Idealize.ShloMosaic.TcCoe
open StableHlo

/-! ## One chunk of a stack -/

/-- The start of chunk `n` of a stack of rank four. -/
abbrev at4 (n : Fin 128) : Fin 4 → ℕ := ![n.val, 0, 0, 0]
abbrev at2 (n : Fin 128) : Fin 2 → ℕ := ![n.val, 0]

/-- An update at a start that fits is an update at that offset. -/
theorem update_eq {s u : Shape} {α : Type} (x : s.Idx → α) (y : u.Idx → α) (start : Fin s.rank → Int) (off : Fin s.rank → Nat)
    (h : s.Slices (fun _ => 0) u) (hoff : s.Slices off u) (hs : ∀ a, start a = (off a : Int)) :
    Host.dynamicUpdateSlice x y start h = updateSlice x y off hoff := by
  obtain rfl : (fun a => (min (max (start a) 0) ((s.size a - u.size (a.cast h.1.symm) : Nat) : Int)).toNat) = off :=
    funext fun a => by have := hoff.2 a; rw [hs a]; omega
  rfl

theorem window (n a : Fin 128) : (n.val ≤ a.val ∧ a.val < n.val + 1) ↔ a = n := by rw [Fin.ext_iff]; omega

section Slice

variable {α : Type} (n : Fin 128) (s4 : Fin 4 → Int) (hs4 : ∀ a, s4 a = (at4 n a : Int))

theorem fits_rows : S128x8x64x128.Slices (at4 n) S1x8x64x128 := ⟨rfl, fun a => by have := n.isLt; fin_cases a <;> simp [at4] <;> omega⟩
theorem fits_squares : S128x8x64x64.Slices (at4 n) S1x8x64x64 := ⟨rfl, fun a => by have := n.isLt; fin_cases a <;> simp [at4] <;> omega⟩
theorem fits_states : S128x8x128x128.Slices (at4 n) S1x8x128x128 := ⟨rfl, fun a => by have := n.isLt; fin_cases a <;> simp [at4] <;> omega⟩
theorem fits_gates : S128x8x1x1.Slices (at4 n) S1x8x1x1 := ⟨rfl, fun a => by have := n.isLt; fin_cases a <;> simp [at4] <;> omega⟩
theorem fits_lanes : S128x8.Slices (at2 n) S1x8 := ⟨rfl, fun a => by have := n.isLt; fin_cases a <;> simp [at2] <;> omega⟩

include hs4

theorem slice_rows (X : S128x8x64x128.Idx → α) (h : Fin 8) (c : Fin 64) (e : Fin 128) :
    shapeCast S8x64x128 (Host.dynamicSlice S1x8x64x128 X s4 sliceFits_S128x8x64x128_S1x8x64x128) shapeCasts_S1x8x64x128_S8x64x128 (ix3 h c e)
      = X (ix4 n h c e) := by
  rw [Host.dynamicSlice_eq_extractStridedSlice _ X s4 (at4 n) _ (fits_rows n) hs4]
  pointwise
theorem slice_squares (X : S128x8x64x64.Idx → α) (h : Fin 8) (c e : Fin 64) :
    shapeCast S8x64x64 (Host.dynamicSlice S1x8x64x64 X s4 sliceFits_S128x8x64x64_S1x8x64x64) shapeCasts_S1x8x64x64_S8x64x64 (ix3 h c e)
      = X (ix4 n h c e) := by
  rw [Host.dynamicSlice_eq_extractStridedSlice _ X s4 (at4 n) _ (fits_squares n) hs4]
  pointwise
theorem slice_states (X : S128x8x128x128.Idx → α) (h : Fin 8) (d e : Fin 128) :
    shapeCast S8x128x128 (Host.dynamicSlice S1x8x128x128 X s4 sliceFits_S128x8x128x128_S1x8x128x128) shapeCasts_S1x8x128x128_S8x128x128 (ix3 h d e)
      = X (ix4 n h d e) := by
  rw [Host.dynamicSlice_eq_extractStridedSlice _ X s4 (at4 n) _ (fits_states n) hs4]
  pointwise
theorem slice_gates (X : S128x8x1x1.Idx → α) (h : Fin 8) :
    shapeCast S8x1x1 (Host.dynamicSlice S1x8x1x1 X s4 sliceFits_S128x8x1x1_S1x8x1x1) shapeCasts_S1x8x1x1_S8x1x1 (ix3 h 0 0)
      = X (ix4 n h 0 0) := by
  rw [Host.dynamicSlice_eq_extractStridedSlice _ X s4 (at4 n) _ (fits_gates n) hs4]
  pointwise

theorem update_rows (X : S128x8x64x128.Idx → α) (y : S8x64x128.Idx → α) (a : Fin 128) (h : Fin 8) (c : Fin 64) (e : Fin 128) :
    Host.dynamicUpdateSlice X (broadcastInDim S1x8x64x128 ![1, 2, 3] bcast_S8x64x128_S1x8x64x128_1_2_3 y) s4 updateFits_S128x8x64x128_S1x8x64x128
      (ix4 a h c e) = if a = n then y (ix3 h c e) else X (ix4 a h c e) := by
  rw [update_eq X _ s4 (at4 n) _ (fits_rows n) hs4]
  pointwise
  simp only [window, dite_eq_ite]
theorem update_squares (X : S128x8x64x64.Idx → α) (y : S8x64x64.Idx → α) (a : Fin 128) (h : Fin 8) (c e : Fin 64) :
    Host.dynamicUpdateSlice X (broadcastInDim S1x8x64x64 ![1, 2, 3] bcast_S8x64x64_S1x8x64x64_1_2_3 y) s4 updateFits_S128x8x64x64_S1x8x64x64
      (ix4 a h c e) = if a = n then y (ix3 h c e) else X (ix4 a h c e) := by
  rw [update_eq X _ s4 (at4 n) _ (fits_squares n) hs4]
  pointwise
  simp only [window, dite_eq_ite]
theorem update_states (X : S128x8x128x128.Idx → α) (y : S8x128x128.Idx → α) (a : Fin 128) (h : Fin 8) (d e : Fin 128) :
    Host.dynamicUpdateSlice X (broadcastInDim S1x8x128x128 ![1, 2, 3] bcast_S8x128x128_S1x8x128x128_1_2_3 y) s4 updateFits_S128x8x128x128_S1x8x128x128
      (ix4 a h d e) = if a = n then y (ix3 h d e) else X (ix4 a h d e) := by
  rw [update_eq X _ s4 (at4 n) _ (fits_states n) hs4]
  pointwise
  simp only [window, dite_eq_ite]
theorem update_gates (X : S128x8x1x1.Idx → α) (y : S8x1x1.Idx → α) (a : Fin 128) (h : Fin 8) :
    Host.dynamicUpdateSlice X (broadcastInDim S1x8x1x1 ![1, 2, 3] bcast_S8x1x1_S1x8x1x1_1_2_3 y) s4 updateFits_S128x8x1x1_S1x8x1x1
      (ix4 a h 0 0) = if a = n then y (ix3 h 0 0) else X (ix4 a h 0 0) := by
  rw [update_eq X _ s4 (at4 n) _ (fits_gates n) hs4]
  pointwise
  simp only [window, dite_eq_ite]

omit hs4
variable (s2 : Fin 2 → Int) (hs2 : ∀ a, s2 a = (at2 n a : Int))
include hs2

theorem slice_lanes (X : S128x8.Idx → α) (h : Fin 8) :
    shapeCast S8 (Host.dynamicSlice S1x8 X s2 sliceFits_S128x8_S1x8) shapeCasts_S1x8_S8 (ix1 h)
      = X (ix2 n h) := by
  rw [Host.dynamicSlice_eq_extractStridedSlice _ X s2 (at2 n) _ (fits_lanes n) hs2]
  pointwise
theorem update_lanes (X : S128x8.Idx → α) (y : S8.Idx → α) (a : Fin 128) (h : Fin 8) :
    Host.dynamicUpdateSlice X (broadcastInDim S1x8 ![1] bcast_S8_S1x8_1 y) s2 updateFits_S128x8_S1x8
      (ix2 a h) = if a = n then y (ix1 h) else X (ix2 a h) := by
  rw [update_eq X _ s2 (at2 n) _ (fits_lanes n) hs2]
  pointwise
  simp only [window, dite_eq_ite]

end Slice

theorem iv_int (n : Fin 128) : (Scf.iv 0#32 1#32 n.val : BitVec 32).toInt = (n.val : Int) := by
  revert n
  decide +kernel

theorem start4 (n : Fin 128) (s : Fin 4 → Int) (h0 : s 0 = n.val) (h1 : s 1 = 0) (h2 : s 2 = 0) (h3 : s 3 = 0) : ∀ a, s a = (at4 n a : Int) := by
  intro a
  match a with
  | ⟨0, _⟩ => exact h0
  | ⟨1, _⟩ => exact h1
  | ⟨2, _⟩ => exact h2
  | ⟨3, _⟩ => exact h3
theorem start2 (n : Fin 128) (s : Fin 2 → Int) (h0 : s 0 = n.val) (h1 : s 1 = 0) : ∀ a, s a = (at2 n a : Int) := by
  intro a
  match a with
  | ⟨0, _⟩ => exact h0
  | ⟨1, _⟩ => exact h1

/-- A counter reads `n`. -/
abbrev Reads (x : S_.Idx → BitVec 32) (n : Fin 128) : Prop := (x (Shape.Idx.first h_S_)).toInt = (n.val : Int)

/-! ## The forward loop's reads and writes -/

section Forward

variable (V : Valuation τ sig (Elt Ideal)) (n : Fin 128) (hn : Reads (V main_v18_6) n)
include hn

theorem fcall0_at (h : Fin 8) (c : Fin 64) (e : Fin 128) :
    (after fcall0 V main_while0b_v45 : S8x64x128.Idx → EReal) (ix3 h c e) = (V main_v18_0 : S128x8x64x128.Idx → EReal) (ix4 n h c e) := by
  after_results
  exact slice_rows n _ (start4 n _ hn rfl rfl rfl) _ h c e
theorem fcall1_at (h : Fin 8) (c : Fin 64) (e : Fin 128) :
    (after fcall1 V main_while0b_v46 : S8x64x128.Idx → EReal) (ix3 h c e) = (V main_v18_1 : S128x8x64x128.Idx → EReal) (ix4 n h c e) := by
  after_results
  exact slice_rows n _ (start4 n _ hn rfl rfl rfl) _ h c e
theorem fcall2_at (h : Fin 8) (c e : Fin 64) :
    (after fcall2 V main_while0b_v47 : S8x64x64.Idx → EReal) (ix3 h c e) = (V main_v18_2 : S128x8x64x64.Idx → EReal) (ix4 n h c e) := by
  after_results
  exact slice_squares n _ (start4 n _ hn rfl rfl rfl) _ h c e
theorem fcall3_at (h : Fin 8) (c : Fin 64) (e : Fin 128) :
    (after fcall3 V main_while0b_v48 : S8x64x128.Idx → EReal) (ix3 h c e) = (V main_v18_3 : S128x8x64x128.Idx → EReal) (ix4 n h c e) := by
  after_results
  exact slice_rows n _ (start4 n _ hn rfl rfl rfl) _ h c e
theorem fcall4_at (h : Fin 8) (c : Fin 64) (e : Fin 128) :
    (after fcall4 V main_while0b_v49 : S8x64x128.Idx → EReal) (ix3 h c e) = (V main_v18_4 : S128x8x64x128.Idx → EReal) (ix4 n h c e) := by
  after_results
  exact slice_rows n _ (start4 n _ hn rfl rfl rfl) _ h c e
theorem fcall5_at (h : Fin 8) :
    (after fcall5 V main_while0b_v50 : S8.Idx → EReal) (ix1 h) = (V main_v18_5 : S128x8.Idx → EReal) (ix2 n h) := by
  after_results
  exact slice_lanes n _ (start2 n _ hn rfl) _ h
theorem fcall6_at (a : Fin 128) (h : Fin 8) (c : Fin 64) (e : Fin 128) :
    (after fcall6 V main_while0b_v61 : S128x8x64x128.Idx → EReal) (ix4 a h c e)
      = if a = n then (V main_while0b_v55 : S8x64x128.Idx → EReal) (ix3 h c e) else (V main_v18_8 : S128x8x64x128.Idx → EReal) (ix4 a h c e) := by
  after_results
  exact update_rows n _ (start4 n _ hn rfl rfl rfl) _ _ a h c e
theorem fcall7_at (a : Fin 128) (h : Fin 8) (d e : Fin 128) :
    (after fcall7 V main_while0b_v62 : S128x8x128x128.Idx → EReal) (ix4 a h d e)
      = if a = n then (V main_v18_7 : S8x128x128.Idx → EReal) (ix3 h d e) else (V main_v18_9 : S128x8x128x128.Idx → EReal) (ix4 a h d e) := by
  after_results
  exact update_states n _ (start4 n _ hn rfl rfl rfl) _ _ a h d e
theorem fcall8_at (a : Fin 128) (h : Fin 8) (c : Fin 64) (e : Fin 128) :
    (after fcall8 V main_while0b_v63 : S128x8x64x128.Idx → EReal) (ix4 a h c e)
      = if a = n then (V main_while0b_v52 : S8x64x128.Idx → EReal) (ix3 h c e) else (V main_v18_10 : S128x8x64x128.Idx → EReal) (ix4 a h c e) := by
  after_results
  exact update_rows n _ (start4 n _ hn rfl rfl rfl) _ _ a h c e
theorem fcall9_at (a : Fin 128) (h : Fin 8) :
    (after fcall9 V main_while0b_v64 : S128x8x1x1.Idx → EReal) (ix4 a h 0 0)
      = if a = n then (V main_while0b_v56 : S8x1x1.Idx → EReal) (ix3 h 0 0) else (V main_v18_11 : S128x8x1x1.Idx → EReal) (ix4 a h 0 0) := by
  after_results
  exact update_gates n _ (start4 n _ hn rfl rfl rfl) _ _ a h

end Forward

/-! ## The backward loop's reads and writes -/

section Backward

variable (V : Valuation τ sig (Elt Ideal)) (n : Fin 128) (hn : Reads (V main_while1b_v46) n)
include hn

theorem bcall0_at (h : Fin 8) (c : Fin 64) (e : Fin 128) :
    (after bcall0 V main_while1b_v47 : S8x64x128.Idx → EReal) (ix3 h c e) = (V main_v29_0 : S128x8x64x128.Idx → EReal) (ix4 n h c e) := by
  after_results
  exact slice_rows n _ (start4 n _ hn rfl rfl rfl) _ h c e
theorem bcall1_at (h : Fin 8) (d e : Fin 128) :
    (after bcall1 V main_while1b_v48 : S8x128x128.Idx → EReal) (ix3 h d e) = (V main_v29_1 : S128x8x128x128.Idx → EReal) (ix4 n h d e) := by
  after_results
  exact slice_states n _ (start4 n _ hn rfl rfl rfl) _ h d e
theorem bcall2_at (h : Fin 8) (c : Fin 64) (e : Fin 128) :
    (after bcall2 V main_while1b_v49 : S8x64x128.Idx → EReal) (ix3 h c e) = (V main_v29_2 : S128x8x64x128.Idx → EReal) (ix4 n h c e) := by
  after_results
  exact slice_rows n _ (start4 n _ hn rfl rfl rfl) _ h c e
theorem bcall3_at (h : Fin 8) (c : Fin 64) (e : Fin 128) :
    (after bcall3 V main_while1b_v50 : S8x64x128.Idx → EReal) (ix3 h c e) = (V main_v29_3 : S128x8x64x128.Idx → EReal) (ix4 n h c e) := by
  after_results
  exact slice_rows n _ (start4 n _ hn rfl rfl rfl) _ h c e
theorem bcall4_at (h : Fin 8) (c : Fin 64) (e : Fin 128) :
    (after bcall4 V main_while1b_v51 : S8x64x128.Idx → EReal) (ix3 h c e) = (V main_v29_4 : S128x8x64x128.Idx → EReal) (ix4 n h c e) := by
  after_results
  exact slice_rows n _ (start4 n _ hn rfl rfl rfl) _ h c e
theorem bcall5_at (h : Fin 8) (c e : Fin 64) :
    (after bcall5 V main_while1b_v52 : S8x64x64.Idx → EReal) (ix3 h c e) = (V main_v29_5 : S128x8x64x64.Idx → EReal) (ix4 n h c e) := by
  after_results
  exact slice_squares n _ (start4 n _ hn rfl rfl rfl) _ h c e
theorem bcall6_at (h : Fin 8) :
    (after bcall6 V main_while1b_v53 : S8x1x1.Idx → EReal) (ix3 h 0 0) = (V main_v29_6 : S128x8x1x1.Idx → EReal) (ix4 n h 0 0) := by
  after_results
  exact slice_gates n _ (start4 n _ hn rfl rfl rfl) _ h
theorem bcall7_at (h : Fin 8) (c : Fin 64) (e : Fin 128) :
    (after bcall7 V main_while1b_v54 : S8x64x128.Idx → EReal) (ix3 h c e) = (V main_v29_7 : S128x8x64x128.Idx → EReal) (ix4 n h c e) := by
  after_results
  exact slice_rows n _ (start4 n _ hn rfl rfl rfl) _ h c e
theorem bcall8_at (a : Fin 128) (h : Fin 8) (c : Fin 64) (e : Fin 128) :
    (after bcall8 V main_while1b_v78 : S128x8x64x128.Idx → EReal) (ix4 a h c e)
      = if a = n then (V main_while1b_v67 : S8x64x128.Idx → EReal) (ix3 h c e) else (V main_v29_10 : S128x8x64x128.Idx → EReal) (ix4 a h c e) := by
  after_results
  exact update_rows n _ (start4 n _ hn rfl rfl rfl) _ _ a h c e
theorem bcall9_at (a : Fin 128) (h : Fin 8) (c : Fin 64) (e : Fin 128) :
    (after bcall9 V main_while1b_v79 : S128x8x64x128.Idx → EReal) (ix4 a h c e)
      = if a = n then (V main_while1b_v77 : S8x64x128.Idx → EReal) (ix3 h c e) else (V main_v29_11 : S128x8x64x128.Idx → EReal) (ix4 a h c e) := by
  after_results
  exact update_rows n _ (start4 n _ hn rfl rfl rfl) _ _ a h c e
theorem bcall10_at (a : Fin 128) (h : Fin 8) (c e : Fin 64) :
    (after bcall10 V main_while1b_v80 : S128x8x64x64.Idx → EReal) (ix4 a h c e)
      = if a = n then (V main_while1b_v68 : S8x64x64.Idx → EReal) (ix3 h c e) else (V main_v29_12 : S128x8x64x64.Idx → EReal) (ix4 a h c e) := by
  after_results
  exact update_squares n _ (start4 n _ hn rfl rfl rfl) _ _ a h c e
theorem bcall11_at (a : Fin 128) (h : Fin 8) (c : Fin 64) (e : Fin 128) :
    (after bcall11 V main_while1b_v81 : S128x8x64x128.Idx → EReal) (ix4 a h c e)
      = if a = n then (V main_while1b_v72 : S8x64x128.Idx → EReal) (ix3 h c e) else (V main_v29_13 : S128x8x64x128.Idx → EReal) (ix4 a h c e) := by
  after_results
  exact update_rows n _ (start4 n _ hn rfl rfl rfl) _ _ a h c e
theorem bcall12_at (a : Fin 128) (h : Fin 8) (c : Fin 64) (e : Fin 128) :
    (after bcall12 V main_while1b_v82 : S128x8x64x128.Idx → EReal) (ix4 a h c e)
      = if a = n then (V main_while1b_v58 : S8x64x128.Idx → EReal) (ix3 h c e) else (V main_v29_14 : S128x8x64x128.Idx → EReal) (ix4 a h c e) := by
  after_results
  exact update_rows n _ (start4 n _ hn rfl rfl rfl) _ _ a h c e
theorem bcall13_at (a : Fin 128) (h : Fin 8) :
    (after bcall13 V main_while1b_v83 : S128x8.Idx → EReal) (ix2 a h)
      = if a = n then (V main_while1b_v64 : S8.Idx → EReal) (ix1 h) else (V main_v29_15 : S128x8.Idx → EReal) (ix2 a h) := by
  after_results
  exact update_lanes n _ (start2 n _ hn rfl) _ _ a h

end Backward

end Cert.ReferenceIdeal.Idx

end
-- ==== Proof.RefStep.lean ====
/- What one chunk of the reference's scans computes, entry by entry. -/
module

public import proofs.«01_k».proof.Proof.RefRun
public import proofs.«01_k».proof.Proof.Spec
public import Idealize.ShloMosaic.Lib.Pointwise

@[expose] public section

set_option maxRecDepth 16384

noncomputable section

namespace Cert.ReferenceIdeal.Step

open Cert.ReferenceIdeal Cert.ReferenceIdeal.Gen Cert.ReferenceIdeal.Ops
open Idealize.ShloMosaic Idealize.ShloMosaic.TcCoe
open StableHlo
open Cert.Spec (Mat)

/-! ## Heads of a stack of matrices -/

/-- One head of a chunk's rows. -/
def mt (X : S8x64x128.Idx → EReal) (h : Fin 8) : Mat 64 128 := fun c e => X (ix3 h c e)
/-- One head of a chunk's squares. -/
def mq (X : S8x64x64.Idx → EReal) (h : Fin 8) : Mat 64 64 := fun c i => X (ix3 h c i)
/-- One head's state. -/
def ms (X : S8x128x128.Idx → EReal) (h : Fin 8) : Mat 128 128 := fun d e => X (ix3 h d e)

/-! ## The products -/

section Dots

variable (h : Fin 8)

theorem dot_state (A : FVec Ideal S8x64x128 .f32) (B : FVec Ideal S8x128x128 .f32) (c : Fin 64) (e : Fin 128) :
    Host.dotGeneral (F := Ideal) dot_S8x64x128_S8x128x128_S8x64x128_2_1_1_2_0_0 none A B (ix3 h c e) = ∑ d, mt A h c d * ms B h d e := by
  pointwise! [mt, ms, mq]
theorem dot_square (A : FVec Ideal S8x64x64 .f32) (B : FVec Ideal S8x64x128 .f32) (c : Fin 64) (e : Fin 128) :
    Host.dotGeneral (F := Ideal) dot_S8x64x64_S8x64x128_S8x64x128_2_1_1_2_0_0 none A B (ix3 h c e) = ∑ i, mq A h c i * mt B h i e := by
  pointwise! [mt, ms, mq]
theorem dot_over (A B : FVec Ideal S8x64x128 .f32) (d e : Fin 128) :
    Host.dotGeneral (F := Ideal) dot_S8x64x128_S8x64x128_S8x128x128_1_1_2_2_0_0 none A B (ix3 h d e) = ∑ c, mt A h c d * mt B h c e := by
  pointwise! [mt, ms, mq]
theorem dot_stateT (A : FVec Ideal S8x64x128 .f32) (B : FVec Ideal S8x128x128 .f32) (c : Fin 64) (d : Fin 128) :
    Host.dotGeneral (F := Ideal) dot_S8x64x128_S8x128x128_S8x64x128_2_2_1_1_0_0 none A B (ix3 h c d) = ∑ e, mt A h c e * ms B h d e := by
  pointwise! [mt, ms, mq]
theorem dot_lanes (A B : FVec Ideal S8x64x128 .f32) (c i : Fin 64) :
    Host.dotGeneral (F := Ideal) dot_S8x64x128_S8x64x128_S8x64x64_2_2_1_1_0_0 none A B (ix3 h c i) = ∑ e, mt A h c e * mt B h i e := by
  pointwise! [mt, ms, mq]
theorem dot_rowsL (A : FVec Ideal S8x128x128 .f32) (B : FVec Ideal S8x64x128 .f32) (e : Fin 128) (c : Fin 64) :
    Host.dotGeneral (F := Ideal) dot_S8x128x128_S8x64x128_S8x128x64_1_2_2_1_0_0 none A B (ix3 h e c) = ∑ d, ms A h d e * mt B h c d := by
  pointwise! [mt, ms, mq]
theorem dot_rowsR (A : FVec Ideal S8x128x128 .f32) (B : FVec Ideal S8x64x128 .f32) (d : Fin 128) (c : Fin 64) :
    Host.dotGeneral (F := Ideal) dot_S8x128x128_S8x64x128_S8x128x64_2_2_1_1_0_0 none A B (ix3 h d c) = ∑ e, ms A h d e * mt B h c e := by
  pointwise! [mt, ms, mq]
theorem dot_squareT (A : FVec Ideal S8x64x128 .f32) (B : FVec Ideal S8x64x64 .f32) (e : Fin 128) (i : Fin 64) :
    Host.dotGeneral (F := Ideal) dot_S8x64x128_S8x64x64_S8x128x64_1_1_2_2_0_0 none A B (ix3 h e i) = ∑ c, mt A h c e * mq B h c i := by
  pointwise! [mt, ms, mq]

theorem turn_rows (X : S8x128x64.Idx → EReal) (c : Fin 64) (e : Fin 128) :
    transpose S8x64x128 [0, 2, 1] X transposes_S8x128x64_S8x64x128_0_2_1 (ix3 h c e) = X (ix3 h e c) := by
  pointwise
theorem turn_state (X : S8x128x128.Idx → EReal) (d e : Fin 128) :
    transpose S8x128x128 [0, 2, 1] X transposes_S8x128x128_S8x128x128_0_2_1 (ix3 h d e) = X (ix3 h e d) := by
  pointwise
theorem gate_in (g : S8.Idx → EReal) :
    broadcastInDim S8x1x1 ![0] bcast_S8_S8x1x1_0 g (ix3 h 0 0) = g (ix1 h) := by
  pointwise
theorem gate_wide (g : S8x1x1.Idx → EReal) (d e : Fin 128) :
    broadcastInDim S8x128x128 ![0, 1, 2] bcast_S8x1x1_S8x128x128_0_1_2 g (ix3 h d e) = g (ix3 h 0 0) := by
  pointwise
theorem sum_state (X : FVec Ideal S8x128x128 .f32) :
    Host.reduceAdd X (constant (F := Ideal) S_ .f32 0x00000000#32) reducesTo_S8x128x128_S8_d1_2 h_S_ (ix1 h) = ∑ d, ∑ e, ms X h d e := by
  pointwise! [mt, ms, mq]
theorem sum_one (X : FVec Ideal S8 .f32) :
    Host.reduceAdd (shapeCast S8x1x1 X shapeCasts_S8_S8x1x1) (constant (F := Ideal) S_ .f32 0x00000000#32) reducesTo_S8x1x1_S8_d1_2 h_S_ (ix1 h) = X (ix1 h) := by
  pointwise!
  simp only [Finset.univ_unique, Finset.sum_singleton]

end Dots

/-! ## One chunk, forwards -/

section Forward

variable (V : Valuation τ sig (Elt Ideal)) (h : Fin 8)

theorem vnew_eq : mt (after fops0 V main_while0b_v52) h = Spec.vnew (mt (V main_while0b_v45) h) (mt (V main_while0b_v46) h) (ms (V main_v18_7) h) := by
  funext c e
  show (after fops0 V main_while0b_v52 : S8x64x128.Idx → EReal) (ix3 h c e) = _
  after_results
  exact congrArg (mt (V main_while0b_v45) h c e - ·) (dot_state h _ _ c e)

theorem out_eq : mt (after fops1 V main_while0b_v55) h
    = Spec.outs (mt (V main_while0b_v48) h) (mq (V main_while0b_v47) h) (ms (V main_v18_7) h) (mt (V main_while0b_v52) h) := by
  funext c e
  show (after fops1 V main_while0b_v55 : S8x64x128.Idx → EReal) (ix3 h c e) = _
  after_results
  exact congrArg₂ (· + ·) (dot_state h _ _ c e) (dot_square h _ _ c e)

theorem gate_eq : (after fops1 V main_while0b_v56 : S8x1x1.Idx → EReal) (ix3 h 0 0) = (V main_while0b_v50 : S8.Idx → EReal) (ix1 h) := by
  after_results
  exact gate_in h _

theorem next_eq : ms (after fops1 V main_while0b_v60) h
    = Spec.next (ms (V main_v18_7) h) ((V main_while0b_v50 : S8.Idx → EReal) (ix1 h)) (mt (V main_while0b_v49) h) (mt (V main_while0b_v52) h) := by
  funext d e
  show (after fops1 V main_while0b_v60 : S8x128x128.Idx → EReal) (ix3 h d e) = _
  after_results
  exact congrArg₂ (· + ·) (congrArg (ms (V main_v18_7) h d e * ·) ((gate_wide h _ d e).trans (gate_in h _))) (dot_over h _ _ d e)

end Forward

/-! ## One chunk, backwards -/

section Backward

variable (V : Valuation τ sig (Elt Ideal)) (h : Fin 8)

theorem dkd_eq : mt (after bops1 V main_while1b_v58) h = Spec.outer (mt (V main_while1b_v51) h) (ms (V main_v29_9) h) := by
  funext c d
  show (after bops1 V main_while1b_v58 : S8x64x128.Idx → EReal) (ix3 h c d) = _
  after_results
  exact ((turn_rows h _ c d).trans (dot_rowsR h _ _ d c)).trans (Finset.sum_congr rfl fun e _ => mul_comm _ _)

theorem du_eq : mt (after bops1 V main_while1b_v67) h
    = Spec.dvnew (mt (V main_while1b_v47) h) (mt (V main_while1b_v54) h) (mq (V main_while1b_v52) h) (ms (V main_v29_9) h) := by
  funext c e
  show (after bops1 V main_while1b_v67 : S8x64x128.Idx → EReal) (ix3 h c e) = _
  after_results
  exact (congrArg₂ (· + ·)
    (((turn_rows h _ c e).trans (dot_rowsL h _ _ e c)).trans (Finset.sum_congr rfl fun d _ => mul_comm _ _))
    (((turn_rows h _ c e).trans (dot_squareT h _ _ e c)).trans (Finset.sum_congr rfl fun i _ => mul_comm _ _))).trans (add_comm (G := EReal) _ _)

theorem dg_eq : (after bops1 V main_while1b_v64 : S8.Idx → EReal) (ix1 h) = Spec.inner (ms (V main_while1b_v48) h) (ms (V main_v29_9) h) := by
  after_results
  exact (sum_one h _).trans (sum_state h _)

theorem scaled_eq : ms (after bops1 V main_while1b_v63) h = fun d e => ms (V main_v29_9) h d e * (V main_while1b_v53 : S8x1x1.Idx → EReal) (ix3 h 0 0) := by
  funext d e
  show (after bops1 V main_while1b_v63 : S8x128x128.Idx → EReal) (ix3 h d e) = _
  after_results
  exact congrArg (ms (V main_v29_9) h d e * ·) (gate_wide h _ d e)

theorem dqk_eq : mq (after bops2 V main_while1b_v68) h = Spec.outer (mt (V main_while1b_v47) h) (mt (V main_while1b_v51) h) := by
  funext c i
  show (after bops2 V main_while1b_v68 : S8x64x64.Idx → EReal) (ix3 h c i) = _
  after_results
  exact dot_lanes h _ _ c i

theorem dqd_eq : mt (after bops2 V main_while1b_v72) h = Spec.outer (mt (V main_while1b_v47) h) (ms (V main_while1b_v48) h) := by
  funext c d
  show (after bops2 V main_while1b_v72 : S8x64x128.Idx → EReal) (ix3 h c d) = _
  after_results
  exact dot_stateT h _ _ c d

theorem neg_eq : mt (after bops2 V main_while1b_v73) h = fun c e => -mt (V main_while1b_v67) h c e := by
  funext c e
  show (after bops2 V main_while1b_v73 : S8x64x128.Idx → EReal) (ix3 h c e) = _
  after_results
  rfl

theorem part_eq : ms (after bops2 V main_while1b_v71) h
    = fun d e => ms (V main_while1b_v63) h d e + ∑ c, mt (V main_while1b_v50) h c d * mt (V main_while1b_v47) h c e := by
  funext d e
  show (after bops2 V main_while1b_v71 : S8x128x128.Idx → EReal) (ix3 h d e) = _
  after_results
  exact congrArg (ms (V main_while1b_v63) h d e + ·)
    (((turn_state h _ d e).trans (dot_over h _ _ e d)).trans (Finset.sum_congr rfl fun c _ => mul_comm _ _))

theorem dprev_eq : ms (after bops3 V main_while1b_v76) h
    = fun d e => ms (V main_while1b_v71) h d e + ∑ c, mt (V main_while1b_v49) h c d * mt (V main_while1b_v73) h c e := by
  funext d e
  show (after bops3 V main_while1b_v76 : S8x128x128.Idx → EReal) (ix3 h d e) = _
  after_results
  exact congrArg (ms (V main_while1b_v71) h d e + ·)
    (((turn_state h _ d e).trans (dot_over h _ _ e d)).trans (Finset.sum_congr rfl fun c _ => mul_comm _ _))

theorem dw_eq : mt (after bops3 V main_while1b_v77) h
    = fun c d => ∑ e, mt (V main_while1b_v73) h c e * ms (V main_while1b_v48) h d e := by
  funext c d
  show (after bops3 V main_while1b_v77 : S8x64x128.Idx → EReal) (ix3 h c d) = _
  after_results
  exact dot_stateT h _ _ c d

end Backward

end Cert.ReferenceIdeal.Step

end
-- ==== Proof.RefLoopF.lean ====
/- The reference's forward scan, chunk after chunk. -/
module

public import proofs.«01_k».proof.Proof.RefIdx
public import proofs.«01_k».proof.Proof.RefStep

@[expose] public section

set_option maxRecDepth 16384

noncomputable section

namespace Cert.ReferenceIdeal.LoopF

open Cert.ReferenceIdeal Cert.ReferenceIdeal.Gen Cert.ReferenceIdeal.Ops Cert.ReferenceIdeal.Run
open Cert.ReferenceIdeal.Idx Cert.ReferenceIdeal.Step
open Idealize.ShloMosaic Idealize.ShloMosaic.TcCoe
open StableHlo
open Cert.Spec (Mat Head st vn out)

/-! ## One trip -/

/-- The scan's inputs are the heads'. -/
structure Ins (V : Valuation τ sig (Elt Ideal)) (H : Fin 8 → Head) : Prop where
  u : ∀ n h c e, (V main_v18_0 : S128x8x64x128.Idx → EReal) (ix4 n h c e) = (H h).u n c e
  w : ∀ n h c e, (V main_v18_1 : S128x8x64x128.Idx → EReal) (ix4 n h c e) = (H h).w n c e
  qk : ∀ n h c i, (V main_v18_2 : S128x8x64x64.Idx → EReal) (ix4 n h c i) = (H h).qk n c i
  qd : ∀ n h c e, (V main_v18_3 : S128x8x64x128.Idx → EReal) (ix4 n h c e) = (H h).qd n c e
  kd : ∀ n h c e, (V main_v18_4 : S128x8x64x128.Idx → EReal) (ix4 n h c e) = (H h).kd n c e
  g : ∀ n h, (V main_v18_5 : S128x8.Idx → EReal) (ix2 n h) = (H h).g n

/-- What the scan has written when the chunks below `k` are done. -/
structure Outs (V : Valuation τ sig (Elt Ideal)) (H : Fin 8 → Head) (k : ℕ) : Prop where
  s : ∀ h, ms (V main_v18_7) h = st (H h) k
  o : ∀ n h c e, n.val < k → (V main_v18_8 : S128x8x64x128.Idx → EReal) (ix4 n h c e) = out (H h) n c e
  ss : ∀ n h d e, n.val < k → (V main_v18_9 : S128x8x128x128.Idx → EReal) (ix4 n h d e) = st (H h) n.val d e
  vs : ∀ n h c e, n.val < k → (V main_v18_10 : S128x8x64x128.Idx → EReal) (ix4 n h c e) = vn (H h) n c e
  gs : ∀ n h, n.val < k → (V main_v18_11 : S128x8x1x1.Idx → EReal) (ix4 n h 0 0) = (H h).g n

/-! The end of a trip hands its results on. -/

theorem copy_s (X : Valuation τ sig (Elt Ideal)) : after fops2 X main_v18_7 = X main_while0b_v60 := by
  after_results
  rfl
theorem copy_o (X : Valuation τ sig (Elt Ideal)) : after fops2 X main_v18_8 = X main_while0b_v61 := by
  after_results
  rfl
theorem copy_ss (X : Valuation τ sig (Elt Ideal)) : after fops2 X main_v18_9 = X main_while0b_v62 := by
  after_results
  rfl
theorem copy_vs (X : Valuation τ sig (Elt Ideal)) : after fops2 X main_v18_10 = X main_while0b_v63 := by
  after_results
  rfl
theorem copy_gs (X : Valuation τ sig (Elt Ideal)) : after fops2 X main_v18_11 = X main_while0b_v64 := by
  after_results
  rfl

section Trip

variable (V : Valuation τ sig (Elt Ideal)) (n : Fin 128) (hn : Reads (V main_v18_6) n)

/-- The chunk's inputs read. -/
def V5 : Valuation τ sig (Elt Ideal) := after fcall5 (after fcall4 (after fcall3 (after fcall2 (after fcall1 (after fcall0 V)))))
/-- … and its products done. -/
def V7 : Valuation τ sig (Elt Ideal) := after fops1 (after fops0 (V5 V))

/-- A trip ends by writing the stacks and handing them on. -/
theorem fbody_V7 : afterL fbody V = after fops2 (after fcall9 (after fcall8 (after fcall7 (after fcall6 (V7 V))))) := rfl

theorem V7_keep (r : Ref sig .tc) (h : r ∉ fcall0_W ++ (fcall1_W ++ (fcall2_W ++ (fcall3_W ++ (fcall4_W ++ (fcall5_W ++ (fops0_W ++ fops1_W))))))) :
    V7 V (no_index (Proc.devRef .tc r)) = V (Proc.devRef .tc r) := by
  simp only [List.mem_append, not_or] at h
  obtain ⟨h0, h1, h2, h3, h4, h5, h6, h7⟩ := h
  rw [V7, V5, fops1_keep _ _ h7, fops0_keep _ _ h6, fcall5_keep _ _ h5, fcall4_keep _ _ h4, fcall3_keep _ _ h3, fcall2_keep _ _ h2,
    fcall1_keep _ _ h1, fcall0_keep _ _ h0]

variable (H : Fin 8 → Head) (hI : Ins V H) (hS : ∀ h, ms (V main_v18_7) h = st (H h) n.val)
include hn hI

theorem u5 (h : Fin 8) : mt (V5 V main_while0b_v45) h = (H h).u n := by
  funext c e
  show (V5 V main_while0b_v45 : S8x64x128.Idx → EReal) (ix3 h c e) = _
  simp (disch := decide) only [V5, fcall5_keep, fcall4_keep, fcall3_keep, fcall2_keep, fcall1_keep, fcall0_keep]
  exact (fcall0_at V n hn h c e).trans (hI.u n h c e)
theorem w5 (h : Fin 8) : mt (V5 V main_while0b_v46) h = (H h).w n := by
  funext c e
  show (V5 V main_while0b_v46 : S8x64x128.Idx → EReal) (ix3 h c e) = _
  simp (disch := decide) only [V5, fcall5_keep, fcall4_keep, fcall3_keep, fcall2_keep, fcall1_keep, fcall0_keep]
  refine (fcall1_at _ n ?_ h c e).trans ?_ <;> simp (disch := decide) only [fcall5_keep, fcall4_keep, fcall3_keep, fcall2_keep, fcall1_keep, fcall0_keep]
  · exact hn
  · exact hI.w n h c e
theorem qk5 (h : Fin 8) : mq (V5 V main_while0b_v47) h = (H h).qk n := by
  funext c i
  show (V5 V main_while0b_v47 : S8x64x64.Idx → EReal) (ix3 h c i) = _
  simp (disch := decide) only [V5, fcall5_keep, fcall4_keep, fcall3_keep, fcall2_keep, fcall1_keep, fcall0_keep]
  refine (fcall2_at _ n ?_ h c i).trans ?_ <;> simp (disch := decide) only [fcall5_keep, fcall4_keep, fcall3_keep, fcall2_keep, fcall1_keep, fcall0_keep]
  · exact hn
  · exact hI.qk n h c i
theorem qd5 (h : Fin 8) : mt (V5 V main_while0b_v48) h = (H h).qd n := by
  funext c e
  show (V5 V main_while0b_v48 : S8x64x128.Idx → EReal) (ix3 h c e) = _
  simp (disch := decide) only [V5, fcall5_keep, fcall4_keep, fcall3_keep, fcall2_keep, fcall1_keep, fcall0_keep]
  refine (fcall3_at _ n ?_ h c e).trans ?_ <;> simp (disch := decide) only [fcall5_keep, fcall4_keep, fcall3_keep, fcall2_keep, fcall1_keep, fcall0_keep]
  · exact hn
  · exact hI.qd n h c e
theorem kd5 (h : Fin 8) : mt (V5 V main_while0b_v49) h = (H h).kd n := by
  funext c e
  show (V5 V main_while0b_v49 : S8x64x128.Idx → EReal) (ix3 h c e) = _
  simp (disch := decide) only [V5, fcall5_keep, fcall4_keep, fcall3_keep, fcall2_keep, fcall1_keep, fcall0_keep]
  refine (fcall4_at _ n ?_ h c e).trans ?_ <;> simp (disch := decide) only [fcall5_keep, fcall4_keep, fcall3_keep, fcall2_keep, fcall1_keep, fcall0_keep]
  · exact hn
  · exact hI.kd n h c e
theorem g5 (h : Fin 8) : (V5 V main_while0b_v50 : S8.Idx → EReal) (ix1 h) = (H h).g n := by
  simp (disch := decide) only [V5]
  refine (fcall5_at _ n ?_ h).trans ?_ <;> simp (disch := decide) only [fcall5_keep, fcall4_keep, fcall3_keep, fcall2_keep, fcall1_keep, fcall0_keep]
  · exact hn
  · exact hI.g n h

omit hn hI in
theorem s5 (h : Fin 8) : ms (V5 V main_v18_7) h = ms (V main_v18_7) h := by
  simp (disch := decide) only [V5, fcall5_keep, fcall4_keep, fcall3_keep, fcall2_keep, fcall1_keep, fcall0_keep]

include hS

theorem v6 (h : Fin 8) : mt (after fops0 (V5 V) main_while0b_v52) h = vn (H h) n := by
  rw [vnew_eq, u5 V n hn H hI, w5 V n hn H hI, s5 V, hS]
  rfl
theorem v7 (h : Fin 8) : mt (V7 V main_while0b_v52) h = vn (H h) n := by
  rw [V7, fops1_keep _ _ (by decide)]
  exact v6 V n hn H hI hS h
theorem o7 (h : Fin 8) : mt (V7 V main_while0b_v55) h = out (H h) n := by
  rw [V7, out_eq, v6 V n hn H hI hS]
  rw [fops0_keep _ main_while0b_v48 (by decide), fops0_keep _ main_while0b_v47 (by decide), fops0_keep _ main_v18_7 (by decide)]
  rw [qd5 V n hn H hI, qk5 V n hn H hI, s5 V, hS]
  rfl
theorem s7 (h : Fin 8) : ms (V7 V main_while0b_v60) h = st (H h) (n.val + 1) := by
  rw [V7, next_eq, v6 V n hn H hI hS]
  rw [fops0_keep _ main_while0b_v49 (by decide), fops0_keep _ main_while0b_v50 (by decide), fops0_keep _ main_v18_7 (by decide)]
  rw [kd5 V n hn H hI, g5 V n hn H hI, s5 V, hS, st, Spec.ck_val]
  rfl
omit hS in
theorem g7 (h : Fin 8) : (V7 V main_while0b_v56 : S8x1x1.Idx → EReal) (ix3 h 0 0) = (H h).g n := by
  rw [V7, gate_eq, fops0_keep _ main_while0b_v50 (by decide)]
  exact g5 V n hn H hI h

/-! ### The stacks after the trip -/

theorem trip_s (h : Fin 8) : ms (afterL fbody V main_v18_7) h = st (H h) (n.val + 1) := by
  refine Eq.trans (congrArg (fun X => ms X h) ?_) (s7 V n hn H hI hS h)
  rw [fbody_V7, copy_s]
  simp (disch := decide) only [fcall9_keep, fcall8_keep, fcall7_keep, fcall6_keep]

theorem trip_o (a : Fin 128) (h : Fin 8) (c : Fin 64) (e : Fin 128) : (afterL fbody V main_v18_8 : S128x8x64x128.Idx → EReal) (ix4 a h c e)
    = if a = n then out (H h) n c e else (V main_v18_8 : S128x8x64x128.Idx → EReal) (ix4 a h c e) := by
  rw [fbody_V7, copy_o]
  simp (disch := decide) only [fcall9_keep, fcall8_keep, fcall7_keep, fcall6_keep]
  refine (fcall6_at _ n ?_ a h c e).trans ?_
  · rw [V7_keep V main_v18_6 (by decide)]
    exact hn
  · rw [V7_keep V main_v18_8 (by decide)]
    exact congrArg (fun x => if a = n then x else _) (congrFun (congrFun (o7 V n hn H hI hS h) c) e)
theorem trip_ss (a : Fin 128) (h : Fin 8) (d e : Fin 128) : (afterL fbody V main_v18_9 : S128x8x128x128.Idx → EReal) (ix4 a h d e)
    = if a = n then st (H h) n.val d e else (V main_v18_9 : S128x8x128x128.Idx → EReal) (ix4 a h d e) := by
  rw [fbody_V7, copy_ss]
  simp (disch := decide) only [fcall9_keep, fcall8_keep, fcall7_keep, fcall6_keep]
  refine (fcall7_at _ n ?_ a h d e).trans ?_ <;> simp (disch := decide) only [fcall9_keep, fcall8_keep, fcall7_keep, fcall6_keep]
  · rw [V7_keep V main_v18_6 (by decide)]
    exact hn
  · rw [V7_keep V main_v18_9 (by decide)]
    exact congrArg (fun x => if a = n then x else _) ((congrFun (congrFun ((congrArg (fun X => ms X h) (V7_keep V main_v18_7 (by decide))).trans (hS h)) d) e))
theorem trip_vs (a : Fin 128) (h : Fin 8) (c : Fin 64) (e : Fin 128) : (afterL fbody V main_v18_10 : S128x8x64x128.Idx → EReal) (ix4 a h c e)
    = if a = n then vn (H h) n c e else (V main_v18_10 : S128x8x64x128.Idx → EReal) (ix4 a h c e) := by
  rw [fbody_V7, copy_vs]
  simp (disch := decide) only [fcall9_keep, fcall8_keep, fcall7_keep, fcall6_keep]
  refine (fcall8_at _ n ?_ a h c e).trans ?_ <;> simp (disch := decide) only [fcall9_keep, fcall8_keep, fcall7_keep, fcall6_keep]
  · rw [V7_keep V main_v18_6 (by decide)]
    exact hn
  · rw [V7_keep V main_v18_10 (by decide)]
    exact congrArg (fun x => if a = n then x else _) (congrFun (congrFun (v7 V n hn H hI hS h) c) e)
omit hS in
theorem trip_gs (a : Fin 128) (h : Fin 8) : (afterL fbody V main_v18_11 : S128x8x1x1.Idx → EReal) (ix4 a h 0 0)
    = if a = n then (H h).g n else (V main_v18_11 : S128x8x1x1.Idx → EReal) (ix4 a h 0 0) := by
  rw [fbody_V7, copy_gs]
  refine (fcall9_at _ n ?_ a h).trans ?_ <;> simp (disch := decide) only [fcall9_keep, fcall8_keep, fcall7_keep, fcall6_keep]
  · rw [V7_keep V main_v18_6 (by decide)]
    exact hn
  · rw [V7_keep V main_v18_11 (by decide)]
    exact congrArg (fun x => if a = n then x else _) (g7 V n hn H hI h)

omit hn hI hS in
include hn hI in
/-- A trip takes the scan one chunk further. -/
theorem trip (hO : Outs V H n.val) : Outs (afterL fbody V) H (n.val + 1) where
  s h := trip_s V n hn H hI hO.s h
  o a h c e ha := by
    rw [trip_o V n hn H hI hO.s a h c e]
    split
    · next e' => rw [e']
    · next e' => exact hO.o a h c e (lt_of_le_of_ne (Nat.lt_succ_iff.mp ha) fun x => e' (Fin.ext x))
  ss a h d e ha := by
    rw [trip_ss V n hn H hI hO.s a h d e]
    split
    · next e' => rw [e']
    · next e' => exact hO.ss a h d e (lt_of_le_of_ne (Nat.lt_succ_iff.mp ha) fun x => e' (Fin.ext x))
  vs a h c e ha := by
    rw [trip_vs V n hn H hI hO.s a h c e]
    split
    · next e' => rw [e']
    · next e' => exact hO.vs a h c e (lt_of_le_of_ne (Nat.lt_succ_iff.mp ha) fun x => e' (Fin.ext x))
  gs a h ha := by
    rw [trip_gs V n hn H hI a h]
    split
    · next e' => rw [e']
    · next e' => exact hO.gs a h (lt_of_le_of_ne (Nat.lt_succ_iff.mp ha) fun x => e' (Fin.ext x))

end Trip

/-! ## All the trips -/

theorem Ins.of_eq {V V' : Valuation τ sig (Elt Ideal)} {H : Fin 8 → Head} (hI : Ins V H)
    (h : ∀ r ∈ [main_v18_0, main_v18_1, main_v18_2, main_v18_3, main_v18_4, main_v18_5], V' (Proc.devRef .tc r) = V (Proc.devRef .tc r)) : Ins V' H where
  u n h' c e := (congrFun (h main_v18_0 (by decide)) _).trans (hI.u n h' c e)
  w n h' c e := (congrFun (h main_v18_1 (by decide)) _).trans (hI.w n h' c e)
  qk n h' c e := (congrFun (h main_v18_2 (by decide)) _).trans (hI.qk n h' c e)
  qd n h' c e := (congrFun (h main_v18_3 (by decide)) _).trans (hI.qd n h' c e)
  kd n h' c e := (congrFun (h main_v18_4 (by decide)) _).trans (hI.kd n h' c e)
  g n h' := (congrFun (h main_v18_5 (by decide)) _).trans (hI.g n h')

theorem Outs.of_eq {V V' : Valuation τ sig (Elt Ideal)} {H : Fin 8 → Head} {k : ℕ} (hO : Outs V H k)
    (h : ∀ r ∈ [main_v18_7, main_v18_8, main_v18_9, main_v18_10, main_v18_11], V' (Proc.devRef .tc r) = V (Proc.devRef .tc r)) : Outs V' H k where
  s h' := (congrArg (fun X => ms X h') (h main_v18_7 (by decide))).trans (hO.s h')
  o n h' c e hk := (congrFun (h main_v18_8 (by decide)) _).trans (hO.o n h' c e hk)
  ss n h' d e hk := (congrFun (h main_v18_9 (by decide)) _).trans (hO.ss n h' d e hk)
  vs n h' c e hk := (congrFun (h main_v18_10 (by decide)) _).trans (hO.vs n h' c e hk)
  gs n h' hk := (congrFun (h main_v18_11 (by decide)) _).trans (hO.gs n h' hk)

theorem keep_ins : ∀ r ∈ [main_v18_0, main_v18_1, main_v18_2, main_v18_3, main_v18_4, main_v18_5],
    r ∉ [main_while0c_c_24, main_while0c_v45] ∧ r ∉ fbody_W := by decide +kernel
theorem keep_outs : ∀ r ∈ [main_v18_7, main_v18_8, main_v18_9, main_v18_10, main_v18_11], r ∉ [main_while0c_c_24, main_while0c_v45] := by decide

variable (m : (ℓ : Loc nD τ sig) → Buf (Elt Ideal) ℓ) (c : Dev nD) (H : Fin 8 → Head) (hI : Ins (W0 m c) H) (h0 : ∀ h, ms (W0 m c main_v18_7) h = fun _ _ => 0)
include hI h0

/-- Before trip `k` the scan is `k` chunks on. -/
theorem outs_at : ∀ k, k ≤ 128 → Outs (fAt m k c) H k
  | 0, _ => ⟨h0, fun _ _ _ _ h => absurd h (Nat.not_lt_zero _), fun _ _ _ _ h => absurd h (Nat.not_lt_zero _),
      fun _ _ _ _ h => absurd h (Nat.not_lt_zero _), fun _ _ h => absurd h (Nat.not_lt_zero _)⟩
  | k + 1, hk => by
    rw [show fAt m (k + 1) c = afterL fbody (after fcond (fAt m k c)) from rfl]
    refine trip (after fcond (fAt m k c)) ⟨k, hk⟩ ?_ H (hI.of_eq fun r hr => ?_) ((outs_at k (Nat.le_of_succ_le hk)).of_eq fun r hr => ?_)
    · rw [fcond_keep _ main_v18_6 (by decide), fAt_ctr]
      exact iv_int ⟨k, hk⟩
    · rw [fcond_keep _ r (keep_ins r hr).1]
      exact fAt_keep m c r (keep_ins r hr).1 (keep_ins r hr).2 k
    · exact fcond_keep _ r (keep_outs r hr)

/-- Where the backward scan starts from. -/
theorem outs_end : Outs (after fcond (fAt m 128 c)) H 128 :=
  (outs_at m c H hI h0 128 le_rfl).of_eq fun r hr => fcond_keep _ r (keep_outs r hr)

end Cert.ReferenceIdeal.LoopF

end
-- ==== Proof.RefLoopB.lean ====
/- The reference's backward scan, chunk after chunk. -/
module

public import proofs.«01_k».proof.Proof.RefIdx
public import proofs.«01_k».proof.Proof.RefStep

@[expose] public section

set_option maxRecDepth 16384

noncomputable section

namespace Cert.ReferenceIdeal.LoopB

open Cert.ReferenceIdeal Cert.ReferenceIdeal.Gen Cert.ReferenceIdeal.Ops Cert.ReferenceIdeal.Run
open Cert.ReferenceIdeal.Idx Cert.ReferenceIdeal.Step
open Idealize.ShloMosaic Idealize.ShloMosaic.TcCoe
open StableHlo
open Cert.Spec (Mat Head st vn ds dS du dw dqd dkd dqk dg)

/-! ## One trip -/

/-- The scan's inputs are the heads' and what the forward scan kept. -/
structure Ins (V : Valuation τ sig (Elt Ideal)) (H : Fin 8 → Head) : Prop where
  o' : ∀ n h c e, (V main_v29_0 : S128x8x64x128.Idx → EReal) (ix4 n h c e) = (H h).o' n c e
  s : ∀ n h d e, (V main_v29_1 : S128x8x128x128.Idx → EReal) (ix4 n h d e) = st (H h) n.val d e
  w : ∀ n h c e, (V main_v29_2 : S128x8x64x128.Idx → EReal) (ix4 n h c e) = (H h).w n c e
  qd : ∀ n h c e, (V main_v29_3 : S128x8x64x128.Idx → EReal) (ix4 n h c e) = (H h).qd n c e
  v : ∀ n h c e, (V main_v29_4 : S128x8x64x128.Idx → EReal) (ix4 n h c e) = vn (H h) n c e
  qk : ∀ n h c i, (V main_v29_5 : S128x8x64x64.Idx → EReal) (ix4 n h c i) = (H h).qk n c i
  g : ∀ n h, (V main_v29_6 : S128x8x1x1.Idx → EReal) (ix4 n h 0 0) = (H h).g n
  kd : ∀ n h c e, (V main_v29_7 : S128x8x64x128.Idx → EReal) (ix4 n h c e) = (H h).kd n c e

/-- What the scan has written when the last `j` chunks are done. -/
structure Outs (V : Valuation τ sig (Elt Ideal)) (H : Fin 8 → Head) (j : ℕ) : Prop where
  d : ∀ h, ms (V main_v29_9) h = ds (H h) j
  du : ∀ n h c e, 128 ≤ n.val + j → (V main_v29_10 : S128x8x64x128.Idx → EReal) (ix4 n h c e) = du (H h) n c e
  dw : ∀ n h c e, 128 ≤ n.val + j → (V main_v29_11 : S128x8x64x128.Idx → EReal) (ix4 n h c e) = dw (H h) n c e
  dqk : ∀ n h c e, 128 ≤ n.val + j → (V main_v29_12 : S128x8x64x64.Idx → EReal) (ix4 n h c e) = dqk (H h) n c e
  dqd : ∀ n h c e, 128 ≤ n.val + j → (V main_v29_13 : S128x8x64x128.Idx → EReal) (ix4 n h c e) = dqd (H h) n c e
  dkd : ∀ n h c e, 128 ≤ n.val + j → (V main_v29_14 : S128x8x64x128.Idx → EReal) (ix4 n h c e) = dkd (H h) n c e
  dg : ∀ n h, 128 ≤ n.val + j → (V main_v29_15 : S128x8.Idx → EReal) (ix2 n h) = dg (H h) n

/-! The end of a trip hands its results on. -/

theorem copy_d (X : Valuation τ sig (Elt Ideal)) : after bops4 X main_v29_9 = X main_while1b_v76 := by
  after_results
  rfl
theorem copy_du (X : Valuation τ sig (Elt Ideal)) : after bops4 X main_v29_10 = X main_while1b_v78 := by
  after_results
  rfl
theorem copy_dw (X : Valuation τ sig (Elt Ideal)) : after bops4 X main_v29_11 = X main_while1b_v79 := by
  after_results
  rfl
theorem copy_dqk (X : Valuation τ sig (Elt Ideal)) : after bops4 X main_v29_12 = X main_while1b_v80 := by
  after_results
  rfl
theorem copy_dqd (X : Valuation τ sig (Elt Ideal)) : after bops4 X main_v29_13 = X main_while1b_v81 := by
  after_results
  rfl
theorem copy_dkd (X : Valuation τ sig (Elt Ideal)) : after bops4 X main_v29_14 = X main_while1b_v82 := by
  after_results
  rfl
theorem copy_dg (X : Valuation τ sig (Elt Ideal)) : after bops4 X main_v29_15 = X main_while1b_v83 := by
  after_results
  rfl

theorem down_int (n : Fin 128) : ((128#32 - Scf.iv 0#32 1#32 (127 - n.val)) - 1#32 : BitVec 32).toInt = (n.val : Int) := by
  revert n
  decide +kernel

/-- The trip's chunk, counted from the end. -/
theorem chunk_eq (V : Valuation τ sig (Elt Ideal)) (n : Fin 128) (hn : V main_v29_8 = fun _ => Scf.iv 0#32 1#32 (127 - n.val)) :
    Reads (after bops0 V main_while1b_v46) n := by
  refine Eq.trans (congrArg (fun X : S_.Idx → BitVec 32 => (X (Shape.Idx.first h_S_)).toInt)
    (show after bops0 V main_while1b_v46 = subi (subi (constantI S_ 32 128#32) (fun _ => Scf.iv 0#32 1#32 (127 - n.val))) (constantI S_ 32 1#32) from ?_))
    (down_int n)
  after_results
  rw [hn]
  rfl

theorem later {n a : Fin 128} (ha : 128 ≤ a.val + (127 - n.val + 1)) (h : ¬a = n) : 128 ≤ a.val + (127 - n.val) := by
  have := fun x => h (Fin.ext x)
  omega

section Trip

variable (V : Valuation τ sig (Elt Ideal)) (n : Fin 128)

/-- The chunk's number made … -/
def B0 : Valuation τ sig (Elt Ideal) := after bops0 V
/-- … its inputs read … -/
def B8 : Valuation τ sig (Elt Ideal) :=
  after bcall7 (after bcall6 (after bcall5 (after bcall4 (after bcall3 (after bcall2 (after bcall1 (after bcall0 (B0 V))))))))
/-- … and its products done. -/
def B11 : Valuation τ sig (Elt Ideal) := after bops3 (after bops2 (after bops1 (B8 V)))

/-- A trip ends by writing the stacks and handing them on. -/
theorem bbody_B11 : afterL bbody V = after bops4 (after bcall13 (after bcall12 (after bcall11 (after bcall10 (after bcall9 (after bcall8 (B11 V))))))) := rfl

theorem B8_keep (r : Ref sig .tc)
    (h : r ∉ bops0_W ++ (bcall0_W ++ (bcall1_W ++ (bcall2_W ++ (bcall3_W ++ (bcall4_W ++ (bcall5_W ++ (bcall6_W ++ bcall7_W)))))))) :
    B8 V (no_index (Proc.devRef .tc r)) = V (Proc.devRef .tc r) := by
  simp only [List.mem_append, not_or] at h
  obtain ⟨h0, h1, h2, h3, h4, h5, h6, h7, h8⟩ := h
  rw [B8, B0, bcall7_keep _ _ h8, bcall6_keep _ _ h7, bcall5_keep _ _ h6, bcall4_keep _ _ h5, bcall3_keep _ _ h4, bcall2_keep _ _ h3,
    bcall1_keep _ _ h2, bcall0_keep _ _ h1, bops0_keep _ _ h0]
theorem B11_keep (r : Ref sig .tc) (h : r ∉ bops1_W ++ (bops2_W ++ bops3_W)) :
    B11 V (no_index (Proc.devRef .tc r)) = B8 V (Proc.devRef .tc r) := by
  simp only [List.mem_append, not_or] at h
  obtain ⟨h1, h2, h3⟩ := h
  rw [B11, bops3_keep _ _ h3, bops2_keep _ _ h2, bops1_keep _ _ h1]

variable (hn : Reads (B0 V main_while1b_v46) n) (H : Fin 8 → Head) (hI : Ins V H) (hD : ∀ h, ms (V main_v29_9) h = dS (H h) n)

include hn in
theorem count8 : Reads (B8 V main_while1b_v46) n := by
  simp (disch := decide) only [B8, bcall7_keep, bcall6_keep, bcall5_keep, bcall4_keep, bcall3_keep, bcall2_keep, bcall1_keep, bcall0_keep]
  exact hn
include hn in
theorem count11 : Reads (B11 V main_while1b_v46) n := by
  rw [B11_keep V main_while1b_v46 (by decide)]
  exact count8 V n hn
theorem d8 (h : Fin 8) : ms (B8 V main_v29_9) h = ms (V main_v29_9) h := by
  rw [B8_keep V main_v29_9 (by decide)]

include hn hI

theorem o'8 (h : Fin 8) : mt (B8 V main_while1b_v47) h = (H h).o' n := by
  funext c e
  show (B8 V main_while1b_v47 : S8x64x128.Idx → EReal) (ix3 h c e) = _
  simp (disch := decide) only [B8, bcall7_keep, bcall6_keep, bcall5_keep, bcall4_keep, bcall3_keep, bcall2_keep, bcall1_keep, bcall0_keep]
  refine (bcall0_at _ n hn h c e).trans ?_
  rw [B0, bops0_keep _ main_v29_0 (by decide)]
  exact hI.o' n h c e
theorem s8 (h : Fin 8) : ms (B8 V main_while1b_v48) h = st (H h) n.val := by
  funext d e
  show (B8 V main_while1b_v48 : S8x128x128.Idx → EReal) (ix3 h d e) = _
  simp (disch := decide) only [B8, bcall7_keep, bcall6_keep, bcall5_keep, bcall4_keep, bcall3_keep, bcall2_keep, bcall1_keep, bcall0_keep]
  refine (bcall1_at _ n ?_ h d e).trans ?_ <;> simp (disch := decide) only [bcall7_keep, bcall6_keep, bcall5_keep, bcall4_keep, bcall3_keep, bcall2_keep, bcall1_keep, bcall0_keep]
  · exact hn
  · rw [B0, bops0_keep _ main_v29_1 (by decide)]
    exact hI.s n h d e
theorem w8 (h : Fin 8) : mt (B8 V main_while1b_v49) h = (H h).w n := by
  funext c e
  show (B8 V main_while1b_v49 : S8x64x128.Idx → EReal) (ix3 h c e) = _
  simp (disch := decide) only [B8, bcall7_keep, bcall6_keep, bcall5_keep, bcall4_keep, bcall3_keep, bcall2_keep, bcall1_keep, bcall0_keep]
  refine (bcall2_at _ n ?_ h c e).trans ?_ <;> simp (disch := decide) only [bcall7_keep, bcall6_keep, bcall5_keep, bcall4_keep, bcall3_keep, bcall2_keep, bcall1_keep, bcall0_keep]
  · exact hn
  · rw [B0, bops0_keep _ main_v29_2 (by decide)]
    exact hI.w n h c e
theorem qd8 (h : Fin 8) : mt (B8 V main_while1b_v50) h = (H h).qd n := by
  funext c e
  show (B8 V main_while1b_v50 : S8x64x128.Idx → EReal) (ix3 h c e) = _
  simp (disch := decide) only [B8, bcall7_keep, bcall6_keep, bcall5_keep, bcall4_keep, bcall3_keep, bcall2_keep, bcall1_keep, bcall0_keep]
  refine (bcall3_at _ n ?_ h c e).trans ?_ <;> simp (disch := decide) only [bcall7_keep, bcall6_keep, bcall5_keep, bcall4_keep, bcall3_keep, bcall2_keep, bcall1_keep, bcall0_keep]
  · exact hn
  · rw [B0, bops0_keep _ main_v29_3 (by decide)]
    exact hI.qd n h c e
theorem v8 (h : Fin 8) : mt (B8 V main_while1b_v51) h = vn (H h) n := by
  funext c e
  show (B8 V main_while1b_v51 : S8x64x128.Idx → EReal) (ix3 h c e) = _
  simp (disch := decide) only [B8, bcall7_keep, bcall6_keep, bcall5_keep, bcall4_keep, bcall3_keep, bcall2_keep, bcall1_keep, bcall0_keep]
  refine (bcall4_at _ n ?_ h c e).trans ?_ <;> simp (disch := decide) only [bcall7_keep, bcall6_keep, bcall5_keep, bcall4_keep, bcall3_keep, bcall2_keep, bcall1_keep, bcall0_keep]
  · exact hn
  · rw [B0, bops0_keep _ main_v29_4 (by decide)]
    exact hI.v n h c e
theorem qk8 (h : Fin 8) : mq (B8 V main_while1b_v52) h = (H h).qk n := by
  funext c i
  show (B8 V main_while1b_v52 : S8x64x64.Idx → EReal) (ix3 h c i) = _
  simp (disch := decide) only [B8, bcall7_keep, bcall6_keep, bcall5_keep, bcall4_keep, bcall3_keep, bcall2_keep, bcall1_keep, bcall0_keep]
  refine (bcall5_at _ n ?_ h c i).trans ?_ <;> simp (disch := decide) only [bcall7_keep, bcall6_keep, bcall5_keep, bcall4_keep, bcall3_keep, bcall2_keep, bcall1_keep, bcall0_keep]
  · exact hn
  · rw [B0, bops0_keep _ main_v29_5 (by decide)]
    exact hI.qk n h c i
theorem kd8 (h : Fin 8) : mt (B8 V main_while1b_v54) h = (H h).kd n := by
  funext c e
  show (B8 V main_while1b_v54 : S8x64x128.Idx → EReal) (ix3 h c e) = _
  simp (disch := decide) only [B8, bcall7_keep, bcall6_keep, bcall5_keep, bcall4_keep, bcall3_keep, bcall2_keep, bcall1_keep, bcall0_keep]
  refine (bcall7_at _ n ?_ h c e).trans ?_ <;> simp (disch := decide) only [bcall7_keep, bcall6_keep, bcall5_keep, bcall4_keep, bcall3_keep, bcall2_keep, bcall1_keep, bcall0_keep]
  · exact hn
  · rw [B0, bops0_keep _ main_v29_7 (by decide)]
    exact hI.kd n h c e
theorem g8 (h : Fin 8) : (B8 V main_while1b_v53 : S8x1x1.Idx → EReal) (ix3 h 0 0) = (H h).g n := by
  simp (disch := decide) only [B8, bcall7_keep, bcall6_keep, bcall5_keep, bcall4_keep, bcall3_keep, bcall2_keep, bcall1_keep, bcall0_keep]
  refine (bcall6_at _ n ?_ h).trans ?_ <;> simp (disch := decide) only [bcall7_keep, bcall6_keep, bcall5_keep, bcall4_keep, bcall3_keep, bcall2_keep, bcall1_keep, bcall0_keep]
  · exact hn
  · rw [B0, bops0_keep _ main_v29_6 (by decide)]
    exact hI.g n h

include hD

theorem du9 (h : Fin 8) : mt (after bops1 (B8 V) main_while1b_v67) h = du (H h) n := by
  rw [du_eq, o'8 V n hn H hI, kd8 V n hn H hI, qk8 V n hn H hI, d8 V, hD]
  rfl
theorem du11 (h : Fin 8) : mt (B11 V main_while1b_v67) h = du (H h) n := by
  rw [B11, bops3_keep _ main_while1b_v67 (by decide), bops2_keep _ main_while1b_v67 (by decide)]
  exact du9 V n hn H hI hD h
theorem neg10 (h : Fin 8) : mt (after bops2 (after bops1 (B8 V)) main_while1b_v73) h = fun c e => -du (H h) n c e := by
  rw [neg_eq, du9 V n hn H hI hD]
theorem dw11 (h : Fin 8) (hH : (H h).IsReal) : mt (B11 V main_while1b_v77) h = dw (H h) n := by
  rw [B11, dw_eq, neg10 V n hn H hI hD, bops2_keep _ main_while1b_v48 (by decide), bops1_keep _ main_while1b_v48 (by decide), s8 V n hn H hI]
  funext c d
  exact (Spec.dw_eq hH n c d).symm
theorem dkd11 (h : Fin 8) : mt (B11 V main_while1b_v58) h = dkd (H h) n := by
  rw [B11, bops3_keep _ main_while1b_v58 (by decide), bops2_keep _ main_while1b_v58 (by decide), dkd_eq, v8 V n hn H hI, d8 V, hD]
  rfl
theorem dg11 (h : Fin 8) : (B11 V main_while1b_v64 : S8.Idx → EReal) (ix1 h) = dg (H h) n := by
  rw [B11, bops3_keep _ main_while1b_v64 (by decide), bops2_keep _ main_while1b_v64 (by decide), dg_eq, s8 V n hn H hI, d8 V, hD]
  rfl
theorem d11 (h : Fin 8) (hH : (H h).IsReal) : ms (B11 V main_while1b_v76) h = ds (H h) (127 - n.val + 1) := by
  rw [B11, dprev_eq, part_eq, neg10 V n hn H hI hD]
  rw [bops2_keep _ main_while1b_v49 (by decide), bops1_keep _ main_while1b_v49 (by decide), bops1_keep _ main_while1b_v50 (by decide),
    bops1_keep _ main_while1b_v47 (by decide), scaled_eq, w8 V n hn H hI, qd8 V n hn H hI, o'8 V n hn H hI, g8 V n hn H hI, d8 V, hD,
    Spec.ds_succ, ← Spec.dprevNeg_eq hH n]
  rfl
omit hD
theorem dqk11 (h : Fin 8) : mq (B11 V main_while1b_v68) h = dqk (H h) n := by
  rw [B11, bops3_keep _ main_while1b_v68 (by decide), dqk_eq, bops1_keep _ main_while1b_v47 (by decide), bops1_keep _ main_while1b_v51 (by decide),
    o'8 V n hn H hI, v8 V n hn H hI]
  rfl
theorem dqd11 (h : Fin 8) : mt (B11 V main_while1b_v72) h = dqd (H h) n := by
  rw [B11, bops3_keep _ main_while1b_v72 (by decide), dqd_eq, bops1_keep _ main_while1b_v47 (by decide), bops1_keep _ main_while1b_v48 (by decide),
    o'8 V n hn H hI, s8 V n hn H hI]
  rfl

/-! ### The stacks after the trip -/

include hD in
theorem trip_d (h : Fin 8) (hH : (H h).IsReal) : ms (afterL bbody V main_v29_9) h = ds (H h) (127 - n.val + 1) := by
  refine Eq.trans (congrArg (fun X => ms X h) ?_) (d11 V n hn H hI hD h hH)
  rw [bbody_B11, copy_d]
  simp (disch := decide) only [bcall13_keep, bcall12_keep, bcall11_keep, bcall10_keep, bcall9_keep, bcall8_keep]

include hD in
theorem trip_du (a : Fin 128) (h : Fin 8) (c : Fin 64) (e : Fin 128) : (afterL bbody V main_v29_10 : S128x8x64x128.Idx → EReal) (ix4 a h c e)
    = if a = n then du (H h) n c e else (V main_v29_10 : S128x8x64x128.Idx → EReal) (ix4 a h c e) := by
  rw [bbody_B11, copy_du]
  simp (disch := decide) only [bcall13_keep, bcall12_keep, bcall11_keep, bcall10_keep, bcall9_keep, bcall8_keep]
  refine (bcall8_at _ n ?_ a h c e).trans ?_
  · exact count11 V n hn
  · rw [B11_keep V main_v29_10 (by decide), B8_keep V main_v29_10 (by decide)]
    exact congrArg (fun x => if a = n then x else _) (congrFun (congrFun (du11 V n hn H hI hD h) c) e)
include hD in
theorem trip_dw (a : Fin 128) (h : Fin 8) (hH : (H h).IsReal) (c : Fin 64) (e : Fin 128) : (afterL bbody V main_v29_11 : S128x8x64x128.Idx → EReal) (ix4 a h c e)
    = if a = n then dw (H h) n c e else (V main_v29_11 : S128x8x64x128.Idx → EReal) (ix4 a h c e) := by
  rw [bbody_B11, copy_dw]
  simp (disch := decide) only [bcall13_keep, bcall12_keep, bcall11_keep, bcall10_keep, bcall9_keep, bcall8_keep]
  refine (bcall9_at _ n ?_ a h c e).trans ?_ <;> simp (disch := decide) only [bcall13_keep, bcall12_keep, bcall11_keep, bcall10_keep, bcall9_keep, bcall8_keep]
  · exact count11 V n hn
  · rw [B11_keep V main_v29_11 (by decide), B8_keep V main_v29_11 (by decide)]
    exact congrArg (fun x => if a = n then x else _) (congrFun (congrFun (dw11 V n hn H hI hD h hH) c) e)
theorem trip_dqk (a : Fin 128) (h : Fin 8) (c e : Fin 64) : (afterL bbody V main_v29_12 : S128x8x64x64.Idx → EReal) (ix4 a h c e)
    = if a = n then dqk (H h) n c e else (V main_v29_12 : S128x8x64x64.Idx → EReal) (ix4 a h c e) := by
  rw [bbody_B11, copy_dqk]
  simp (disch := decide) only [bcall13_keep, bcall12_keep, bcall11_keep, bcall10_keep, bcall9_keep, bcall8_keep]
  refine (bcall10_at _ n ?_ a h c e).trans ?_ <;> simp (disch := decide) only [bcall13_keep, bcall12_keep, bcall11_keep, bcall10_keep, bcall9_keep, bcall8_keep]
  · exact count11 V n hn
  · rw [B11_keep V main_v29_12 (by decide), B8_keep V main_v29_12 (by decide)]
    exact congrArg (fun x => if a = n then x else _) (congrFun (congrFun (dqk11 V n hn H hI h) c) e)
theorem trip_dqd (a : Fin 128) (h : Fin 8) (c : Fin 64) (e : Fin 128) : (afterL bbody V main_v29_13 : S128x8x64x128.Idx → EReal) (ix4 a h c e)
    = if a = n then dqd (H h) n c e else (V main_v29_13 : S128x8x64x128.Idx → EReal) (ix4 a h c e) := by
  rw [bbody_B11, copy_dqd]
  simp (disch := decide) only [bcall13_keep, bcall12_keep, bcall11_keep, bcall10_keep, bcall9_keep, bcall8_keep]
  refine (bcall11_at _ n ?_ a h c e).trans ?_ <;> simp (disch := decide) only [bcall13_keep, bcall12_keep, bcall11_keep, bcall10_keep, bcall9_keep, bcall8_keep]
  · exact count11 V n hn
  · rw [B11_keep V main_v29_13 (by decide), B8_keep V main_v29_13 (by decide)]
    exact congrArg (fun x => if a = n then x else _) (congrFun (congrFun (dqd11 V n hn H hI h) c) e)
include hD in
theorem trip_dkd (a : Fin 128) (h : Fin 8) (c : Fin 64) (e : Fin 128) : (afterL bbody V main_v29_14 : S128x8x64x128.Idx → EReal) (ix4 a h c e)
    = if a = n then dkd (H h) n c e else (V main_v29_14 : S128x8x64x128.Idx → EReal) (ix4 a h c e) := by
  rw [bbody_B11, copy_dkd]
  simp (disch := decide) only [bcall13_keep, bcall12_keep, bcall11_keep, bcall10_keep, bcall9_keep, bcall8_keep]
  refine (bcall12_at _ n ?_ a h c e).trans ?_ <;> simp (disch := decide) only [bcall13_keep, bcall12_keep, bcall11_keep, bcall10_keep, bcall9_keep, bcall8_keep]
  · exact count11 V n hn
  · rw [B11_keep V main_v29_14 (by decide), B8_keep V main_v29_14 (by decide)]
    exact congrArg (fun x => if a = n then x else _) (congrFun (congrFun (dkd11 V n hn H hI hD h) c) e)
include hD in
theorem trip_dg (a : Fin 128) (h : Fin 8) : (afterL bbody V main_v29_15 : S128x8.Idx → EReal) (ix2 a h)
    = if a = n then dg (H h) n else (V main_v29_15 : S128x8.Idx → EReal) (ix2 a h) := by
  rw [bbody_B11, copy_dg]
  refine (bcall13_at _ n ?_ a h).trans ?_ <;> simp (disch := decide) only [bcall13_keep, bcall12_keep, bcall11_keep, bcall10_keep, bcall9_keep, bcall8_keep]
  · exact count11 V n hn
  · rw [B11_keep V main_v29_15 (by decide), B8_keep V main_v29_15 (by decide)]
    exact congrArg (fun x => if a = n then x else _) (dg11 V n hn H hI hD h)

omit hn hI
include hn hI in
/-- A trip takes the scan one chunk further back. -/
theorem trip (hH : ∀ h, (H h).IsReal) (hO : Outs V H (127 - n.val)) : Outs (afterL bbody V) H (127 - n.val + 1) where
  d h := trip_d V n hn H hI hO.d h (hH h)
  du a h c e ha := by
    rw [trip_du V n hn H hI hO.d a h c e]
    split
    · next e' => rw [e']
    · next e' => exact hO.du a h c e (later ha e')
  dw a h c e ha := by
    rw [trip_dw V n hn H hI hO.d a h (hH h) c e]
    split
    · next e' => rw [e']
    · next e' => exact hO.dw a h c e (later ha e')
  dqk a h c e ha := by
    rw [trip_dqk V n hn H hI a h c e]
    split
    · next e' => rw [e']
    · next e' => exact hO.dqk a h c e (later ha e')
  dqd a h c e ha := by
    rw [trip_dqd V n hn H hI a h c e]
    split
    · next e' => rw [e']
    · next e' => exact hO.dqd a h c e (later ha e')
  dkd a h c e ha := by
    rw [trip_dkd V n hn H hI hO.d a h c e]
    split
    · next e' => rw [e']
    · next e' => exact hO.dkd a h c e (later ha e')
  dg a h ha := by
    rw [trip_dg V n hn H hI hO.d a h]
    split
    · next e' => rw [e']
    · next e' => exact hO.dg a h (later ha e')

end Trip

/-! ## All the trips -/

/-- The buffers the scan reads. -/
abbrev insR : List (Ref sig .tc) := [main_v29_0, main_v29_1, main_v29_2, main_v29_3, main_v29_4, main_v29_5, main_v29_6, main_v29_7]
/-- The buffers it hands on. -/
abbrev outsR : List (Ref sig .tc) := [main_v29_9, main_v29_10, main_v29_11, main_v29_12, main_v29_13, main_v29_14, main_v29_15]

theorem Ins.of_eq {V V' : Valuation τ sig (Elt Ideal)} {H : Fin 8 → Head} (hI : Ins V H)
    (h : ∀ r ∈ insR, V' (Proc.devRef .tc r) = V (Proc.devRef .tc r)) : Ins V' H where
  o' n k c e := (congrFun (h main_v29_0 (by decide)) _).trans (hI.o' n k c e)
  s n k d e := (congrFun (h main_v29_1 (by decide)) _).trans (hI.s n k d e)
  w n k c e := (congrFun (h main_v29_2 (by decide)) _).trans (hI.w n k c e)
  qd n k c e := (congrFun (h main_v29_3 (by decide)) _).trans (hI.qd n k c e)
  v n k c e := (congrFun (h main_v29_4 (by decide)) _).trans (hI.v n k c e)
  qk n k c i := (congrFun (h main_v29_5 (by decide)) _).trans (hI.qk n k c i)
  g n k := (congrFun (h main_v29_6 (by decide)) _).trans (hI.g n k)
  kd n k c e := (congrFun (h main_v29_7 (by decide)) _).trans (hI.kd n k c e)

theorem Outs.of_eq {V V' : Valuation τ sig (Elt Ideal)} {H : Fin 8 → Head} {j : ℕ} (hO : Outs V H j)
    (h : ∀ r ∈ outsR, V' (Proc.devRef .tc r) = V (Proc.devRef .tc r)) : Outs V' H j where
  d k := (congrArg (fun X => ms X k) (h main_v29_9 (by decide))).trans (hO.d k)
  du n k c e hj := (congrFun (h main_v29_10 (by decide)) _).trans (hO.du n k c e hj)
  dw n k c e hj := (congrFun (h main_v29_11 (by decide)) _).trans (hO.dw n k c e hj)
  dqk n k c e hj := (congrFun (h main_v29_12 (by decide)) _).trans (hO.dqk n k c e hj)
  dqd n k c e hj := (congrFun (h main_v29_13 (by decide)) _).trans (hO.dqd n k c e hj)
  dkd n k c e hj := (congrFun (h main_v29_14 (by decide)) _).trans (hO.dkd n k c e hj)
  dg n k hj := (congrFun (h main_v29_15 (by decide)) _).trans (hO.dg n k hj)

theorem keep_ins : ∀ r ∈ insR, r ∉ [main_while1c_c_28, main_while1c_v45] ∧ r ∉ bbody_W := by decide +kernel
theorem keep_outs : ∀ r ∈ outsR, r ∉ [main_while1c_c_28, main_while1c_v45] := by decide

variable (m : (ℓ : Loc nD τ sig) → Buf (Elt Ideal) ℓ) (c : Dev nD) (H : Fin 8 → Head) (hI : Ins (W1 m c) H)
  (h0 : ∀ h, ms (W1 m c main_v29_9) h = fun _ _ => 0) (hH : ∀ h, (H h).IsReal)
include hI h0 hH

/-- Before trip `j` the scan is `j` chunks on. -/
theorem outs_at : ∀ j, j ≤ 128 → Outs (bAt m j c) H j
  | 0, _ => ⟨h0, fun n _ _ _ h => absurd h (by have := n.isLt; omega), fun n _ _ _ h => absurd h (by have := n.isLt; omega), fun n _ _ _ h => absurd h (by have := n.isLt; omega),
      fun n _ _ _ h => absurd h (by have := n.isLt; omega), fun n _ _ _ h => absurd h (by have := n.isLt; omega), fun n _ h => absurd h (by have := n.isLt; omega)⟩
  | j + 1, hj => by
    obtain ⟨n, rfl⟩ : ∃ n : Fin 128, 127 - n.val = j := ⟨⟨127 - j, by omega⟩, by show 127 - (127 - j) = j; omega⟩
    rw [show bAt m (127 - n.val + 1) c = afterL bbody (after bcond (bAt m (127 - n.val) c)) from rfl]
    refine trip (after bcond (bAt m (127 - n.val) c)) n (chunk_eq _ n ?_) H (hI.of_eq fun r hr => ?_) hH
      ((outs_at (127 - n.val) (Nat.le_of_succ_le hj)).of_eq fun r hr => ?_)
    · rw [bcond_keep _ main_v29_8 (by decide), bAt_ctr]
    · rw [bcond_keep _ r (keep_ins r hr).1]
      exact bAt_keep m c r (keep_ins r hr).1 (keep_ins r hr).2 (127 - n.val)
    · exact bcond_keep _ r (keep_outs r hr)

/-- What the scan leaves. -/
theorem outs_end : Outs (after bcond (bAt m 128 c)) H 128 :=
  (outs_at m c H hI h0 hH 128 le_rfl).of_eq fun r hr => bcond_keep _ r (keep_outs r hr)

end Cert.ReferenceIdeal.LoopB

end
-- ==== Proof.RefVal.lean ====
/- What the reference computes. -/
module

public import proofs.«01_k».proof.Proof.RefLoopF
public import proofs.«01_k».proof.Proof.RefLoopB

@[expose] public section

set_option maxRecDepth 16384

noncomputable section

namespace Cert.ReferenceIdeal.Val

open Cert.ReferenceIdeal Cert.ReferenceIdeal.Gen Cert.ReferenceIdeal.Ops Cert.ReferenceIdeal.Run
open Cert.ReferenceIdeal.Step
open Idealize.ShloMosaic Idealize.ShloMosaic.TcCoe
open StableHlo
open Cert.Spec (Mat Head Rows Squares Gates Lanes row lane head rows squares lanes)

/-! ## Arrays as stacks of chunks -/

theorem rows_in (X : S8192x1024.Idx → EReal) (n : Fin 128) (h : Fin 8) (c : Fin 64) (e : Fin 128) :
    transpose S128x8x64x128 [0, 2, 1, 3] (shapeCast S128x64x8x128 X shapeCasts_S8192x1024_S128x64x8x128)
      transposes_S128x64x8x128_S128x8x64x128_0_2_1_3 (ix4 n h c e) = X (ix2 (row n c) (lane h e)) := by
  pointwise
  refine congrArg X ((ix2_inj ..).2 ⟨Fin.ext ?_, Fin.ext ?_⟩)
  · show n.val * 64 + c.val = 64 * n.val + c.val; omega
  · show h.val * 128 + e.val = 128 * h.val + e.val; omega
theorem squares_in (X : S8x8192x64.Idx → EReal) (n : Fin 128) (h : Fin 8) (c i : Fin 64) :
    transpose S128x8x64x64 [1, 0, 2, 3] (shapeCast S8x128x64x64 X shapeCasts_S8x8192x64_S8x128x64x64)
      transposes_S8x128x64x64_S128x8x64x64_1_0_2_3 (ix4 n h c i) = X (ix3 h (row n c) i) := by
  pointwise
  refine congrArg X ((ix3_inj ..).2 ⟨rfl, Fin.ext ?_, rfl⟩)
  show n.val * 64 + c.val = 64 * n.val + c.val; omega
theorem rows_out (X : S128x8x64x128.Idx → EReal) (n : Fin 128) (h : Fin 8) (c : Fin 64) (e : Fin 128) :
    shapeCast S8192x1024 (transpose S128x64x8x128 [0, 2, 1, 3] X transposes_S128x8x64x128_S128x64x8x128_0_2_1_3)
      shapeCasts_S128x64x8x128_S8192x1024 (ix2 (row n c) (lane h e)) = X (ix4 n h c e) := by
  pointwise
  have h1 := c.isLt; have h2 := e.isLt
  refine congrArg X ((ix4_inj ..).2 ⟨Fin.ext ?_, Fin.ext ?_, Fin.ext ?_, Fin.ext ?_⟩)
  · show (64 * n.val + c.val) / 64 = n.val; omega
  · show (128 * h.val + e.val) / 128 = h.val; omega
  · show (64 * n.val + c.val) % 64 = c.val; omega
  · show (128 * h.val + e.val) % 128 = e.val; omega
theorem squares_out (X : S128x8x64x64.Idx → EReal) (n : Fin 128) (h : Fin 8) (c i : Fin 64) :
    shapeCast S8x8192x64 (transpose S8x128x64x64 [1, 0, 2, 3] X transposes_S128x8x64x64_S8x128x64x64_1_0_2_3)
      shapeCasts_S8x128x64x64_S8x8192x64 (ix3 h (row n c) i) = X (ix4 n h c i) := by
  pointwise
  have h1 := c.isLt
  refine congrArg X ((ix4_inj ..).2 ⟨Fin.ext ?_, rfl, Fin.ext ?_, rfl⟩)
  · show (64 * n.val + c.val) / 64 = n.val; omega
  · show (64 * n.val + c.val) % 64 = c.val; omega
theorem lanes_out (X : S128x8.Idx → EReal) (a : Fin 4) (b : Fin 32) (h : Fin 8) (l : Fin 128) :
    shapeCast S4x32x8x128 (broadcastInDim S128x8x128 ![0, 1, 2] bcast_S128x8x1_S128x8x128_0_1_2 (broadcastInDim S128x8x1 ![0, 1] bcast_S128x8_S128x8x1_0_1 X))
      shapeCasts_S128x8x128_S4x32x8x128 (ix4 a b h l) = X (ix2 ⟨a.val * 32 + b.val, by have := a.isLt; have := b.isLt; omega⟩ h) := by
  pointwise

theorem zero_state (h : Fin 8) (d e : Fin 128) :
    broadcastInDim S8x128x128 ![] bcast_S_S8x128x128 (constant (F := Ideal) S_ .f32 0x00000000#32) (ix3 h d e) = (0 : EReal) := by
  pointwise!

/-! ## What the stretches between the scans make -/

section Stretches

variable (V : Valuation τ sig (Elt Ideal))

/-- Rows as a stack. -/
abbrev stack (X : S8192x1024.Idx → EReal) : S128x8x64x128.Idx → EReal :=
  transpose S128x8x64x128 [0, 2, 1, 3] (shapeCast S128x64x8x128 X shapeCasts_S8192x1024_S128x64x8x128) transposes_S128x64x8x128_S128x8x64x128_0_2_1_3
abbrev stackQ (X : S8x8192x64.Idx → EReal) : S128x8x64x64.Idx → EReal :=
  transpose S128x8x64x64 [1, 0, 2, 3] (shapeCast S8x128x64x64 X shapeCasts_S8x8192x64_S8x128x64x64) transposes_S8x128x64x64_S128x8x64x64_1_0_2_3
/-- A stack as rows. -/
abbrev flat (X : S128x8x64x128.Idx → EReal) : S8192x1024.Idx → EReal :=
  shapeCast S8192x1024 (transpose S128x64x8x128 [0, 2, 1, 3] X transposes_S128x8x64x128_S128x64x8x128_0_2_1_3) shapeCasts_S128x64x8x128_S8192x1024
abbrev flatQ (X : S128x8x64x64.Idx → EReal) : S8x8192x64.Idx → EReal :=
  shapeCast S8x8192x64 (transpose S8x128x64x64 [1, 0, 2, 3] X transposes_S128x8x64x64_S8x128x64x64_1_0_2_3) shapeCasts_S8x128x64x64_S8x8192x64
abbrev flatG (X : S128x8.Idx → EReal) : S4x32x8x128.Idx → EReal :=
  shapeCast S4x32x8x128 (broadcastInDim S128x8x128 ![0, 1, 2] bcast_S128x8x1_S128x8x128_0_1_2 (broadcastInDim S128x8x1 ![0, 1] bcast_S128x8_S128x8x1_0_1 X))
    shapeCasts_S128x8x128_S4x32x8x128

theorem m0_u : after mops0 V main_v18_0 = stack (V main_arg1) := by
  after_reads_simp
  rfl
theorem m0_w : after mops0 V main_v18_1 = stack (V main_arg2) := by
  after_reads_simp
  rfl
theorem m0_qk : after mops0 V main_v18_2 = stackQ (V main_arg5) := by
  after_reads_simp
  rfl
theorem m0_qd : after mops0 V main_v18_3 = stack (V main_arg3) := by
  after_reads_simp
  rfl
theorem m0_kd : after mops0 V main_v18_4 = stack (V main_arg4) := by
  after_reads_simp
  rfl
theorem m0_w3 : after mops0 V main_v3 = stack (V main_arg2) := by
  after_reads_simp
  rfl
theorem m0_qk6 : after mops0 V main_v6 = stackQ (V main_arg5) := by
  after_reads_simp
  rfl
theorem m0_qd9 : after mops0 V main_v9 = stack (V main_arg3) := by
  after_reads_simp
  rfl
theorem m0_kd12 : after mops0 V main_v12 = stack (V main_arg4) := by
  after_reads_simp
  rfl
theorem m0_g : after mops0 V main_v18_5 = V main_arg6 := by
  after_reads_simp
  rfl
theorem m0_s (h : Fin 8) : ms (after mops0 V main_v18_7) h = fun _ _ => 0 := by
  funext d e
  show (after mops0 V main_v18_7 : S8x128x128.Idx → EReal) (ix3 h d e) = (0 : EReal)
  after_reads_simp
  exact zero_state h d e
theorem m1_o : after mops1 V main_v29_0 = stack (V main_arg0) := by
  after_reads_simp
  rfl
theorem m1_d (h : Fin 8) : ms (after mops1 V main_v29_9) h = fun _ _ => 0 := by
  funext d e
  show (after mops1 V main_v29_9 : S8x128x128.Idx → EReal) (ix3 h d e) = (0 : EReal)
  after_reads_simp
  exact zero_state h d e
theorem m1_1 : after mops1 V main_v29_1 = V main_v18_9 := by
  after_reads_simp
  rfl
theorem m1_2 : after mops1 V main_v29_2 = V main_v3 := by
  after_reads_simp
  rfl
theorem m1_3 : after mops1 V main_v29_3 = V main_v9 := by
  after_reads_simp
  rfl
theorem m1_4 : after mops1 V main_v29_4 = V main_v18_10 := by
  after_reads_simp
  rfl
theorem m1_5 : after mops1 V main_v29_5 = V main_v6 := by
  after_reads_simp
  rfl
theorem m1_6 : after mops1 V main_v29_6 = V main_v18_11 := by
  after_reads_simp
  rfl
theorem m1_7 : after mops1 V main_v29_7 = V main_v12 := by
  after_reads_simp
  rfl
theorem m2_31 : after mops2 V main_v31 = flat (V main_v18_8) := by
  after_reads_simp
  rfl
theorem m2_33 : after mops2 V main_v33 = flat (V main_v29_10) := by
  after_reads_simp
  rfl
theorem m2_35 : after mops2 V main_v35 = flat (V main_v29_11) := by
  after_reads_simp
  rfl
theorem m2_37 : after mops2 V main_v37 = flat (V main_v29_13) := by
  after_reads_simp
  rfl
theorem m2_39 : after mops2 V main_v39 = flat (V main_v29_14) := by
  after_reads_simp
  rfl
theorem m2_41 : after mops2 V main_v41 = flatQ (V main_v29_12) := by
  after_reads_simp
  rfl
theorem m2_44 : after mops2 V main_v44 = flatG (V main_v29_15) := by
  after_reads_simp
  rfl

end Stretches

/-! ## The results -/

section Results

variable (m : (ℓ : Loc nD τ sig) → Buf (Elt Ideal) ℓ) (c : Dev nD)

/-- Core `c`'s argument. -/
abbrev arg (r : Ref sig .tc) : Buf (Elt Ideal) ((c.tc : Thread nD τ).loc r) := m ((c.tc : Thread nD τ).loc r)

/-- The heads of core `c`'s arguments. -/
abbrev hds (h : Fin 8) : Head :=
  head (arg m c main_arg0) (arg m c main_arg1) (arg m c main_arg2) (arg m c main_arg3) (arg m c main_arg4) (arg m c main_arg5) (arg m c main_arg6) h

theorem insF : LoopF.Ins (W0 m c) (hds m c) where
  u n h i e := (congrFun (m0_u (launchContents m c)) _).trans (rows_in _ n h i e)
  w n h i e := (congrFun (m0_w (launchContents m c)) _).trans (rows_in _ n h i e)
  qk n h i e := (congrFun (m0_qk (launchContents m c)) _).trans (squares_in _ n h i e)
  qd n h i e := (congrFun (m0_qd (launchContents m c)) _).trans (rows_in _ n h i e)
  kd n h i e := (congrFun (m0_kd (launchContents m c)) _).trans (rows_in _ n h i e)
  g n h := congrFun (m0_g (launchContents m c)) _

theorem outsF : LoopF.Outs (after fcond (fAt m 128 c)) (hds m c) 128 := LoopF.outs_end m c _ (insF m c) (m0_s (launchContents m c))

/-- What the first stretch leaves and the forward scan does not write. -/
theorem kept (r : Ref sig .tc) (hc : r ∉ [main_while0c_c_24, main_while0c_v45]) (hb : r ∉ fbody_W) :
    after fcond (fAt m 128 c) (Proc.devRef .tc r) = W0 m c (Proc.devRef .tc r) := by
  rw [fcond_keep _ r hc]
  exact fAt_keep m c r hc hb 128

theorem insB : LoopB.Ins (W1 m c) (hds m c) where
  o' n h i e := (congrFun (m1_o _) _).trans ((rows_in _ n h i e).trans (congrFun ((kept m c main_arg0 (by decide) (by decide +kernel)).trans
    (mops0_keep (launchContents m c) main_arg0 (by decide))) _))
  s n h d e := (congrFun (m1_1 _) _).trans ((outsF m c).ss n h d e n.isLt)
  w n h i e := (congrFun ((m1_2 _).trans ((kept m c main_v3 (by decide) (by decide +kernel)).trans (m0_w3 _))) _).trans (rows_in _ n h i e)
  qd n h i e := (congrFun ((m1_3 _).trans ((kept m c main_v9 (by decide) (by decide +kernel)).trans (m0_qd9 _))) _).trans (rows_in _ n h i e)
  v n h i e := (congrFun (m1_4 _) _).trans ((outsF m c).vs n h i e n.isLt)
  qk n h i e := (congrFun ((m1_5 _).trans ((kept m c main_v6 (by decide) (by decide +kernel)).trans (m0_qk6 _))) _).trans (squares_in _ n h i e)
  g n h := (congrFun (m1_6 _) _).trans ((outsF m c).gs n h n.isLt)
  kd n h i e := (congrFun ((m1_7 _).trans ((kept m c main_v12 (by decide) (by decide +kernel)).trans (m0_kd12 _))) _).trans (rows_in _ n h i e)

theorem res_o : W2 m c main_v31 = rows fun h n => Spec.out (hds m c h) n := by
  refine Spec.rows_ext _ _ fun h n i e => ?_
  refine (congrFun (m2_31 _) _).trans ((rows_out _ n h i e).trans ?_)
  refine (congrFun ((bcond_keep _ main_v18_8 (by decide)).trans ((bAt_keep m c main_v18_8 (by decide) (by decide +kernel) 128).trans
    (mops1_keep _ main_v18_8 (by decide)))) _).trans ?_
  exact (outsF m c).o n h i e n.isLt

variable (hH : ∀ h, (hds m c h).IsReal)
include hH

theorem outsB : LoopB.Outs (after bcond (bAt m 128 c)) (hds m c) 128 :=
  LoopB.outs_end m c _ (insB m c) (m1_d (after fcond (fAt m 128 c))) hH

omit hH in
theorem far (n : Fin 128) : 128 ≤ n.val + 128 := Nat.le_add_left ..

theorem res_du : W2 m c main_v33 = rows fun h n => Spec.du (hds m c h) n :=
  Spec.rows_ext _ _ fun h n i e => (congrFun (m2_33 _) _).trans ((rows_out _ n h i e).trans ((outsB m c hH).du n h i e (far n)))
theorem res_dw : W2 m c main_v35 = rows fun h n => Spec.dw (hds m c h) n :=
  Spec.rows_ext _ _ fun h n i e => (congrFun (m2_35 _) _).trans ((rows_out _ n h i e).trans ((outsB m c hH).dw n h i e (far n)))
theorem res_dqd : W2 m c main_v37 = rows fun h n => Spec.dqd (hds m c h) n :=
  Spec.rows_ext _ _ fun h n i e => (congrFun (m2_37 _) _).trans ((rows_out _ n h i e).trans ((outsB m c hH).dqd n h i e (far n)))
theorem res_dkd : W2 m c main_v39 = rows fun h n => Spec.dkd (hds m c h) n :=
  Spec.rows_ext _ _ fun h n i e => (congrFun (m2_39 _) _).trans ((rows_out _ n h i e).trans ((outsB m c hH).dkd n h i e (far n)))
theorem res_dqk : W2 m c main_v41 = squares fun h n => Spec.dqk (hds m c h) n :=
  Spec.squares_ext _ _ fun h n i e => (congrFun (m2_41 _) _).trans ((squares_out _ n h i e).trans ((outsB m c hH).dqk n h i e (far n)))
theorem res_dg : W2 m c main_v44 = lanes fun h n => Spec.dg (hds m c h) n :=
  Spec.lanes_ext _ _ fun a b h l => (congrFun (m2_44 _) _).trans ((lanes_out _ a b h l).trans ((outsB m c hH).dg _ h (far _)))

end Results

end Cert.ReferenceIdeal.Val

end
-- ==== Proof.RefEnd.lean ====
/- The reference's two-loop run as a whole, and what it leaves alone. -/
module

public import proofs.«01_k».proof.Proof.RefRun

@[expose] public section

set_option maxRecDepth 16384

noncomputable section

namespace Cert.ReferenceIdeal.Run

open Cert.ReferenceIdeal Cert.ReferenceIdeal.Gen Cert.ReferenceIdeal.Ops
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open StableHlo
open Idealize.ShloMosaic.Pipeline (CSeg Ticket ucRefs sub_ucRefs)

variable {F : FTy → Type} [FloatOps F]
variable (m : (ℓ : Loc nD τ sig) → Buf (Elt F) ℓ) (ρ : Dev nD → PrngReg)

-- the run needs no ghost state of its own
local notation "𝕄" => MT nD τ sig Unit (Elt F) ℕ (Option PUnit) ℕ

/-- No pipeline, so nothing to admit. -/
abbrev noAdm : (p : Fin 0) → (pcfgs (F := F) p).Adm := fun p => p.elim0
/-- No ticket either. -/
abbrev noTk : Fin 0 → Ticket (Ix := Unit) (Name := ℕ) (U := Option PUnit) (Lvl := ℕ) (nD := nD) (τ := τ) (pcfgs (F := F)) noAdm := fun j => j.elim0
/-- No signal is owed on any semaphore. -/
abbrev noL : GSem nD τ sig → Finset Unit := fun _ => ∅
abbrev noLv : GSem nD τ sig → Unit → ℕ := fun _ _ => 0
theorem noCells : Function.Injective (Pipeline.cellOf (nD := nD) (τ := τ) (Pipeline.pin (pcfgs (F := F)) noAdm)) := fun k => k.1.elim0

/-- What a core carries beside its buffers. -/
abbrev idle (c : Dev nD) : sProp 𝕄 := iprop(∃ W, owes (c : Thread nD τ) (0 : CellTallies nD τ sig Unit) W)

/-- A test's specification with the carried part beside it. -/
theorem with_idle {cond : Prog (TpuEff nD τ sig (Elt F) (HostLoop.Sig (Pipeline.Sig Λ₀ (Fin 0) fun p => (pcfgs (F := F) p).Adm) 2) .tc) (Elt F .i1)}
    {ops : List (HloOp τ sig (Elt F))} {body : List (List (HloOp τ sig (Elt F)))} {V : Dev nD → Valuation τ sig (Elt F)} {n : ℕ}
    (h : CondSpec (pcfgs (F := F)) defs₀ loops cond ops body V n) :
    LoopCond (pcfgs (F := F)) defs₀ Variants.none loops idle cond ops body V n := fun k hk c bd => by
  have hc := h k hk c bd
  have hp : ∀ v : Elt F .i1,
      iprop(iprop(⌜v = 1#1 ↔ k < n⌝ ∗ boundary (c : Thread nD τ) ∗ held (c : Thread nD τ) (ucRefs τ sig) (after ops (atTrip ops body V k c))) ∗ idle c)
        ⊢ (iprop(⌜v = 1#1 ↔ k < n⌝ ∗ boundary (c : Thread nD τ) ∗ held (c : Thread nD τ) (ucRefs τ sig) (after ops (atTrip ops body V k c)) ∗ idle c) : sProp 𝕄) := fun v => by
    iintro ⟨⟨%hv, Hb, Hh⟩, HR⟩
    isplitr
    · ipureintro; exact hv
    isplitl [Hb]
    · iexact Hb
    isplitl [Hh] <;> iassumption
  refine BIBase.Entails.trans ?_ (((sep_mono_left hc).trans (wp_frame_r _ _ _)).trans (wp_mono _ _ _ hp))
  iintro ⟨Hb, Hh, HR⟩
  isplitl [Hb Hh]
  · isplitl [Hb] <;> iassumption
  iexact HR

/-- The program cut at its two loops. -/
def segs : List (CSeg (pcfgs (F := F)) noAdm defs₀ Variants.none noL noLv loops noTk) :=
  segsOf _ _ _ _ _ _ _ _ idle [mops0] plain0 (launchContents m)
    ++ loopSeg _ _ _ _ _ _ _ _ 0 main_while0_cond main_while0_body rfl fcond fbody fplain fbody_chain 128 (W0 m) idle (with_idle (fcond_spec m))
      :: (segsOf _ _ _ _ _ _ _ _ idle [mops1] plain1 (fun c => after fcond (fAt m 128 c))
        ++ loopSeg _ _ _ _ _ _ _ _ 1 main_while1_cond main_while1_body rfl bcond bbody bplain bbody_chain 128 (W1 m) idle (with_idle (bcond_spec m))
          :: segsOf _ _ _ _ _ _ _ _ idle [mops2] plain2 (fun c => after bcond (bAt m 128 c)))

theorem segs_prog : (segs m).map CSeg.prog = [seq mops0, HostLoop.enter 0, seq mops1, HostLoop.enter 1, seq mops2] := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ idle c)) (segs m)
    (fun c => iprop(iprop(held (c : Thread nD τ) (ucRefs τ sig) (W2 m c)) ∗ ∃ W, owes (c : Thread nD τ) (0 : CellTallies nD τ sig Unit) W)) := by
  unfold segs
  exact CSeg.Chains.append (segsOf_chains _ _ _ _ _ _ _ _ idle [mops0] plain0 _)
    ⟨fun _ => .rfl, CSeg.Chains.append (segsOf_chains _ _ _ _ _ _ _ _ idle [mops1] plain1 _)
      ⟨fun _ => .rfl, segsOf_chains _ _ _ _ _ _ _ _ idle [mops2] plain2 _⟩⟩

/-- No semaphore outlives its scope: the program has none. -/
theorem all_scoped (g : GSem nD τ sig) : g.1.2 ≠ .tc ∨ g.2.isScoped .tc = true := by
  exact .inr ((by decide : ∀ s : SemLoc sig, s.isScoped .tc = true) g.2)

/-- From any memory with zero counters the program ends, with every buffer that outlives its scope at `W2` and every counter
    at zero. -/
theorem run_main : θ_run defs (onTc (τ := τ) (main (F := F))) ⟨m, fun _ => 0, ρ⟩
    (fun r => (∀ c : Dev nD, ∀ b ∈ ucRefs τ sig, r.2.mem ((c : Dev nD), b) = W2 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCells defs₀ Variants.none noL noLv loops noTk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]
        iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ idle c))
    (Tₙ := fun c => iprop(held (c : Thread nD τ) (ucRefs τ sig) (W2 m c)))
    (hch := segs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]
      · iexact Hh
      iexists ∅
      iexact HO)
    (QY := fun c s => ∀ b ∈ ucRefs τ sig, s.mem ((c : Dev nD), b) = W2 m c b)
    (hfin := fun c s' => by
      unfold held
      iintro ⟨Hh, HSI⟩
      ihave Hr := (pointsTo_read_all (ucRefs τ sig) (fun b => ((c : Dev nD), b)) (fun b => W2 m c b) s') $$ [Hh HSI]
      · isplitl [Hh] <;> iassumption
      icases Hr with ⟨%h, HSI⟩
      imodintro
      isplitr
      · ipureintro; exact h
      iexact HSI)
    (hQ := fun _ h hz => ⟨h, funext fun g => hz g (all_scoped g)⟩)

/-- The run read at references that outlive their scope. -/
theorem run_read : θ_run defs (onTc (τ := τ) (main (F := F))) ⟨m, fun _ => 0, ρ⟩
    (fun r => (∀ c : Dev nD, ∀ b : Ref sig .tc, (Proc.devRef .tc b : DevRef τ sig).isScoped = false → r.2.mem ((c.tc : Thread nD τ).loc b) = W2 m c (Proc.devRef .tc b))
      ∧ r.2.sem = fun _ => 0) :=
  (θ_run defs _ _).mono (fun _ h => ⟨fun c b hb => h.1 c _ (devRef_mem_ucRefs b hb), h.2⟩) (run_main m ρ)

/-- A buffer neither stretch nor loop writes ends as it began. -/
theorem W2_keep (c : Dev nD) (r : Ref sig .tc) (h0 : r ∉ mops0_W) (hf : r ∉ fbody_W) (h1 : r ∉ mops1_W) (hb : r ∉ bbody_W) (h2 : r ∉ mops2_W)
    (hc : r ∉ [main_while0c_c_24, main_while0c_v45]) (hd : r ∉ [main_while1c_c_28, main_while1c_v45]) :
    W2 m c (Proc.devRef .tc r) = m ((c.tc : Thread nD τ).loc r) := by
  show after mops2 (after bcond (bAt m 128 c)) (Proc.devRef .tc r) = _
  rw [mops2_keep _ _ h2, bcond_keep _ _ hd, bAt_keep m c r hd hb 128]
  show after mops1 (after fcond (fAt m 128 c)) (Proc.devRef .tc r) = _
  rw [mops1_keep _ _ h1, fcond_keep _ _ hc, fAt_keep m c r hc hf 128]
  show after mops0 (launchContents m c) (Proc.devRef .tc r) = _
  rw [mops0_keep _ _ h0]

/-- Every argument ends as it began. -/
theorem args_keep (r : PUnit × MemSt nD τ sig (Elt F))
    (h : ∀ c : Dev nD, ∀ b : Ref sig .tc, (Proc.devRef .tc b : DevRef τ sig).isScoped = false → r.2.mem ((c.tc : Thread nD τ).loc b) = W2 m c (Proc.devRef .tc b)) (c : Dev nD) :
    ∀ b ∈ [main_arg0, main_arg1, main_arg2, main_arg3, main_arg4, main_arg5, main_arg6], r.2.mem ((c.tc : Thread nD τ).loc b) = m ((c.tc : Thread nD τ).loc b) := by
  intro b hb
  fin_cases hb <;> exact (h c _ rfl).trans (W2_keep m c _ (by decide +kernel) (by decide +kernel) (by decide +kernel) (by decide +kernel) (by decide +kernel) (by decide +kernel) (by decide +kernel))

end Cert.ReferenceIdeal.Run

end
-- ==== Proof.Agree.lean ====
/- The kernel and the reference compute the same, at finite arguments. -/
module

public import proofs.«01_k».proof.Defs
public import proofs.«01_k».proof.Proof.Gen.KernelIdeal
public import proofs.«01_k».proof.Proof.Gen.ReferenceIdeal
public import proofs.«01_k».proof.Proof.Gen.Pre_finite
public import proofs.«01_k».proof.Proof.KerVal
public import proofs.«01_k».proof.Proof.RefVal
public import proofs.«01_k».proof.Proof.RefEnd

@[expose] public section

set_option maxRecDepth 16384

noncomputable section

namespace Cert.Agree

open Idealize.ShloMosaic Idealize.ShloMosaic.TcCoe Idealize.SL.Sem

/-- A value whose magnitude is below infinity is a real. -/
theorem real_of {x : EReal} (h : Ideal.cmp .olt (max x (-x)) (Ideal.ofBits .f32 0x7F800000#32) = 1#1) : Spec.IsReal x := by
  have htop : Ideal.ofBits .f32 0x7F800000#32 = ⊤ := by simp [Ideal.ofBits, Ideal.ieee]
  rw [htop, show (1#1 : BitVec 1) = 1 from rfl, Ideal.cmp_olt_eq_one, max_lt_iff] at h
  refine ⟨x.toReal, (EReal.coe_toReal h.1.ne fun e => ?_).symm⟩
  rw [e] at h
  exact absurd h.2 (by simp)

/-- Finite arguments have real heads. -/
theorem heads_real (m : (ℓ : Loc KernelIdeal.nD KernelIdeal.τ KernelIdeal.sig) → Buf (Elt Ideal) ℓ)
    (hm : Pre_KernelIdeal_finite (hPre_finite := Pre_finite.Gen.facts) m) (c : Dev KernelIdeal.nD) (h : Fin 8) : (KernelIdeal.Val.hds m c h).IsReal := by
  obtain ⟨h0, h1, h2, h3, h4, h5, h6⟩ := hm c
  exact {
    o' := fun n i e => real_of (congrFun h0 _)
    u := fun n i e => real_of (congrFun h1 _)
    w := fun n i e => real_of (congrFun h2 _)
    qd := fun n i e => real_of (congrFun h3 _)
    kd := fun n i e => real_of (congrFun h4 _)
    qk := fun n i e => real_of (congrFun h5 _)
    g := fun n => real_of (congrFun h6 _) }

/-- Equal arguments have equal heads. -/
theorem heads_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : ReferenceIdeal.Val.arg m' c ReferenceIdeal.main_arg0 = KernelIdeal.Val.arg m c KernelIdeal.main_arg0)
    (h1 : ReferenceIdeal.Val.arg m' c ReferenceIdeal.main_arg1 = KernelIdeal.Val.arg m c KernelIdeal.main_arg1)
    (h2 : ReferenceIdeal.Val.arg m' c ReferenceIdeal.main_arg2 = KernelIdeal.Val.arg m c KernelIdeal.main_arg2)
    (h3 : ReferenceIdeal.Val.arg m' c ReferenceIdeal.main_arg3 = KernelIdeal.Val.arg m c KernelIdeal.main_arg3)
    (h4 : ReferenceIdeal.Val.arg m' c ReferenceIdeal.main_arg4 = KernelIdeal.Val.arg m c KernelIdeal.main_arg4)
    (h5 : ReferenceIdeal.Val.arg m' c ReferenceIdeal.main_arg5 = KernelIdeal.Val.arg m c KernelIdeal.main_arg5)
    (h6 : ReferenceIdeal.Val.arg m' c ReferenceIdeal.main_arg6 = KernelIdeal.Val.arg m c KernelIdeal.main_arg6) :
    ReferenceIdeal.Val.hds m' c = KernelIdeal.Val.hds m c := by
  funext h
  unfold ReferenceIdeal.Val.hds KernelIdeal.Val.hds
  rw [h0, h1, h2, h3, h4, h5, h6]

theorem algebraic : Cert.algebraic_KernelIdeal_ReferenceIdeal_pre_finite (hKernelIdeal := KernelIdeal.Gen.facts)
    (hReferenceIdeal := ReferenceIdeal.Gen.facts) (hPre_finite := Pre_finite.Gen.facts) := by
  intro m g m' g' hm hsame
  have hE : ∀ c, ReferenceIdeal.Val.hds m' c = KernelIdeal.Val.hds m c := fun c => by
    obtain ⟨h0, h1, h2, h3, h4, h5, h6⟩ := hsame c
    exact heads_eq m m' c h0 h1 h2 h3 h4 h5 h6
  have hR := heads_real m hm
  have hR' : ∀ c h, (ReferenceIdeal.Val.hds m' c h).IsReal := fun c h => by rw [hE c]; exact hR c h
  refine ⟨fun c => Spec.rows fun h n => Spec.out (KernelIdeal.Val.hds m c h) n, fun c => Spec.rows fun h n => Spec.du (KernelIdeal.Val.hds m c h) n,
    fun c => Spec.rows fun h n => Spec.dw (KernelIdeal.Val.hds m c h) n, fun c => Spec.rows fun h n => Spec.dqd (KernelIdeal.Val.hds m c h) n,
    fun c => Spec.rows fun h n => Spec.dkd (KernelIdeal.Val.hds m c h) n, fun c => Spec.squares fun h n => Spec.dqk (KernelIdeal.Val.hds m c h) n,
    fun c => Spec.lanes fun h n => Spec.dg (KernelIdeal.Val.hds m c h) n, ?_, ?_⟩
  · refine (θ_run KernelIdeal.defs _ _).mono (fun r h c => ?_) (KernelIdeal.Run.run_read (F := Ideal) m g)
    have hk : ∀ b : Ref KernelIdeal.sig .tc, (Proc.devRef .tc b : DevRef KernelIdeal.τ KernelIdeal.sig).isScoped = false →
        b ∉ ([KernelIdeal.main_v4_0, KernelIdeal.main_v4_1, KernelIdeal.main_v4_2, KernelIdeal.main_v4_3, KernelIdeal.main_v4_4, KernelIdeal.main_v4_5,
          KernelIdeal.main_v3_0, KernelIdeal.main_v3_1] : List (Ref KernelIdeal.sig .tc)) → b ∉ KernelIdeal.Gen.hostOps0_W →
        r.2.mem ((c.tc : Thread KernelIdeal.nD KernelIdeal.τ).loc b) = m ((c.tc : Thread KernelIdeal.nD KernelIdeal.τ).loc b) :=
      fun b hb h1 h2 => (h.1 c b hb).trans (KernelIdeal.Run.A3_arg m c b h1 h2)
    exact ⟨(h.1 c _ rfl).trans (KernelIdeal.Val.res_o m c), (h.1 c _ rfl).trans (KernelIdeal.Val.res_du m c), (h.1 c _ rfl).trans (KernelIdeal.Val.res_dw m c),
      (h.1 c _ rfl).trans (KernelIdeal.Val.res_dqd m c), (h.1 c _ rfl).trans (KernelIdeal.Val.res_dkd m c), (h.1 c _ rfl).trans (KernelIdeal.Val.res_dqk m c),
      (h.1 c _ rfl).trans (KernelIdeal.Val.res_dg m c),
      hk _ rfl (by decide) (by decide), hk _ rfl (by decide) (by decide), hk _ rfl (by decide) (by decide), hk _ rfl (by decide) (by decide),
      hk _ rfl (by decide) (by decide), hk _ rfl (by decide) (by decide), hk _ rfl (by decide) (by decide)⟩
  · refine (θ_run ReferenceIdeal.defs _ _).mono (fun r h c => ?_) (ReferenceIdeal.Run.run_read (F := Ideal) m' g')
    have hk := ReferenceIdeal.Run.args_keep m' r h.1 c
    have e := hE c
    refine ⟨(h.1 c _ rfl).trans ((ReferenceIdeal.Val.res_o m' c).trans ?_), (h.1 c _ rfl).trans ((ReferenceIdeal.Val.res_du m' c (hR' c)).trans ?_),
      (h.1 c _ rfl).trans ((ReferenceIdeal.Val.res_dw m' c (hR' c)).trans ?_), (h.1 c _ rfl).trans ((ReferenceIdeal.Val.res_dqd m' c (hR' c)).trans ?_),
      (h.1 c _ rfl).trans ((ReferenceIdeal.Val.res_dkd m' c (hR' c)).trans ?_), (h.1 c _ rfl).trans ((ReferenceIdeal.Val.res_dqk m' c (hR' c)).trans ?_),
      (h.1 c _ rfl).trans ((ReferenceIdeal.Val.res_dg m' c (hR' c)).trans ?_),
      hk _ (by decide), hk _ (by decide), hk _ (by decide), hk _ (by decide), hk _ (by decide), hk _ (by decide), hk _ (by decide)⟩ <;> rw [e]

end Cert.Agree

end
-- ==== Proof.MlpSpec.lean ====
/- The layer in plain terms, row by row, over the extended reals: its values, its loss and its gradients, as the kernel
   spells them; and where the reference spells them otherwise, that over the reals it is the same. -/
module

public import proofs.«01_k».proof.Proof.Spec

@[expose] public section

set_option maxRecDepth 16384

noncomputable section

namespace Cert.Mlp

open Idealize.ShloMosaic
open Cert.Spec (IsReal)

/-! ## The constants -/

abbrev half : EReal := Ideal.ofBits .f32 0x3F000000#32
abbrev two : EReal := Ideal.ofBits .f32 0x40000000#32
abbrev mhalf : EReal := Ideal.ofBits .f32 0xBF000000#32
abbrev root2 : EReal := Ideal.ofBits .f32 0x3FB504F3#32
abbrev width : EReal := Ideal.ofBits .f32 0x44800000#32
abbrev invw : EReal := Ideal.ofBits .f32 0x3A800000#32
abbrev eps : EReal := Ideal.ofBits .f32 0x3727C5AC#32

theorem half_eq : half = ((1 / 2 : ℝ) : EReal) := by
  simp [Ideal.ofBits, Ideal.ieee]; norm_num; rw [← EReal.coe_mul]; norm_num
theorem two_eq : two = ((2 : ℝ) : EReal) := by
  simp [Ideal.ofBits, Ideal.ieee]; norm_num; rw [← EReal.coe_mul]; norm_num
theorem mhalf_eq : mhalf = ((-(1 / 2) : ℝ) : EReal) := by
  simp [Ideal.ofBits, Ideal.ieee]; norm_num; rw [← EReal.coe_mul]; norm_num
theorem width_eq : width = ((1024 : ℝ) : EReal) := by
  simp [Ideal.ofBits, Ideal.ieee]; norm_num; rw [← EReal.coe_mul]; norm_num
theorem invw_eq : invw = ((1 / 1024 : ℝ) : EReal) := by
  simp [Ideal.ofBits, Ideal.ieee]; norm_num; rw [← EReal.coe_mul]; norm_num
theorem eps_pos : ∃ e : ℝ, 0 < e ∧ eps = (e : EReal) := by
  refine ⟨_, ?_, show eps = _ from rfl⟩
  simp
theorem root2_real : IsReal root2 := ⟨_, rfl⟩

/-! ## One row's statistics -/

abbrev Row : Type := Fin 1024 → EReal

def mean (v : Row) : EReal := Ideal.div (∑ x, v x) width
def cen (v : Row) : Row := fun d => v d - mean v
def spread (v : Row) : EReal := mean (fun d => cen v d * cen v d) + eps
def rstd (v : Row) : EReal := Ideal.rsqrt (spread v)
def norm (v : Row) : Row := fun d => cen v d * rstd v
/-- The normalization's gradient, from the result's normalized row, its deviation's inverse and the scaled gradient. -/
def back (g xh : Row) (rs : EReal) : Row := fun d => rs * (g d - mean g - xh d * mean (fun x => g x * xh x))

/-- The same as differentiation spells it. -/
def varBack (v g : Row) : Row := fun d =>
  Ideal.div ((∑ x, cen v x * g x) * (mhalf * Ideal.div (rstd v) (spread v))) width * (two * cen v d)
def autoBack (v g : Row) : Row := fun d =>
  g d * rstd v + varBack v g d + Ideal.div ((∑ x, -(g x * rstd v)) + ∑ x, -(varBack v g x)) width

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_div {x : EReal} {y : ℝ} (hy : y ≠ 0) (hx : IsReal x) : IsReal (Ideal.div x y) := by
  rw [Ideal.div_coe hy]; exact hx.mul ⟨_, rfl⟩
theorem div_real (x y : ℝ) (hy : y ≠ 0) : Ideal.div (x : EReal) (y : EReal) = ((x / y : ℝ) : EReal) := by
  rw [Ideal.div_coe hy, ← EReal.coe_mul, mul_one_div]
theorem real_width {x : EReal} (hx : IsReal x) : IsReal (Ideal.div x width) := by
  rw [width_eq]; exact real_div (by norm_num) hx
theorem coe_width (x : ℝ) : Ideal.div (x : EReal) width = ((x / 1024 : ℝ) : EReal) := by
  rw [width_eq]; exact div_real _ _ (by norm_num)
theorem mean_coe (f : Fin 1024 → ℝ) : mean (fun d => (f d : EReal)) = (((∑ x, f x) / 1024 : ℝ) : EReal) := by
  unfold mean; rw [← coe_sum, coe_width]
theorem real_mean {v : Row} (h : ∀ d, IsReal (v d)) : IsReal (mean v) := real_width (.sum _ h)
theorem real_cen {v : Row} (h : ∀ d, IsReal (v d)) (d : Fin 1024) : IsReal (cen v d) := (h d).sub (real_mean h)

/-- A real row in plain numbers: its centred entries, that they cancel, and its inverse deviation. -/
theorem stats {v : Row} (h : ∀ d, IsReal (v d)) : ∃ (c : Fin 1024 → ℝ) (V R : ℝ), (∀ d, cen v d = (c d : EReal)) ∧ ∑ x, c x = 0
    ∧ spread v = (V : EReal) ∧ rstd v = (R : EReal) ∧ V ≠ 0 ∧ R * R * V = 1 := by
  choose f hf using h
  obtain rfl : v = fun d => (f d : EReal) := funext hf
  obtain ⟨e, he, heq⟩ := eps_pos
  have hc : ∀ d, cen (fun d => (f d : EReal)) d = ((f d - (∑ x, f x) / 1024 : ℝ) : EReal) := fun d => by
    unfold cen; rw [mean_coe, ← EReal.coe_sub]
  have hs : spread (fun d => (f d : EReal))
      = (((∑ x, (f x - (∑ y, f y) / 1024) * (f x - (∑ y, f y) / 1024)) / 1024 + e : ℝ) : EReal) := by
    unfold spread
    rw [show (fun d => cen (fun d => (f d : EReal)) d * cen (fun d => (f d : EReal)) d)
      = fun d => (((f d - (∑ y, f y) / 1024) * (f d - (∑ y, f y) / 1024) : ℝ) : EReal) from funext fun d => by rw [hc, ← EReal.coe_mul],
      mean_coe, heq, ← EReal.coe_add]
  have hp : 0 < (∑ x, (f x - (∑ y, f y) / 1024) * (f x - (∑ y, f y) / 1024)) / 1024 + e :=
    add_pos_of_nonneg_of_pos (div_nonneg (Finset.sum_nonneg fun x _ => mul_self_nonneg _) (by norm_num)) he
  refine ⟨_, _, (Real.sqrt ((∑ x, (f x - (∑ y, f y) / 1024) * (f x - (∑ y, f y) / 1024)) / 1024 + e))⁻¹, hc, ?_, hs, ?_, hp.ne', ?_⟩
  · rw [Finset.sum_sub_distrib, Finset.sum_const, Finset.card_univ, Fintype.card_fin]
    simp only [nsmul_eq_mul]; push_cast; ring
  · unfold rstd; rw [hs, Ideal.rsqrt_coe, if_neg (not_lt.2 hp.le), if_neg hp.ne']
  · have := Real.mul_self_sqrt hp.le
    rw [← mul_inv, this, inv_mul_cancel₀ hp.ne']

theorem real_rstd {v : Row} (h : ∀ d, IsReal (v d)) : IsReal (rstd v) := by
  obtain ⟨c, V, R, -, -, -, hR, -, -⟩ := stats h; exact ⟨R, hR⟩
theorem real_norm {v : Row} (h : ∀ d, IsReal (v d)) (d : Fin 1024) : IsReal (norm v d) := (real_cen h d).mul (real_rstd h)

/-- Differentiation's spelling and the kernel's agree. -/
theorem autoBack_eq {v g : Row} (h : ∀ d, IsReal (v d)) (hg : ∀ d, IsReal (g d)) (d : Fin 1024) :
    autoBack v g d = back g (norm v) (rstd v) d := by
  obtain ⟨c, V, R, hc, h0, hV, hR, hn, h1⟩ := stats h
  choose f hf using hg
  have hB : ∀ x, varBack v g x = ((((∑ y, c y * f y) * (-(1 / 2) * (R / V))) / 1024 * (2 * c x) : ℝ) : EReal) := fun x => by
    unfold varBack
    rw [hR, hV, mhalf_eq, two_eq, hc x, div_real _ _ hn, ← EReal.coe_mul, ← EReal.coe_mul,
      show ∑ x, cen v x * g x = ((∑ y, c y * f y : ℝ) : EReal) by
        rw [coe_sum]; exact Finset.sum_congr rfl fun y _ => by rw [hc, hf, EReal.coe_mul],
      ← EReal.coe_mul, coe_width, ← EReal.coe_mul]
  have hL : autoBack v g d = ((f d * R + ((∑ y, c y * f y) * (-(1 / 2) * (R / V))) / 1024 * (2 * c d)
      + ((∑ x, -(f x * R)) + ∑ x, -(((∑ y, c y * f y) * (-(1 / 2) * (R / V))) / 1024 * (2 * c x))) / 1024 : ℝ) : EReal) := by
    unfold autoBack
    rw [hR, hf d, hB d,
      show ∑ x, -(g x * (R : EReal)) = ((∑ x, -(f x * R) : ℝ) : EReal) by
        rw [coe_sum]; exact Finset.sum_congr rfl fun y _ => by rw [hf, EReal.coe_neg, EReal.coe_mul],
      show ∑ x, -(varBack v g x) = ((∑ x, -(((∑ y, c y * f y) * (-(1 / 2) * (R / V))) / 1024 * (2 * c x)) : ℝ) : EReal) by
        rw [coe_sum]; exact Finset.sum_congr rfl fun y _ => by rw [hB, EReal.coe_neg],
      ← EReal.coe_add, coe_width, ← EReal.coe_mul, ← EReal.coe_add, ← EReal.coe_add]
  have hK : back g (norm v) (rstd v) d
      = ((R * (f d - (∑ x, f x) / 1024 - c d * R * ((∑ x, f x * (c x * R)) / 1024)) : ℝ) : EReal) := by
    unfold back
    rw [show (fun x => g x * norm v x) = fun x => ((f x * (c x * R) : ℝ) : EReal) from funext fun x => by
        unfold norm; rw [hf, hc, hR, ← EReal.coe_mul, ← EReal.coe_mul], mean_coe,
      show mean g = (((∑ x, f x) / 1024 : ℝ) : EReal) by rw [show g = fun x => (f x : EReal) from funext hf, mean_coe]]
    unfold norm
    rw [hf, hc, hR, ← EReal.coe_mul, ← EReal.coe_mul, ← EReal.coe_sub, ← EReal.coe_sub, ← EReal.coe_mul]
  rw [hL, hK]
  refine congrArg _ ?_
  have e1 : ∑ x, -(f x * R) = -(∑ x, f x) * R := by
    rw [Finset.sum_neg_distrib, ← Finset.sum_mul, neg_mul]
  have e2 : ∑ x, -(((∑ y, c y * f y) * (-(1 / 2) * (R / V))) / 1024 * (2 * c x)) = 0 := by
    rw [Finset.sum_neg_distrib, ← Finset.mul_sum, ← Finset.mul_sum, h0]; ring
  have e3 : ∑ x, f x * (c x * R) = (∑ y, c y * f y) * R := by
    rw [Finset.sum_mul]; exact Finset.sum_congr rfl fun x _ => by ring
  have e4 : R / V = R * R * R := by
    rw [div_eq_iff hn]; linear_combination -R * h1
  rw [e1, e2, e3, e4]
  ring

theorem real_back {g xh : Row} {rs : EReal} (hg : ∀ d, IsReal (g d)) (hx : ∀ d, IsReal (xh d)) (hr : IsReal rs) (d : Fin 1024) :
    IsReal (back g xh rs d) :=
  hr.mul (((hg d).sub (real_mean hg)).sub ((hx d).mul (real_mean fun x => (hg x).mul (hx x))))

/-! ## The gate -/

def gate (z : EReal) : EReal := half * Ideal.tanh (half * z) + half

theorem real_gate {z : EReal} (h : IsReal z) : IsReal (gate z) := by
  obtain ⟨r, rfl⟩ := h
  unfold gate
  rw [half_eq, ← EReal.coe_mul, Ideal.tanh_coe, ← EReal.coe_mul, ← EReal.coe_add]
  exact ⟨_, rfl⟩

/-- The gate is the logistic function. -/
theorem gate_eq {z : EReal} (h : IsReal z) : Ideal.div 1 (1 + Ideal.exp (-z)) = gate z := by
  obtain ⟨r, rfl⟩ := h
  unfold gate
  have hp : (0 : ℝ) < 1 + Real.exp (-r) := by positivity
  rw [half_eq, ← EReal.coe_mul, Ideal.tanh_coe, ← EReal.coe_mul, ← EReal.coe_add, ← EReal.coe_neg, Ideal.exp_coe, ← EReal.coe_one,
    ← EReal.coe_add, div_real _ _ hp.ne']
  refine congrArg _ ?_
  rw [Real.tanh_eq_sinh_div_cosh, Real.sinh_eq, Real.cosh_eq]
  have e : Real.exp (-r) = Real.exp (-(1 / 2 * r)) * Real.exp (-(1 / 2 * r)) := by rw [← Real.exp_add]; congr 1; ring
  have i : Real.exp (1 / 2 * r) * Real.exp (-(1 / 2 * r)) = 1 := by rw [← Real.exp_add]; simp
  rw [e]
  have p1 := Real.exp_pos (1 / 2 * r)
  have p2 := Real.exp_pos (-(1 / 2 * r))
  generalize Real.exp (1 / 2 * r) = a at *
  generalize Real.exp (-(1 / 2 * r)) = b at *
  rw [div_eq_iff (by positivity)]
  field_simp
  linear_combination -2 * b * i

/-! ## The hidden values' gradient -/

theorem coe_max0 (r : ℝ) : max (r : EReal) ((0 : ℝ) : EReal) = ((max r 0 : ℝ) : EReal) :=
  (EReal.coe_strictMono.monotone.map_max).symm

theorem sqrt_sq {x : EReal} (h : IsReal x) : Ideal.sqrt (max x 0 * max x 0) = max x 0 := by
  obtain ⟨r, rfl⟩ := h
  rw [← EReal.coe_zero, coe_max0, ← EReal.coe_mul, Ideal.sqrt_coe, if_neg (not_lt.2 (mul_self_nonneg _)),
    Real.sqrt_mul_self (le_max_right _ _)]

/-- Twice the activation's root is the activation's slope, and the slope is zero where the activation is flat. -/
theorem slope {x : EReal} (h : IsReal x) (y : EReal) :
    (if 0 < x then y * (two * max x 0) else 0) = y * (two * Ideal.sqrt (max x 0 * max x 0)) := by
  rw [sqrt_sq h]
  split
  · rfl
  · next hx => rw [max_eq_right (not_lt.1 hx), mul_zero, mul_zero]

/-! ## The layer -/

/-- The layer's inputs; the hidden weights in their four parts. -/
structure Args where
  X : Fin 8192 → Row
  P : Fin 8192 → Fin 256 → EReal
  W1 : Fin 4 → Fin 1024 → Row
  W2 : Fin 4 → Fin 1024 → Row
  GW : Fin 1024 → Row
  GB : Row
  PJ : Fin 256 → Row
  GN : Row
  BS : Row
  T : Fin 8192 → Row

/-- Finite inputs. -/
structure Args.IsReal (A : Args) : Prop where
  X : ∀ s k, Spec.IsReal (A.X s k)
  P : ∀ s k, Spec.IsReal (A.P s k)
  W1 : ∀ j k f, Spec.IsReal (A.W1 j k f)
  W2 : ∀ j f d, Spec.IsReal (A.W2 j f d)
  GW : ∀ k d, Spec.IsReal (A.GW k d)
  GB : ∀ d, Spec.IsReal (A.GB d)
  PJ : ∀ k d, Spec.IsReal (A.PJ k d)
  GN : ∀ d, Spec.IsReal (A.GN d)
  BS : ∀ d, Spec.IsReal (A.BS d)
  T : ∀ s d, Spec.IsReal (A.T s d)

abbrev Big (a b : ℕ) : Type := (⟨2, ![a, b]⟩ : Shape).Idx → EReal
abbrev Stack (a b c : ℕ) : Type := (⟨3, ![a, b, c]⟩ : Shape).Idx → EReal

/-- A number's part of `b` and its place there. -/
def hi {n : ℕ} (a b : ℕ) (h : n = a * b) (k : Fin n) : Fin a :=
  ⟨k.val / b, Nat.div_lt_of_lt_mul (Nat.lt_of_lt_of_eq k.isLt (h.trans (Nat.mul_comm a b)))⟩
def lo {n : ℕ} (a b : ℕ) (h : n = a * b) (k : Fin n) : Fin b :=
  ⟨k.val % b, Nat.mod_lt _ (Nat.pos_of_ne_zero fun e => Nat.not_lt_zero _ (Nat.lt_of_lt_of_eq k.isLt (by rw [h, e, Nat.mul_zero])))⟩

/-- The inputs read from the arrays. -/
def args (X : Big 8192 1024) (P : Big 8192 256) (W1 W2 : Stack 4 1024 1024) (GW : Stack 4 256 1024) (GB : Big 1 1024)
    (PJ : Stack 4 256 256) (GN BS : Big 1 1024) (T : Big 8192 1024) : Args where
  X s k := X (ix2 s k)
  P s k := P (ix2 s k)
  W1 j k f := W1 (ix3 j k f)
  W2 j f d := W2 (ix3 j f d)
  GW k d := GW (ix3 (hi 4 256 rfl k) (lo 4 256 rfl k) d)
  GB d := GB (ix2 0 d)
  PJ k d := PJ (ix3 (hi 4 256 rfl d) k (lo 4 256 rfl d))
  GN d := GN (ix2 0 d)
  BS d := BS (ix2 0 d)
  T s d := T (ix2 s d)

variable (A : Args)

/-- Results as arrays. -/
def big (f : Fin 8192 → Row) : Big 8192 1024 := fun i => f (i 0) (i 1)
def wide (f : Fin 8192 → Fin 4 → Row) : Big 8192 4096 := fun i => f (i 0) (hi 4 1024 rfl (i 1)) (lo 4 1024 rfl (i 1))
def line (f : Row) : Big 1 1024 := fun i => f (i 1)

theorem sum_parts (f : Fin 4096 → EReal) (g : Fin 4 → Row) (h : ∀ n, f n = g (hi 4 1024 rfl n) (lo 4 1024 rfl n)) :
    ∑ n, f n = ∑ j, ∑ k, g j k := by
  rw [Fin.sum_univ_tiles 4 1024 rfl]
  refine Finset.sum_congr rfl fun j _ => Finset.sum_congr rfl fun k _ => (h _).trans ?_
  have hj := j.isLt
  have hk := k.isLt
  refine congrArg₂ g (Fin.ext ?_) (Fin.ext ?_)
  · show (j.val * 1024 + k.val) / 1024 = j.val; omega
  · show (j.val * 1024 + k.val) % 1024 = k.val; omega

def hid (s : Fin 8192) (j : Fin 4) (f : Fin 1024) : EReal := ∑ k, A.X s k * A.W1 j k f
def act (s : Fin 8192) (j : Fin 4) (f : Fin 1024) : EReal := max (hid A s j f) 0 * max (hid A s j f) 0
def zed (s : Fin 8192) (d : Fin 1024) : EReal := ∑ k, A.X s k * A.GW k d + A.GB d
def sg (s : Fin 8192) (d : Fin 1024) : EReal := gate (zed A s d)
def em (s : Fin 8192) (d : Fin 1024) : EReal := ∑ k, A.P s k * A.PJ k d
def base (s : Fin 8192) (d : Fin 1024) : EReal := root2 * A.X s d + sg A s d * em A s d
def ff (s : Fin 8192) (j : Fin 4) (d : Fin 1024) : EReal := ∑ f, act A s j f * A.W2 j f d
def pre (s : Fin 8192) : Row := fun d => base A s d + ∑ j, ff A s j d
def xh (s : Fin 8192) : Row := norm (pre A s)
def rs (s : Fin 8192) : EReal := rstd (pre A s)
def df (s : Fin 8192) (d : Fin 1024) : EReal := xh A s d * A.GN d + A.BS d - A.T s d
def dy (s : Fin 8192) (d : Fin 1024) : EReal := df A s d * invw
def sq (s : Fin 8192) : EReal := mean (fun d => df A s d * df A s d)
def scaled (s : Fin 8192) : Row := fun d => dy A s d * A.GN d
def dr (s : Fin 8192) : Row := back (scaled A s) (xh A s) (rs A s)
def dz (s : Fin 8192) (d : Fin 1024) : EReal := dr A s d * em A s d * sg A s d * (1 - sg A s d)
def de (s : Fin 8192) (d : Fin 1024) : EReal := dr A s d * sg A s d
def dh (s : Fin 8192) (j : Fin 4) (f : Fin 1024) : EReal := (∑ d, dr A s d * A.W2 j f d) * (two * Ideal.sqrt (act A s j f))
def dx0 (s : Fin 8192) (d : Fin 1024) : EReal := root2 * dr A s d + ∑ e, dz A s e * A.GW d e
def dxPart (s : Fin 8192) (j : Fin 4) (d : Fin 1024) : EReal := ∑ f, dh A s j f * A.W1 j d f
def dx (s : Fin 8192) (d : Fin 1024) : EReal := dx0 A s d + ∑ j, dxPart A s j d
def dgain (d : Fin 1024) : EReal := ∑ s, dy A s d * xh A s d
def dbias (d : Fin 1024) : EReal := ∑ s, dy A s d
def dgb (d : Fin 1024) : EReal := ∑ s, dz A s d
/-- The row a tile's `r`-th row is. -/
def trow (n : ℕ) (r : Fin 512) : Fin 8192 := ⟨(512 * n + r.val) % 8192, Nat.mod_lt _ (by decide)⟩
def loss : EReal := ∑ i : Fin 16, half * ∑ r : Fin 512, sq A (trow i.val r)

section Real

variable {A} (h : A.IsReal)
include h

theorem real_hid (s : Fin 8192) (j : Fin 4) (f : Fin 1024) : IsReal (hid A s j f) := .sum _ fun k => (h.X s k).mul (h.W1 j k f)
theorem real_max {x : EReal} (h : IsReal x) : IsReal (max x 0) := by
  obtain ⟨r, rfl⟩ := h; rw [← EReal.coe_zero, coe_max0]; exact ⟨_, rfl⟩
theorem real_act (s : Fin 8192) (j : Fin 4) (f : Fin 1024) : IsReal (act A s j f) :=
  (real_max h (real_hid h s j f)).mul (real_max h (real_hid h s j f))
theorem real_zed (s : Fin 8192) (d : Fin 1024) : IsReal (zed A s d) := (IsReal.sum _ fun k => (h.X s k).mul (h.GW k d)).add (h.GB d)
theorem real_sg (s : Fin 8192) (d : Fin 1024) : IsReal (sg A s d) := real_gate (real_zed h s d)
theorem real_em (s : Fin 8192) (d : Fin 1024) : IsReal (em A s d) := .sum _ fun k => (h.P s k).mul (h.PJ k d)
theorem real_pre (s : Fin 8192) (d : Fin 1024) : IsReal (pre A s d) :=
  ((root2_real.mul (h.X s d)).add ((real_sg h s d).mul (real_em h s d))).add
    (.sum _ fun j => .sum _ fun f => (real_act h s j f).mul (h.W2 j f d))
theorem real_xh (s : Fin 8192) (d : Fin 1024) : IsReal (xh A s d) := real_norm (real_pre h s) d
theorem real_df (s : Fin 8192) (d : Fin 1024) : IsReal (df A s d) := (((real_xh h s d).mul (h.GN d)).add (h.BS d)).sub (h.T s d)
theorem real_dy (s : Fin 8192) (d : Fin 1024) : IsReal (dy A s d) := (real_df h s d).mul ⟨_, invw_eq⟩
theorem real_sq (s : Fin 8192) : IsReal (sq A s) := real_mean fun d => (real_df h s d).mul (real_df h s d)
theorem real_scaled (s : Fin 8192) (d : Fin 1024) : IsReal (scaled A s d) := (real_dy h s d).mul (h.GN d)

/-- The loss's gradient as differentiation spells it. -/
theorem dy_eq (s : Fin 8192) (d : Fin 1024) : Ideal.div (half * 1) width * (two * df A s d) = dy A s d := by
  obtain ⟨r, hr⟩ := real_df h s d
  unfold dy
  rw [hr, mul_one, half_eq, coe_width, two_eq, invw_eq, ← EReal.coe_mul, ← EReal.coe_mul, ← EReal.coe_mul]
  refine congrArg _ ?_
  ring

/-- The normalization's gradient as differentiation spells it. -/
theorem dr_eq (s : Fin 8192) (d : Fin 1024) : autoBack (pre A s) (scaled A s) d = dr A s d :=
  autoBack_eq (real_pre h s) (real_scaled h s) d

/-- The loss tile by tile is the loss. -/
theorem loss_eq : half * ∑ s, sq A s = loss A := by
  choose q hq using fun s => real_sq h s
  unfold loss
  rw [half_eq, Fin.sum_univ_tiles 16 512 rfl]
  have e : ∀ (i : Fin 16) (r : Fin 512), (⟨i.val * 512 + r.val, by omega⟩ : Fin 8192) = trow i.val r := fun i r => Fin.ext (by
    have := i.isLt; have := r.isLt
    show i.val * 512 + r.val = (512 * i.val + r.val) % 8192
    rw [Nat.mod_eq_of_lt (by omega)]; omega)
  simp only [e, hq, ← coe_sum, ← EReal.coe_mul]
  refine congrArg _ ?_
  rw [Finset.mul_sum]

end Real

end Cert.Mlp

end
-- ==== Proof.MlpRef.lean ====
/- The reference's results are the layer's, at finite inputs. -/
module

public import proofs.«01_k».proof.Proof.Gen.Reference7Ideal.Run
public import proofs.«01_k».proof.Proof.MlpSpec
public import Idealize.ShloMosaic.Lib.Pointwise

@[expose] public section

set_option maxRecDepth 16384

noncomputable section

namespace Cert.Reference7Ideal.Val

open Cert.Reference7Ideal Cert.Reference7Ideal.Gen Cert.Reference7Ideal.Value
open Idealize.ShloMosaic Idealize.ShloMosaic.TcCoe
open Cert.Mlp

variable (V : Valuation τ sig (Elt Ideal))

abbrev A : Args := args (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))
  (V (Proc.devRef .tc main_arg7)) (V (Proc.devRef .tc main_arg8)) (V (Proc.devRef .tc main_arg9))

theorem r16 (s : Fin 8192) (n : Fin 4096) : res_main_v16 V (ix2 s n) = hid (A V) s (hi 4 1024 rfl n) (lo 4 1024 rfl n) := by
  pointwise [res_main_v16, res_main_v2]
  rfl
theorem r17 (s : Fin 8192) (n : Fin 4096) : res_main_v17 V (ix2 s n) = max (hid (A V) s (hi 4 1024 rfl n) (lo 4 1024 rfl n)) 0 := by
  pointwise [res_main_v17, r16]
theorem r40 (s : Fin 8192) (d : Fin 1024) : res_main_v40 V (ix2 s d) = Mlp.em (A V) s d := by
  pointwise [res_main_v40, res_main_v10]
  rfl

section Finite
variable {V} (h : (A V).IsReal)
include h

theorem r35 (s : Fin 8192) (d : Fin 1024) : res_main_v35 V (ix2 s d) = sg (A V) s d := by
  refine Eq.trans ?_ (gate_eq (real_zed h s d))
  pointwise [res_main_v35, res_main_v10, res_main_v6]
  rfl
theorem r46 (s : Fin 8192) (d : Fin 1024) : res_main_v46 V (ix2 s d) = pre (A V) s d := by
  pointwise [res_main_v46, res_main_v4, r17 V, r35 h, r40 V, res_main_v10]
  refine Eq.trans (congrArg (fun z => root2 * (A V).X s d + z + sg (A V) s d * Mlp.em (A V) s d)
    (sum_parts _ (fun j f => act (A V) s j f * (A V).W2 j f d) fun n => rfl)) ?_
  exact @add_right_comm EReal _ _ _ _
theorem r52 (s : Fin 8192) (d : Fin 1024) : res_main_v52 V (ix2 s d) = cen (pre (A V) s) d := by
  pointwise [res_main_v52, res_main_v50, r46 h]
  rfl
theorem r61 (s : Fin 8192) (d : Fin 1024) : res_main_v61 V (ix2 s d) = cen (pre (A V) s) d := by
  pointwise [res_main_v61, res_main_v50, r46 h]
  rfl
theorem r63 (s : Fin 8192) : res_main_v63 V (ix2 s 0) = spread (pre (A V) s) := by
  pointwise [res_main_v63, r52 h]
  rfl
theorem r64 (s : Fin 8192) : res_main_v64 V (ix2 s 0) = rs (A V) s := by
  pointwise [res_main_v64, r63 h]
  rfl
theorem r69 (s : Fin 8192) (d : Fin 1024) : res_main_v69 V (ix2 s d) = xh (A V) s d := by
  pointwise [res_main_v69, r61 h, r64 h]
  rfl
theorem r76 (s : Fin 8192) (d : Fin 1024) : res_main_v76 V (ix2 s d) = df (A V) s d := by
  pointwise [res_main_v76, res_main_v70, r69 h]
  rfl
theorem r90 (s : Fin 8192) (d : Fin 1024) : res_main_v90 V (ix2 s d) = dy (A V) s d := by
  refine Eq.trans ?_ (dy_eq h s d)
  pointwise [res_main_v90, r76 h]
theorem r98 (s : Fin 8192) (d : Fin 1024) : res_main_v98 V (ix2 s d) = scaled (A V) s d := by
  pointwise [res_main_v98, res_main_v70, r90 h]
  rfl
theorem r104 (s : Fin 8192) (d : Fin 1024) : res_main_v104 V (ix2 s d) = scaled (A V) s d * rs (A V) s := by
  pointwise [res_main_v104, r98 h, r64 h]
theorem r113 (s : Fin 8192) (d : Fin 1024) : res_main_v113 V (ix2 s d) = varBack (pre (A V) s) (scaled (A V) s) d := by
  pointwise [res_main_v113, r98 h, r61 h, r52 h]
  simp only [Finset.univ_unique, Finset.sum_singleton, Fin.default_eq_zero, Fin.isValue, r64 h, r63 h]
  rfl
theorem r123 (s : Fin 8192) (d : Fin 1024) : res_main_v123 V (ix2 s d) = dr (A V) s d := by
  refine Eq.trans ?_ (dr_eq h s d)
  pointwise [res_main_v123, r104 h, r113 h]
  simp only [Finset.univ_unique, Finset.sum_singleton]
  rfl
theorem r128 (s : Fin 8192) (d : Fin 1024) : res_main_v128 V (ix2 s d) = dz (A V) s d := by
  pointwise [res_main_v128, r123 h, r40 V, r35 h]
  exact (mul_assoc (dr (A V) s d * Mlp.em (A V) s d) (sg (A V) s d) (1 - sg (A V) s d)).symm
theorem r137 (s : Fin 8192) (n : Fin 4096) : res_main_v137 V (ix2 s n) = dh (A V) s (hi 4 1024 rfl n) (lo 4 1024 rfl n) := by
  refine Eq.trans ?_ (slope (real_hid h s (hi 4 1024 rfl n) (lo 4 1024 rfl n)) _)
  pointwise [res_main_v137, r16 V, r17 V, r123 h, res_main_v4]
  rfl

/-- The results. -/
theorem r_dx (s : Fin 8192) (d : Fin 1024) : addf (addf (mulf (broadcastInDim S8192x1024 ![] bcast_S_S8192x1024 (constant S_ .f32 0x3FB504F3#32)) (res_main_v123 V)) (Host.dotGeneral (φ₁ := .f32) (φ₂ := .f32) dot_S8192x1024_S1024x1024_S8192x1024_1_1_0_0_n_n none (res_main_v128 V) (res_main_v6 V))) (Host.dotGeneral (φ₁ := .f32) (φ₂ := .f32) dot_S8192x4096_S1024x4096_S8192x1024_1_1_0_0_n_n none (res_main_v137 V) (res_main_v2 V)) (ix2 s d) = dx (A V) s d := by
  pointwise [r123 h, r128 h, r137 h, res_main_v6, res_main_v2]
  exact congrArg (fun z => dx0 (A V) s d + z) (sum_parts _ (fun j f => dh (A V) s j f * (A V).W1 j d f) fun n => rfl)
theorem r_loss (d : Fin 128) : broadcastInDim S1x128 ![] bcast_S_S1x128 (mulf (constant S_ .f32 0x3F000000#32) (Host.reduceAdd (Host.divf (Host.reduceAdd (mulf (res_main_v76 V) (res_main_v76 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) (ix2 0 d) = loss (A V) := by
  refine Eq.trans ?_ (loss_eq h)
  pointwise [r76 h]
  rfl
theorem r_gain (d : Fin 1024) : broadcastInDim S1x1024 ![1] bcast_S1024_S1x1024_1 (Host.reduceAdd (shapeCast _ (Host.reduceAdd (mulf (res_main_v69 V) (res_main_v90 V)) (constant S_ .f32 0x00000000#32) reducesTo_S8192x1024_S1024_d0 h_S_) shapeCasts_S1024_S1x1024) (constant S_ .f32 0x00000000#32) reducesTo_S1x1024_S1024_d0 h_S_) (ix2 0 d) = dgain (A V) d := by
  pointwise [r69 h, r90 h]
  simp only [Finset.univ_unique, Finset.sum_singleton]
  exact Finset.sum_congr rfl fun s _ => mul_comm _ _
theorem r_bias (d : Fin 1024) : broadcastInDim S1x1024 ![1] bcast_S1024_S1x1024_1 (Host.reduceAdd (shapeCast _ (Host.reduceAdd (res_main_v90 V) (constant S_ .f32 0x00000000#32) reducesTo_S8192x1024_S1024_d0 h_S_) shapeCasts_S1024_S1x1024) (constant S_ .f32 0x00000000#32) reducesTo_S1x1024_S1024_d0 h_S_) (ix2 0 d) = dbias (A V) d := by
  pointwise [r90 h]
  simp only [Finset.univ_unique, Finset.sum_singleton]
  rfl
theorem r_gb (d : Fin 1024) : broadcastInDim S1x1024 ![1] bcast_S1024_S1x1024_1 (Host.reduceAdd (shapeCast _ (Host.reduceAdd (res_main_v128 V) (constant S_ .f32 0x00000000#32) reducesTo_S8192x1024_S1024_d0 h_S_) shapeCasts_S1024_S1x1024) (constant S_ .f32 0x00000000#32) reducesTo_S1x1024_S1024_d0 h_S_) (ix2 0 d) = dgb (A V) d := by
  pointwise [r128 h]
  simp only [Finset.univ_unique, Finset.sum_singleton]
  rfl
theorem r_de (s : Fin 8192) (d : Fin 1024) : truncf .bf16 (mulf (res_main_v35 V) (res_main_v123 V)) bitsLt_bf16_f32 (ix2 s d) = de (A V) s d := by
  pointwise [r35 h, r123 h]
  exact mul_comm _ _

end Finite

end Cert.Reference7Ideal.Val

end
-- ==== Proof.MlpPay.lean ====
/- What the two bodies compute of a tile's row, in the layer's terms: each stored value at an element. -/
module

public import proofs.«01_k».proof.Proof.MlpBodyF
public import proofs.«01_k».proof.Proof.MlpBodyB
public import proofs.«01_k».proof.Proof.MlpSpec
public import Idealize.ShloMosaic.Lib.Pointwise

@[expose] public section

set_option maxRecDepth 16384

noncomputable section

namespace Cert.Kernel7Ideal.Pay

open Cert.Kernel7Ideal Cert.Kernel7Ideal.Gen
open Idealize.ShloMosaic Idealize.ShloMosaic.TcCoe
open Cert.Mlp

/-- The four parts side by side are the stack read by column. -/
theorem parts_at (PJ : Vec Ideal S4x256x256 .bf16) (x : Fin 256) (d : Fin 1024) :
    (if h : d.val < 256 then (BodyF.part 0 PJ (ix3 0 x ⟨d.val, h⟩) : EReal)
      else if h : d.val - 256 < 256 then BodyF.part 1 PJ (ix3 0 x ⟨d.val - 256, h⟩)
      else if h : d.val - 256 - 256 < 256 then BodyF.part 2 PJ (ix3 0 x ⟨d.val - 256 - 256, h⟩)
      else BodyF.part 3 PJ (ix3 0 x ⟨d.val - 256 - 256 - 256, by omega⟩))
      = PJ (ix3 (hi 4 256 rfl d) x (lo 4 256 rfl d)) := by
  have hd := d.isLt
  have key : ∀ (n : Fin 4) (e : Fin 256), d.val = 256 * n.val + e.val → (PJ (ix3 n x e) : EReal) = PJ (ix3 (hi 4 256 rfl d) x (lo 4 256 rfl d)) :=
    fun n e h => congrArg PJ (congrArg₂ (fun a b => ix3 a x b)
      (Fin.ext (show n.val = d.val / 256 by have := e.isLt; omega)) (Fin.ext (show e.val = d.val % 256 by have := e.isLt; omega)))
  split_ifs with h0 h1 h2
  · refine Eq.trans ?_ (key 0 ⟨d.val, h0⟩ (by simp))
    pointwise [BodyF.part]
  · refine Eq.trans ?_ (key 1 ⟨d.val - 256, h1⟩ (by simp; omega))
    pointwise [BodyF.part]
  · refine Eq.trans ?_ (key 2 ⟨d.val - 256 - 256, h2⟩ (by simp; omega))
    pointwise [BodyF.part]
  · refine Eq.trans ?_ (key 3 ⟨d.val - 256 - 256 - 256, by omega⟩ (by simp; omega))
    pointwise [BodyF.part]

variable {A : Args} {s : Fin 8192} {r : Fin 512} {j : Fin 4}

section Fwd

variable {X : FVec Ideal S512x1024 .f32} {P : FVec Ideal S512x256 .f32} {GW : FVec Ideal S4x256x1024 .bf16} {GB GN BS : FVec Ideal S1x1024 .f32}
  {PJ : FVec Ideal S4x256x256 .bf16} {S : FVec Ideal S512x1024 .bf16} {W1 W2 : FVec Ideal S1x1024x1024 .bf16} {T : FVec Ideal S512x1024 .f32}

theorem acc0_at (hX : ∀ k, X (ix2 r k) = A.X s k) (hP : ∀ k, P (ix2 r k) = A.P s k)
    (hGW : ∀ k d, GW (ix3 (hi 4 256 rfl k) (lo 4 256 rfl k) d) = A.GW k d) (hGB : ∀ d, GB (ix2 0 d) = A.GB d)
    (hPJ : ∀ k d, PJ (ix3 (hi 4 256 rfl d) k (lo 4 256 rfl d)) = A.PJ k d) (d : Fin 1024) :
    BodyF.acc0 (F := Ideal) X P GW GB PJ (ix2 r d) = base A s d := by
  pointwise [BodyF.acc0, k0_pay1, k0_pay8, k0_pay9, k0_pay10, k0_pay11, k0_pay12, hX, hP, hGB]
  refine congrArg₂ (fun a b : EReal => root2 * A.X s d + gate (a + A.GB d) * b)
    (Finset.sum_congr rfl fun k _ => congrArg (A.X s k * ·) (hGW k d))
    (Finset.sum_congr rfl fun k _ => congrArg (A.P s k * ·) ((parts_at PJ k d).trans (hPJ k d)))

theorem act_at (hS : ∀ k, S (ix2 r k) = A.X s k) (hW1 : ∀ k f, W1 (ix3 0 k f) = A.W1 j k f) (f : Fin 1024) :
    k0_pay2 (F := Ideal) S W1 (ix2 r f) = act A s j f := by
  pointwise [k0_pay2, hS, hW1]
  rfl

theorem step_at (hS : ∀ k, S (ix2 r k) = A.X s k) (hW1 : ∀ k f, W1 (ix3 0 k f) = A.W1 j k f) (hW2 : ∀ f d, W2 (ix3 0 f d) = A.W2 j f d)
    (D : FVec Ideal S512x1024 .f32) (d : Fin 1024) : k0_pay3 (F := Ideal) S W1 D W2 (ix2 r d) = (D (ix2 r d) : EReal) + ff A s j d := by
  pointwise [k0_pay3, act_at hS hW1, hW2]
  rfl

variable (hX : ∀ k, X (ix2 r k) = pre A s k)
include hX

theorem cen_at (d : Fin 1024) : k0_pay13 (F := Ideal) X (ix2 r d) = cen (pre A s) d := by
  pointwise [k0_pay13, hX]
  rfl
theorem rs_at : k0_pay14 (F := Ideal) X (ix2 r 0) = rs A s := by
  pointwise [k0_pay14, cen_at hX]
  rfl
theorem xh_at (d : Fin 1024) : k0_pay15 (F := Ideal) X (ix2 r d) = xh A s d := by
  pointwise [k0_pay15, cen_at hX, rs_at hX]
  rfl

variable (hGN : ∀ d, GN (ix2 0 d) = A.GN d) (hBS : ∀ d, BS (ix2 0 d) = A.BS d) (hT : ∀ d, T (ix2 r d) = A.T s d)
include hGN hBS hT

theorem df_at (d : Fin 1024) : k0_pay16 (F := Ideal) X GN BS T (ix2 r d) = df A s d := by
  pointwise [k0_pay16, xh_at hX, hGN, hBS, hT]
  rfl
theorem dy_at (d : Fin 1024) : k0_pay17 (F := Ideal) X GN BS T (ix2 r d) = dy A s d := by
  pointwise [k0_pay17, df_at hX hGN hBS hT]
  rfl
theorem sq_at : k0_pay18 (F := Ideal) X GN BS T (ix2 r 0) = sq A s := by
  pointwise [k0_pay18, df_at hX hGN hBS hT]
  rfl

end Fwd

/-- A tile's share of the loss. -/
theorem loss0_at (Q : FVec Ideal S512x1 .f32) (d : Fin 128) : k0_pay4 (F := Ideal) Q (ix2 0 d) = half * ∑ r, Q (ix2 r 0) := by
  pointwise [k0_pay4]
  simp only [Finset.sum_const, Finset.card_univ, Fintype.card_fin, one_smul]
theorem loss1_at (Q : FVec Ideal S512x1 .f32) (D : FVec Ideal S1x128 .f32) (d : Fin 128) :
    k0_pay5 (F := Ideal) Q D (ix2 0 d) = (D (ix2 0 d) : EReal) + half * ∑ r, Q (ix2 r 0) := by
  pointwise [k0_pay5, loss0_at]

section Bwd

variable {DY XH X : FVec Ideal S512x1024 .f32} {RS : FVec Ideal S512x1 .f32} {P : FVec Ideal S512x256 .f32} {GW : FVec Ideal S4x256x1024 .bf16}
  {GB GN : FVec Ideal S1x1024 .f32} {PJ : FVec Ideal S4x256x256 .bf16} {S AC : FVec Ideal S512x1024 .bf16} {W1 W2 : FVec Ideal S1x1024x1024 .bf16}

theorem dh_at (hS : ∀ k, S (ix2 r k) = dr A s k) (hW2 : ∀ f d, W2 (ix3 0 f d) = A.W2 j f d) (hA : ∀ f, AC (ix2 r f) = act A s j f) (f : Fin 1024) :
    k1_pay8 (F := Ideal) S W2 AC (ix2 r f) = dh A s j f := by
  pointwise [k1_pay8, hS, hW2, hA]
  rfl
theorem dxStep_at (hS : ∀ k, S (ix2 r k) = dr A s k) (hW2 : ∀ f d, W2 (ix3 0 f d) = A.W2 j f d) (hA : ∀ f, AC (ix2 r f) = act A s j f)
    (hW1 : ∀ k f, W1 (ix3 0 k f) = A.W1 j k f) (D : FVec Ideal S512x1024 .f32) (d : Fin 1024) :
    k1_pay9 (F := Ideal) S W2 AC D W1 (ix2 r d) = (D (ix2 r d) : EReal) + dxPart A s j d := by
  pointwise [k1_pay9, dh_at hS hW2 hA, hW1]
  rfl

variable (hDY : ∀ d, DY (ix2 r d) = dy A s d) (hXH : ∀ d, XH (ix2 r d) = xh A s d) (hRS : RS (ix2 r 0) = rs A s)
  (hGN : ∀ d, GN (ix2 0 d) = A.GN d)
include hDY hXH hRS hGN

theorem dr_at (d : Fin 1024) : k1_pay12 (F := Ideal) DY XH RS GN (ix2 r d) = dr A s d := by
  pointwise [k1_pay12, k1_pay10, k1_pay11, hDY, hXH, hRS, hGN]
  rfl
theorem dr13_at (d : Fin 1024) : k1_pay13 (F := Ideal) DY XH RS GN (ix2 r d) = dr A s d := by
  pointwise [k1_pay13, dr_at hDY hXH hRS hGN]
theorem dr14_at (d : Fin 1024) : k1_pay14 (F := Ideal) DY XH RS GN (ix2 r d) = dr A s d := by
  pointwise [k1_pay14, dr13_at hDY hXH hRS hGN]

variable (hX : ∀ k, X (ix2 r k) = A.X s k) (hGW : ∀ k d, GW (ix3 (hi 4 256 rfl k) (lo 4 256 rfl k) d) = A.GW k d)
  (hGB : ∀ d, GB (ix2 0 d) = A.GB d)
include hX hGW hGB

omit hDY hXH hRS hGN in
theorem sg_at (d : Fin 1024) : k1_pay17 (F := Ideal) (BodyB.zed X GW) GB (ix2 r d) = sg A s d := by
  pointwise [k1_pay17, BodyB.zed, k1_pay16, k1_pay15, hX, hGB]
  exact congrArg (fun a : EReal => gate (a + A.GB d)) (Finset.sum_congr rfl fun k _ => congrArg (A.X s k * ·) (hGW k d))
theorem de_at (d : Fin 1024) : k1_pay20 (F := Ideal) (BodyB.dr DY XH RS GN) (BodyB.zed X GW) GB (ix2 r d) = de A s d := by
  pointwise [k1_pay20, BodyB.dr, dr_at hDY hXH hRS hGN, sg_at hX hGW hGB]
  rfl

variable (hP : ∀ k, P (ix2 r k) = A.P s k) (hPJ : ∀ k d, PJ (ix3 (hi 4 256 rfl d) k (lo 4 256 rfl d)) = A.PJ k d)
include hP hPJ

theorem dz_at (d : Fin 1024) : BodyB.dz (F := Ideal) DY XH RS X P GW GB PJ GN (ix2 r d) = dz A s d := by
  pointwise [BodyB.dz, BodyB.dr, k1_pay18, dr_at hDY hXH hRS hGN, sg_at hX hGW hGB, hP]
  exact congrArg (fun a : EReal => dr A s d * a * sg A s d * (1 - sg A s d))
    (Finset.sum_congr rfl fun k _ => congrArg (A.P s k * ·) ((parts_at PJ k d).trans (hPJ k d)))
theorem dz19_at (d : Fin 1024) : k1_pay19 (F := Ideal) (BodyB.dr DY XH RS GN) (BodyB.zed X GW) GB P (BodyB.part 0 PJ) (BodyB.part 1 PJ)
    (BodyB.part 2 PJ) (BodyB.part 3 PJ) (ix2 r d) = dz A s d := by
  refine Eq.trans ?_ (dz_at hDY hXH hRS hGN hX hGW hGB hP hPJ d)
  pointwise [k1_pay19]
  rfl
theorem dx0_at (d : Fin 1024) : BodyB.acc0 (F := Ideal) DY XH RS X P GW GB PJ GN (ix2 r d) = dx0 A s d := by
  pointwise [BodyB.acc0, BodyB.dr, k1_pay1, k1_pay15, k1_pay21, dr_at hDY hXH hRS hGN, dz_at hDY hXH hRS hGN hX hGW hGB hP hPJ]
  exact congrArg (fun a : EReal => root2 * dr A s d + a) (Finset.sum_congr rfl fun e _ => congrArg (dz A s e * ·) (hGW d e))

end Bwd

/-- A tile's shares of the sums over rows. -/
theorem gain0_at (DY XH : FVec Ideal S512x1024 .f32) (d : Fin 1024) :
    k1_pay2 (F := Ideal) (k1_pay10 DY) (k1_pay11 XH) (ix2 0 d) = ∑ r, (DY (ix2 r d) : EReal) * XH (ix2 r d) := by
  pointwise [k1_pay2, k1_pay10, k1_pay11]
theorem gain1_at (DY XH : FVec Ideal S512x1024 .f32) (D : FVec Ideal S1x1024 .f32) (d : Fin 1024) :
    k1_pay3 (F := Ideal) (k1_pay10 DY) (k1_pay11 XH) D (ix2 0 d) = (D (ix2 0 d) : EReal) + ∑ r, (DY (ix2 r d) : EReal) * XH (ix2 r d) := by
  pointwise [k1_pay3, gain0_at]
theorem bias0_at (DY : FVec Ideal S512x1024 .f32) (d : Fin 1024) :
    k1_pay4 (F := Ideal) (k1_pay10 DY) (ix2 0 d) = ∑ r, (DY (ix2 r d) : EReal) := by
  pointwise [k1_pay4, k1_pay10]
theorem bias1_at (DY : FVec Ideal S512x1024 .f32) (D : FVec Ideal S1x1024 .f32) (d : Fin 1024) :
    k1_pay5 (F := Ideal) (k1_pay10 DY) D (ix2 0 d) = (D (ix2 0 d) : EReal) + ∑ r, (DY (ix2 r d) : EReal) := by
  pointwise [k1_pay5, bias0_at]
theorem gb0_at (DZ : FVec Ideal S512x1024 .f32) (d : Fin 1024) : k1_pay6 (F := Ideal) DZ (ix2 0 d) = ∑ r, (DZ (ix2 r d) : EReal) := by
  pointwise [k1_pay6]
theorem gb1_at (DZ : FVec Ideal S512x1024 .f32) (D : FVec Ideal S1x1024 .f32) (d : Fin 1024) :
    k1_pay7 (F := Ideal) DZ D (ix2 0 d) = (D (ix2 0 d) : EReal) + ∑ r, (DZ (ix2 r d) : EReal) := by
  pointwise [k1_pay7, gb0_at]

end Cert.Kernel7Ideal.Pay

end
-- ==== Proof.MlpKerF.lean ====
/- The forward call's results are the layer's values. -/
module

public import proofs.«01_k».proof.Proof.MlpPay
public import proofs.«01_k».proof.Proof.MlpRegF
public import Idealize.ShloMosaic.Lib.Pipeline.ValueKit

@[expose] public section

set_option maxRecDepth 16384

noncomputable section

namespace Cert.Kernel7Ideal.KerF

open Cert.Kernel7Ideal Cert.Kernel7Ideal.Gen
open Idealize.ShloMosaic Idealize.ShloMosaic.TcCoe Idealize.SL.Sem
open Idealize.ShloMosaic.Pipeline (Dat Cfg Window)
open Cert.Mlp
open Cert.Kernel7Ideal.RegF

/-- Each window's block at a point. -/
theorem idx : ∀ t : Fin cfg0.N, win0_0.index t = ![t.val / 4, 0] ∧ win0_1.index t = ![t.val / 4, 0] ∧ win0_2.index t = ![t.val % 4, 0, 0]
    ∧ win0_3.index t = ![t.val % 4, 0, 0] ∧ win0_4.index t = ![0, 0, 0] ∧ win0_5.index t = ![0, 0] ∧ win0_6.index t = ![0, 0, 0]
    ∧ win0_7.index t = ![0, 0] ∧ win0_8.index t = ![0, 0] ∧ win0_9.index t = ![t.val / 4, 0] ∧ win0_10.index t = ![t.val / 4, 0]
    ∧ win0_11.index t = ![t.val / 4, 0] ∧ win0_12.index t = ![t.val / 4, 0] ∧ win0_13.index t = ![t.val / 4, t.val % 4]
    ∧ win0_14.index t = ![t.val / 4, 0] ∧ win0_15.index t = ![0, 0] := (by decide +kernel : ∀ t : Fin grid0.N, _)

variable (V : Dev nD → Valuation τ sig (Elt Ideal)) (c : Dev nD)

/-- The layer's inputs in the buffers. -/
abbrev A : Args := args (V c main_arg0) (V c main_arg1) (V c main_arg2) (V c main_arg3) (V c main_arg4) (V c main_arg5) (V c main_arg6)
  (V c main_arg7) (V c main_arg8) (V c main_arg9)

/-- A tile's row and a point's part. -/
abbrev rw' (t : Fin cfg0.N) (r : Fin 512) : Fin 8192 := trow (t.val / 4) r
abbrev pt (n : ℕ) : Fin 4 := ⟨n % 4, Nat.mod_lt _ (by decide)⟩

theorem rw_val (t : Fin cfg0.N) (r : Fin 512) : (rw' t r).val = 512 * (t.val / 4) + r.val :=
  Nat.mod_eq_of_lt (by have := lt64 t; have := r.isLt; omega)

theorem bX (t : Fin cfg0.N) (r : Fin 512) (k : Fin 1024) : (blkAt V c 0 t : S512x1024.Idx → EReal) (ix2 r k) = (A V c).X (rw' t r) k := by
  have h := lt64 t
  have hr := rw_val t r
  show _ = V c main_arg0 (ix2 (rw' t r) k)
  blk_ext [blkAt, idx t]
theorem bP (t : Fin cfg0.N) (r : Fin 512) (k : Fin 256) : (blkAt V c 1 t : S512x256.Idx → EReal) (ix2 r k) = (A V c).P (rw' t r) k := by
  have h := lt64 t
  have hr := rw_val t r
  show _ = V c main_arg1 (ix2 (rw' t r) k)
  blk_ext [blkAt, idx t]
theorem bW1 (t : Fin cfg0.N) (k f : Fin 1024) : (blkAt V c 2 t : S1x1024x1024.Idx → EReal) (ix3 0 k f) = (A V c).W1 (pt t.val) k f := by
  have h := lt64 t
  show _ = V c main_arg2 (ix3 (pt t.val) k f)
  blk_ext [blkAt, idx t]
theorem bW2 (t : Fin cfg0.N) (k f : Fin 1024) : (blkAt V c 3 t : S1x1024x1024.Idx → EReal) (ix3 0 k f) = (A V c).W2 (pt t.val) k f := by
  have h := lt64 t
  show _ = V c main_arg3 (ix3 (pt t.val) k f)
  blk_ext [blkAt, idx t]
theorem bGW (t : Fin cfg0.N) (k d : Fin 1024) :
    (blkAt V c 4 t : S4x256x1024.Idx → EReal) (ix3 (hi 4 256 rfl k) (lo 4 256 rfl k) d) = (A V c).GW k d := by
  show _ = V c main_arg4 (ix3 (hi 4 256 rfl k) (lo 4 256 rfl k) d)
  blk_ext [blkAt, idx t]
theorem bGB (t : Fin cfg0.N) (d : Fin 1024) : (blkAt V c 5 t : S1x1024.Idx → EReal) (ix2 0 d) = (A V c).GB d := by
  show _ = V c main_arg5 (ix2 0 d)
  blk_ext [blkAt, idx t]
theorem bPJ (t : Fin cfg0.N) (k : Fin 256) (d : Fin 1024) :
    (blkAt V c 6 t : S4x256x256.Idx → EReal) (ix3 (hi 4 256 rfl d) k (lo 4 256 rfl d)) = (A V c).PJ k d := by
  show _ = V c main_arg6 (ix3 (hi 4 256 rfl d) k (lo 4 256 rfl d))
  blk_ext [blkAt, idx t]
theorem bGN (t : Fin cfg0.N) (d : Fin 1024) : (blkAt V c 7 t : S1x1024.Idx → EReal) (ix2 0 d) = (A V c).GN d := by
  show _ = V c main_arg7 (ix2 0 d)
  blk_ext [blkAt, idx t]
theorem bBS (t : Fin cfg0.N) (d : Fin 1024) : (blkAt V c 8 t : S1x1024.Idx → EReal) (ix2 0 d) = (A V c).BS d := by
  show _ = V c main_arg8 (ix2 0 d)
  blk_ext [blkAt, idx t]
theorem bT (t : Fin cfg0.N) (r : Fin 512) (k : Fin 1024) : (blkAt V c 9 t : S512x1024.Idx → EReal) (ix2 r k) = (A V c).T (rw' t r) k := by
  have h := lt64 t
  have hr := rw_val t r
  show _ = V c main_arg9 (ix2 (rw' t r) k)
  blk_ext [blkAt, idx t]

theorem rw_first (t : Fin cfg0.N) (r : Fin 512) : rw' (first t) r = rw' t r :=
  congrArg (fun n => trow n r) (show (t.val - t.val % 4) / 4 = t.val / 4 by omega)

/-- The narrowed rows. -/
theorem sx_at (t : Fin cfg0.N) (r : Fin 512) (k : Fin 1024) : (sx V c t : S512x1024.Idx → EReal) (ix2 r k) = (A V c).X (rw' t r) k := by
  refine Eq.trans ?_ ((bX V c (first t) r k).trans (congrArg (fun s => (A V c).X s k) (rw_first t r)))
  unfold sx
  generalize (blkAt V c 0 (first t) : Vec Ideal S512x1024 .f32) = X
  pointwise [k0_pay6]

/-- The sum after a point: its start and the parts seen in this tile. -/
theorem acc_at (r : Fin 512) (d : Fin 1024) : ∀ (n : ℕ) (h : n < cfg0.N), (accOut V c ⟨n, h⟩ (acc V c n) : S512x1024.Idx → EReal) (ix2 r d)
    = base (A V c) (trow (n / 4) r) d + ∑ j ∈ Finset.range (n % 4 + 1), ff (A V c) (trow (n / 4) r) (pt j) d := by
  intro n
  induction n with
  | zero =>
    intro h
    rw [accOut_first V c ⟨0, h⟩ rfl, ← first_self ⟨0, h⟩ rfl]
    refine (Pay.step_at (fun k => sx_at V c ⟨0, h⟩ r k) (bW1 V c ⟨0, h⟩) (bW2 V c ⟨0, h⟩) _ d).trans ?_
    refine congrArg₂ (· + ·) (Pay.acc0_at (bX V c ⟨0, h⟩ r) (bP V c ⟨0, h⟩ r) (bGW V c ⟨0, h⟩) (bGB V c ⟨0, h⟩) (bPJ V c ⟨0, h⟩) d) ?_
    simp
    rfl
  | succ n ih =>
    intro h
    by_cases h0 : (n + 1) % 4 = 0
    · rw [accOut_first V c ⟨n + 1, h⟩ h0]
      refine (Pay.step_at (fun k => (congrArg (fun t => (k0_pay6 (blkAt V c 0 t) : S512x1024.Idx → EReal) (ix2 r k)) (first_self ⟨n + 1, h⟩ h0).symm).trans (sx_at V c ⟨n + 1, h⟩ r k)) (bW1 V c ⟨n + 1, h⟩) (bW2 V c ⟨n + 1, h⟩) _ d).trans ?_
      refine congrArg₂ (· + ·) (Pay.acc0_at (bX V c ⟨n + 1, h⟩ r) (bP V c ⟨n + 1, h⟩ r) (bGW V c ⟨n + 1, h⟩) (bGB V c ⟨n + 1, h⟩) (bPJ V c ⟨n + 1, h⟩) d) ?_
      rw [h0, Nat.zero_add, Finset.sum_range_one]
      exact congrArg (fun j => ff (A V c) (trow ((n + 1) / 4) r) j d) (Fin.ext (show (n + 1) % 4 = 0 % 4 by omega))
    · rw [accOut_mid V c ⟨n + 1, h⟩ h0]
      refine (Pay.step_at (sx_at V c ⟨n + 1, h⟩ r) (bW1 V c ⟨n + 1, h⟩) (bW2 V c ⟨n + 1, h⟩) _ d).trans ?_
      have e : acc V c (n + 1) = accOut V c ⟨n, Nat.lt_of_succ_lt h⟩ (acc V c n) := acc_succ V c ⟨n, Nat.lt_of_succ_lt h⟩
      have e4 : (n + 1) / 4 = n / 4 := by omega
      have em : (n + 1) % 4 = n % 4 + 1 := by omega
      rw [e, em, Finset.sum_range_succ, ← add_assoc]
      refine congrArg₂ (· + ·) ((ih (Nat.lt_of_succ_lt h)).trans (by rw [e4])) ?_
      exact congrArg (fun j => ff (A V c) (trow ((n + 1) / 4) r) j d) (Fin.ext (show (n + 1) % 4 = (n % 4 + 1) % 4 by omega))

/-- At a tile's last point the sum is the layer's value before the normalization. -/
theorem pre_at (t : Fin cfg0.N) (h3 : t.val % 4 = 3) (r : Fin 512) (d : Fin 1024) :
    (accOut V c t (acc V c t.val) : S512x1024.Idx → EReal) (ix2 r d) = pre (A V c) (rw' t r) d := by
  refine (acc_at V c r d t.val t.isLt).trans (congrArg (fun z : EReal => base (A V c) (rw' t r) d + z) ?_)
  rw [h3, Finset.sum_range]
  exact Finset.sum_congr rfl fun j _ => congrArg (fun j => ff (A V c) (trow (t.val / 4) r) j d) (Fin.ext (Nat.mod_eq_of_lt j.isLt))

/-! ## The results -/

theorem resY : (dat V c).arrAt 10 cfg0.N = big (dy (A V c)) := by
  refine (dat V c).arrAt_eq_of_covers 10 _ (by decide +kernel) fun t hf y => ?_
  have h3 := (flush0_10 t).mp hf
  have h := lt64 t
  obtain ⟨r, d, rfl⟩ : ∃ (r : Fin 512) (d : Fin 1024), y = ix2 r d := ⟨y 0, y 1, eq_ix2 y⟩
  have hr := rw_val t r
  refine (Pay.dy_at (pre_at V c t h3 r) (bGN V c t) (bBS V c t) (bT V c t r) d).trans ?_
  show big (dy (A V c)) (ix2 (rw' t r) d) = _
  blk_ext [idx t]

theorem resXH : (dat V c).arrAt 11 cfg0.N = big (xh (A V c)) := by
  refine (dat V c).arrAt_eq_of_covers 11 _ (by decide +kernel) fun t hf y => ?_
  have h3 := (flush0_11 t).mp hf
  have h := lt64 t
  obtain ⟨r, d, rfl⟩ : ∃ (r : Fin 512) (d : Fin 1024), y = ix2 r d := ⟨y 0, y 1, eq_ix2 y⟩
  have hr := rw_val t r
  refine (Pay.xh_at (pre_at V c t h3 r) d).trans ?_
  show big (xh (A V c)) (ix2 (rw' t r) d) = _
  blk_ext [idx t]

/-- One column. -/
def column (f : Fin 8192 → EReal) : Big 8192 1 := fun i => f (i 0)

theorem resRS : (dat V c).arrAt 12 cfg0.N = column (rs (A V c)) := by
  refine (dat V c).arrAt_eq_of_covers 12 _ (by decide +kernel) fun t hf y => ?_
  have h3 := (flush0_12 t).mp hf
  have h := lt64 t
  obtain ⟨r, rfl⟩ : ∃ (r : Fin 512), y = ix2 r 0 := ⟨y 0, (eq_ix2 y).trans (by rw [Fin.fin_one_eq_zero (y 1 : Fin 1)])⟩
  have hr := rw_val t r
  refine (Pay.rs_at (pre_at V c t h3 r)).trans ?_
  show column (rs (A V c)) (ix2 (rw' t r) 0) = _
  blk_ext [idx t]

/-- A hidden column's number. -/
def hcol (n : ℕ) (f : Fin 1024) : Fin 4096 := ⟨(1024 * (n % 4) + f.val) % 4096, Nat.mod_lt _ (by decide)⟩
theorem hcol_val (n : ℕ) (f : Fin 1024) : (hcol n f).val = 1024 * (n % 4) + f.val := Nat.mod_eq_of_lt (by have := f.isLt; omega)
theorem wide_at (g : Fin 8192 → Fin 4 → Row) (s : Fin 8192) (n : ℕ) (f : Fin 1024) : wide g (ix2 s (hcol n f)) = g s (pt n) f := by
  have hc := hcol_val n f
  have := f.isLt
  refine congrArg₂ (g s) (Fin.ext ?_) (Fin.ext ?_)
  · show (hcol n f).val / 1024 = n % 4
    omega
  · show (hcol n f).val % 1024 = f.val
    omega

theorem resA : (dat V c).arrAt 13 cfg0.N = wide (act (A V c)) := by
  refine (dat V c).arrAt_eq_of_covers 13 _ (by decide +kernel) fun t hf y => ?_
  have h := lt64 t
  obtain ⟨r, f, rfl⟩ : ∃ (r : Fin 512) (f : Fin 1024), y = ix2 r f := ⟨y 0, y 1, eq_ix2 y⟩
  have hr := rw_val t r
  have hc := hcol_val t.val f
  refine (Pay.act_at (sx_at V c t r) (bW1 V c t) f).trans ((wide_at (act (A V c)) (rw' t r) t.val f).symm.trans ?_)
  blk_ext [idx t]

/-- A tile's share of the loss. -/
def share (A : Args) (n : ℕ) : EReal := half * ∑ r : Fin 512, sq A (trow n r)

theorem share_at (t : Fin cfg0.N) (h3 : t.val % 4 = 3) :
    half * ∑ r, (k0_pay18 (F := Ideal) (accOut V c t (acc V c t.val)) (blkAt V c 7 t) (blkAt V c 8 t) (blkAt V c 9 t) (ix2 r 0) : EReal)
      = share (A V c) (t.val / 4) :=
  congrArg (half * ·) (Finset.sum_congr rfl fun r _ => Pay.sq_at (pre_at V c t h3 r) (bGN V c t) (bBS V c t) (bT V c t r))

/-- The loss before a point: the shares of the tiles done. -/
theorem loss_at (l : Fin 128) : ∀ n, 4 ≤ n → n ≤ cfg0.N → (RegF.loss V c n : S1x128.Idx → EReal) (ix2 0 l)
    = ∑ i ∈ Finset.range (n / 4), share (A V c) i := by
  intro n
  induction n with
  | zero => intro h; omega
  | succ n ih =>
    intro h4 hN
    rw [loss_succ V c ⟨n, hN⟩]
    unfold lossOut
    dsimp only
    by_cases h3 : n % 4 = 3
    · rw [if_pos h3, show (n + 1) / 4 = n / 4 + 1 by omega, Finset.sum_range_succ]
      by_cases e : n = 3
      · rw [if_pos e]
        refine (Pay.loss0_at _ l).trans ((share_at V c ⟨n, hN⟩ h3).trans ?_)
        rw [show n / 4 = 0 by omega, Finset.sum_range_zero, zero_add]
      · rw [if_neg e]
        refine (Pay.loss1_at _ _ l).trans (congrArg₂ (· + ·) (ih (by omega) (by omega)) (share_at V c ⟨n, hN⟩ h3))
    · rw [if_neg h3, ih (by omega) (by omega), show (n + 1) / 4 = n / 4 by omega]

theorem resLS : (dat V c).arrAt 15 cfg0.N = fun _ => Mlp.loss (A V c) := by
  refine (dat V c).arrAt_eq_of_covers 15 _ (by decide +kernel) fun t hf y => ?_
  have h3 := (flush0_15 t).mp hf
  have h := lt64 t
  obtain ⟨l, rfl⟩ : ∃ (l : Fin 128), y = ix2 0 l := ⟨y 1, (eq_ix2 y).trans (by rw [Fin.fin_one_eq_zero (y 0 : Fin 1)])⟩
  refine (congrFun (loss_succ V c t).symm (ix2 0 l)).trans ((loss_at V c l (t.val + 1) (by omega) t.isLt).trans ?_)
  rw [show (t.val + 1) / 4 = 16 by omega, Finset.sum_range]
  rfl

end Cert.Kernel7Ideal.KerF

end
-- ==== Proof.MlpKerB.lean ====
/- The backward call's results are the layer's gradients, when its inputs hold the forward call's. -/
module

public import proofs.«01_k».proof.Proof.MlpPay
public import proofs.«01_k».proof.Proof.MlpRegB
public import proofs.«01_k».proof.Proof.MlpKerF
public import Idealize.ShloMosaic.Lib.Pipeline.ValueKit

@[expose] public section

set_option maxRecDepth 16384

noncomputable section

namespace Cert.Kernel7Ideal.KerB

open Cert.Kernel7Ideal Cert.Kernel7Ideal.Gen
open Idealize.ShloMosaic Idealize.ShloMosaic.TcCoe Idealize.SL.Sem
open Idealize.ShloMosaic.Pipeline (Dat Cfg Window)
open Cert.Mlp
open Cert.Kernel7Ideal.RegB
open Cert.Kernel7Ideal.KerF (pt hcol hcol_val wide_at column)

/-- Each window's block at a point. -/
theorem idx : ∀ t : Fin cfg1.N, win1_0.index t = ![t.val / 4, 0] ∧ win1_1.index t = ![t.val / 4, 0] ∧ win1_2.index t = ![t.val / 4, 0]
    ∧ win1_3.index t = ![t.val / 4, 0] ∧ win1_4.index t = ![t.val / 4, t.val % 4] ∧ win1_5.index t = ![t.val / 4, 0]
    ∧ win1_6.index t = ![t.val % 4, 0, 0] ∧ win1_7.index t = ![t.val % 4, 0, 0] ∧ win1_8.index t = ![0, 0, 0] ∧ win1_9.index t = ![0, 0]
    ∧ win1_10.index t = ![0, 0, 0] ∧ win1_11.index t = ![0, 0] ∧ win1_12.index t = ![t.val / 4, 0] ∧ win1_13.index t = ![t.val / 4, t.val % 4]
    ∧ win1_14.index t = ![t.val / 4, 0] ∧ win1_15.index t = ![t.val / 4, 0] ∧ win1_16.index t = ![t.val / 4, 0]
    ∧ win1_17.index t = ![0, 0] ∧ win1_18.index t = ![0, 0] ∧ win1_19.index t = ![0, 0] := (by decide +kernel : ∀ t : Fin grid1.N, _)

variable (V : Dev nD → Valuation τ sig (Elt Ideal)) (c : Dev nD)

/-- A tile's row. -/
abbrev rw' (t : Fin cfg1.N) (r : Fin 512) : Fin 8192 := trow (t.val / 4) r

theorem rw_val (t : Fin cfg1.N) (r : Fin 512) : (rw' t r).val = 512 * (t.val / 4) + r.val :=
  Nat.mod_eq_of_lt (by have := lt64 t; have := r.isLt; omega)
theorem rw_first (t : Fin cfg1.N) (r : Fin 512) : rw' (first t) r = rw' t r :=
  congrArg (fun n => trow n r) (show (t.val - t.val % 4) / 4 = t.val / 4 by omega)

/-- The buffers hold the layer's inputs and the forward call's results. -/
structure Holds (A : Args) : Prop where
  DY : V c main_v0_0 = big (dy A)
  XH : V c main_v0_1 = big (xh A)
  RS : V c main_v0_2 = column (rs A)
  AC : V c main_v0_3 = wide (act A)
  X : ∀ s k, V c main_arg0 (ix2 s k) = A.X s k
  P : ∀ s k, V c main_arg1 (ix2 s k) = A.P s k
  W1 : ∀ j k f, V c main_arg2 (ix3 j k f) = A.W1 j k f
  W2 : ∀ j f d, V c main_arg3 (ix3 j f d) = A.W2 j f d
  GW : ∀ k d, V c main_arg4 (ix3 (hi 4 256 rfl k) (lo 4 256 rfl k) d) = A.GW k d
  GB : ∀ d, V c main_arg5 (ix2 0 d) = A.GB d
  PJ : ∀ k d, V c main_arg6 (ix3 (hi 4 256 rfl d) k (lo 4 256 rfl d)) = A.PJ k d
  GN : ∀ d, V c main_arg7 (ix2 0 d) = A.GN d

variable {A : Args} (H : Holds V c A)
include H

theorem bDY (t : Fin cfg1.N) (r : Fin 512) (k : Fin 1024) : (blkAt V c 0 t : S512x1024.Idx → EReal) (ix2 r k) = dy A (rw' t r) k := by
  have h := lt64 t
  have hr := rw_val t r
  refine Eq.trans (b := V c main_v0_0 (ix2 (rw' t r) k)) ?_ (congrFun H.DY _)
  blk_ext [blkAt, idx t]
theorem bXH (t : Fin cfg1.N) (r : Fin 512) (k : Fin 1024) : (blkAt V c 1 t : S512x1024.Idx → EReal) (ix2 r k) = xh A (rw' t r) k := by
  have h := lt64 t
  have hr := rw_val t r
  refine Eq.trans (b := V c main_v0_1 (ix2 (rw' t r) k)) ?_ (congrFun H.XH _)
  blk_ext [blkAt, idx t]
theorem bRS (t : Fin cfg1.N) (r : Fin 512) : (blkAt V c 2 t : S512x1.Idx → EReal) (ix2 r 0) = rs A (rw' t r) := by
  have h := lt64 t
  have hr := rw_val t r
  refine Eq.trans (b := V c main_v0_2 (ix2 (rw' t r) 0)) ?_ (congrFun H.RS _)
  blk_ext [blkAt, idx t]
theorem bX (t : Fin cfg1.N) (r : Fin 512) (k : Fin 1024) : (blkAt V c 3 t : S512x1024.Idx → EReal) (ix2 r k) = A.X (rw' t r) k := by
  have h := lt64 t
  have hr := rw_val t r
  refine Eq.trans (b := V c main_arg0 (ix2 (rw' t r) k)) ?_ (H.X _ _)
  blk_ext [blkAt, idx t]
theorem bAC (t : Fin cfg1.N) (r : Fin 512) (f : Fin 1024) : (blkAt V c 4 t : S512x1024.Idx → EReal) (ix2 r f) = act A (rw' t r) (pt t.val) f := by
  have h := lt64 t
  have hr := rw_val t r
  have hc := hcol_val t.val f
  refine Eq.trans (b := V c main_v0_3 (ix2 (rw' t r) (hcol t.val f))) ?_ ((congrFun H.AC _).trans (wide_at _ _ _ _))
  blk_ext [blkAt, idx t]
theorem bP (t : Fin cfg1.N) (r : Fin 512) (k : Fin 256) : (blkAt V c 5 t : S512x256.Idx → EReal) (ix2 r k) = A.P (rw' t r) k := by
  have h := lt64 t
  have hr := rw_val t r
  refine Eq.trans (b := V c main_arg1 (ix2 (rw' t r) k)) ?_ (H.P _ _)
  blk_ext [blkAt, idx t]
theorem bW1 (t : Fin cfg1.N) (k f : Fin 1024) : (blkAt V c 6 t : S1x1024x1024.Idx → EReal) (ix3 0 k f) = A.W1 (pt t.val) k f := by
  have h := lt64 t
  refine Eq.trans (b := V c main_arg2 (ix3 (pt t.val) k f)) ?_ (H.W1 _ _ _)
  blk_ext [blkAt, idx t]
theorem bW2 (t : Fin cfg1.N) (k f : Fin 1024) : (blkAt V c 7 t : S1x1024x1024.Idx → EReal) (ix3 0 k f) = A.W2 (pt t.val) k f := by
  have h := lt64 t
  refine Eq.trans (b := V c main_arg3 (ix3 (pt t.val) k f)) ?_ (H.W2 _ _ _)
  blk_ext [blkAt, idx t]
theorem bGW (t : Fin cfg1.N) (k d : Fin 1024) :
    (blkAt V c 8 t : S4x256x1024.Idx → EReal) (ix3 (hi 4 256 rfl k) (lo 4 256 rfl k) d) = A.GW k d := by
  refine Eq.trans (b := V c main_arg4 (ix3 (hi 4 256 rfl k) (lo 4 256 rfl k) d)) ?_ (H.GW _ _)
  blk_ext [blkAt, idx t]
theorem bGB (t : Fin cfg1.N) (d : Fin 1024) : (blkAt V c 9 t : S1x1024.Idx → EReal) (ix2 0 d) = A.GB d := by
  refine Eq.trans (b := V c main_arg5 (ix2 0 d)) ?_ (H.GB _)
  blk_ext [blkAt, idx t]
theorem bPJ (t : Fin cfg1.N) (k : Fin 256) (d : Fin 1024) :
    (blkAt V c 10 t : S4x256x256.Idx → EReal) (ix3 (hi 4 256 rfl d) k (lo 4 256 rfl d)) = A.PJ k d := by
  refine Eq.trans (b := V c main_arg6 (ix3 (hi 4 256 rfl d) k (lo 4 256 rfl d))) ?_ (H.PJ _ _)
  blk_ext [blkAt, idx t]
theorem bGN (t : Fin cfg1.N) (d : Fin 1024) : (blkAt V c 11 t : S1x1024.Idx → EReal) (ix2 0 d) = A.GN d := by
  refine Eq.trans (b := V c main_arg7 (ix2 0 d)) ?_ (H.GN _)
  blk_ext [blkAt, idx t]

/-- The narrowed gradient of the rows. -/
theorem sr_at (t : Fin cfg1.N) (r : Fin 512) (k : Fin 1024) : (sr V c t : S512x1024.Idx → EReal) (ix2 r k) = dr A (rw' t r) k :=
  (Pay.dr14_at (bDY V c H (first t) r) (bXH V c H (first t) r) (bRS V c H (first t) r) (bGN V c H (first t)) k).trans
    (congrArg (fun s => dr A s k) (rw_first t r))

/-- What the sum starts from. -/
theorem start_at (t : Fin cfg1.N) (r : Fin 512) (d : Fin 1024) :
    (BodyB.acc0 (F := Ideal) (blkAt V c 0 t) (blkAt V c 1 t) (blkAt V c 2 t) (blkAt V c 3 t) (blkAt V c 5 t) (blkAt V c 8 t) (blkAt V c 9 t) (blkAt V c 10 t) (blkAt V c 11 t)
      : S512x1024.Idx → EReal) (ix2 r d) = dx0 A (rw' t r) d :=
  Pay.dx0_at (bDY V c H t r) (bXH V c H t r) (bRS V c H t r) (bGN V c H t) (bX V c H t r) (bGW V c H t) (bGB V c H t) (bP V c H t r) (bPJ V c H t) d

theorem acc_step (r : Fin 512) (d : Fin 1024) (n : ℕ) (h : n < cfg1.N) (D : Vec Ideal S512x1024 .f32) :
    (k1_pay9 (F := Ideal) (sr V c ⟨n, h⟩) (blkAt V c 7 ⟨n, h⟩) (blkAt V c 4 ⟨n, h⟩) D (blkAt V c 6 ⟨n, h⟩) : S512x1024.Idx → EReal) (ix2 r d)
      = (D (ix2 r d) : EReal) + dxPart A (trow (n / 4) r) (pt n) d :=
  Pay.dxStep_at (sr_at V c H ⟨n, h⟩ r) (bW2 V c H ⟨n, h⟩) (bAC V c H ⟨n, h⟩ r) (bW1 V c H ⟨n, h⟩) D d

theorem acc_first (r : Fin 512) (d : Fin 1024) (n : ℕ) (h : n < cfg1.N) (h0 : n % 4 = 0) :
    (accOut V c ⟨n, h⟩ (acc V c n) : S512x1024.Idx → EReal) (ix2 r d)
      = dx0 A (trow (n / 4) r) d + ∑ j ∈ Finset.range (n % 4 + 1), dxPart A (trow (n / 4) r) (pt j) d := by
  unfold accOut
  rw [if_pos h0]
  refine (acc_step V c H r d n h _).trans (congrArg₂ (· + ·) (start_at V c H ⟨n, h⟩ r d) ?_)
  rw [h0, Nat.zero_add, Finset.sum_range_one]
  exact congrArg (fun j => dxPart A (trow (n / 4) r) j d) (Fin.ext (show n % 4 = 0 % 4 by omega))

/-- The sum after a point: its start and the parts seen in this tile. -/
theorem acc_at (r : Fin 512) (d : Fin 1024) : ∀ (n : ℕ) (h : n < cfg1.N), (accOut V c ⟨n, h⟩ (acc V c n) : S512x1024.Idx → EReal) (ix2 r d)
    = dx0 A (trow (n / 4) r) d + ∑ j ∈ Finset.range (n % 4 + 1), dxPart A (trow (n / 4) r) (pt j) d := by
  intro n
  induction n with
  | zero => exact fun h => acc_first V c H r d 0 h rfl
  | succ n ih =>
    intro h
    by_cases h0 : (n + 1) % 4 = 0
    · exact acc_first V c H r d (n + 1) h h0
    · rw [accOut_mid V c ⟨n + 1, h⟩ h0]
      refine (acc_step V c H r d (n + 1) h _).trans ?_
      have e : acc V c (n + 1) = accOut V c ⟨n, Nat.lt_of_succ_lt h⟩ (acc V c n) := acc_succ V c ⟨n, Nat.lt_of_succ_lt h⟩
      have e4 : (n + 1) / 4 = n / 4 := by omega
      have em : (n + 1) % 4 = n % 4 + 1 := by omega
      rw [e, em, Finset.sum_range_succ, ← add_assoc]
      refine congrArg₂ (· + ·) ((ih (Nat.lt_of_succ_lt h)).trans (by rw [e4])) ?_
      exact congrArg (fun j => dxPart A (trow ((n + 1) / 4) r) j d) (Fin.ext (show (n + 1) % 4 = (n % 4 + 1) % 4 by omega))

/-! ## The results -/

theorem resDX : (dat V c).arrAt 12 cfg1.N = big (dx A) := by
  refine (dat V c).arrAt_eq_of_covers 12 _ (by decide +kernel) fun t hf y => ?_
  have h3 := (flush1_12 t).mp hf
  have h := lt64 t
  obtain ⟨r, d, rfl⟩ : ∃ (r : Fin 512) (d : Fin 1024), y = ix2 r d := ⟨y 0, y 1, eq_ix2 y⟩
  have hr := rw_val t r
  have e : (accOut V c t (acc V c t.val) : S512x1024.Idx → EReal) (ix2 r d) = dx A (rw' t r) d := by
    refine (acc_at V c H r d t.val t.isLt).trans (congrArg (fun z : EReal => dx0 A (rw' t r) d + z) ?_)
    rw [h3, Finset.sum_range]
    exact Finset.sum_congr rfl fun j _ => congrArg (fun j => dxPart A (trow (t.val / 4) r) j d) (Fin.ext (Nat.mod_eq_of_lt j.isLt))
  refine e.trans ?_
  show big (dx A) (ix2 (rw' t r) d) = _
  blk_ext [idx t]

theorem resDH : (dat V c).arrAt 13 cfg1.N = wide (dh A) := by
  refine (dat V c).arrAt_eq_of_covers 13 _ (by decide +kernel) fun t hf y => ?_
  have h := lt64 t
  obtain ⟨r, f, rfl⟩ : ∃ (r : Fin 512) (f : Fin 1024), y = ix2 r f := ⟨y 0, y 1, eq_ix2 y⟩
  have hr := rw_val t r
  have hc := hcol_val t.val f
  refine (Pay.dh_at (sr_at V c H t r) (bW2 V c H t) (bAC V c H t r) f).trans ((wide_at (dh A) (rw' t r) t.val f).symm.trans ?_)
  blk_ext [idx t]

theorem resDZ : (dat V c).arrAt 14 cfg1.N = big (dz A) := by
  refine (dat V c).arrAt_eq_of_covers 14 _ (by decide +kernel) fun t hf y => ?_
  have h := lt64 t
  obtain ⟨r, d, rfl⟩ : ∃ (r : Fin 512) (d : Fin 1024), y = ix2 r d := ⟨y 0, y 1, eq_ix2 y⟩
  have hr := rw_val t r
  have at' : ∀ u : Fin cfg1.N, _ = dz A (rw' u r) d := fun u => Pay.dz19_at (bDY V c H u r) (bXH V c H u r) (bRS V c H u r) (bGN V c H u) (bX V c H u r) (bGW V c H u) (bGB V c H u) (bP V c H u r) (bPJ V c H u) d
  refine ((at' (first t)).trans (congrArg (fun s => dz A s d) (rw_first t r))).trans ?_
  show big (dz A) (ix2 (rw' t r) d) = _
  blk_ext [idx t]

theorem resDP : (dat V c).arrAt 15 cfg1.N = big (de A) := by
  refine (dat V c).arrAt_eq_of_covers 15 _ (by decide +kernel) fun t hf y => ?_
  have h := lt64 t
  obtain ⟨r, d, rfl⟩ : ∃ (r : Fin 512) (d : Fin 1024), y = ix2 r d := ⟨y 0, y 1, eq_ix2 y⟩
  have hr := rw_val t r
  have at' : ∀ u : Fin cfg1.N, _ = de A (rw' u r) d := fun u => Pay.de_at (bDY V c H u r) (bXH V c H u r) (bRS V c H u r) (bGN V c H u) (bX V c H u r) (bGW V c H u) (bGB V c H u) d
  refine ((at' (first t)).trans (congrArg (fun s => de A s d) (rw_first t r))).trans ?_
  show big (de A) (ix2 (rw' t r) d) = _
  blk_ext [idx t]

theorem resDR : (dat V c).arrAt 16 cfg1.N = big (dr A) := by
  refine (dat V c).arrAt_eq_of_covers 16 _ (by decide +kernel) fun t hf y => ?_
  have h := lt64 t
  obtain ⟨r, d, rfl⟩ : ∃ (r : Fin 512) (d : Fin 1024), y = ix2 r d := ⟨y 0, y 1, eq_ix2 y⟩
  have hr := rw_val t r
  have at' : ∀ u : Fin cfg1.N, _ = dr A (rw' u r) d := fun u => Pay.dr13_at (bDY V c H u r) (bXH V c H u r) (bRS V c H u r) (bGN V c H u) d
  refine ((at' (first t)).trans (congrArg (fun s => dr A s d) (rw_first t r))).trans ?_
  show big (dr A) (ix2 (rw' t r) d) = _
  blk_ext [idx t]

omit H in
/-- What begins with the first tile's share, and has each further tile's added at that tile's first point, holds the
    shares of the tiles seen. -/
theorem tiles {α : Type} (out : (t : Fin cfg1.N) → α → α) (seen : ℕ → α) (at' : α → EReal) (share : ℕ → EReal)
    (hs : ∀ t : Fin cfg1.N, seen (t.val + 1) = out t (seen t.val))
    (h0 : ∀ (t : Fin cfg1.N) D, t.val = 0 → at' (out t D) = share 0)
    (h1 : ∀ (t : Fin cfg1.N) D, t.val % 4 = 0 → ¬t.val = 0 → at' (out t D) = at' D + share (t.val / 4))
    (h2 : ∀ (t : Fin cfg1.N) D, ¬t.val % 4 = 0 → out t D = D) :
    ∀ n, n < cfg1.N → at' (seen (n + 1)) = ∑ i ∈ Finset.range (n / 4 + 1), share i := by
  intro n
  induction n with
  | zero => intro h; rw [hs ⟨0, h⟩, h0 ⟨0, h⟩ _ rfl, Nat.zero_div, Nat.zero_add, Finset.sum_range_one]
  | succ n ih =>
    intro h
    rw [hs ⟨n + 1, h⟩]
    by_cases h4 : (n + 1) % 4 = 0
    · rw [h1 ⟨n + 1, h⟩ _ h4 (Nat.succ_ne_zero n), Finset.sum_range_succ]
      refine congrArg (· + share ((n + 1) / 4)) ((ih (Nat.lt_of_succ_lt h)).trans ?_)
      rw [show n / 4 + 1 = (n + 1) / 4 by omega]
    · rw [h2 ⟨n + 1, h⟩ _ h4, show (n + 1) / 4 = n / 4 by omega]
      exact ih (Nat.lt_of_succ_lt h)

omit H in
theorem all_tiles (f : Fin 8192 → EReal) : ∑ i ∈ Finset.range (63 / 4 + 1), ∑ r : Fin 512, f (trow i r) = ∑ s, f s := by
  rw [Finset.sum_range, Fin.sum_univ_tiles 16 512 rfl]
  refine Finset.sum_congr rfl fun i _ => Finset.sum_congr rfl fun r _ => congrArg f (Fin.ext ?_)
  have hi := i.isLt
  have hr := r.isLt
  show (512 * i.val + r.val) % 8192 = i.val * 512 + r.val
  rw [Nat.mod_eq_of_lt (by omega)]
  omega

theorem resDG : (dat V c).arrAt 17 cfg1.N = line (dgain A) := by
  refine (dat V c).arrAt_eq_of_covers 17 _ (by decide +kernel) fun t hf y => ?_
  have h3 := (flush1_17 t).mp hf
  have h := lt64 t
  obtain ⟨d, rfl⟩ : ∃ (d : Fin 1024), y = ix2 0 d := ⟨y 1, (eq_ix2 y).trans (by rw [Fin.fin_one_eq_zero (y 0 : Fin 1)])⟩
  have key := tiles (sgOut V c) (sg V c) (fun D => (D (ix2 0 d) : EReal)) (fun i => ∑ r : Fin 512, (fun s => dy A s d * xh A s d) (trow i r))
    (sg_succ V c)
    (fun t D ht => by
      unfold sgOut
      rw [if_pos (by omega), if_pos ht]
      refine (Pay.gain0_at _ _ d).trans (Finset.sum_congr rfl fun r _ => Eq.trans (congrArg₂ (· * ·) (bDY V c H t r d) (bXH V c H t r d)) ?_)
      show (fun s => dy A s d * xh A s d) (trow (t.val / 4) r) = _
      rw [ht])
    (fun t D h4 ht => by
      unfold sgOut
      rw [if_pos h4, if_neg ht]
      exact (Pay.gain1_at _ _ D d).trans (congrArg (fun z : EReal => (D (ix2 0 d) : EReal) + z) (Finset.sum_congr rfl fun r _ => congrArg₂ (· * ·) (bDY V c H t r d) (bXH V c H t r d))))
    (fun t D h4 => by unfold sgOut; rw [if_neg h4]) t.val t.isLt
  have e : t.val = 63 := by omega
  rw [e, all_tiles (fun s => dy A s d * xh A s d), ← e] at key
  refine (congrFun (sg_succ V c t).symm (ix2 0 d)).trans (key.trans ?_)
  show line (dgain A) (ix2 0 d) = _
  blk_ext [idx t]

theorem resDB : (dat V c).arrAt 18 cfg1.N = line (dbias A) := by
  refine (dat V c).arrAt_eq_of_covers 18 _ (by decide +kernel) fun t hf y => ?_
  have h3 := (flush1_18 t).mp hf
  have h := lt64 t
  obtain ⟨d, rfl⟩ : ∃ (d : Fin 1024), y = ix2 0 d := ⟨y 1, (eq_ix2 y).trans (by rw [Fin.fin_one_eq_zero (y 0 : Fin 1)])⟩
  have key := tiles (sbOut V c) (sb V c) (fun D => (D (ix2 0 d) : EReal)) (fun i => ∑ r : Fin 512, (fun s => dy A s d) (trow i r))
    (sb_succ V c)
    (fun t D ht => by
      unfold sbOut
      rw [if_pos (by omega), if_pos ht]
      refine (Pay.bias0_at _ d).trans (Finset.sum_congr rfl fun r _ => Eq.trans (bDY V c H t r d) ?_)
      show (fun s => dy A s d) (trow (t.val / 4) r) = _
      rw [ht])
    (fun t D h4 ht => by
      unfold sbOut
      rw [if_pos h4, if_neg ht]
      exact (Pay.bias1_at _ D d).trans (congrArg (fun z : EReal => (D (ix2 0 d) : EReal) + z) (Finset.sum_congr rfl fun r _ => bDY V c H t r d)))
    (fun t D h4 => by unfold sbOut; rw [if_neg h4]) t.val t.isLt
  have e : t.val = 63 := by omega
  rw [e, all_tiles (fun s => dy A s d), ← e] at key
  refine (congrFun (sb_succ V c t).symm (ix2 0 d)).trans (key.trans ?_)
  show line (dbias A) (ix2 0 d) = _
  blk_ext [idx t]

theorem resDL : (dat V c).arrAt 19 cfg1.N = line (dgb A) := by
  refine (dat V c).arrAt_eq_of_covers 19 _ (by decide +kernel) fun t hf y => ?_
  have h3 := (flush1_19 t).mp hf
  have h := lt64 t
  obtain ⟨d, rfl⟩ : ∃ (d : Fin 1024), y = ix2 0 d := ⟨y 1, (eq_ix2 y).trans (by rw [Fin.fin_one_eq_zero (y 0 : Fin 1)])⟩
  have key := tiles (slOut V c) (sl V c) (fun D => (D (ix2 0 d) : EReal)) (fun i => ∑ r : Fin 512, (fun s => dz A s d) (trow i r))
    (sl_succ V c)
    (fun t D ht => by
      unfold slOut
      rw [if_pos (by omega), if_pos ht]
      refine (Pay.gb0_at _ d).trans (Finset.sum_congr rfl fun r _ => Eq.trans (Pay.dz_at (bDY V c H t r) (bXH V c H t r) (bRS V c H t r) (bGN V c H t) (bX V c H t r) (bGW V c H t) (bGB V c H t) (bP V c H t r) (bPJ V c H t) d) ?_)
      show (fun s => dz A s d) (trow (t.val / 4) r) = _
      rw [ht])
    (fun t D h4 ht => by
      unfold slOut
      rw [if_pos h4, if_neg ht]
      exact (Pay.gb1_at _ D d).trans (congrArg (fun z : EReal => (D (ix2 0 d) : EReal) + z) (Finset.sum_congr rfl fun r _ => Pay.dz_at (bDY V c H t r) (bXH V c H t r) (bRS V c H t r) (bGN V c H t) (bX V c H t r) (bGW V c H t) (bGB V c H t) (bP V c H t r) (bPJ V c H t) d)))
    (fun t D h4 => by unfold slOut; rw [if_neg h4]) t.val t.isLt
  have e : t.val = 63 := by omega
  rw [e, all_tiles (fun s => dz A s d), ← e] at key
  refine (congrFun (sl_succ V c t).symm (ix2 0 d)).trans (key.trans ?_)
  show line (dgb A) (ix2 0 d) = _
  blk_ext [idx t]

end Cert.Kernel7Ideal.KerB

end
-- ==== Proof.MlpAgree.lean ====
/- The layer's calls compute its loss and its gradients. -/
module

public import proofs.«01_k».proof.Defs
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Pre_finite7
public import proofs.«01_k».proof.Proof.Agree
public import proofs.«01_k».proof.Proof.MlpRef
public import proofs.«01_k».proof.Proof.MlpRun
public import proofs.«01_k».proof.Proof.MlpFrame
public import proofs.«01_k».proof.Proof.MlpKerF
public import proofs.«01_k».proof.Proof.MlpKerB

@[expose] public section

set_option maxRecDepth 16384

noncomputable section

namespace Cert.MlpAgree

open Idealize.ShloMosaic Idealize.ShloMosaic.TcCoe Idealize.SL.Sem Cert.Kernel7Ideal Cert.Kernel7Ideal.Gen Cert.Mlp

section Values

variable (m : (ℓ : Loc nD τ sig) → Buf (Elt Ideal) ℓ)

/-- The layer's inputs at the start. -/
def inputs (c : Dev nD) : Args := KerF.A (V0 m) c

theorem inputs_eq (c : Dev nD) : inputs m c = args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- What the backward call finds. -/
theorem holds (c : Dev nD) : KerB.Holds (Run.A2 m) c (inputs m c) where
  DY := (Run.A2_Y m c).trans (KerF.resY (V0 m) c)
  XH := (Run.A2_XH m c).trans (KerF.resXH (V0 m) c)
  RS := (Run.A2_RS m c).trans (KerF.resRS (V0 m) c)
  AC := (Run.A2_A m c).trans (KerF.resA (V0 m) c)
  X s k := congrFun (Run.A2_of m c main_arg0 (by decide)) (ix2 s k)
  P s k := congrFun (Run.A2_of m c main_arg1 (by decide)) (ix2 s k)
  W1 j k f := congrFun (Run.A2_of m c main_arg2 (by decide)) (ix3 j k f)
  W2 j f d := congrFun (Run.A2_of m c main_arg3 (by decide)) (ix3 j f d)
  GW k d := congrFun (Run.A2_of m c main_arg4 (by decide)) (ix3 (hi 4 256 rfl k) (lo 4 256 rfl k) d)
  GB d := congrFun (Run.A2_of m c main_arg5 (by decide)) (ix2 0 d)
  PJ k d := congrFun (Run.A2_of m c main_arg6 (by decide)) (ix3 (hi 4 256 rfl d) k (lo 4 256 rfl d))
  GN d := congrFun (Run.A2_of m c main_arg7 (by decide)) (ix2 0 d)

/-- Finite arguments are finite inputs. -/
theorem inputs_real (hm : Pre_Kernel7Ideal_finite7 (hPre_finite7 := Pre_finite7.Gen.facts) m) (c : Dev nD) : (inputs m c).IsReal := by
  obtain ⟨h0, h1, h2, h3, h4, h5, h6, h7, h8, h9⟩ := hm c
  exact {
    X := fun s k => Agree.real_of (congrFun h0 _)
    P := fun s k => Agree.real_of (congrFun h1 _)
    W1 := fun j k f => Agree.real_of (congrFun h2 _)
    W2 := fun j f d => Agree.real_of (congrFun h3 _)
    GW := fun k d => Agree.real_of (congrFun h4 _)
    GB := fun d => Agree.real_of (congrFun h5 _)
    PJ := fun k d => Agree.real_of (congrFun h6 _)
    GN := fun d => Agree.real_of (congrFun h7 _)
    BS := fun d => Agree.real_of (congrFun h8 _)
    T := fun s d => Agree.real_of (congrFun h9 _) }

end Values

/-- Arrays with equal elements are equal. -/
theorem ext2 {a b : ℕ} {x y : Big a b} (h : ∀ i j, x (ix2 i j) = y (ix2 i j)) : x = y := funext fun i => by rw [eq_ix2 i]; exact h _ _
theorem ext_line {b : ℕ} {x y : Big 1 b} (h : ∀ j, x (ix2 0 j) = y (ix2 0 j)) : x = y :=
  ext2 fun i j => by rw [Fin.fin_one_eq_zero i]; exact h j

/-- At finite arguments kernel and reference end with the same loss and the same gradients. -/
theorem algebraic : Cert.algebraic_Kernel7Ideal_Reference7Ideal_pre_finite7 (hKernel7Ideal := Kernel7Ideal.Gen.facts)
    (hReference7Ideal := Reference7Ideal.Gen.facts) (hPre_finite7 := Pre_finite7.Gen.facts) := by
  intro m g m' g' hm hsame
  have hR := inputs_real m hm
  refine ⟨fun c _ => Mlp.loss (inputs m c), fun c => big (dx (inputs m c)), fun c => wide (dh (inputs m c)), fun c => big (dz (inputs m c)),
    fun c => big (de (inputs m c)), fun c => big (dr (inputs m c)), fun c => line (dgain (inputs m c)), fun c => line (dbias (inputs m c)),
    fun c => line (dgb (inputs m c)), ?_, ?_⟩
  · refine (θ_run defs _ _).mono (fun r h c => ?_) (Run.run_read (F := Ideal) m g)
    have H := holds m c
    exact ⟨(h.1 c _ rfl).trans ((Run.A3_of m c main_v0_5 (by decide)).trans ((Run.A2_LS m c).trans (KerF.resLS (V0 m) c))),
      (h.1 c _ rfl).trans ((Run.A3_DX m c).trans (KerB.resDX (Run.A2 m) c H)), (h.1 c _ rfl).trans ((Run.A3_DH m c).trans (KerB.resDH (Run.A2 m) c H)),
      (h.1 c _ rfl).trans ((Run.A3_DZ m c).trans (KerB.resDZ (Run.A2 m) c H)), (h.1 c _ rfl).trans ((Run.A3_DP m c).trans (KerB.resDP (Run.A2 m) c H)),
      (h.1 c _ rfl).trans ((Run.A3_DR m c).trans (KerB.resDR (Run.A2 m) c H)), (h.1 c _ rfl).trans ((Run.A3_DG m c).trans (KerB.resDG (Run.A2 m) c H)),
      (h.1 c _ rfl).trans ((Run.A3_DB m c).trans (KerB.resDB (Run.A2 m) c H)), (h.1 c _ rfl).trans ((Run.A3_DL m c).trans (KerB.resDL (Run.A2 m) c H)),
      MlpFrame.args_keep m r h.1 c⟩
  · refine (θ_run _ _ _).mono (fun r h c => ?_) (Reference7Ideal.Value.run (F := Ideal) m' g')
    obtain ⟨e0, e1, e2, e3, e4, e5, e6, e7, e8, e9⟩ := hsame c
    have e : Reference7Ideal.Val.A (StableHlo.launchContents m' c) = inputs m c := by
      rw [inputs_eq, ← e0, ← e1, ← e2, ← e3, ← e4, ← e5, ← e6, ← e7, ← e8, ← e9]
    have hA : (Reference7Ideal.Val.A (StableHlo.launchContents m' c)).IsReal := by rw [e]; exact hR c
    obtain ⟨hl, hdx, hdh, hdz, hde, hdr, hdg, hdb, hdl, hk⟩ := h c
    exact ⟨hl.trans (ext_line fun d => (Reference7Ideal.Val.r_loss hA d).trans (congrArg (fun A => Mlp.loss A) e)),
      hdx.trans (ext2 fun s d => (Reference7Ideal.Val.r_dx hA s d).trans (congrArg (fun A => dx A s d) e)),
      hdh.trans (ext2 fun s n => (Reference7Ideal.Val.r137 hA s n).trans (congrArg (fun A => dh A s (hi 4 1024 rfl n) (lo 4 1024 rfl n)) e)),
      hdz.trans (ext2 fun s d => (Reference7Ideal.Val.r128 hA s d).trans (congrArg (fun A => dz A s d) e)),
      hde.trans (ext2 fun s d => (Reference7Ideal.Val.r_de hA s d).trans (congrArg (fun A => de A s d) e)),
      hdr.trans (ext2 fun s d => (Reference7Ideal.Val.r123 hA s d).trans (congrArg (fun A => dr A s d) e)),
      hdg.trans (ext_line fun d => (Reference7Ideal.Val.r_gain hA d).trans (congrArg (fun A => dgain A d) e)),
      hdb.trans (ext_line fun d => (Reference7Ideal.Val.r_bias hA d).trans (congrArg (fun A => dbias A d) e)),
      hdl.trans (ext_line fun d => (Reference7Ideal.Val.r_gb hA d).trans (congrArg (fun A => dgb A d) e)),
      hk⟩

end Cert.MlpAgree

end
-- ==== Proof.RunSum.lean ====
/- Sums taken a block of rows at a time. -/
module

public import Idealize.ShloMosaic.PureOps.Ideal
public import Idealize.ShloMosaic.Lib.ValueIdx
public import Mathlib.Algebra.BigOperators.Fin

@[expose] public section

noncomputable section

namespace Cert.RunSum

/-- A row's number, for any natural number. -/
def row (k : ℕ) : Fin 8192 := ⟨k % 8192, Nat.mod_lt _ (by decide)⟩

theorem row_val (k : Fin 8192) : row k.val = k := Fin.ext (Nat.mod_eq_of_lt k.isLt)

/-- A sum over a block more. -/
theorem range_block (ts n : ℕ) (f : ℕ → EReal) :
    ∑ k ∈ Finset.range (ts * n), f k + ∑ k : Fin ts, f (ts * n + k.val) = ∑ k ∈ Finset.range (ts * (n + 1)), f k := by
  rw [Nat.mul_succ, Finset.sum_range_add, Finset.sum_range (fun k => f (ts * n + k))]

/-- What is reset to a block's sum every `P` points, and has a further block's sum added at the points between, holds
    the sum over the blocks seen since the reset. -/
theorem run_sum (P ts N : ℕ) (g : ℕ → ℕ → EReal) (o : (n : ℕ) → n < N → EReal)
    (hA : ∀ n h, n % P = 0 → o n h = ∑ k : Fin ts, g (n / P) (ts * (n % P) + k.val))
    (hB : ∀ n h, ¬n % P = 0 → o n h = o (n - 1) (Nat.lt_of_le_of_lt (Nat.sub_le _ _) h) + ∑ k : Fin ts, g (n / P) (ts * (n % P) + k.val)) :
    ∀ n h, o n h = ∑ k ∈ Finset.range (ts * (n % P + 1)), g (n / P) k := by
  intro n
  induction n with
  | zero =>
    intro h
    rw [hA 0 h (Nat.zero_mod P), ← range_block, Nat.zero_mod, Nat.mul_zero, Finset.range_zero, Finset.sum_empty, zero_add]
  | succ n ih =>
    intro h
    by_cases h0 : (n + 1) % P = 0
    · rw [hA _ h h0, ← range_block, h0, Nat.mul_zero, Finset.range_zero, Finset.sum_empty, zero_add]
    · have hm : (n + 1) % P = n % P + 1 := by
        rcases Nat.eq_zero_or_pos P with rfl | hP
        · simp
        · have h1 := Nat.mod_lt n hP
          rw [Nat.add_mod]
          rcases Nat.lt_or_ge (n % P + 1) P with h2 | h2
          · have h3 : 1 % P = 1 := Nat.mod_eq_of_lt (by omega)
            rw [h3, Nat.mod_eq_of_lt h2]
          · exfalso
            have h3 : n % P + 1 = P := by omega
            apply h0
            rw [← Nat.div_add_mod n P, Nat.add_assoc, h3]
            simp
      have hd : (n + 1) / P = n / P := by
        rcases Nat.eq_zero_or_pos P with rfl | hP
        · simp
        · have e1 := Nat.div_add_mod (n + 1) P
          have e2 := Nat.div_add_mod n P
          have e3 : P * ((n + 1) / P) = P * (n / P) := by omega
          exact Nat.eq_of_mul_eq_mul_left hP e3
      have e : o (n + 1 - 1) (Nat.lt_of_le_of_lt (Nat.sub_le _ _) h) = o n (Nat.lt_of_succ_lt h) := rfl
      rw [hB _ h h0, e, ih, hd, hm, range_block]

/-- The sum over all rows. -/
theorem all_rows (f : Fin 8192 → EReal) : ∑ k ∈ Finset.range 8192, f (row k) = ∑ k, f k := by
  rw [Finset.sum_range (fun k => f (row k))]
  exact Finset.sum_congr rfl fun k _ => by rw [row_val]

end Cert.RunSum

end
-- ==== Proof.Grad2.lean ====
/- The gradient of the first MLP weight, as a stack of four column tiles: the sum over all rows, 2048 at a time. -/
module

public import proofs.«01_k».proof.Defs
public import proofs.«01_k».proof.Proof.RunSum
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Grad2

open Cert.Kernel2Ideal Cert.Kernel2Ideal.Gen Cert.Kernel2Ideal.Value
open Idealize.ShloMosaic Idealize.ShloMosaic.TcCoe Idealize.SL.Sem
open Idealize.ShloMosaic.Pipeline (Dat Cfg Window)
open Cert.RunSum

theorem hz : (![0, 0] : Fin 2 → ℕ) = fun _ => 0 := funext fun a => by fin_cases a <;> rfl
theorem hz3 : (![0, 0, 0] : Fin 3 → ℕ) = fun _ => 0 := funext fun a => by fin_cases a <;> rfl

/-- The product of two blocks, summed over their rows. -/
theorem dot_block (x y : FVec Ideal S2048x1024 .bf16) (i j : Fin 1024) :
    k0_pay1 (F := Ideal) x y (ix2 i j) = ∑ k, (x (ix2 k i) : EReal) * y (ix2 k j) := by
  unfold k0_pay1
  pointwise!

/-- The first store's tile, at an element. -/
theorem first_at (x y : FVec Ideal S2048x1024 .bf16) (i j : Fin 1024) :
    k0_pay2 (F := Ideal) x y (ix3 0 i j) = k0_pay1 x y (ix2 i j) := by
  unfold k0_pay2
  pointwise!

/-- A further store's tile, at an element. -/
theorem next_at (x y : FVec Ideal S2048x1024 .bf16) (o : FVec Ideal S1x1024x1024 .f32) (i j : Fin 1024) :
    k0_pay3 (F := Ideal) x y o (ix3 0 i j) = (o (ix3 0 i j) : EReal) + k0_pay1 x y (ix2 i j) := by
  unfold k0_pay3
  pointwise!

section Body

variable {F : FTy → Type} [FloatOps F] (c : Dev nD) (i : grid0.Coords) (a0 : Memref sig .tc .vmem S2048x1024 .bf16) (h0 : a0.IsWhole)
  (a1 : Memref sig .tc .vmem S2048x1024 .bf16) (h1 : a1.IsWhole) (a2 : Memref sig .tc .vmem S1x1024x1024 .f32) (h2 : a2.IsWhole)
  (x y : Vec F S2048x1024 .bf16) (o : Vec F S1x1024x1024 .f32)

/-- The first block of rows sets the tile. -/
theorem out_A (hc : cond0_0 i) (hc' : ¬cond0_1 i) : out0_A_2 c i a0 h0 a1 h1 a2 h2 hc hc' x y = k0_pay2 x y := by
  unfold out0_A_2
  rw [View.read_writes_eq_canon _ _ _ (cover0_A_2 c i a0 h0 a1 h1 a2 h2 hc hc' x y)]
  unfold kernelRun0_A
  dsimp only
  rw [View.canon_unit_zero hz3]
  simp only [View.readAt_eq_ld, h0.read_unread, h1.read_unread, View.ld_unit_zero (S := S2048x1024) hz]

/-- Every further one adds to it. -/
theorem out_B (hc : ¬cond0_0 i) (hc' : cond0_1 i) :
    out0_B_2 c i a0 h0 a1 h1 a2 h2 hc hc' x y o = k0_pay3 x y o := by
  unfold out0_B_2
  rw [View.read_writes_eq_canon _ _ _ (cover0_B_2 c i a0 h0 a1 h1 a2 h2 hc hc' x y o)]
  unfold kernelRun0_B
  dsimp only
  rw [View.canon_unit_zero hz3]
  simp only [View.readAt_eq_ld, h0.read_unread, h1.read_unread, h2.read_unread, View.ld_unit_zero (S := S2048x1024) hz,
    View.ld_unit_zero (S := S1x1024x1024) hz3]

end Body

/-- Each window's block at a point. -/
theorem idx : ∀ t : Fin cfg0.N, win0_0.index t = ![t.val % 4, 0] ∧ win0_1.index t = ![t.val % 4, t.val / 4]
    ∧ win0_2.index t = ![t.val / 4, 0, 0] := (by decide +kernel : ∀ t : Fin grid0.N, _)

variable (m : (ℓ : Loc nD τ sig) → Buf (Elt Ideal) ℓ) (c : Dev nD)

/-- The two factors. -/
abbrev X : S8192x1024.Idx → EReal := m ((c : Thread nD τ).loc main_arg0)
abbrev Y : S8192x4096.Idx → EReal := m ((c : Thread nD τ).loc main_arg1)

/-- A column's number, for any tile. -/
def col (n : ℕ) (j : Fin 1024) : Fin 4096 := ⟨(1024 * n + j.val) % 4096, Nat.mod_lt _ (by decide)⟩

theorem lt16 (t : Fin cfg0.N) : t.val < 16 := lt_of_lt_of_eq t.isLt (by decide +kernel)

/-- A row's share of the tile `n`. -/
def term (i j : Fin 1024) (n k : ℕ) : EReal := X m c (ix2 (row k) i) * Y m c (ix2 (row k) (col n j))

theorem blk_x (t : Fin cfg0.N) (k : Fin 2048) (i : Fin 1024) :
    (iblk m c 0 t : S2048x1024.Idx → EReal) (ix2 k i) = X m c (ix2 (row (2048 * (t.val % 4) + k.val)) i) := by
  have h := lt16 t
  have hr : (row (2048 * (t.val % 4) + k.val)).val = 2048 * (t.val % 4) + k.val := Nat.mod_eq_of_lt (by have := k.isLt; omega)
  blk_ext [iblk, idx t]

theorem blk_y (t : Fin cfg0.N) (k : Fin 2048) (j : Fin 1024) :
    (iblk m c 1 t : S2048x1024.Idx → EReal) (ix2 k j) = Y m c (ix2 (row (2048 * (t.val % 4) + k.val)) (col (t.val / 4) j)) := by
  have h := lt16 t
  have hr : (row (2048 * (t.val % 4) + k.val)).val = 2048 * (t.val % 4) + k.val := Nat.mod_eq_of_lt (by have := k.isLt; omega)
  have hc : (col (t.val / 4) j).val = 1024 * (t.val / 4) + j.val := Nat.mod_eq_of_lt (by have := j.isLt; omega)
  blk_ext [iblk, idx t]

theorem dot_at (t : Fin cfg0.N) (i j : Fin 1024) :
    k0_pay1 (F := Ideal) (iblk m c 0 t) (iblk m c 1 t) (ix2 i j) = ∑ k : Fin 2048, term m c i j (t.val / 4) (2048 * (t.val % 4) + k.val) :=
  (dot_block (iblk m c 0 t) (iblk m c 1 t) i j).trans (Finset.sum_congr rfl fun k _ => congrArg₂ (· * ·) (blk_x m c t k i) (blk_y m c t k j))

/-- What the tile holds after a point. -/
theorem out_at (i j : Fin 1024) (n : ℕ) (h : n < cfg0.N) :
    (outsAt0 m c n h (ix3 0 i j) : EReal) = ∑ k ∈ Finset.range (2048 * (n % 4 + 1)), term m c i j (n / 4) k := by
  refine run_sum 4 2048 cfg0.N (term m c i j) (fun n h => outsAt0 m c n h (ix3 0 i j)) (fun n h h0 => ?_) (fun n h h0 => ?_) n h
  · refine (congrFun ((outsAt0_A m c ⟨n, h⟩ h0 (by dsimp only; omega)).trans (out_A ..)) (ix3 0 i j)).trans ?_
    exact (first_at _ _ i j).trans (dot_at m c ⟨n, h⟩ i j)
  · refine (congrFun ((outsAt0_B m c ⟨n, h⟩ h0 (by dsimp only; omega)).trans (out_B ..)) (ix3 0 i j)).trans ?_
    exact (next_at _ _ _ i j).trans (congrArg (_ + ·) (dot_at m c ⟨n, h⟩ i j))

/-- The gradient, tile by tile: the product summed over all rows. -/
def grad (X : S8192x1024.Idx → EReal) (Y : S8192x4096.Idx → EReal) : S4x1024x1024.Idx → EReal :=
  fun i => ∑ k : Fin 8192, X (ix2 k (i 1)) * Y (ix2 k (col (i 0 : Fin 4).val (i 2)))

theorem final : (dats m 0 c).arrAt 2 cfg0.N = grad (X m c) (Y m c) := by
  refine (dats m 0 c).arrAt_eq_of_covers 2 _ (by decide +kernel) fun t hf y => ?_
  have h3 := (flush0_2 t).mp hf
  have h := lt16 t
  blk_simp [idx t]
  rw [after0_2]
  obtain ⟨i, j, rfl⟩ : ∃ i j : Fin 1024, y = ix3 0 i j := ⟨y 1, y 2, (eq_ix3 y).trans (by rw [Fin.fin_one_eq_zero (y 0 : Fin 1)])⟩
  refine (out_at m c i j t.val t.isLt).trans ?_
  rw [h3]
  refine (all_rows (fun k => X m c (ix2 k i) * Y m c (ix2 k (col (t.val / 4) j)))).trans ?_
  have e : (win0_2.blk t).view.emb (ix3 0 i j : S1x1024x1024.Idx) = (ix3 (⟨t.val / 4, by omega⟩ : Fin 4) i j : S4x1024x1024.Idx) := by
    blk_ext [idx t]
  rw [e]
  rfl

/-- The reference's product, at one element. -/
theorem ref_grad (X : FVec Ideal S8192x1024 .bf16) (Y : FVec Ideal S8192x4096 .bf16) :
    transpose Reference2Ideal.S4x1024x1024 [1, 0, 2] (shapeCast Reference2Ideal.S1024x4x1024 (transpose Reference2Ideal.S1024x4096 [1, 0]
      (Host.dotGeneral (F := Ideal) Reference2Ideal.dot_S8192x4096_S8192x1024_S4096x1024_0_0_1_1_n_n none
        (extf .f32 Y Reference2Ideal.Facts₀.bitsLt_bf16_f32) (extf .f32 X Reference2Ideal.Facts₀.bitsLt_bf16_f32))
      Reference2Ideal.Facts₀.transposes_S4096x1024_S1024x4096_1_0) Reference2Ideal.Facts₀.shapeCasts_S1024x4096_S1024x4x1024)
      Reference2Ideal.Facts₀.transposes_S1024x4x1024_S4x1024x1024_1_0_2 = grad X Y := by
  funext i
  obtain ⟨n, a, b, rfl⟩ : ∃ (n : Fin 4) (a b : Fin 1024), i = ix3 n a b := ⟨i 0, i 1, i 2, eq_ix3 i⟩
  have hb : col n.val b = ⟨n.val * 1024 + b.val, by have := b.isLt; have := n.isLt; omega⟩ := Fin.ext (by
    have h : (col n.val b).val = 1024 * n.val + b.val := Nat.mod_eq_of_lt (by have := b.isLt; have := n.isLt; omega)
    dsimp only
    omega)
  refine Eq.trans (b := ∑ k : Fin 8192, (Y (ix2 k (col n.val b)) : EReal) * X (ix2 k a)) (by rw [hb]; pointwise!) ?_
  exact Finset.sum_congr rfl fun k _ => mul_comm _ _

/-- Kernel and reference end with the same gradient. -/
theorem algebraic : Cert.algebraic_Kernel2Ideal_Reference2Ideal (hKernel2Ideal := Kernel2Ideal.Gen.facts) (hReference2Ideal := Reference2Ideal.Gen.facts) := by
  intro m g m' g' _ hsame
  refine ⟨fun c => grad (X m c) (Y m c), (θ_run _ _ _).mono (fun r h c => ?_) (run_blocks (F := Ideal) m g),
    (θ_run _ _ _).mono (fun r h c => ?_) (Reference2Ideal.Value.run (F := Ideal) m' g')⟩
  · exact ⟨(h c).1.trans (final m c), (h c).2⟩
  · refine ⟨(h c).1.trans ?_, (h c).2⟩
    rw [(hsame c).1, (hsame c).2]
    exact ref_grad _ _

/-- The kernel as it runs, as rewritten, and the reference each run and leave their arguments as they were. -/
theorem frames : Cert.quiescent_Kernel2 (hKernel2 := Kernel2.Gen.facts) ∧ Cert.quiescent_Kernel2Ideal (hKernel2Ideal := Kernel2Ideal.Gen.facts)
    ∧ Cert.quiescent_Reference2Ideal (hReference2Ideal := Reference2Ideal.Gen.facts) :=
  ⟨fun m g _ => Kernel2.Gen.frame m g, fun m g _ => Kernel2Ideal.Gen.frame m g, fun m g _ =>
    (θ_run _ _ _).mono (fun r h => ⟨fun c => (h c).2, sem_eq_zero_of_no_sems rfl _⟩) (Reference2Ideal.Value.run (F := Ideal) m g)⟩

end Cert.Grad2

end
-- ==== Proof.Grad3.lean ====
/- The gradient of the second MLP weight: the sum over all rows, 2048 at a time. -/
module

public import proofs.«01_k».proof.Defs
public import proofs.«01_k».proof.Proof.RunSum
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Grad3

open Cert.Kernel3Ideal Cert.Kernel3Ideal.Gen Cert.Kernel3Ideal.Value
open Idealize.ShloMosaic Idealize.ShloMosaic.TcCoe Idealize.SL.Sem
open Idealize.ShloMosaic.Pipeline (Dat Cfg Window)
open Cert.RunSum

theorem hz : (![0, 0] : Fin 2 → ℕ) = fun _ => 0 := funext fun a => by fin_cases a <;> rfl

/-- The product of two blocks, summed over their rows. -/
theorem dot_block (x y : FVec Ideal S2048x1024 .bf16) (i j : Fin 1024) :
    k0_pay1 (F := Ideal) x y (ix2 i j) = ∑ k, (x (ix2 k i) : EReal) * y (ix2 k j) := by
  unfold k0_pay1
  pointwise!

section Body

variable {F : FTy → Type} [FloatOps F] (c : Dev nD) (i : grid0.Coords) (a0 : Memref sig .tc .vmem S2048x1024 .bf16) (h0 : a0.IsWhole)
  (a1 : Memref sig .tc .vmem S2048x1024 .bf16) (h1 : a1.IsWhole) (a2 : Memref sig .tc .vmem S1024x1024 .f32) (h2 : a2.IsWhole)
  (x y : Vec F S2048x1024 .bf16) (o : Vec F S1024x1024 .f32)

/-- The first block of rows sets the tile. -/
theorem out_A (hc : cond0_0 i) (hc' : ¬cond0_1 i) : out0_A_2 c i a0 h0 a1 h1 a2 h2 hc hc' x y = k0_pay1 x y := by
  unfold out0_A_2
  rw [View.read_writes_eq_canon _ _ _ (cover0_A_2 c i a0 h0 a1 h1 a2 h2 hc hc' x y)]
  unfold kernelRun0_A
  dsimp only
  rw [View.canon_unit_zero hz]
  simp only [View.readAt_eq_ld, h0.read_unread, h1.read_unread, View.ld_unit_zero (S := S2048x1024) hz]

/-- Every further one adds to it. -/
theorem out_B (hc : ¬cond0_0 i) (hc' : cond0_1 i) :
    out0_B_2 c i a0 h0 a1 h1 a2 h2 hc hc' x y o = addf o (k0_pay1 x y) := by
  unfold out0_B_2
  rw [View.read_writes_eq_canon _ _ _ (cover0_B_2 c i a0 h0 a1 h1 a2 h2 hc hc' x y o)]
  unfold kernelRun0_B
  dsimp only
  rw [View.canon_unit_zero hz]
  unfold k0_pay2
  simp only [View.readAt_eq_ld, h0.read_unread, h1.read_unread, h2.read_unread, View.ld_unit_zero (S := S2048x1024) hz,
    View.ld_unit_zero (S := S1024x1024) hz, shapeCast_self]

end Body

/-- Each window's block at a point. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

variable (m : (ℓ : Loc nD τ sig) → Buf (Elt Ideal) ℓ) (c : Dev nD)

/-- The two factors. -/
abbrev X : S8192x4096.Idx → EReal := m ((c : Thread nD τ).loc main_arg0)
abbrev Y : S8192x1024.Idx → EReal := m ((c : Thread nD τ).loc main_arg1)

/-- A column's number, for any tile. -/
def col (n : ℕ) (i : Fin 1024) : Fin 4096 := ⟨(1024 * n + i.val) % 4096, Nat.mod_lt _ (by decide)⟩

theorem lt16 (t : Fin cfg0.N) : t.val < 16 := lt_of_lt_of_eq t.isLt (by decide +kernel)

/-- A row's share of the tile `n`. -/
def term (i j : Fin 1024) (n k : ℕ) : EReal := X m c (ix2 (row k) (col n i)) * Y m c (ix2 (row k) j)

theorem blk_x (t : Fin cfg0.N) (k : Fin 2048) (i : Fin 1024) :
    (iblk m c 0 t : S2048x1024.Idx → EReal) (ix2 k i) = X m c (ix2 (row (2048 * (t.val % 4) + k.val)) (col (t.val / 4) i)) := by
  have h := lt16 t
  have hr : (row (2048 * (t.val % 4) + k.val)).val = 2048 * (t.val % 4) + k.val := Nat.mod_eq_of_lt (by have := k.isLt; omega)
  have hc : (col (t.val / 4) i).val = 1024 * (t.val / 4) + i.val := Nat.mod_eq_of_lt (by have := i.isLt; omega)
  blk_ext [iblk, idx t]

theorem blk_y (t : Fin cfg0.N) (k : Fin 2048) (j : Fin 1024) :
    (iblk m c 1 t : S2048x1024.Idx → EReal) (ix2 k j) = Y m c (ix2 (row (2048 * (t.val % 4) + k.val)) j) := by
  have h := lt16 t
  have hr : (row (2048 * (t.val % 4) + k.val)).val = 2048 * (t.val % 4) + k.val := Nat.mod_eq_of_lt (by have := k.isLt; omega)
  blk_ext [iblk, idx t]

theorem dot_at (t : Fin cfg0.N) (i j : Fin 1024) :
    k0_pay1 (F := Ideal) (iblk m c 0 t) (iblk m c 1 t) (ix2 i j) = ∑ k : Fin 2048, term m c i j (t.val / 4) (2048 * (t.val % 4) + k.val) :=
  (dot_block (iblk m c 0 t) (iblk m c 1 t) i j).trans (Finset.sum_congr rfl fun k _ => congrArg₂ (· * ·) (blk_x m c t k i) (blk_y m c t k j))

/-- What the tile holds after a point. -/
theorem out_at (i j : Fin 1024) (n : ℕ) (h : n < cfg0.N) :
    (outsAt0 m c n h (ix2 i j) : EReal) = ∑ k ∈ Finset.range (2048 * (n % 4 + 1)), term m c i j (n / 4) k := by
  refine run_sum 4 2048 cfg0.N (term m c i j) (fun n h => outsAt0 m c n h (ix2 i j)) (fun n h h0 => ?_) (fun n h h0 => ?_) n h
  · refine (congrFun ((outsAt0_A m c ⟨n, h⟩ h0 (by dsimp only; omega)).trans (out_A ..)) (ix2 i j)).trans ?_
    exact dot_at m c ⟨n, h⟩ i j
  · refine (congrFun ((outsAt0_B m c ⟨n, h⟩ h0 (by dsimp only; omega)).trans (out_B ..)) (ix2 i j)).trans ?_
    exact congrArg (_ + ·) (dot_at m c ⟨n, h⟩ i j)

/-- The gradient: the product summed over all rows. -/
def grad (X : S8192x4096.Idx → EReal) (Y : S8192x1024.Idx → EReal) : S4096x1024.Idx → EReal :=
  fun i => ∑ k : Fin 8192, X (ix2 k (i 0)) * Y (ix2 k (i 1))

theorem final : (dats m 0 c).arrAt 2 cfg0.N = grad (X m c) (Y m c) := by
  refine (dats m 0 c).arrAt_eq_of_covers 2 _ (by decide +kernel) fun t hf y => ?_
  have h3 := (flush0_2 t).mp hf
  have h := lt16 t
  blk_simp [idx t]
  rw [after0_2]
  obtain ⟨i, j, rfl⟩ : ∃ i j : Fin 1024, y = ix2 i j := ⟨y 0, y 1, eq_ix2 y⟩
  refine (out_at m c i j t.val t.isLt).trans ?_
  rw [h3]
  refine (all_rows (fun k => X m c (ix2 k (col (t.val / 4) i)) * Y m c (ix2 k j))).trans ?_
  have hc : (col (t.val / 4) i).val = 1024 * (t.val / 4) + i.val := Nat.mod_eq_of_lt (by have := i.isLt; omega)
  have e : (win0_2.blk t).view.emb (ix2 i j : S1024x1024.Idx) = (ix2 (col (t.val / 4) i) j : S4096x1024.Idx) := by
    blk_ext [idx t]
  rw [e]
  rfl

/-- The reference's product, at one element. -/
theorem ref_grad (X : FVec Ideal S8192x4096 .bf16) (Y : FVec Ideal S8192x1024 .bf16) :
    transpose Reference3Ideal.S4096x1024 [1, 0] (Host.dotGeneral (F := Ideal) Reference3Ideal.dot_S8192x1024_S8192x4096_S1024x4096_0_0_1_1_n_n none
      (extf .f32 Y Reference3Ideal.Facts₀.bitsLt_bf16_f32) (extf .f32 X Reference3Ideal.Facts₀.bitsLt_bf16_f32)) Reference3Ideal.Facts₀.transposes_S1024x4096_S4096x1024_1_0
      = grad X Y := by
  funext i
  obtain ⟨a, b, rfl⟩ : ∃ (a : Fin 4096) (b : Fin 1024), i = ix2 a b := ⟨i 0, i 1, eq_ix2 i⟩
  refine Eq.trans (b := ∑ k : Fin 8192, (Y (ix2 k b) : EReal) * X (ix2 k a)) (by pointwise!) ?_
  exact Finset.sum_congr rfl fun k _ => mul_comm _ _

/-- Kernel and reference end with the same gradient. -/
theorem algebraic : Cert.algebraic_Kernel3Ideal_Reference3Ideal (hKernel3Ideal := Kernel3Ideal.Gen.facts) (hReference3Ideal := Reference3Ideal.Gen.facts) := by
  intro m g m' g' _ hsame
  refine ⟨fun c => grad (X m c) (Y m c), (θ_run _ _ _).mono (fun r h c => ?_) (run_blocks (F := Ideal) m g),
    (θ_run _ _ _).mono (fun r h c => ?_) (Reference3Ideal.Value.run (F := Ideal) m' g')⟩
  · exact ⟨(h c).1.trans (final m c), (h c).2⟩
  · refine ⟨(h c).1.trans ?_, (h c).2⟩
    rw [(hsame c).1, (hsame c).2]
    exact ref_grad _ _

/-- The kernel as it runs, as rewritten, and the reference each run and leave their arguments as they were. -/
theorem frames : Cert.quiescent_Kernel3 (hKernel3 := Kernel3.Gen.facts) ∧ Cert.quiescent_Kernel3Ideal (hKernel3Ideal := Kernel3Ideal.Gen.facts)
    ∧ Cert.quiescent_Reference3Ideal (hReference3Ideal := Reference3Ideal.Gen.facts) :=
  ⟨fun m g _ => Kernel3.Gen.frame m g, fun m g _ => Kernel3Ideal.Gen.frame m g, fun m g _ =>
    (θ_run _ _ _).mono (fun r h => ⟨fun c => (h c).2, sem_eq_zero_of_no_sems rfl _⟩) (Reference3Ideal.Value.run (F := Ideal) m g)⟩

end Cert.Grad3

end
-- ==== Proof.Grad4.lean ====
/- The gradient of the attention's input projection: the sum over all rows, 1024 at a time. -/
module

public import proofs.«01_k».proof.Defs
public import proofs.«01_k».proof.Proof.RunSum
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Grad4

open Cert.Kernel4Ideal Cert.Kernel4Ideal.Gen Cert.Kernel4Ideal.Value
open Idealize.ShloMosaic Idealize.ShloMosaic.TcCoe Idealize.SL.Sem
open Idealize.ShloMosaic.Pipeline (Dat Cfg Window)
open Cert.RunSum

theorem hz : (![0, 0] : Fin 2 → ℕ) = fun _ => 0 := funext fun a => by fin_cases a <;> rfl

/-- The product of two blocks, summed over their rows. -/
theorem dot_block (x : FVec Ideal S1024x1024 .f32) (y : FVec Ideal S1024x1408 .bf16) (i : Fin 1024) (j : Fin 1408) :
    k0_pay1 (F := Ideal) x y (ix2 i j) = ∑ k, (x (ix2 k i) : EReal) * y (ix2 k j) := by
  unfold k0_pay1
  pointwise!

section Body

variable {F : FTy → Type} [FloatOps F] (c : Dev nD) (i : grid0.Coords) (a0 : Memref sig .tc .vmem S1024x1024 .f32) (h0 : a0.IsWhole)
  (a1 : Memref sig .tc .vmem S1024x1408 .bf16) (h1 : a1.IsWhole) (a2 : Memref sig .tc .vmem S1024x1408 .f32) (h2 : a2.IsWhole)
  (x : Vec F S1024x1024 .f32) (y : Vec F S1024x1408 .bf16) (o : Vec F S1024x1408 .f32)

/-- The first block of rows sets the tile. -/
theorem out_A (hc : cond0_0 i) (hc' : ¬cond0_1 i) : out0_A_2 c i a0 h0 a1 h1 a2 h2 hc hc' x y = k0_pay1 x y := by
  unfold out0_A_2
  rw [View.read_writes_eq_canon _ _ _ (cover0_A_2 c i a0 h0 a1 h1 a2 h2 hc hc' x y)]
  unfold kernelRun0_A
  dsimp only
  rw [View.canon_unit_zero hz]
  simp only [View.readAt_eq_ld, h0.read_unread, h1.read_unread, View.ld_unit_zero (S := S1024x1024) hz, View.ld_unit_zero (S := S1024x1408) hz]

/-- Every further one adds to it. -/
theorem out_B (hc : ¬cond0_0 i) (hc' : cond0_1 i) :
    out0_B_2 c i a0 h0 a1 h1 a2 h2 hc hc' x y o = addf o (k0_pay1 x y) := by
  unfold out0_B_2
  rw [View.read_writes_eq_canon _ _ _ (cover0_B_2 c i a0 h0 a1 h1 a2 h2 hc hc' x y o)]
  unfold kernelRun0_B
  dsimp only
  rw [View.canon_unit_zero hz]
  unfold k0_pay2
  simp only [View.readAt_eq_ld, h0.read_unread, h1.read_unread, h2.read_unread, View.ld_unit_zero (S := S1024x1024) hz,
    View.ld_unit_zero (S := S1024x1408) hz, shapeCast_self]

end Body

/-- Each window's block at a point. -/
theorem idx : ∀ t : Fin cfg0.N, win0_0.index t = ![t.val % 8, 0] ∧ win0_1.index t = ![t.val % 8, t.val / 8]
    ∧ win0_2.index t = ![0, t.val / 8] := (by decide +kernel : ∀ t : Fin grid0.N, _)

variable (m : (ℓ : Loc nD τ sig) → Buf (Elt Ideal) ℓ) (c : Dev nD)

/-- The two factors. -/
abbrev X : S8192x1024.Idx → EReal := m ((c : Thread nD τ).loc main_arg0)
abbrev Y : S8192x4224.Idx → EReal := m ((c : Thread nD τ).loc main_arg1)

/-- A column's number, for any tile. -/
def col (n : ℕ) (j : Fin 1408) : Fin 4224 := ⟨(1408 * n + j.val) % 4224, Nat.mod_lt _ (by decide)⟩

theorem lt24 (t : Fin cfg0.N) : t.val < 24 := lt_of_lt_of_eq t.isLt (by decide +kernel)

/-- A row's share of the tile `n`. -/
def term (i : Fin 1024) (j : Fin 1408) (n k : ℕ) : EReal := X m c (ix2 (row k) i) * Y m c (ix2 (row k) (col n j))

theorem blk_x (t : Fin cfg0.N) (k : Fin 1024) (i : Fin 1024) :
    (iblk m c 0 t : S1024x1024.Idx → EReal) (ix2 k i) = X m c (ix2 (row (1024 * (t.val % 8) + k.val)) i) := by
  have h := lt24 t
  have hr : (row (1024 * (t.val % 8) + k.val)).val = 1024 * (t.val % 8) + k.val := Nat.mod_eq_of_lt (by have := k.isLt; omega)
  blk_ext [iblk, idx t]

theorem blk_y (t : Fin cfg0.N) (k : Fin 1024) (j : Fin 1408) :
    (iblk m c 1 t : S1024x1408.Idx → EReal) (ix2 k j) = Y m c (ix2 (row (1024 * (t.val % 8) + k.val)) (col (t.val / 8) j)) := by
  have h := lt24 t
  have hr : (row (1024 * (t.val % 8) + k.val)).val = 1024 * (t.val % 8) + k.val := Nat.mod_eq_of_lt (by have := k.isLt; omega)
  have hc : (col (t.val / 8) j).val = 1408 * (t.val / 8) + j.val := Nat.mod_eq_of_lt (by have := j.isLt; omega)
  blk_ext [iblk, idx t]

theorem dot_at (t : Fin cfg0.N) (i : Fin 1024) (j : Fin 1408) :
    k0_pay1 (F := Ideal) (iblk m c 0 t) (iblk m c 1 t) (ix2 i j) = ∑ k : Fin 1024, term m c i j (t.val / 8) (1024 * (t.val % 8) + k.val) :=
  (dot_block (iblk m c 0 t) (iblk m c 1 t) i j).trans (Finset.sum_congr rfl fun k _ => congrArg₂ (· * ·) (blk_x m c t k i) (blk_y m c t k j))

/-- What the tile holds after a point. -/
theorem out_at (i : Fin 1024) (j : Fin 1408) (n : ℕ) (h : n < cfg0.N) :
    (outsAt0 m c n h (ix2 i j) : EReal) = ∑ k ∈ Finset.range (1024 * (n % 8 + 1)), term m c i j (n / 8) k := by
  refine run_sum 8 1024 cfg0.N (term m c i j) (fun n h => outsAt0 m c n h (ix2 i j)) (fun n h h0 => ?_) (fun n h h0 => ?_) n h
  · refine (congrFun ((outsAt0_A m c ⟨n, h⟩ h0 (by dsimp only; omega)).trans (out_A ..)) (ix2 i j)).trans ?_
    exact dot_at m c ⟨n, h⟩ i j
  · refine (congrFun ((outsAt0_B m c ⟨n, h⟩ h0 (by dsimp only; omega)).trans (out_B ..)) (ix2 i j)).trans ?_
    exact congrArg (_ + ·) (dot_at m c ⟨n, h⟩ i j)

/-- The gradient: the product summed over all rows. -/
def grad (X : S8192x1024.Idx → EReal) (Y : S8192x4224.Idx → EReal) : S1024x4224.Idx → EReal :=
  fun i => ∑ k : Fin 8192, X (ix2 k (i 0)) * Y (ix2 k (i 1))

theorem final : (dats m 0 c).arrAt 2 cfg0.N = grad (X m c) (Y m c) := by
  refine (dats m 0 c).arrAt_eq_of_covers 2 _ (by decide +kernel) fun t hf y => ?_
  have h3 := (flush0_2 t).mp hf
  have h := lt24 t
  blk_simp [idx t]
  rw [after0_2]
  obtain ⟨i, j, rfl⟩ : ∃ (i : Fin 1024) (j : Fin 1408), y = ix2 i j := ⟨y 0, y 1, eq_ix2 y⟩
  refine (out_at m c i j t.val t.isLt).trans ?_
  rw [h3]
  refine (all_rows (fun k => X m c (ix2 k i) * Y m c (ix2 k (col (t.val / 8) j)))).trans ?_
  have hc : (col (t.val / 8) j).val = 1408 * (t.val / 8) + j.val := Nat.mod_eq_of_lt (by have := j.isLt; omega)
  have e : (win0_2.blk t).view.emb (ix2 i j : S1024x1408.Idx) = (ix2 i (col (t.val / 8) j) : S1024x4224.Idx) := by
    blk_ext [idx t]
  rw [e]
  rfl

/-- The reference's product, at one element. -/
theorem ref_grad (X : FVec Ideal S8192x1024 .f32) (Y : FVec Ideal S8192x4224 .bf16) :
    transpose Reference4Ideal.S1024x4224 [1, 0] (Host.dotGeneral (F := Ideal) Reference4Ideal.dot_S8192x4224_S8192x1024_S4224x1024_0_0_1_1_n_n none
      (extf .f32 Y Reference4Ideal.Facts₀.bitsLt_bf16_f32) X) Reference4Ideal.Facts₀.transposes_S4224x1024_S1024x4224_1_0
      = grad X Y := by
  funext i
  obtain ⟨a, b, rfl⟩ : ∃ (a : Fin 1024) (b : Fin 4224), i = ix2 a b := ⟨i 0, i 1, eq_ix2 i⟩
  refine Eq.trans (b := ∑ k : Fin 8192, (Y (ix2 k b) : EReal) * X (ix2 k a)) (by pointwise!) ?_
  exact Finset.sum_congr rfl fun k _ => mul_comm _ _

/-- Kernel and reference end with the same gradient. -/
theorem algebraic : Cert.algebraic_Kernel4Ideal_Reference4Ideal (hKernel4Ideal := Kernel4Ideal.Gen.facts) (hReference4Ideal := Reference4Ideal.Gen.facts) := by
  intro m g m' g' _ hsame
  refine ⟨fun c => grad (X m c) (Y m c), (θ_run _ _ _).mono (fun r h c => ?_) (run_blocks (F := Ideal) m g),
    (θ_run _ _ _).mono (fun r h c => ?_) (Reference4Ideal.Value.run (F := Ideal) m' g')⟩
  · exact ⟨(h c).1.trans (final m c), (h c).2⟩
  · refine ⟨(h c).1.trans ?_, (h c).2⟩
    rw [(hsame c).1, (hsame c).2]
    exact ref_grad _ _

/-- The kernel as it runs, as rewritten, and the reference each run and leave their arguments as they were. -/
theorem frames : Cert.quiescent_Kernel4 (hKernel4 := Kernel4.Gen.facts) ∧ Cert.quiescent_Kernel4Ideal (hKernel4Ideal := Kernel4Ideal.Gen.facts)
    ∧ Cert.quiescent_Reference4Ideal (hReference4Ideal := Reference4Ideal.Gen.facts) :=
  ⟨fun m g _ => Kernel4.Gen.frame m g, fun m g _ => Kernel4Ideal.Gen.frame m g, fun m g _ =>
    (θ_run _ _ _).mono (fun r h => ⟨fun c => (h c).2, sem_eq_zero_of_no_sems rfl _⟩) (Reference4Ideal.Value.run (F := Ideal) m g)⟩

end Cert.Grad4

end
-- ==== Proof.Grad5.lean ====
/- The gradient of a square weight (an embedding gate's, or the attention output's): the sum over all rows, 2048 at a time. -/
module

public import proofs.«01_k».proof.Defs
public import proofs.«01_k».proof.Proof.RunSum
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Grad5

open Cert.Kernel5Ideal Cert.Kernel5Ideal.Gen Cert.Kernel5Ideal.Value
open Idealize.ShloMosaic Idealize.ShloMosaic.TcCoe Idealize.SL.Sem
open Idealize.ShloMosaic.Pipeline (Dat Cfg Window)
open Cert.RunSum

theorem hz : (![0, 0] : Fin 2 → ℕ) = fun _ => 0 := funext fun a => by fin_cases a <;> rfl

/-- The product of two blocks, summed over their rows. -/
theorem dot_block (x y : FVec Ideal S2048x1024 .bf16) (i j : Fin 1024) :
    k0_pay1 (F := Ideal) x y (ix2 i j) = ∑ k, (x (ix2 k i) : EReal) * y (ix2 k j) := by
  unfold k0_pay1
  pointwise!

section Body

variable {F : FTy → Type} [FloatOps F] (c : Dev nD) (i : grid0.Coords) (a0 : Memref sig .tc .vmem S2048x1024 .bf16) (h0 : a0.IsWhole)
  (a1 : Memref sig .tc .vmem S2048x1024 .bf16) (h1 : a1.IsWhole) (a2 : Memref sig .tc .vmem S1024x1024 .f32) (h2 : a2.IsWhole)
  (x y : Vec F S2048x1024 .bf16) (o : Vec F S1024x1024 .f32)

/-- The first block of rows sets the tile. -/
theorem out_A (hc : cond0_0 i) (hc' : ¬cond0_1 i) : out0_A_2 c i a0 h0 a1 h1 a2 h2 hc hc' x y = k0_pay1 x y := by
  unfold out0_A_2
  rw [View.read_writes_eq_canon _ _ _ (cover0_A_2 c i a0 h0 a1 h1 a2 h2 hc hc' x y)]
  unfold kernelRun0_A
  dsimp only
  rw [View.canon_unit_zero hz]
  simp only [View.readAt_eq_ld, h0.read_unread, h1.read_unread, View.ld_unit_zero (S := S2048x1024) hz]

/-- Every further one adds to it. -/
theorem out_B (hc : ¬cond0_0 i) (hc' : cond0_1 i) :
    out0_B_2 c i a0 h0 a1 h1 a2 h2 hc hc' x y o = addf o (k0_pay1 x y) := by
  unfold out0_B_2
  rw [View.read_writes_eq_canon _ _ _ (cover0_B_2 c i a0 h0 a1 h1 a2 h2 hc hc' x y o)]
  unfold kernelRun0_B
  dsimp only
  rw [View.canon_unit_zero hz]
  unfold k0_pay2
  simp only [View.readAt_eq_ld, h0.read_unread, h1.read_unread, h2.read_unread, View.ld_unit_zero (S := S2048x1024) hz,
    View.ld_unit_zero (S := S1024x1024) hz, shapeCast_self]

end Body

/-- Each window's block at a point. -/
theorem idx : ∀ t : Fin cfg0.N, win0_0.index t = ![t.val % 4, 0] ∧ win0_1.index t = ![t.val % 4, 0]
    ∧ win0_2.index t = ![0, 0] := (by decide +kernel : ∀ t : Fin grid0.N, _)

variable (m : (ℓ : Loc nD τ sig) → Buf (Elt Ideal) ℓ) (c : Dev nD)

/-- The two factors. -/
abbrev X : S8192x1024.Idx → EReal := m ((c : Thread nD τ).loc main_arg0)
abbrev Y : S8192x1024.Idx → EReal := m ((c : Thread nD τ).loc main_arg1)

theorem lt4 (t : Fin cfg0.N) : t.val < 4 := lt_of_lt_of_eq t.isLt (by decide +kernel)

/-- A row's share of an element. -/
def term (i j : Fin 1024) (_ k : ℕ) : EReal := X m c (ix2 (row k) i) * Y m c (ix2 (row k) j)

theorem blk_x (t : Fin cfg0.N) (k : Fin 2048) (i : Fin 1024) :
    (iblk m c 0 t : S2048x1024.Idx → EReal) (ix2 k i) = X m c (ix2 (row (2048 * (t.val % 4) + k.val)) i) := by
  have h := lt4 t
  have hr : (row (2048 * (t.val % 4) + k.val)).val = 2048 * (t.val % 4) + k.val := Nat.mod_eq_of_lt (by have := k.isLt; omega)
  blk_ext [iblk, idx t]

theorem blk_y (t : Fin cfg0.N) (k : Fin 2048) (j : Fin 1024) :
    (iblk m c 1 t : S2048x1024.Idx → EReal) (ix2 k j) = Y m c (ix2 (row (2048 * (t.val % 4) + k.val)) j) := by
  have h := lt4 t
  have hr : (row (2048 * (t.val % 4) + k.val)).val = 2048 * (t.val % 4) + k.val := Nat.mod_eq_of_lt (by have := k.isLt; omega)
  blk_ext [iblk, idx t]

theorem dot_at (t : Fin cfg0.N) (i j : Fin 1024) :
    k0_pay1 (F := Ideal) (iblk m c 0 t) (iblk m c 1 t) (ix2 i j) = ∑ k : Fin 2048, term m c i j (t.val / 4) (2048 * (t.val % 4) + k.val) :=
  (dot_block (iblk m c 0 t) (iblk m c 1 t) i j).trans (Finset.sum_congr rfl fun k _ => congrArg₂ (· * ·) (blk_x m c t k i) (blk_y m c t k j))

/-- What the tile holds after a point. -/
theorem out_at (i j : Fin 1024) (n : ℕ) (h : n < cfg0.N) :
    (outsAt0 m c n h (ix2 i j) : EReal) = ∑ k ∈ Finset.range (2048 * (n % 4 + 1)), term m c i j (n / 4) k := by
  refine run_sum 4 2048 cfg0.N (term m c i j) (fun n h => outsAt0 m c n h (ix2 i j)) (fun n h h0 => ?_) (fun n h h0 => ?_) n h
  · refine (congrFun ((outsAt0_A m c ⟨n, h⟩ h0 (by have := lt4 ⟨n, h⟩; dsimp only at this ⊢; omega)).trans (out_A ..)) (ix2 i j)).trans ?_
    exact dot_at m c ⟨n, h⟩ i j
  · refine (congrFun ((outsAt0_B m c ⟨n, h⟩ h0 (by dsimp only; omega)).trans (out_B ..)) (ix2 i j)).trans ?_
    exact congrArg (_ + ·) (dot_at m c ⟨n, h⟩ i j)

/-- The gradient: the product summed over all rows. -/
def grad (X : S8192x1024.Idx → EReal) (Y : S8192x1024.Idx → EReal) : S1024x1024.Idx → EReal :=
  fun i => ∑ k : Fin 8192, X (ix2 k (i 0)) * Y (ix2 k (i 1))

theorem final : (dats m 0 c).arrAt 2 cfg0.N = grad (X m c) (Y m c) := by
  refine (dats m 0 c).arrAt_eq_of_covers 2 _ (by decide +kernel) fun t hf y => ?_
  have h3 := (flush0_2 t).mp hf
  have h := lt4 t
  blk_simp [idx t]
  rw [after0_2]
  obtain ⟨i, j, rfl⟩ : ∃ i j : Fin 1024, y = ix2 i j := ⟨y 0, y 1, eq_ix2 y⟩
  refine (out_at m c i j t.val t.isLt).trans ?_
  rw [h3]
  refine (all_rows (fun k => X m c (ix2 k i) * Y m c (ix2 k j))).trans ?_
  have e : (win0_2.blk t).view.emb (ix2 i j : S1024x1024.Idx) = (ix2 i j : S1024x1024.Idx) := by
    blk_ext [idx t]
  rw [e]
  rfl

/-- The reference's product, at one element. -/
theorem ref_grad (X : FVec Ideal S8192x1024 .bf16) (Y : FVec Ideal S8192x1024 .bf16) :
    transpose Reference5Ideal.S1024x1024 [1, 0] (Host.dotGeneral (F := Ideal) Reference5Ideal.dot_S8192x1024_S8192x1024_S1024x1024_0_0_1_1_n_n none
      (extf .f32 Y Reference5Ideal.Facts₀.bitsLt_bf16_f32) (extf .f32 X Reference5Ideal.Facts₀.bitsLt_bf16_f32)) Reference5Ideal.Facts₀.transposes_S1024x1024_S1024x1024_1_0
      = grad X Y := by
  funext i
  obtain ⟨a, b, rfl⟩ : ∃ (a : Fin 1024) (b : Fin 1024), i = ix2 a b := ⟨i 0, i 1, eq_ix2 i⟩
  refine Eq.trans (b := ∑ k : Fin 8192, (Y (ix2 k b) : EReal) * X (ix2 k a)) (by pointwise!) ?_
  exact Finset.sum_congr rfl fun k _ => mul_comm _ _

/-- Kernel and reference end with the same gradient. -/
theorem algebraic : Cert.algebraic_Kernel5Ideal_Reference5Ideal (hKernel5Ideal := Kernel5Ideal.Gen.facts) (hReference5Ideal := Reference5Ideal.Gen.facts) := by
  intro m g m' g' _ hsame
  refine ⟨fun c => grad (X m c) (Y m c), (θ_run _ _ _).mono (fun r h c => ?_) (run_blocks (F := Ideal) m g),
    (θ_run _ _ _).mono (fun r h c => ?_) (Reference5Ideal.Value.run (F := Ideal) m' g')⟩
  · exact ⟨(h c).1.trans (final m c), (h c).2⟩
  · refine ⟨(h c).1.trans ?_, (h c).2⟩
    rw [(hsame c).1, (hsame c).2]
    exact ref_grad _ _

/-- The kernel as it runs, as rewritten, and the reference each run and leave their arguments as they were. -/
theorem frames : Cert.quiescent_Kernel5 (hKernel5 := Kernel5.Gen.facts) ∧ Cert.quiescent_Kernel5Ideal (hKernel5Ideal := Kernel5Ideal.Gen.facts)
    ∧ Cert.quiescent_Reference5Ideal (hReference5Ideal := Reference5Ideal.Gen.facts) :=
  ⟨fun m g _ => Kernel5.Gen.frame m g, fun m g _ => Kernel5Ideal.Gen.frame m g, fun m g _ =>
    (θ_run _ _ _).mono (fun r h => ⟨fun c => (h c).2, sem_eq_zero_of_no_sems rfl _⟩) (Reference5Ideal.Value.run (F := Ideal) m g)⟩

end Cert.Grad5

end
-- ==== Proof.Grad6.lean ====
/- The gradient of an embedding's projection: the sum over all rows, 1024 at a time. -/
module

public import proofs.«01_k».proof.Defs
public import proofs.«01_k».proof.Proof.RunSum
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Grad6

open Cert.Kernel6Ideal Cert.Kernel6Ideal.Gen Cert.Kernel6Ideal.Value
open Idealize.ShloMosaic Idealize.ShloMosaic.TcCoe Idealize.SL.Sem
open Idealize.ShloMosaic.Pipeline (Dat Cfg Window)
open Cert.RunSum

theorem hz : (![0, 0] : Fin 2 → ℕ) = fun _ => 0 := funext fun a => by fin_cases a <;> rfl

/-- The product of two blocks, summed over their rows. -/
theorem dot_block (x : FVec Ideal S1024x256 .f32) (y : FVec Ideal S1024x1024 .bf16) (i : Fin 256) (j : Fin 1024) :
    k0_pay1 (F := Ideal) x y (ix2 i j) = ∑ k, (x (ix2 k i) : EReal) * y (ix2 k j) := by
  unfold k0_pay1
  pointwise!

section Body

variable {F : FTy → Type} [FloatOps F] (c : Dev nD) (i : grid0.Coords) (a0 : Memref sig .tc .vmem S1024x256 .f32) (h0 : a0.IsWhole)
  (a1 : Memref sig .tc .vmem S1024x1024 .bf16) (h1 : a1.IsWhole) (a2 : Memref sig .tc .vmem S256x1024 .f32) (h2 : a2.IsWhole)
  (x : Vec F S1024x256 .f32) (y : Vec F S1024x1024 .bf16) (o : Vec F S256x1024 .f32)

/-- The first block of rows sets the tile. -/
theorem out_A (hc : cond0_0 i) (hc' : ¬cond0_1 i) : out0_A_2 c i a0 h0 a1 h1 a2 h2 hc hc' x y = k0_pay1 x y := by
  unfold out0_A_2
  rw [View.read_writes_eq_canon _ _ _ (cover0_A_2 c i a0 h0 a1 h1 a2 h2 hc hc' x y)]
  unfold kernelRun0_A
  dsimp only
  rw [View.canon_unit_zero hz]
  simp only [View.readAt_eq_ld, h0.read_unread, h1.read_unread, View.ld_unit_zero (S := S1024x256) hz, View.ld_unit_zero (S := S1024x1024) hz]

/-- Every further one adds to it. -/
theorem out_B (hc : ¬cond0_0 i) (hc' : cond0_1 i) :
    out0_B_2 c i a0 h0 a1 h1 a2 h2 hc hc' x y o = addf o (k0_pay1 x y) := by
  unfold out0_B_2
  rw [View.read_writes_eq_canon _ _ _ (cover0_B_2 c i a0 h0 a1 h1 a2 h2 hc hc' x y o)]
  unfold kernelRun0_B
  dsimp only
  rw [View.canon_unit_zero hz]
  unfold k0_pay2
  simp only [View.readAt_eq_ld, h0.read_unread, h1.read_unread, h2.read_unread, View.ld_unit_zero (S := S1024x256) hz,
    View.ld_unit_zero (S := S1024x1024) hz, View.ld_unit_zero (S := S256x1024) hz, shapeCast_self]

end Body

/-- Each window's block at a point. -/
theorem idx : ∀ t : Fin cfg0.N, win0_0.index t = ![t.val % 8, 0] ∧ win0_1.index t = ![t.val % 8, 0]
    ∧ win0_2.index t = ![0, 0] := (by decide +kernel : ∀ t : Fin grid0.N, _)

variable (m : (ℓ : Loc nD τ sig) → Buf (Elt Ideal) ℓ) (c : Dev nD)

/-- The two factors. -/
abbrev X : S8192x256.Idx → EReal := m ((c : Thread nD τ).loc main_arg0)
abbrev Y : S8192x1024.Idx → EReal := m ((c : Thread nD τ).loc main_arg1)

theorem lt8 (t : Fin cfg0.N) : t.val < 8 := lt_of_lt_of_eq t.isLt (by decide +kernel)

/-- A row's share of an element. -/
def term (i : Fin 256) (j : Fin 1024) (_ k : ℕ) : EReal := X m c (ix2 (row k) i) * Y m c (ix2 (row k) j)

theorem blk_x (t : Fin cfg0.N) (k : Fin 1024) (i : Fin 256) :
    (iblk m c 0 t : S1024x256.Idx → EReal) (ix2 k i) = X m c (ix2 (row (1024 * (t.val % 8) + k.val)) i) := by
  have h := lt8 t
  have hr : (row (1024 * (t.val % 8) + k.val)).val = 1024 * (t.val % 8) + k.val := Nat.mod_eq_of_lt (by have := k.isLt; omega)
  blk_ext [iblk, idx t]

theorem blk_y (t : Fin cfg0.N) (k : Fin 1024) (j : Fin 1024) :
    (iblk m c 1 t : S1024x1024.Idx → EReal) (ix2 k j) = Y m c (ix2 (row (1024 * (t.val % 8) + k.val)) j) := by
  have h := lt8 t
  have hr : (row (1024 * (t.val % 8) + k.val)).val = 1024 * (t.val % 8) + k.val := Nat.mod_eq_of_lt (by have := k.isLt; omega)
  blk_ext [iblk, idx t]

theorem dot_at (t : Fin cfg0.N) (i : Fin 256) (j : Fin 1024) :
    k0_pay1 (F := Ideal) (iblk m c 0 t) (iblk m c 1 t) (ix2 i j) = ∑ k : Fin 1024, term m c i j (t.val / 8) (1024 * (t.val % 8) + k.val) :=
  (dot_block (iblk m c 0 t) (iblk m c 1 t) i j).trans (Finset.sum_congr rfl fun k _ => congrArg₂ (· * ·) (blk_x m c t k i) (blk_y m c t k j))

/-- What the tile holds after a point. -/
theorem out_at (i : Fin 256) (j : Fin 1024) (n : ℕ) (h : n < cfg0.N) :
    (outsAt0 m c n h (ix2 i j) : EReal) = ∑ k ∈ Finset.range (1024 * (n % 8 + 1)), term m c i j (n / 8) k := by
  refine run_sum 8 1024 cfg0.N (term m c i j) (fun n h => outsAt0 m c n h (ix2 i j)) (fun n h h0 => ?_) (fun n h h0 => ?_) n h
  · refine (congrFun ((outsAt0_A m c ⟨n, h⟩ h0 (by have := lt8 ⟨n, h⟩; dsimp only at this ⊢; omega)).trans (out_A ..)) (ix2 i j)).trans ?_
    exact dot_at m c ⟨n, h⟩ i j
  · refine (congrFun ((outsAt0_B m c ⟨n, h⟩ h0 (by dsimp only; omega)).trans (out_B ..)) (ix2 i j)).trans ?_
    exact congrArg (_ + ·) (dot_at m c ⟨n, h⟩ i j)

/-- The gradient: the product summed over all rows. -/
def grad (X : S8192x256.Idx → EReal) (Y : S8192x1024.Idx → EReal) : S256x1024.Idx → EReal :=
  fun i => ∑ k : Fin 8192, X (ix2 k (i 0)) * Y (ix2 k (i 1))

theorem final : (dats m 0 c).arrAt 2 cfg0.N = grad (X m c) (Y m c) := by
  refine (dats m 0 c).arrAt_eq_of_covers 2 _ (by decide +kernel) fun t hf y => ?_
  have h3 := (flush0_2 t).mp hf
  have h := lt8 t
  blk_simp [idx t]
  rw [after0_2]
  obtain ⟨i, j, rfl⟩ : ∃ (i : Fin 256) (j : Fin 1024), y = ix2 i j := ⟨y 0, y 1, eq_ix2 y⟩
  refine (out_at m c i j t.val t.isLt).trans ?_
  rw [h3]
  refine (all_rows (fun k => X m c (ix2 k i) * Y m c (ix2 k j))).trans ?_
  have e : (win0_2.blk t).view.emb (ix2 i j : S256x1024.Idx) = (ix2 i j : S256x1024.Idx) := by
    blk_ext [idx t]
  rw [e]
  rfl

/-- The reference's product, at one element. -/
theorem ref_grad (X : FVec Ideal S8192x256 .f32) (Y : FVec Ideal S8192x1024 .bf16) :
    transpose Reference6Ideal.S256x1024 [1, 0] (Host.dotGeneral (F := Ideal) Reference6Ideal.dot_S8192x1024_S8192x256_S1024x256_0_0_1_1_n_n none
      (extf .f32 Y Reference6Ideal.Facts₀.bitsLt_bf16_f32) X) Reference6Ideal.Facts₀.transposes_S1024x256_S256x1024_1_0
      = grad X Y := by
  funext i
  obtain ⟨a, b, rfl⟩ : ∃ (a : Fin 256) (b : Fin 1024), i = ix2 a b := ⟨i 0, i 1, eq_ix2 i⟩
  refine Eq.trans (b := ∑ k : Fin 8192, (Y (ix2 k b) : EReal) * X (ix2 k a)) (by pointwise!) ?_
  exact Finset.sum_congr rfl fun k _ => mul_comm _ _

/-- Kernel and reference end with the same gradient. -/
theorem algebraic : Cert.algebraic_Kernel6Ideal_Reference6Ideal (hKernel6Ideal := Kernel6Ideal.Gen.facts) (hReference6Ideal := Reference6Ideal.Gen.facts) := by
  intro m g m' g' _ hsame
  refine ⟨fun c => grad (X m c) (Y m c), (θ_run _ _ _).mono (fun r h c => ?_) (run_blocks (F := Ideal) m g),
    (θ_run _ _ _).mono (fun r h c => ?_) (Reference6Ideal.Value.run (F := Ideal) m' g')⟩
  · exact ⟨(h c).1.trans (final m c), (h c).2⟩
  · refine ⟨(h c).1.trans ?_, (h c).2⟩
    rw [(hsame c).1, (hsame c).2]
    exact ref_grad _ _

/-- The kernel as it runs, as rewritten, and the reference each run and leave their arguments as they were. -/
theorem frames : Cert.quiescent_Kernel6 (hKernel6 := Kernel6.Gen.facts) ∧ Cert.quiescent_Kernel6Ideal (hKernel6Ideal := Kernel6Ideal.Gen.facts)
    ∧ Cert.quiescent_Reference6Ideal (hReference6Ideal := Reference6Ideal.Gen.facts) :=
  ⟨fun m g _ => Kernel6.Gen.frame m g, fun m g _ => Kernel6Ideal.Gen.frame m g, fun m g _ =>
    (θ_run _ _ _).mono (fun r h => ⟨fun c => (h c).2, sem_eq_zero_of_no_sems rfl _⟩) (Reference6Ideal.Value.run (F := Ideal) m g)⟩

end Cert.Grad6

end
-- ==== Proof.Same.lean ====
/- The kernel's program before and after its operands' formats are forgotten: one text, under two names. -/
module

public import proofs.«01_k».proof.Defs
public import proofs.«01_k».proof.Proof.Gen.Kernel
public import proofs.«01_k».proof.Proof.Gen.KernelIdeal

@[expose] public section

set_option maxRecDepth 16384

namespace Cert.Same

open Idealize.ShloMosaic

set_option maxHeartbeats 4000000 in
theorem main_eq : (Cert.Kernel.main (F := Bits)) = (Cert.KernelIdeal.main (F := Bits)) := by exact rfl

set_option smartUnfolding false in
set_option maxHeartbeats 4000000 in
theorem bodies_eq : (Cert.Kernel.defs₀ (F := Bits)) = (Cert.KernelIdeal.defs₀ (F := Bits)) := by
  unfold Cert.Kernel.defs₀ Cert.KernelIdeal.defs₀
  refine congrArg _ (funext fun l => ?_)
  fin_cases l <;> exact rfl

set_option maxHeartbeats 4000000 in
theorem defs_eq : (Cert.Kernel.defs (F := Bits)) = (Cert.KernelIdeal.defs (F := Bits)) := by
  unfold Cert.Kernel.defs Cert.KernelIdeal.defs
  rw [bodies_eq]
  exact rfl

end Cert.Same

end
-- ==== Proof.lean ====
/- The claims about the scan over chunks with its gradient, the gradients of the weights, and the layer with its gradients. -/
module

public import proofs.«01_k».proof.Proof.Gen.Reference7Ideal.Run
public import proofs.«01_k».proof.Proof.Gen.Kernel7Ideal.Regions
public import proofs.«01_k».proof.Proof.Gen.Kernel7Ideal.Skeleton
public import proofs.«01_k».proof.Proof.Gen.Kernel7Ideal.Points
public import proofs.«01_k».proof.Proof.Gen.Kernel7
public import proofs.«01_k».proof.Proof.Gen.Pre_finite7
public import proofs.«01_k».proof.Proof.MlpFrame
public import proofs.«01_k».proof.Proof.MlpAgree
public import proofs.«01_k».proof.Proof.Grad2
public import proofs.«01_k».proof.Proof.Grad3
public import proofs.«01_k».proof.Proof.Grad4
public import proofs.«01_k».proof.Proof.Grad5
public import proofs.«01_k».proof.Proof.Grad6
public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Run
public import proofs.«01_k».proof.Proof.RefEnd
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Cert.KernelIdeal

/-- A buffer the kernel's program does not write ends as it began. -/
theorem kept {F : FTy → Type} [FloatOps F] (m : (ℓ : Loc nD τ sig) → Buf (Elt F) ℓ) (c : Dev nD) (r : PUnit × MemSt nD τ sig (Elt F))
    (h : ∀ c : Dev nD, ∀ b : Ref sig .tc, (Proc.devRef .tc b : DevRef τ sig).isScoped = false → r.2.mem ((c.tc : Thread nD τ).loc b) = Run.A3 m c b)
    (b : Ref sig .tc) (h1 : b ∉ ([main_v4_0, main_v4_1, main_v4_2, main_v4_3, main_v4_4, main_v4_5, main_v3_0, main_v3_1] : List (Ref sig .tc)))
    (h2 : b ∉ Gen.hostOps0_W) (hb : (Proc.devRef .tc b : DevRef τ sig).isScoped = false) :
    r.2.mem ((c.tc : Thread nD τ).loc b) = m ((c.tc : Thread nD τ).loc b) :=
  (h c b hb).trans (Run.A3_arg m c b h1 h2)

/-- The kernel's program ends with its arguments as they were and its counters at zero, over any values. -/
theorem frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h =>
    ⟨fun c => ⟨kept m c r h.1 _ (by decide) (by decide) rfl, kept m c r h.1 _ (by decide) (by decide) rfl, kept m c r h.1 _ (by decide) (by decide) rfl,
      kept m c r h.1 _ (by decide) (by decide) rfl, kept m c r h.1 _ (by decide) (by decide) rfl, kept m c r h.1 _ (by decide) (by decide) rfl,
      kept m c r h.1 _ (by decide) (by decide) rfl⟩, h.2⟩) (Run.run_read m g)

theorem kernelIdeal_frame : Cert.quiescent_KernelIdeal (hKernelIdeal := Cert.KernelIdeal.Gen.facts) := fun m g _ => frame m g

set_option maxHeartbeats 4000000 in
set_option maxHeartbeats 4000000 in
/-- The kernel as it runs has the same text, so the same run serves it. -/
theorem kernel_frame : Cert.quiescent_Kernel (hKernel := Cert.Kernel.Gen.facts) := by
  intro m g _
  rw [Cert.Same.defs_eq, Cert.Same.main_eq]
  exact frame (F := Bits) m g

theorem reference_frame : Cert.quiescent_ReferenceIdeal (hReferenceIdeal := Cert.ReferenceIdeal.Gen.facts) := fun m g _ =>
  (θ_run Cert.ReferenceIdeal.defs _ _).mono (fun r h =>
    ⟨fun c => ⟨Cert.ReferenceIdeal.Run.args_keep m r h.1 c _ (by decide), Cert.ReferenceIdeal.Run.args_keep m r h.1 c _ (by decide),
      Cert.ReferenceIdeal.Run.args_keep m r h.1 c _ (by decide), Cert.ReferenceIdeal.Run.args_keep m r h.1 c _ (by decide),
      Cert.ReferenceIdeal.Run.args_keep m r h.1 c _ (by decide), Cert.ReferenceIdeal.Run.args_keep m r h.1 c _ (by decide),
      Cert.ReferenceIdeal.Run.args_keep m r h.1 c _ (by decide)⟩, h.2⟩) (Cert.ReferenceIdeal.Run.run_read (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts, Cert.Pre_finite7.Gen.facts,
    kernel_frame, kernelIdeal_frame, fun m g _ => kernelIdeal_frame m g trivial, reference_frame, fun m g _ => reference_frame m g trivial,
    Cert.Grad2.frames.1, Cert.Grad2.frames.2.1, Cert.Grad2.frames.2.2,
    Cert.Grad3.frames.1, Cert.Grad3.frames.2.1, Cert.Grad3.frames.2.2,
    Cert.Grad4.frames.1, Cert.Grad4.frames.2.1, Cert.Grad4.frames.2.2,
    Cert.Grad5.frames.1, Cert.Grad5.frames.2.1, Cert.Grad5.frames.2.2,
    Cert.Grad6.frames.1, Cert.Grad6.frames.2.1, Cert.Grad6.frames.2.2,
    Cert.MlpFrame.kernel_frame, Cert.MlpFrame.kernelIdeal_frame, fun m g _ => Cert.MlpFrame.kernelIdeal_frame m g trivial,
    Cert.MlpFrame.reference_frame, fun m g _ => Cert.MlpFrame.reference_frame m g trivial,
    trivial, Cert.Agree.algebraic,
    trivial, Cert.Grad2.algebraic, trivial, Cert.Grad3.algebraic, trivial, Cert.Grad4.algebraic, trivial, Cert.Grad5.algebraic, trivial, Cert.Grad6.algebraic,
    trivial, Cert.MlpAgree.algebraic⟩

end Cert.Proof

end
